-- ==== Defs.lean ====
def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_finite [hPre_finite : Cert.Pre_finite.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_finite.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_finite [hPre_finite : Cert.Pre_finite.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_finite.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mixffn (m : (ℓ : Loc Cert.Mixffn.nD Cert.Mixffn.τ Cert.Mixffn.sig) → Buf (Elt Bits) ℓ) : Prop :=
  True

def Pre_MixffnIdeal (m : (ℓ : Loc Cert.MixffnIdeal.nD Cert.MixffnIdeal.τ Cert.MixffnIdeal.sig) → Buf (Elt Ideal) ℓ) : Prop :=
  True

def Pre_MixffnRefIdeal (m : (ℓ : Loc Cert.MixffnRefIdeal.nD Cert.MixffnRefIdeal.τ Cert.MixffnRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSRefIdeal (m : (ℓ : Loc Cert.InprojSRefIdeal.nD Cert.InprojSRefIdeal.τ Cert.InprojSRefIdeal.sig) → Buf (Elt Ideal) ℓ) : Prop :=
  True

def Pre_MixffnS (m : (ℓ : Loc Cert.MixffnS.nD Cert.MixffnS.τ Cert.MixffnS.sig) → Buf (Elt Bits) ℓ) : Prop :=
  True

def Pre_MixffnSIdeal (m : (ℓ : Loc Cert.MixffnSIdeal.nD Cert.MixffnSIdeal.τ Cert.MixffnSIdeal.sig) → Buf (Elt Ideal) ℓ) : Prop :=
  True

def Pre_MixffnSRefIdeal (m : (ℓ : Loc Cert.MixffnSRefIdeal.nD Cert.MixffnSRefIdeal.τ Cert.MixffnSRefIdeal.sig) → Buf (Elt Ideal) ℓ) : Prop :=
  True

def Pre_HgrnS (m : (ℓ : Loc Cert.HgrnS.nD Cert.HgrnS.τ Cert.HgrnS.sig) → Buf (Elt Bits) ℓ) : Prop :=
  True

def Pre_HgrnSIdeal (m : (ℓ : Loc Cert.HgrnSIdeal.nD Cert.HgrnSIdeal.τ Cert.HgrnSIdeal.sig) → Buf (Elt Ideal) ℓ) : Prop :=
  True

def Pre_HgrnSIdeal_finite_sample [hPre_finite_sample : Cert.Pre_finite_sample.Facts] (m : (ℓ : Loc Cert.HgrnSIdeal.nD Cert.HgrnSIdeal.τ Cert.HgrnSIdeal.sig) → Buf (Elt Ideal) ℓ) : Prop :=
  ∀ c : Dev Cert.HgrnSIdeal.nD,
    (Cert.Pre_finite_sample.fn (F := Ideal) (m ((c.tc : Thread Cert.HgrnSIdeal.nD Cert.HgrnSIdeal.τ).loc Cert.HgrnSIdeal.main_arg0)) (m ((c.tc : Thread Cert.HgrnSIdeal.nD Cert.HgrnSIdeal.τ).loc Cert.HgrnSIdeal.main_arg1)) (m ((c.tc : Thread Cert.HgrnSIdeal.nD Cert.HgrnSIdeal.τ).loc Cert.HgrnSIdeal.main_arg2)) (m ((c.tc : Thread Cert.HgrnSIdeal.nD Cert.HgrnSIdeal.τ).loc Cert.HgrnSIdeal.main_arg3))) = (fun _ => 1#1)

def Pre_HgrnSRefIdeal (m : (ℓ : Loc Cert.HgrnSRefIdeal.nD Cert.HgrnSRefIdeal.τ Cert.HgrnSRefIdeal.sig) → Buf (Elt Ideal) ℓ) : Prop :=
  True

def Pre_HgrnSRefIdeal_finite_sample [hPre_finite_sample : Cert.Pre_finite_sample.Facts] (m : (ℓ : Loc Cert.HgrnSRefIdeal.nD Cert.HgrnSRefIdeal.τ Cert.HgrnSRefIdeal.sig) → Buf (Elt Ideal) ℓ) : Prop :=
  ∀ c : Dev Cert.HgrnSRefIdeal.nD,
    (Cert.Pre_finite_sample.fn (F := Ideal) (m ((c.tc : Thread Cert.HgrnSRefIdeal.nD Cert.HgrnSRefIdeal.τ).loc Cert.HgrnSRefIdeal.main_arg0)) (m ((c.tc : Thread Cert.HgrnSRefIdeal.nD Cert.HgrnSRefIdeal.τ).loc Cert.HgrnSRefIdeal.main_arg1)) (m ((c.tc : Thread Cert.HgrnSRefIdeal.nD Cert.HgrnSRefIdeal.τ).loc Cert.HgrnSRefIdeal.main_arg2)) (m ((c.tc : Thread Cert.HgrnSRefIdeal.nD Cert.HgrnSRefIdeal.τ).loc Cert.HgrnSRefIdeal.main_arg3))) = (fun _ => 1#1)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnIdeal_pre_finite [hHgrnIdeal : Cert.HgrnIdeal.Facts] [hPre_finite : Cert.Pre_finite.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_finite m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_HgrnRefIdeal_pre_finite [hHgrnRefIdeal : Cert.HgrnRefIdeal.Facts] [hPre_finite : Cert.Pre_finite.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_finite m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Mixffn [hMixffn : Cert.Mixffn.Facts] : Prop :=
  ∀ (m : (ℓ : Loc Cert.Mixffn.nD Cert.Mixffn.τ Cert.Mixffn.sig) → Buf (Elt Bits) ℓ) (g : Dev Cert.Mixffn.nD → PrngReg), Pre_Mixffn m →
    θ_run (Cert.Mixffn.defs (F := Bits)) (onTc (τ := Cert.Mixffn.τ) (Cert.Mixffn.main (F := Bits))) ⟨m, fun _ => 0, g⟩ (fun r => (∀ c : Dev Cert.Mixffn.nD,
      r.2.mem ((c.tc : Thread Cert.Mixffn.nD Cert.Mixffn.τ).loc Cert.Mixffn.main_arg0) = m ((c.tc : Thread Cert.Mixffn.nD Cert.Mixffn.τ).loc Cert.Mixffn.main_arg0)
      ∧ r.2.mem ((c.tc : Thread Cert.Mixffn.nD Cert.Mixffn.τ).loc Cert.Mixffn.main_arg1) = m ((c.tc : Thread Cert.Mixffn.nD Cert.Mixffn.τ).loc Cert.Mixffn.main_arg1)
      ∧ r.2.mem ((c.tc : Thread Cert.Mixffn.nD Cert.Mixffn.τ).loc Cert.Mixffn.main_arg2) = m ((c.tc : Thread Cert.Mixffn.nD Cert.Mixffn.τ).loc Cert.Mixffn.main_arg2)
      ∧ r.2.mem ((c.tc : Thread Cert.Mixffn.nD Cert.Mixffn.τ).loc Cert.Mixffn.main_arg3) = m ((c.tc : Thread Cert.Mixffn.nD Cert.Mixffn.τ).loc Cert.Mixffn.main_arg3)
      ∧ r.2.mem ((c.tc : Thread Cert.Mixffn.nD Cert.Mixffn.τ).loc Cert.Mixffn.main_arg4) = m ((c.tc : Thread Cert.Mixffn.nD Cert.Mixffn.τ).loc Cert.Mixffn.main_arg4)
      ∧ r.2.mem ((c.tc : Thread Cert.Mixffn.nD Cert.Mixffn.τ).loc Cert.Mixffn.main_arg5) = m ((c.tc : Thread Cert.Mixffn.nD Cert.Mixffn.τ).loc Cert.Mixffn.main_arg5)
      ∧ r.2.mem ((c.tc : Thread Cert.Mixffn.nD Cert.Mixffn.τ).loc Cert.Mixffn.main_arg6) = m ((c.tc : Thread Cert.Mixffn.nD Cert.Mixffn.τ).loc Cert.Mixffn.main_arg6)
      ∧ r.2.mem ((c.tc : Thread Cert.Mixffn.nD Cert.Mixffn.τ).loc Cert.Mixffn.main_arg7) = m ((c.tc : Thread Cert.Mixffn.nD Cert.Mixffn.τ).loc Cert.Mixffn.main_arg7)
      ∧ r.2.mem ((c.tc : Thread Cert.Mixffn.nD Cert.Mixffn.τ).loc Cert.Mixffn.main_arg8) = m ((c.tc : Thread Cert.Mixffn.nD Cert.Mixffn.τ).loc Cert.Mixffn.main_arg8)
      ∧ r.2.mem ((c.tc : Thread Cert.Mixffn.nD Cert.Mixffn.τ).loc Cert.Mixffn.main_arg9) = m ((c.tc : Thread Cert.Mixffn.nD Cert.Mixffn.τ).loc Cert.Mixffn.main_arg9))
      ∧ r.2.sem = fun _ => 0)

def quiescent_MixffnIdeal [hMixffnIdeal : Cert.MixffnIdeal.Facts] : Prop :=
  ∀ (m : (ℓ : Loc Cert.MixffnIdeal.nD Cert.MixffnIdeal.τ Cert.MixffnIdeal.sig) → Buf (Elt Ideal) ℓ) (g : Dev Cert.MixffnIdeal.nD → PrngReg), Pre_MixffnIdeal m →
    θ_run (Cert.MixffnIdeal.defs (F := Ideal)) (onTc (τ := Cert.MixffnIdeal.τ) (Cert.MixffnIdeal.main (F := Ideal))) ⟨m, fun _ => 0, g⟩ (fun r => (∀ c : Dev Cert.MixffnIdeal.nD,
      r.2.mem ((c.tc : Thread Cert.MixffnIdeal.nD Cert.MixffnIdeal.τ).loc Cert.MixffnIdeal.main_arg0) = m ((c.tc : Thread Cert.MixffnIdeal.nD Cert.MixffnIdeal.τ).loc Cert.MixffnIdeal.main_arg0)
      ∧ r.2.mem ((c.tc : Thread Cert.MixffnIdeal.nD Cert.MixffnIdeal.τ).loc Cert.MixffnIdeal.main_arg1) = m ((c.tc : Thread Cert.MixffnIdeal.nD Cert.MixffnIdeal.τ).loc Cert.MixffnIdeal.main_arg1)
      ∧ r.2.mem ((c.tc : Thread Cert.MixffnIdeal.nD Cert.MixffnIdeal.τ).loc Cert.MixffnIdeal.main_arg2) = m ((c.tc : Thread Cert.MixffnIdeal.nD Cert.MixffnIdeal.τ).loc Cert.MixffnIdeal.main_arg2)
      ∧ r.2.mem ((c.tc : Thread Cert.MixffnIdeal.nD Cert.MixffnIdeal.τ).loc Cert.MixffnIdeal.main_arg3) = m ((c.tc : Thread Cert.MixffnIdeal.nD Cert.MixffnIdeal.τ).loc Cert.MixffnIdeal.main_arg3)
      ∧ r.2.mem ((c.tc : Thread Cert.MixffnIdeal.nD Cert.MixffnIdeal.τ).loc Cert.MixffnIdeal.main_arg4) = m ((c.tc : Thread Cert.MixffnIdeal.nD Cert.MixffnIdeal.τ).loc Cert.MixffnIdeal.main_arg4)
      ∧ r.2.mem ((c.tc : Thread Cert.MixffnIdeal.nD Cert.MixffnIdeal.τ).loc Cert.MixffnIdeal.main_arg5) = m ((c.tc : Thread Cert.MixffnIdeal.nD Cert.MixffnIdeal.τ).loc Cert.MixffnIdeal.main_arg5)
      ∧ r.2.mem ((c.tc : Thread Cert.MixffnIdeal.nD Cert.MixffnIdeal.τ).loc Cert.MixffnIdeal.main_arg6) = m ((c.tc : Thread Cert.MixffnIdeal.nD Cert.MixffnIdeal.τ).loc Cert.MixffnIdeal.main_arg6)
      ∧ r.2.mem ((c.tc : Thread Cert.MixffnIdeal.nD Cert.MixffnIdeal.τ).loc Cert.MixffnIdeal.main_arg7) = m ((c.tc : Thread Cert.MixffnIdeal.nD Cert.MixffnIdeal.τ).loc Cert.MixffnIdeal.main_arg7)
      ∧ r.2.mem ((c.tc : Thread Cert.MixffnIdeal.nD Cert.MixffnIdeal.τ).loc Cert.MixffnIdeal.main_arg8) = m ((c.tc : Thread Cert.MixffnIdeal.nD Cert.MixffnIdeal.τ).loc Cert.MixffnIdeal.main_arg8)
      ∧ r.2.mem ((c.tc : Thread Cert.MixffnIdeal.nD Cert.MixffnIdeal.τ).loc Cert.MixffnIdeal.main_arg9) = m ((c.tc : Thread Cert.MixffnIdeal.nD Cert.MixffnIdeal.τ).loc Cert.MixffnIdeal.main_arg9))
      ∧ r.2.sem = fun _ => 0)

def quiescent_MixffnRefIdeal [hMixffnRefIdeal : Cert.MixffnRefIdeal.Facts] : Prop :=
  ∀ (m : (ℓ : Loc Cert.MixffnRefIdeal.nD Cert.MixffnRefIdeal.τ Cert.MixffnRefIdeal.sig) → Buf (Elt Ideal) ℓ) (g : Dev Cert.MixffnRefIdeal.nD → PrngReg), Pre_MixffnRefIdeal m →
    θ_run (Cert.MixffnRefIdeal.defs (F := Ideal)) (onTc (τ := Cert.MixffnRefIdeal.τ) (Cert.MixffnRefIdeal.main (F := Ideal))) ⟨m, fun _ => 0, g⟩ (fun r => (∀ c : Dev Cert.MixffnRefIdeal.nD,
      r.2.mem ((c.tc : Thread Cert.MixffnRefIdeal.nD Cert.MixffnRefIdeal.τ).loc Cert.MixffnRefIdeal.main_arg0) = m ((c.tc : Thread Cert.MixffnRefIdeal.nD Cert.MixffnRefIdeal.τ).loc Cert.MixffnRefIdeal.main_arg0)
      ∧ r.2.mem ((c.tc : Thread Cert.MixffnRefIdeal.nD Cert.MixffnRefIdeal.τ).loc Cert.MixffnRefIdeal.main_arg1) = m ((c.tc : Thread Cert.MixffnRefIdeal.nD Cert.MixffnRefIdeal.τ).loc Cert.MixffnRefIdeal.main_arg1)
      ∧ r.2.mem ((c.tc : Thread Cert.MixffnRefIdeal.nD Cert.MixffnRefIdeal.τ).loc Cert.MixffnRefIdeal.main_arg2) = m ((c.tc : Thread Cert.MixffnRefIdeal.nD Cert.MixffnRefIdeal.τ).loc Cert.MixffnRefIdeal.main_arg2)
      ∧ r.2.mem ((c.tc : Thread Cert.MixffnRefIdeal.nD Cert.MixffnRefIdeal.τ).loc Cert.MixffnRefIdeal.main_arg3) = m ((c.tc : Thread Cert.MixffnRefIdeal.nD Cert.MixffnRefIdeal.τ).loc Cert.MixffnRefIdeal.main_arg3)
      ∧ r.2.mem ((c.tc : Thread Cert.MixffnRefIdeal.nD Cert.MixffnRefIdeal.τ).loc Cert.MixffnRefIdeal.main_arg4) = m ((c.tc : Thread Cert.MixffnRefIdeal.nD Cert.MixffnRefIdeal.τ).loc Cert.MixffnRefIdeal.main_arg4)
      ∧ r.2.mem ((c.tc : Thread Cert.MixffnRefIdeal.nD Cert.MixffnRefIdeal.τ).loc Cert.MixffnRefIdeal.main_arg5) = m ((c.tc : Thread Cert.MixffnRefIdeal.nD Cert.MixffnRefIdeal.τ).loc Cert.MixffnRefIdeal.main_arg5)
      ∧ r.2.mem ((c.tc : Thread Cert.MixffnRefIdeal.nD Cert.MixffnRefIdeal.τ).loc Cert.MixffnRefIdeal.main_arg6) = m ((c.tc : Thread Cert.MixffnRefIdeal.nD Cert.MixffnRefIdeal.τ).loc Cert.MixffnRefIdeal.main_arg6)
      ∧ r.2.mem ((c.tc : Thread Cert.MixffnRefIdeal.nD Cert.MixffnRefIdeal.τ).loc Cert.MixffnRefIdeal.main_arg7) = m ((c.tc : Thread Cert.MixffnRefIdeal.nD Cert.MixffnRefIdeal.τ).loc Cert.MixffnRefIdeal.main_arg7)
      ∧ r.2.mem ((c.tc : Thread Cert.MixffnRefIdeal.nD Cert.MixffnRefIdeal.τ).loc Cert.MixffnRefIdeal.main_arg8) = m ((c.tc : Thread Cert.MixffnRefIdeal.nD Cert.MixffnRefIdeal.τ).loc Cert.MixffnRefIdeal.main_arg8)
      ∧ r.2.mem ((c.tc : Thread Cert.MixffnRefIdeal.nD Cert.MixffnRefIdeal.τ).loc Cert.MixffnRefIdeal.main_arg9) = m ((c.tc : Thread Cert.MixffnRefIdeal.nD Cert.MixffnRefIdeal.τ).loc Cert.MixffnRefIdeal.main_arg9))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2)
      ∧ r.2.mem ((c.tc : Thread Cert.InprojS.nD Cert.InprojS.τ).loc Cert.InprojS.main_arg3) = m ((c.tc : Thread Cert.InprojS.nD Cert.InprojS.τ).loc Cert.InprojS.main_arg3)
      ∧ r.2.mem ((c.tc : Thread Cert.InprojS.nD Cert.InprojS.τ).loc Cert.InprojS.main_arg4) = m ((c.tc : Thread Cert.InprojS.nD Cert.InprojS.τ).loc Cert.InprojS.main_arg4))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
      ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3)
      ∧ r.2.mem ((c.tc : Thread Cert.InprojSRefIdeal.nD Cert.InprojSRefIdeal.τ).loc Cert.InprojSRefIdeal.main_arg4) = m ((c.tc : Thread Cert.InprojSRefIdeal.nD Cert.InprojSRefIdeal.τ).loc Cert.InprojSRefIdeal.main_arg4))
      ∧ r.2.sem = fun _ => 0)

def quiescent_MixffnS [hMixffnS : Cert.MixffnS.Facts] : Prop :=
  ∀ (m : (ℓ : Loc Cert.MixffnS.nD Cert.MixffnS.τ Cert.MixffnS.sig) → Buf (Elt Bits) ℓ) (g : Dev Cert.MixffnS.nD → PrngReg), Pre_MixffnS m →
    θ_run (Cert.MixffnS.defs (F := Bits)) (onTc (τ := Cert.MixffnS.τ) (Cert.MixffnS.main (F := Bits))) ⟨m, fun _ => 0, g⟩ (fun r => (∀ c : Dev Cert.MixffnS.nD,
      r.2.mem ((c.tc : Thread Cert.MixffnS.nD Cert.MixffnS.τ).loc Cert.MixffnS.main_arg0) = m ((c.tc : Thread Cert.MixffnS.nD Cert.MixffnS.τ).loc Cert.MixffnS.main_arg0)
      ∧ r.2.mem ((c.tc : Thread Cert.MixffnS.nD Cert.MixffnS.τ).loc Cert.MixffnS.main_arg1) = m ((c.tc : Thread Cert.MixffnS.nD Cert.MixffnS.τ).loc Cert.MixffnS.main_arg1)
      ∧ r.2.mem ((c.tc : Thread Cert.MixffnS.nD Cert.MixffnS.τ).loc Cert.MixffnS.main_arg2) = m ((c.tc : Thread Cert.MixffnS.nD Cert.MixffnS.τ).loc Cert.MixffnS.main_arg2)
      ∧ r.2.mem ((c.tc : Thread Cert.MixffnS.nD Cert.MixffnS.τ).loc Cert.MixffnS.main_arg3) = m ((c.tc : Thread Cert.MixffnS.nD Cert.MixffnS.τ).loc Cert.MixffnS.main_arg3)
      ∧ r.2.mem ((c.tc : Thread Cert.MixffnS.nD Cert.MixffnS.τ).loc Cert.MixffnS.main_arg4) = m ((c.tc : Thread Cert.MixffnS.nD Cert.MixffnS.τ).loc Cert.MixffnS.main_arg4)
      ∧ r.2.mem ((c.tc : Thread Cert.MixffnS.nD Cert.MixffnS.τ).loc Cert.MixffnS.main_arg5) = m ((c.tc : Thread Cert.MixffnS.nD Cert.MixffnS.τ).loc Cert.MixffnS.main_arg5)
      ∧ r.2.mem ((c.tc : Thread Cert.MixffnS.nD Cert.MixffnS.τ).loc Cert.MixffnS.main_arg6) = m ((c.tc : Thread Cert.MixffnS.nD Cert.MixffnS.τ).loc Cert.MixffnS.main_arg6)
      ∧ r.2.mem ((c.tc : Thread Cert.MixffnS.nD Cert.MixffnS.τ).loc Cert.MixffnS.main_arg7) = m ((c.tc : Thread Cert.MixffnS.nD Cert.MixffnS.τ).loc Cert.MixffnS.main_arg7)
      ∧ r.2.mem ((c.tc : Thread Cert.MixffnS.nD Cert.MixffnS.τ).loc Cert.MixffnS.main_arg8) = m ((c.tc : Thread Cert.MixffnS.nD Cert.MixffnS.τ).loc Cert.MixffnS.main_arg8)
      ∧ r.2.mem ((c.tc : Thread Cert.MixffnS.nD Cert.MixffnS.τ).loc Cert.MixffnS.main_arg9) = m ((c.tc : Thread Cert.MixffnS.nD Cert.MixffnS.τ).loc Cert.MixffnS.main_arg9))
      ∧ r.2.sem = fun _ => 0)

def quiescent_MixffnSIdeal [hMixffnSIdeal : Cert.MixffnSIdeal.Facts] : Prop :=
  ∀ (m : (ℓ : Loc Cert.MixffnSIdeal.nD Cert.MixffnSIdeal.τ Cert.MixffnSIdeal.sig) → Buf (Elt Ideal) ℓ) (g : Dev Cert.MixffnSIdeal.nD → PrngReg), Pre_MixffnSIdeal m →
    θ_run (Cert.MixffnSIdeal.defs (F := Ideal)) (onTc (τ := Cert.MixffnSIdeal.τ) (Cert.MixffnSIdeal.main (F := Ideal))) ⟨m, fun _ => 0, g⟩ (fun r => (∀ c : Dev Cert.MixffnSIdeal.nD,
      r.2.mem ((c.tc : Thread Cert.MixffnSIdeal.nD Cert.MixffnSIdeal.τ).loc Cert.MixffnSIdeal.main_arg0) = m ((c.tc : Thread Cert.MixffnSIdeal.nD Cert.MixffnSIdeal.τ).loc Cert.MixffnSIdeal.main_arg0)
      ∧ r.2.mem ((c.tc : Thread Cert.MixffnSIdeal.nD Cert.MixffnSIdeal.τ).loc Cert.MixffnSIdeal.main_arg1) = m ((c.tc : Thread Cert.MixffnSIdeal.nD Cert.MixffnSIdeal.τ).loc Cert.MixffnSIdeal.main_arg1)
      ∧ r.2.mem ((c.tc : Thread Cert.MixffnSIdeal.nD Cert.MixffnSIdeal.τ).loc Cert.MixffnSIdeal.main_arg2) = m ((c.tc : Thread Cert.MixffnSIdeal.nD Cert.MixffnSIdeal.τ).loc Cert.MixffnSIdeal.main_arg2)
      ∧ r.2.mem ((c.tc : Thread Cert.MixffnSIdeal.nD Cert.MixffnSIdeal.τ).loc Cert.MixffnSIdeal.main_arg3) = m ((c.tc : Thread Cert.MixffnSIdeal.nD Cert.MixffnSIdeal.τ).loc Cert.MixffnSIdeal.main_arg3)
      ∧ r.2.mem ((c.tc : Thread Cert.MixffnSIdeal.nD Cert.MixffnSIdeal.τ).loc Cert.MixffnSIdeal.main_arg4) = m ((c.tc : Thread Cert.MixffnSIdeal.nD Cert.MixffnSIdeal.τ).loc Cert.MixffnSIdeal.main_arg4)
      ∧ r.2.mem ((c.tc : Thread Cert.MixffnSIdeal.nD Cert.MixffnSIdeal.τ).loc Cert.MixffnSIdeal.main_arg5) = m ((c.tc : Thread Cert.MixffnSIdeal.nD Cert.MixffnSIdeal.τ).loc Cert.MixffnSIdeal.main_arg5)
      ∧ r.2.mem ((c.tc : Thread Cert.MixffnSIdeal.nD Cert.MixffnSIdeal.τ).loc Cert.MixffnSIdeal.main_arg6) = m ((c.tc : Thread Cert.MixffnSIdeal.nD Cert.MixffnSIdeal.τ).loc Cert.MixffnSIdeal.main_arg6)
      ∧ r.2.mem ((c.tc : Thread Cert.MixffnSIdeal.nD Cert.MixffnSIdeal.τ).loc Cert.MixffnSIdeal.main_arg7) = m ((c.tc : Thread Cert.MixffnSIdeal.nD Cert.MixffnSIdeal.τ).loc Cert.MixffnSIdeal.main_arg7)
      ∧ r.2.mem ((c.tc : Thread Cert.MixffnSIdeal.nD Cert.MixffnSIdeal.τ).loc Cert.MixffnSIdeal.main_arg8) = m ((c.tc : Thread Cert.MixffnSIdeal.nD Cert.MixffnSIdeal.τ).loc Cert.MixffnSIdeal.main_arg8)
      ∧ r.2.mem ((c.tc : Thread Cert.MixffnSIdeal.nD Cert.MixffnSIdeal.τ).loc Cert.MixffnSIdeal.main_arg9) = m ((c.tc : Thread Cert.MixffnSIdeal.nD Cert.MixffnSIdeal.τ).loc Cert.MixffnSIdeal.main_arg9))
      ∧ r.2.sem = fun _ => 0)

def quiescent_MixffnSRefIdeal [hMixffnSRefIdeal : Cert.MixffnSRefIdeal.Facts] : Prop :=
  ∀ (m : (ℓ : Loc Cert.MixffnSRefIdeal.nD Cert.MixffnSRefIdeal.τ Cert.MixffnSRefIdeal.sig) → Buf (Elt Ideal) ℓ) (g : Dev Cert.MixffnSRefIdeal.nD → PrngReg), Pre_MixffnSRefIdeal m →
    θ_run (Cert.MixffnSRefIdeal.defs (F := Ideal)) (onTc (τ := Cert.MixffnSRefIdeal.τ) (Cert.MixffnSRefIdeal.main (F := Ideal))) ⟨m, fun _ => 0, g⟩ (fun r => (∀ c : Dev Cert.MixffnSRefIdeal.nD,
      r.2.mem ((c.tc : Thread Cert.MixffnSRefIdeal.nD Cert.MixffnSRefIdeal.τ).loc Cert.MixffnSRefIdeal.main_arg0) = m ((c.tc : Thread Cert.MixffnSRefIdeal.nD Cert.MixffnSRefIdeal.τ).loc Cert.MixffnSRefIdeal.main_arg0)
      ∧ r.2.mem ((c.tc : Thread Cert.MixffnSRefIdeal.nD Cert.MixffnSRefIdeal.τ).loc Cert.MixffnSRefIdeal.main_arg1) = m ((c.tc : Thread Cert.MixffnSRefIdeal.nD Cert.MixffnSRefIdeal.τ).loc Cert.MixffnSRefIdeal.main_arg1)
      ∧ r.2.mem ((c.tc : Thread Cert.MixffnSRefIdeal.nD Cert.MixffnSRefIdeal.τ).loc Cert.MixffnSRefIdeal.main_arg2) = m ((c.tc : Thread Cert.MixffnSRefIdeal.nD Cert.MixffnSRefIdeal.τ).loc Cert.MixffnSRefIdeal.main_arg2)
      ∧ r.2.mem ((c.tc : Thread Cert.MixffnSRefIdeal.nD Cert.MixffnSRefIdeal.τ).loc Cert.MixffnSRefIdeal.main_arg3) = m ((c.tc : Thread Cert.MixffnSRefIdeal.nD Cert.MixffnSRefIdeal.τ).loc Cert.MixffnSRefIdeal.main_arg3)
      ∧ r.2.mem ((c.tc : Thread Cert.MixffnSRefIdeal.nD Cert.MixffnSRefIdeal.τ).loc Cert.MixffnSRefIdeal.main_arg4) = m ((c.tc : Thread Cert.MixffnSRefIdeal.nD Cert.MixffnSRefIdeal.τ).loc Cert.MixffnSRefIdeal.main_arg4)
      ∧ r.2.mem ((c.tc : Thread Cert.MixffnSRefIdeal.nD Cert.MixffnSRefIdeal.τ).loc Cert.MixffnSRefIdeal.main_arg5) = m ((c.tc : Thread Cert.MixffnSRefIdeal.nD Cert.MixffnSRefIdeal.τ).loc Cert.MixffnSRefIdeal.main_arg5)
      ∧ r.2.mem ((c.tc : Thread Cert.MixffnSRefIdeal.nD Cert.MixffnSRefIdeal.τ).loc Cert.MixffnSRefIdeal.main_arg6) = m ((c.tc : Thread Cert.MixffnSRefIdeal.nD Cert.MixffnSRefIdeal.τ).loc Cert.MixffnSRefIdeal.main_arg6)
      ∧ r.2.mem ((c.tc : Thread Cert.MixffnSRefIdeal.nD Cert.MixffnSRefIdeal.τ).loc Cert.MixffnSRefIdeal.main_arg7) = m ((c.tc : Thread Cert.MixffnSRefIdeal.nD Cert.MixffnSRefIdeal.τ).loc Cert.MixffnSRefIdeal.main_arg7)
      ∧ r.2.mem ((c.tc : Thread Cert.MixffnSRefIdeal.nD Cert.MixffnSRefIdeal.τ).loc Cert.MixffnSRefIdeal.main_arg8) = m ((c.tc : Thread Cert.MixffnSRefIdeal.nD Cert.MixffnSRefIdeal.τ).loc Cert.MixffnSRefIdeal.main_arg8)
      ∧ r.2.mem ((c.tc : Thread Cert.MixffnSRefIdeal.nD Cert.MixffnSRefIdeal.τ).loc Cert.MixffnSRefIdeal.main_arg9) = m ((c.tc : Thread Cert.MixffnSRefIdeal.nD Cert.MixffnSRefIdeal.τ).loc Cert.MixffnSRefIdeal.main_arg9))
      ∧ r.2.sem = fun _ => 0)

def quiescent_HgrnS [hHgrnS : Cert.HgrnS.Facts] : Prop :=
  ∀ (m : (ℓ : Loc Cert.HgrnS.nD Cert.HgrnS.τ Cert.HgrnS.sig) → Buf (Elt Bits) ℓ) (g : Dev Cert.HgrnS.nD → PrngReg), Pre_HgrnS m →
    θ_run (Cert.HgrnS.defs (F := Bits)) (onTc (τ := Cert.HgrnS.τ) (Cert.HgrnS.main (F := Bits))) ⟨m, fun _ => 0, g⟩ (fun r => (∀ c : Dev Cert.HgrnS.nD,
      r.2.mem ((c.tc : Thread Cert.HgrnS.nD Cert.HgrnS.τ).loc Cert.HgrnS.main_arg0) = m ((c.tc : Thread Cert.HgrnS.nD Cert.HgrnS.τ).loc Cert.HgrnS.main_arg0)
      ∧ r.2.mem ((c.tc : Thread Cert.HgrnS.nD Cert.HgrnS.τ).loc Cert.HgrnS.main_arg1) = m ((c.tc : Thread Cert.HgrnS.nD Cert.HgrnS.τ).loc Cert.HgrnS.main_arg1)
      ∧ r.2.mem ((c.tc : Thread Cert.HgrnS.nD Cert.HgrnS.τ).loc Cert.HgrnS.main_arg2) = m ((c.tc : Thread Cert.HgrnS.nD Cert.HgrnS.τ).loc Cert.HgrnS.main_arg2)
      ∧ r.2.mem ((c.tc : Thread Cert.HgrnS.nD Cert.HgrnS.τ).loc Cert.HgrnS.main_arg3) = m ((c.tc : Thread Cert.HgrnS.nD Cert.HgrnS.τ).loc Cert.HgrnS.main_arg3))
      ∧ r.2.sem = fun _ => 0)

def quiescent_HgrnSIdeal [hHgrnSIdeal : Cert.HgrnSIdeal.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_HgrnSIdeal_pre_finite_sample [hHgrnSIdeal : Cert.HgrnSIdeal.Facts] [hPre_finite_sample : Cert.Pre_finite_sample.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal_finite_sample m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_HgrnSRefIdeal [hHgrnSRefIdeal : Cert.HgrnSRefIdeal.Facts] : Prop :=
  ∀ (m : (ℓ : Loc Cert.HgrnSRefIdeal.nD Cert.HgrnSRefIdeal.τ Cert.HgrnSRefIdeal.sig) → Buf (Elt Ideal) ℓ) (g : Dev Cert.HgrnSRefIdeal.nD → PrngReg), Pre_HgrnSRefIdeal m →
    θ_run (Cert.HgrnSRefIdeal.defs (F := Ideal)) (onTc (τ := Cert.HgrnSRefIdeal.τ) (Cert.HgrnSRefIdeal.main (F := Ideal))) ⟨m, fun _ => 0, g⟩ (fun r => (∀ c : Dev Cert.HgrnSRefIdeal.nD,
      r.2.mem ((c.tc : Thread Cert.HgrnSRefIdeal.nD Cert.HgrnSRefIdeal.τ).loc Cert.HgrnSRefIdeal.main_arg0) = m ((c.tc : Thread Cert.HgrnSRefIdeal.nD Cert.HgrnSRefIdeal.τ).loc Cert.HgrnSRefIdeal.main_arg0)
      ∧ r.2.mem ((c.tc : Thread Cert.HgrnSRefIdeal.nD Cert.HgrnSRefIdeal.τ).loc Cert.HgrnSRefIdeal.main_arg1) = m ((c.tc : Thread Cert.HgrnSRefIdeal.nD Cert.HgrnSRefIdeal.τ).loc Cert.HgrnSRefIdeal.main_arg1)
      ∧ r.2.mem ((c.tc : Thread Cert.HgrnSRefIdeal.nD Cert.HgrnSRefIdeal.τ).loc Cert.HgrnSRefIdeal.main_arg2) = m ((c.tc : Thread Cert.HgrnSRefIdeal.nD Cert.HgrnSRefIdeal.τ).loc Cert.HgrnSRefIdeal.main_arg2)
      ∧ r.2.mem ((c.tc : Thread Cert.HgrnSRefIdeal.nD Cert.HgrnSRefIdeal.τ).loc Cert.HgrnSRefIdeal.main_arg3) = m ((c.tc : Thread Cert.HgrnSRefIdeal.nD Cert.HgrnSRefIdeal.τ).loc Cert.HgrnSRefIdeal.main_arg3))
      ∧ r.2.sem = fun _ => 0)

def quiescent_HgrnSRefIdeal_pre_finite_sample [hHgrnSRefIdeal : Cert.HgrnSRefIdeal.Facts] [hPre_finite_sample : Cert.Pre_finite_sample.Facts] : Prop :=
  ∀ (m : (ℓ : Loc Cert.HgrnSRefIdeal.nD Cert.HgrnSRefIdeal.τ Cert.HgrnSRefIdeal.sig) → Buf (Elt Ideal) ℓ) (g : Dev Cert.HgrnSRefIdeal.nD → PrngReg), Pre_HgrnSRefIdeal_finite_sample m →
    θ_run (Cert.HgrnSRefIdeal.defs (F := Ideal)) (onTc (τ := Cert.HgrnSRefIdeal.τ) (Cert.HgrnSRefIdeal.main (F := Ideal))) ⟨m, fun _ => 0, g⟩ (fun r => (∀ c : Dev Cert.HgrnSRefIdeal.nD,
      r.2.mem ((c.tc : Thread Cert.HgrnSRefIdeal.nD Cert.HgrnSRefIdeal.τ).loc Cert.HgrnSRefIdeal.main_arg0) = m ((c.tc : Thread Cert.HgrnSRefIdeal.nD Cert.HgrnSRefIdeal.τ).loc Cert.HgrnSRefIdeal.main_arg0)
      ∧ r.2.mem ((c.tc : Thread Cert.HgrnSRefIdeal.nD Cert.HgrnSRefIdeal.τ).loc Cert.HgrnSRefIdeal.main_arg1) = m ((c.tc : Thread Cert.HgrnSRefIdeal.nD Cert.HgrnSRefIdeal.τ).loc Cert.HgrnSRefIdeal.main_arg1)
      ∧ r.2.mem ((c.tc : Thread Cert.HgrnSRefIdeal.nD Cert.HgrnSRefIdeal.τ).loc Cert.HgrnSRefIdeal.main_arg2) = m ((c.tc : Thread Cert.HgrnSRefIdeal.nD Cert.HgrnSRefIdeal.τ).loc Cert.HgrnSRefIdeal.main_arg2)
      ∧ r.2.mem ((c.tc : Thread Cert.HgrnSRefIdeal.nD Cert.HgrnSRefIdeal.τ).loc Cert.HgrnSRefIdeal.main_arg3) = m ((c.tc : Thread Cert.HgrnSRefIdeal.nD Cert.HgrnSRefIdeal.τ).loc Cert.HgrnSRefIdeal.main_arg3))
      ∧ r.2.sem = fun _ => 0)

def preserves_Hgrn_HgrnIdeal : Prop :=
  True

def algebraic_HgrnIdeal_HgrnRefIdeal_pre_finite [hHgrnIdeal : Cert.HgrnIdeal.Facts] [hHgrnRefIdeal : Cert.HgrnRefIdeal.Facts] [hPre_finite : Cert.Pre_finite.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_finite m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v60_0)) (v1 : (c : Dev Cert.HgrnIdeal.nD) → Buf (Elt Ideal) ((c.tc : Thread Cert.HgrnIdeal.nD Cert.HgrnIdeal.τ).loc Cert.HgrnIdeal.main_v60_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v60_0) = v0 c
          ∧ r.2.mem ((c.tc : Thread Cert.HgrnIdeal.nD Cert.HgrnIdeal.τ).loc Cert.HgrnIdeal.main_v60_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v69) = v0 c
          ∧ r.2.mem ((c.tc : Thread Cert.HgrnRefIdeal.nD Cert.HgrnRefIdeal.τ).loc Cert.HgrnRefIdeal.main_v48_5) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v19_0)) (v1 : (c : Dev Cert.InprojIdeal.nD) → Buf (Elt Ideal) ((c.tc : Thread Cert.InprojIdeal.nD Cert.InprojIdeal.τ).loc Cert.InprojIdeal.main_v19_1)) (v2 : (c : Dev Cert.InprojIdeal.nD) → Buf (Elt Ideal) ((c.tc : Thread Cert.InprojIdeal.nD Cert.InprojIdeal.τ).loc Cert.InprojIdeal.main_v19_2)) (v3 : (c : Dev Cert.InprojIdeal.nD) → Buf (Elt Ideal) ((c.tc : Thread Cert.InprojIdeal.nD Cert.InprojIdeal.τ).loc Cert.InprojIdeal.main_v19_3)) (v4 : (c : Dev Cert.InprojIdeal.nD) → Buf (Elt Ideal) ((c.tc : Thread Cert.InprojIdeal.nD Cert.InprojIdeal.τ).loc Cert.InprojIdeal.main_v19_4)) (v5 : (c : Dev Cert.InprojIdeal.nD) → Buf (Elt Ideal) ((c.tc : Thread Cert.InprojIdeal.nD Cert.InprojIdeal.τ).loc Cert.InprojIdeal.main_v19_5)) (v6 : (c : Dev Cert.InprojIdeal.nD) → Buf (Elt Ideal) ((c.tc : Thread Cert.InprojIdeal.nD Cert.InprojIdeal.τ).loc Cert.InprojIdeal.main_v19_6)) (v7 : (c : Dev Cert.InprojIdeal.nD) → Buf (Elt Ideal) ((c.tc : Thread Cert.InprojIdeal.nD Cert.InprojIdeal.τ).loc Cert.InprojIdeal.main_v19_7)) (v8 : (c : Dev Cert.InprojIdeal.nD) → Buf (Elt Ideal) ((c.tc : Thread Cert.InprojIdeal.nD Cert.InprojIdeal.τ).loc Cert.InprojIdeal.main_v19_8)) (v9 : (c : Dev Cert.InprojIdeal.nD) → Buf (Elt Ideal) ((c.tc : Thread Cert.InprojIdeal.nD Cert.InprojIdeal.τ).loc Cert.InprojIdeal.main_v19_9)) (v10 : (c : Dev Cert.InprojIdeal.nD) → Buf (Elt Ideal) ((c.tc : Thread Cert.InprojIdeal.nD Cert.InprojIdeal.τ).loc Cert.InprojIdeal.main_v19_10)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v19_0) = v0 c
          ∧ r.2.mem ((c.tc : Thread Cert.InprojIdeal.nD Cert.InprojIdeal.τ).loc Cert.InprojIdeal.main_v19_1) = v1 c
          ∧ r.2.mem ((c.tc : Thread Cert.InprojIdeal.nD Cert.InprojIdeal.τ).loc Cert.InprojIdeal.main_v19_2) = v2 c
          ∧ r.2.mem ((c.tc : Thread Cert.InprojIdeal.nD Cert.InprojIdeal.τ).loc Cert.InprojIdeal.main_v19_3) = v3 c
          ∧ r.2.mem ((c.tc : Thread Cert.InprojIdeal.nD Cert.InprojIdeal.τ).loc Cert.InprojIdeal.main_v19_4) = v4 c
          ∧ r.2.mem ((c.tc : Thread Cert.InprojIdeal.nD Cert.InprojIdeal.τ).loc Cert.InprojIdeal.main_v19_5) = v5 c
          ∧ r.2.mem ((c.tc : Thread Cert.InprojIdeal.nD Cert.InprojIdeal.τ).loc Cert.InprojIdeal.main_v19_6) = v6 c
          ∧ r.2.mem ((c.tc : Thread Cert.InprojIdeal.nD Cert.InprojIdeal.τ).loc Cert.InprojIdeal.main_v19_7) = v7 c
          ∧ r.2.mem ((c.tc : Thread Cert.InprojIdeal.nD Cert.InprojIdeal.τ).loc Cert.InprojIdeal.main_v19_8) = v8 c
          ∧ r.2.mem ((c.tc : Thread Cert.InprojIdeal.nD Cert.InprojIdeal.τ).loc Cert.InprojIdeal.main_v19_9) = v9 c
          ∧ r.2.mem ((c.tc : Thread Cert.InprojIdeal.nD Cert.InprojIdeal.τ).loc Cert.InprojIdeal.main_v19_10) = v10 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v57) = v0 c
          ∧ r.2.mem ((c.tc : Thread Cert.InprojRefIdeal.nD Cert.InprojRefIdeal.τ).loc Cert.InprojRefIdeal.main_v58) = v1 c
          ∧ r.2.mem ((c.tc : Thread Cert.InprojRefIdeal.nD Cert.InprojRefIdeal.τ).loc Cert.InprojRefIdeal.main_v59) = v2 c
          ∧ r.2.mem ((c.tc : Thread Cert.InprojRefIdeal.nD Cert.InprojRefIdeal.τ).loc Cert.InprojRefIdeal.main_v60) = v3 c
          ∧ r.2.mem ((c.tc : Thread Cert.InprojRefIdeal.nD Cert.InprojRefIdeal.τ).loc Cert.InprojRefIdeal.main_v56) = v4 c
          ∧ r.2.mem ((c.tc : Thread Cert.InprojRefIdeal.nD Cert.InprojRefIdeal.τ).loc Cert.InprojRefIdeal.main_v67) = v5 c
          ∧ r.2.mem ((c.tc : Thread Cert.InprojRefIdeal.nD Cert.InprojRefIdeal.τ).loc Cert.InprojRefIdeal.main_v69) = v6 c
          ∧ r.2.mem ((c.tc : Thread Cert.InprojRefIdeal.nD Cert.InprojRefIdeal.τ).loc Cert.InprojRefIdeal.main_v71) = v7 c
          ∧ r.2.mem ((c.tc : Thread Cert.InprojRefIdeal.nD Cert.InprojRefIdeal.τ).loc Cert.InprojRefIdeal.main_v73) = v8 c
          ∧ r.2.mem ((c.tc : Thread Cert.InprojRefIdeal.nD Cert.InprojRefIdeal.τ).loc Cert.InprojRefIdeal.main_v74) = v9 c
          ∧ r.2.mem ((c.tc : Thread Cert.InprojRefIdeal.nD Cert.InprojRefIdeal.τ).loc Cert.InprojRefIdeal.main_v76) = v10 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Mixffn_MixffnIdeal : Prop :=
  True

def algebraic_MixffnIdeal_MixffnRefIdeal [hMixffnIdeal : Cert.MixffnIdeal.Facts] [hMixffnRefIdeal : Cert.MixffnRefIdeal.Facts] : Prop :=
  ∀ (m : (ℓ : Loc Cert.MixffnIdeal.nD Cert.MixffnIdeal.τ Cert.MixffnIdeal.sig) → Buf (Elt Ideal) ℓ) (g : Dev Cert.MixffnIdeal.nD → PrngReg)
    (m' : (ℓ : Loc Cert.MixffnRefIdeal.nD Cert.MixffnRefIdeal.τ Cert.MixffnRefIdeal.sig) → Buf (Elt Ideal) ℓ) (g' : Dev Cert.MixffnRefIdeal.nD → PrngReg), Pre_MixffnIdeal m →
    (∀ c : Dev Cert.MixffnIdeal.nD,
      m' ((c.tc : Thread Cert.MixffnRefIdeal.nD Cert.MixffnRefIdeal.τ).loc Cert.MixffnRefIdeal.main_arg0) = m ((c.tc : Thread Cert.MixffnIdeal.nD Cert.MixffnIdeal.τ).loc Cert.MixffnIdeal.main_arg0)
      ∧ m' ((c.tc : Thread Cert.MixffnRefIdeal.nD Cert.MixffnRefIdeal.τ).loc Cert.MixffnRefIdeal.main_arg1) = m ((c.tc : Thread Cert.MixffnIdeal.nD Cert.MixffnIdeal.τ).loc Cert.MixffnIdeal.main_arg1)
      ∧ m' ((c.tc : Thread Cert.MixffnRefIdeal.nD Cert.MixffnRefIdeal.τ).loc Cert.MixffnRefIdeal.main_arg2) = m ((c.tc : Thread Cert.MixffnIdeal.nD Cert.MixffnIdeal.τ).loc Cert.MixffnIdeal.main_arg2)
      ∧ m' ((c.tc : Thread Cert.MixffnRefIdeal.nD Cert.MixffnRefIdeal.τ).loc Cert.MixffnRefIdeal.main_arg3) = m ((c.tc : Thread Cert.MixffnIdeal.nD Cert.MixffnIdeal.τ).loc Cert.MixffnIdeal.main_arg3)
      ∧ m' ((c.tc : Thread Cert.MixffnRefIdeal.nD Cert.MixffnRefIdeal.τ).loc Cert.MixffnRefIdeal.main_arg4) = m ((c.tc : Thread Cert.MixffnIdeal.nD Cert.MixffnIdeal.τ).loc Cert.MixffnIdeal.main_arg4)
      ∧ m' ((c.tc : Thread Cert.MixffnRefIdeal.nD Cert.MixffnRefIdeal.τ).loc Cert.MixffnRefIdeal.main_arg5) = m ((c.tc : Thread Cert.MixffnIdeal.nD Cert.MixffnIdeal.τ).loc Cert.MixffnIdeal.main_arg5)
      ∧ m' ((c.tc : Thread Cert.MixffnRefIdeal.nD Cert.MixffnRefIdeal.τ).loc Cert.MixffnRefIdeal.main_arg6) = m ((c.tc : Thread Cert.MixffnIdeal.nD Cert.MixffnIdeal.τ).loc Cert.MixffnIdeal.main_arg6)
      ∧ m' ((c.tc : Thread Cert.MixffnRefIdeal.nD Cert.MixffnRefIdeal.τ).loc Cert.MixffnRefIdeal.main_arg7) = m ((c.tc : Thread Cert.MixffnIdeal.nD Cert.MixffnIdeal.τ).loc Cert.MixffnIdeal.main_arg7)
      ∧ m' ((c.tc : Thread Cert.MixffnRefIdeal.nD Cert.MixffnRefIdeal.τ).loc Cert.MixffnRefIdeal.main_arg8) = m ((c.tc : Thread Cert.MixffnIdeal.nD Cert.MixffnIdeal.τ).loc Cert.MixffnIdeal.main_arg8)
      ∧ m' ((c.tc : Thread Cert.MixffnRefIdeal.nD Cert.MixffnRefIdeal.τ).loc Cert.MixffnRefIdeal.main_arg9) = m ((c.tc : Thread Cert.MixffnIdeal.nD Cert.MixffnIdeal.τ).loc Cert.MixffnIdeal.main_arg9)) →
    ∃ (v0 : (c : Dev Cert.MixffnIdeal.nD) → Buf (Elt Ideal) ((c.tc : Thread Cert.MixffnIdeal.nD Cert.MixffnIdeal.τ).loc Cert.MixffnIdeal.main_v12)),
      θ_run (Cert.MixffnIdeal.defs (F := Ideal)) (onTc (τ := Cert.MixffnIdeal.τ) (Cert.MixffnIdeal.main (F := Ideal))) ⟨m, fun _ => 0, g⟩ (fun r => ∀ c : Dev Cert.MixffnIdeal.nD,
          r.2.mem ((c.tc : Thread Cert.MixffnIdeal.nD Cert.MixffnIdeal.τ).loc Cert.MixffnIdeal.main_v12) = v0 c
          ∧ r.2.mem ((c.tc : Thread Cert.MixffnIdeal.nD Cert.MixffnIdeal.τ).loc Cert.MixffnIdeal.main_arg0) = m ((c.tc : Thread Cert.MixffnIdeal.nD Cert.MixffnIdeal.τ).loc Cert.MixffnIdeal.main_arg0)
          ∧ r.2.mem ((c.tc : Thread Cert.MixffnIdeal.nD Cert.MixffnIdeal.τ).loc Cert.MixffnIdeal.main_arg1) = m ((c.tc : Thread Cert.MixffnIdeal.nD Cert.MixffnIdeal.τ).loc Cert.MixffnIdeal.main_arg1)
          ∧ r.2.mem ((c.tc : Thread Cert.MixffnIdeal.nD Cert.MixffnIdeal.τ).loc Cert.MixffnIdeal.main_arg2) = m ((c.tc : Thread Cert.MixffnIdeal.nD Cert.MixffnIdeal.τ).loc Cert.MixffnIdeal.main_arg2)
          ∧ r.2.mem ((c.tc : Thread Cert.MixffnIdeal.nD Cert.MixffnIdeal.τ).loc Cert.MixffnIdeal.main_arg3) = m ((c.tc : Thread Cert.MixffnIdeal.nD Cert.MixffnIdeal.τ).loc Cert.MixffnIdeal.main_arg3)
          ∧ r.2.mem ((c.tc : Thread Cert.MixffnIdeal.nD Cert.MixffnIdeal.τ).loc Cert.MixffnIdeal.main_arg4) = m ((c.tc : Thread Cert.MixffnIdeal.nD Cert.MixffnIdeal.τ).loc Cert.MixffnIdeal.main_arg4)
          ∧ r.2.mem ((c.tc : Thread Cert.MixffnIdeal.nD Cert.MixffnIdeal.τ).loc Cert.MixffnIdeal.main_arg5) = m ((c.tc : Thread Cert.MixffnIdeal.nD Cert.MixffnIdeal.τ).loc Cert.MixffnIdeal.main_arg5)
          ∧ r.2.mem ((c.tc : Thread Cert.MixffnIdeal.nD Cert.MixffnIdeal.τ).loc Cert.MixffnIdeal.main_arg6) = m ((c.tc : Thread Cert.MixffnIdeal.nD Cert.MixffnIdeal.τ).loc Cert.MixffnIdeal.main_arg6)
          ∧ r.2.mem ((c.tc : Thread Cert.MixffnIdeal.nD Cert.MixffnIdeal.τ).loc Cert.MixffnIdeal.main_arg7) = m ((c.tc : Thread Cert.MixffnIdeal.nD Cert.MixffnIdeal.τ).loc Cert.MixffnIdeal.main_arg7)
          ∧ r.2.mem ((c.tc : Thread Cert.MixffnIdeal.nD Cert.MixffnIdeal.τ).loc Cert.MixffnIdeal.main_arg8) = m ((c.tc : Thread Cert.MixffnIdeal.nD Cert.MixffnIdeal.τ).loc Cert.MixffnIdeal.main_arg8)
          ∧ r.2.mem ((c.tc : Thread Cert.MixffnIdeal.nD Cert.MixffnIdeal.τ).loc Cert.MixffnIdeal.main_arg9) = m ((c.tc : Thread Cert.MixffnIdeal.nD Cert.MixffnIdeal.τ).loc Cert.MixffnIdeal.main_arg9))
      ∧ θ_run (Cert.MixffnRefIdeal.defs (F := Ideal)) (onTc (τ := Cert.MixffnRefIdeal.τ) (Cert.MixffnRefIdeal.main (F := Ideal))) ⟨m', fun _ => 0, g'⟩ (fun r => ∀ c : Dev Cert.MixffnRefIdeal.nD,
          r.2.mem ((c.tc : Thread Cert.MixffnRefIdeal.nD Cert.MixffnRefIdeal.τ).loc Cert.MixffnRefIdeal.main_v53) = v0 c
          ∧ r.2.mem ((c.tc : Thread Cert.MixffnRefIdeal.nD Cert.MixffnRefIdeal.τ).loc Cert.MixffnRefIdeal.main_arg0) = m' ((c.tc : Thread Cert.MixffnRefIdeal.nD Cert.MixffnRefIdeal.τ).loc Cert.MixffnRefIdeal.main_arg0)
          ∧ r.2.mem ((c.tc : Thread Cert.MixffnRefIdeal.nD Cert.MixffnRefIdeal.τ).loc Cert.MixffnRefIdeal.main_arg1) = m' ((c.tc : Thread Cert.MixffnRefIdeal.nD Cert.MixffnRefIdeal.τ).loc Cert.MixffnRefIdeal.main_arg1)
          ∧ r.2.mem ((c.tc : Thread Cert.MixffnRefIdeal.nD Cert.MixffnRefIdeal.τ).loc Cert.MixffnRefIdeal.main_arg2) = m' ((c.tc : Thread Cert.MixffnRefIdeal.nD Cert.MixffnRefIdeal.τ).loc Cert.MixffnRefIdeal.main_arg2)
          ∧ r.2.mem ((c.tc : Thread Cert.MixffnRefIdeal.nD Cert.MixffnRefIdeal.τ).loc Cert.MixffnRefIdeal.main_arg3) = m' ((c.tc : Thread Cert.MixffnRefIdeal.nD Cert.MixffnRefIdeal.τ).loc Cert.MixffnRefIdeal.main_arg3)
          ∧ r.2.mem ((c.tc : Thread Cert.MixffnRefIdeal.nD Cert.MixffnRefIdeal.τ).loc Cert.MixffnRefIdeal.main_arg4) = m' ((c.tc : Thread Cert.MixffnRefIdeal.nD Cert.MixffnRefIdeal.τ).loc Cert.MixffnRefIdeal.main_arg4)
          ∧ r.2.mem ((c.tc : Thread Cert.MixffnRefIdeal.nD Cert.MixffnRefIdeal.τ).loc Cert.MixffnRefIdeal.main_arg5) = m' ((c.tc : Thread Cert.MixffnRefIdeal.nD Cert.MixffnRefIdeal.τ).loc Cert.MixffnRefIdeal.main_arg5)
          ∧ r.2.mem ((c.tc : Thread Cert.MixffnRefIdeal.nD Cert.MixffnRefIdeal.τ).loc Cert.MixffnRefIdeal.main_arg6) = m' ((c.tc : Thread Cert.MixffnRefIdeal.nD Cert.MixffnRefIdeal.τ).loc Cert.MixffnRefIdeal.main_arg6)
          ∧ r.2.mem ((c.tc : Thread Cert.MixffnRefIdeal.nD Cert.MixffnRefIdeal.τ).loc Cert.MixffnRefIdeal.main_arg7) = m' ((c.tc : Thread Cert.MixffnRefIdeal.nD Cert.MixffnRefIdeal.τ).loc Cert.MixffnRefIdeal.main_arg7)
          ∧ r.2.mem ((c.tc : Thread Cert.MixffnRefIdeal.nD Cert.MixffnRefIdeal.τ).loc Cert.MixffnRefIdeal.main_arg8) = m' ((c.tc : Thread Cert.MixffnRefIdeal.nD Cert.MixffnRefIdeal.τ).loc Cert.MixffnRefIdeal.main_arg8)
          ∧ r.2.mem ((c.tc : Thread Cert.MixffnRefIdeal.nD Cert.MixffnRefIdeal.τ).loc Cert.MixffnRefIdeal.main_arg9) = m' ((c.tc : Thread Cert.MixffnRefIdeal.nD Cert.MixffnRefIdeal.τ).loc Cert.MixffnRefIdeal.main_arg9))

def preserves_InprojS_InprojSIdeal : Prop :=
  True

def algebraic_InprojSIdeal_InprojSRefIdeal [hInprojSIdeal : Cert.InprojSIdeal.Facts] [hInprojSRefIdeal : Cert.InprojSRefIdeal.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)
      ∧ m' ((c.tc : Thread Cert.InprojSRefIdeal.nD Cert.InprojSRefIdeal.τ).loc Cert.InprojSRefIdeal.main_arg3) = m ((c.tc : Thread Cert.InprojSIdeal.nD Cert.InprojSIdeal.τ).loc Cert.InprojSIdeal.main_arg3)
      ∧ m' ((c.tc : Thread Cert.InprojSRefIdeal.nD Cert.InprojSRefIdeal.τ).loc Cert.InprojSRefIdeal.main_arg4) = m ((c.tc : Thread Cert.InprojSIdeal.nD Cert.InprojSIdeal.τ).loc Cert.InprojSIdeal.main_arg4)) →
    ∃ (v0 : (c : Dev Cert.InprojSIdeal.nD) → Buf (Elt Ideal) ((c.tc : Thread Cert.InprojSIdeal.nD Cert.InprojSIdeal.τ).loc Cert.InprojSIdeal.main_v19_0)) (v1 : (c : Dev Cert.InprojSIdeal.nD) → Buf (Elt Ideal) ((c.tc : Thread Cert.InprojSIdeal.nD Cert.InprojSIdeal.τ).loc Cert.InprojSIdeal.main_v19_1)) (v2 : (c : Dev Cert.InprojSIdeal.nD) → Buf (Elt Ideal) ((c.tc : Thread Cert.InprojSIdeal.nD Cert.InprojSIdeal.τ).loc Cert.InprojSIdeal.main_v19_2)) (v3 : (c : Dev Cert.InprojSIdeal.nD) → Buf (Elt Ideal) ((c.tc : Thread Cert.InprojSIdeal.nD Cert.InprojSIdeal.τ).loc Cert.InprojSIdeal.main_v19_3)) (v4 : (c : Dev Cert.InprojSIdeal.nD) → Buf (Elt Ideal) ((c.tc : Thread Cert.InprojSIdeal.nD Cert.InprojSIdeal.τ).loc Cert.InprojSIdeal.main_v19_4)) (v5 : (c : Dev Cert.InprojSIdeal.nD) → Buf (Elt Ideal) ((c.tc : Thread Cert.InprojSIdeal.nD Cert.InprojSIdeal.τ).loc Cert.InprojSIdeal.main_v19_5)) (v6 : (c : Dev Cert.InprojSIdeal.nD) → Buf (Elt Ideal) ((c.tc : Thread Cert.InprojSIdeal.nD Cert.InprojSIdeal.τ).loc Cert.InprojSIdeal.main_v19_6)) (v7 : (c : Dev Cert.InprojSIdeal.nD) → Buf (Elt Ideal) ((c.tc : Thread Cert.InprojSIdeal.nD Cert.InprojSIdeal.τ).loc Cert.InprojSIdeal.main_v19_7)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v19_0) = v0 c
          ∧ r.2.mem ((c.tc : Thread Cert.InprojSIdeal.nD Cert.InprojSIdeal.τ).loc Cert.InprojSIdeal.main_v19_1) = v1 c
          ∧ r.2.mem ((c.tc : Thread Cert.InprojSIdeal.nD Cert.InprojSIdeal.τ).loc Cert.InprojSIdeal.main_v19_2) = v2 c
          ∧ r.2.mem ((c.tc : Thread Cert.InprojSIdeal.nD Cert.InprojSIdeal.τ).loc Cert.InprojSIdeal.main_v19_3) = v3 c
          ∧ r.2.mem ((c.tc : Thread Cert.InprojSIdeal.nD Cert.InprojSIdeal.τ).loc Cert.InprojSIdeal.main_v19_4) = v4 c
          ∧ r.2.mem ((c.tc : Thread Cert.InprojSIdeal.nD Cert.InprojSIdeal.τ).loc Cert.InprojSIdeal.main_v19_5) = v5 c
          ∧ r.2.mem ((c.tc : Thread Cert.InprojSIdeal.nD Cert.InprojSIdeal.τ).loc Cert.InprojSIdeal.main_v19_6) = v6 c
          ∧ r.2.mem ((c.tc : Thread Cert.InprojSIdeal.nD Cert.InprojSIdeal.τ).loc Cert.InprojSIdeal.main_v19_7) = v7 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
          ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
          ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v57) = v0 c
          ∧ r.2.mem ((c.tc : Thread Cert.InprojSRefIdeal.nD Cert.InprojSRefIdeal.τ).loc Cert.InprojSRefIdeal.main_v58) = v1 c
          ∧ r.2.mem ((c.tc : Thread Cert.InprojSRefIdeal.nD Cert.InprojSRefIdeal.τ).loc Cert.InprojSRefIdeal.main_v59) = v2 c
          ∧ r.2.mem ((c.tc : Thread Cert.InprojSRefIdeal.nD Cert.InprojSRefIdeal.τ).loc Cert.InprojSRefIdeal.main_v60) = v3 c
          ∧ r.2.mem ((c.tc : Thread Cert.InprojSRefIdeal.nD Cert.InprojSRefIdeal.τ).loc Cert.InprojSRefIdeal.main_v56) = v4 c
          ∧ r.2.mem ((c.tc : Thread Cert.InprojSRefIdeal.nD Cert.InprojSRefIdeal.τ).loc Cert.InprojSRefIdeal.main_v67) = v5 c
          ∧ r.2.mem ((c.tc : Thread Cert.InprojSRefIdeal.nD Cert.InprojSRefIdeal.τ).loc Cert.InprojSRefIdeal.main_v18) = v6 c
          ∧ r.2.mem ((c.tc : Thread Cert.InprojSRefIdeal.nD Cert.InprojSRefIdeal.τ).loc Cert.InprojSRefIdeal.main_v19) = v7 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2)
          ∧ r.2.mem ((c.tc : Thread Cert.InprojSRefIdeal.nD Cert.InprojSRefIdeal.τ).loc Cert.InprojSRefIdeal.main_arg3) = m' ((c.tc : Thread Cert.InprojSRefIdeal.nD Cert.InprojSRefIdeal.τ).loc Cert.InprojSRefIdeal.main_arg3)
          ∧ r.2.mem ((c.tc : Thread Cert.InprojSRefIdeal.nD Cert.InprojSRefIdeal.τ).loc Cert.InprojSRefIdeal.main_arg4) = m' ((c.tc : Thread Cert.InprojSRefIdeal.nD Cert.InprojSRefIdeal.τ).loc Cert.InprojSRefIdeal.main_arg4))

def preserves_MixffnS_MixffnSIdeal : Prop :=
  True

def algebraic_MixffnSIdeal_MixffnSRefIdeal [hMixffnSIdeal : Cert.MixffnSIdeal.Facts] [hMixffnSRefIdeal : Cert.MixffnSRefIdeal.Facts] : Prop :=
  ∀ (m : (ℓ : Loc Cert.MixffnSIdeal.nD Cert.MixffnSIdeal.τ Cert.MixffnSIdeal.sig) → Buf (Elt Ideal) ℓ) (g : Dev Cert.MixffnSIdeal.nD → PrngReg)
    (m' : (ℓ : Loc Cert.MixffnSRefIdeal.nD Cert.MixffnSRefIdeal.τ Cert.MixffnSRefIdeal.sig) → Buf (Elt Ideal) ℓ) (g' : Dev Cert.MixffnSRefIdeal.nD → PrngReg), Pre_MixffnSIdeal m →
    (∀ c : Dev Cert.MixffnSIdeal.nD,
      m' ((c.tc : Thread Cert.MixffnSRefIdeal.nD Cert.MixffnSRefIdeal.τ).loc Cert.MixffnSRefIdeal.main_arg0) = m ((c.tc : Thread Cert.MixffnSIdeal.nD Cert.MixffnSIdeal.τ).loc Cert.MixffnSIdeal.main_arg0)
      ∧ m' ((c.tc : Thread Cert.MixffnSRefIdeal.nD Cert.MixffnSRefIdeal.τ).loc Cert.MixffnSRefIdeal.main_arg1) = m ((c.tc : Thread Cert.MixffnSIdeal.nD Cert.MixffnSIdeal.τ).loc Cert.MixffnSIdeal.main_arg1)
      ∧ m' ((c.tc : Thread Cert.MixffnSRefIdeal.nD Cert.MixffnSRefIdeal.τ).loc Cert.MixffnSRefIdeal.main_arg2) = m ((c.tc : Thread Cert.MixffnSIdeal.nD Cert.MixffnSIdeal.τ).loc Cert.MixffnSIdeal.main_arg2)
      ∧ m' ((c.tc : Thread Cert.MixffnSRefIdeal.nD Cert.MixffnSRefIdeal.τ).loc Cert.MixffnSRefIdeal.main_arg3) = m ((c.tc : Thread Cert.MixffnSIdeal.nD Cert.MixffnSIdeal.τ).loc Cert.MixffnSIdeal.main_arg3)
      ∧ m' ((c.tc : Thread Cert.MixffnSRefIdeal.nD Cert.MixffnSRefIdeal.τ).loc Cert.MixffnSRefIdeal.main_arg4) = m ((c.tc : Thread Cert.MixffnSIdeal.nD Cert.MixffnSIdeal.τ).loc Cert.MixffnSIdeal.main_arg4)
      ∧ m' ((c.tc : Thread Cert.MixffnSRefIdeal.nD Cert.MixffnSRefIdeal.τ).loc Cert.MixffnSRefIdeal.main_arg5) = m ((c.tc : Thread Cert.MixffnSIdeal.nD Cert.MixffnSIdeal.τ).loc Cert.MixffnSIdeal.main_arg5)
      ∧ m' ((c.tc : Thread Cert.MixffnSRefIdeal.nD Cert.MixffnSRefIdeal.τ).loc Cert.MixffnSRefIdeal.main_arg6) = m ((c.tc : Thread Cert.MixffnSIdeal.nD Cert.MixffnSIdeal.τ).loc Cert.MixffnSIdeal.main_arg6)
      ∧ m' ((c.tc : Thread Cert.MixffnSRefIdeal.nD Cert.MixffnSRefIdeal.τ).loc Cert.MixffnSRefIdeal.main_arg7) = m ((c.tc : Thread Cert.MixffnSIdeal.nD Cert.MixffnSIdeal.τ).loc Cert.MixffnSIdeal.main_arg7)
      ∧ m' ((c.tc : Thread Cert.MixffnSRefIdeal.nD Cert.MixffnSRefIdeal.τ).loc Cert.MixffnSRefIdeal.main_arg8) = m ((c.tc : Thread Cert.MixffnSIdeal.nD Cert.MixffnSIdeal.τ).loc Cert.MixffnSIdeal.main_arg8)
      ∧ m' ((c.tc : Thread Cert.MixffnSRefIdeal.nD Cert.MixffnSRefIdeal.τ).loc Cert.MixffnSRefIdeal.main_arg9) = m ((c.tc : Thread Cert.MixffnSIdeal.nD Cert.MixffnSIdeal.τ).loc Cert.MixffnSIdeal.main_arg9)) →
    ∃ (v0 : (c : Dev Cert.MixffnSIdeal.nD) → Buf (Elt Ideal) ((c.tc : Thread Cert.MixffnSIdeal.nD Cert.MixffnSIdeal.τ).loc Cert.MixffnSIdeal.main_v12)),
      θ_run (Cert.MixffnSIdeal.defs (F := Ideal)) (onTc (τ := Cert.MixffnSIdeal.τ) (Cert.MixffnSIdeal.main (F := Ideal))) ⟨m, fun _ => 0, g⟩ (fun r => ∀ c : Dev Cert.MixffnSIdeal.nD,
          r.2.mem ((c.tc : Thread Cert.MixffnSIdeal.nD Cert.MixffnSIdeal.τ).loc Cert.MixffnSIdeal.main_v12) = v0 c
          ∧ r.2.mem ((c.tc : Thread Cert.MixffnSIdeal.nD Cert.MixffnSIdeal.τ).loc Cert.MixffnSIdeal.main_arg0) = m ((c.tc : Thread Cert.MixffnSIdeal.nD Cert.MixffnSIdeal.τ).loc Cert.MixffnSIdeal.main_arg0)
          ∧ r.2.mem ((c.tc : Thread Cert.MixffnSIdeal.nD Cert.MixffnSIdeal.τ).loc Cert.MixffnSIdeal.main_arg1) = m ((c.tc : Thread Cert.MixffnSIdeal.nD Cert.MixffnSIdeal.τ).loc Cert.MixffnSIdeal.main_arg1)
          ∧ r.2.mem ((c.tc : Thread Cert.MixffnSIdeal.nD Cert.MixffnSIdeal.τ).loc Cert.MixffnSIdeal.main_arg2) = m ((c.tc : Thread Cert.MixffnSIdeal.nD Cert.MixffnSIdeal.τ).loc Cert.MixffnSIdeal.main_arg2)
          ∧ r.2.mem ((c.tc : Thread Cert.MixffnSIdeal.nD Cert.MixffnSIdeal.τ).loc Cert.MixffnSIdeal.main_arg3) = m ((c.tc : Thread Cert.MixffnSIdeal.nD Cert.MixffnSIdeal.τ).loc Cert.MixffnSIdeal.main_arg3)
          ∧ r.2.mem ((c.tc : Thread Cert.MixffnSIdeal.nD Cert.MixffnSIdeal.τ).loc Cert.MixffnSIdeal.main_arg4) = m ((c.tc : Thread Cert.MixffnSIdeal.nD Cert.MixffnSIdeal.τ).loc Cert.MixffnSIdeal.main_arg4)
          ∧ r.2.mem ((c.tc : Thread Cert.MixffnSIdeal.nD Cert.MixffnSIdeal.τ).loc Cert.MixffnSIdeal.main_arg5) = m ((c.tc : Thread Cert.MixffnSIdeal.nD Cert.MixffnSIdeal.τ).loc Cert.MixffnSIdeal.main_arg5)
          ∧ r.2.mem ((c.tc : Thread Cert.MixffnSIdeal.nD Cert.MixffnSIdeal.τ).loc Cert.MixffnSIdeal.main_arg6) = m ((c.tc : Thread Cert.MixffnSIdeal.nD Cert.MixffnSIdeal.τ).loc Cert.MixffnSIdeal.main_arg6)
          ∧ r.2.mem ((c.tc : Thread Cert.MixffnSIdeal.nD Cert.MixffnSIdeal.τ).loc Cert.MixffnSIdeal.main_arg7) = m ((c.tc : Thread Cert.MixffnSIdeal.nD Cert.MixffnSIdeal.τ).loc Cert.MixffnSIdeal.main_arg7)
          ∧ r.2.mem ((c.tc : Thread Cert.MixffnSIdeal.nD Cert.MixffnSIdeal.τ).loc Cert.MixffnSIdeal.main_arg8) = m ((c.tc : Thread Cert.MixffnSIdeal.nD Cert.MixffnSIdeal.τ).loc Cert.MixffnSIdeal.main_arg8)
          ∧ r.2.mem ((c.tc : Thread Cert.MixffnSIdeal.nD Cert.MixffnSIdeal.τ).loc Cert.MixffnSIdeal.main_arg9) = m ((c.tc : Thread Cert.MixffnSIdeal.nD Cert.MixffnSIdeal.τ).loc Cert.MixffnSIdeal.main_arg9))
      ∧ θ_run (Cert.MixffnSRefIdeal.defs (F := Ideal)) (onTc (τ := Cert.MixffnSRefIdeal.τ) (Cert.MixffnSRefIdeal.main (F := Ideal))) ⟨m', fun _ => 0, g'⟩ (fun r => ∀ c : Dev Cert.MixffnSRefIdeal.nD,
          r.2.mem ((c.tc : Thread Cert.MixffnSRefIdeal.nD Cert.MixffnSRefIdeal.τ).loc Cert.MixffnSRefIdeal.main_v53) = v0 c
          ∧ r.2.mem ((c.tc : Thread Cert.MixffnSRefIdeal.nD Cert.MixffnSRefIdeal.τ).loc Cert.MixffnSRefIdeal.main_arg0) = m' ((c.tc : Thread Cert.MixffnSRefIdeal.nD Cert.MixffnSRefIdeal.τ).loc Cert.MixffnSRefIdeal.main_arg0)
          ∧ r.2.mem ((c.tc : Thread Cert.MixffnSRefIdeal.nD Cert.MixffnSRefIdeal.τ).loc Cert.MixffnSRefIdeal.main_arg1) = m' ((c.tc : Thread Cert.MixffnSRefIdeal.nD Cert.MixffnSRefIdeal.τ).loc Cert.MixffnSRefIdeal.main_arg1)
          ∧ r.2.mem ((c.tc : Thread Cert.MixffnSRefIdeal.nD Cert.MixffnSRefIdeal.τ).loc Cert.MixffnSRefIdeal.main_arg2) = m' ((c.tc : Thread Cert.MixffnSRefIdeal.nD Cert.MixffnSRefIdeal.τ).loc Cert.MixffnSRefIdeal.main_arg2)
          ∧ r.2.mem ((c.tc : Thread Cert.MixffnSRefIdeal.nD Cert.MixffnSRefIdeal.τ).loc Cert.MixffnSRefIdeal.main_arg3) = m' ((c.tc : Thread Cert.MixffnSRefIdeal.nD Cert.MixffnSRefIdeal.τ).loc Cert.MixffnSRefIdeal.main_arg3)
          ∧ r.2.mem ((c.tc : Thread Cert.MixffnSRefIdeal.nD Cert.MixffnSRefIdeal.τ).loc Cert.MixffnSRefIdeal.main_arg4) = m' ((c.tc : Thread Cert.MixffnSRefIdeal.nD Cert.MixffnSRefIdeal.τ).loc Cert.MixffnSRefIdeal.main_arg4)
          ∧ r.2.mem ((c.tc : Thread Cert.MixffnSRefIdeal.nD Cert.MixffnSRefIdeal.τ).loc Cert.MixffnSRefIdeal.main_arg5) = m' ((c.tc : Thread Cert.MixffnSRefIdeal.nD Cert.MixffnSRefIdeal.τ).loc Cert.MixffnSRefIdeal.main_arg5)
          ∧ r.2.mem ((c.tc : Thread Cert.MixffnSRefIdeal.nD Cert.MixffnSRefIdeal.τ).loc Cert.MixffnSRefIdeal.main_arg6) = m' ((c.tc : Thread Cert.MixffnSRefIdeal.nD Cert.MixffnSRefIdeal.τ).loc Cert.MixffnSRefIdeal.main_arg6)
          ∧ r.2.mem ((c.tc : Thread Cert.MixffnSRefIdeal.nD Cert.MixffnSRefIdeal.τ).loc Cert.MixffnSRefIdeal.main_arg7) = m' ((c.tc : Thread Cert.MixffnSRefIdeal.nD Cert.MixffnSRefIdeal.τ).loc Cert.MixffnSRefIdeal.main_arg7)
          ∧ r.2.mem ((c.tc : Thread Cert.MixffnSRefIdeal.nD Cert.MixffnSRefIdeal.τ).loc Cert.MixffnSRefIdeal.main_arg8) = m' ((c.tc : Thread Cert.MixffnSRefIdeal.nD Cert.MixffnSRefIdeal.τ).loc Cert.MixffnSRefIdeal.main_arg8)
          ∧ r.2.mem ((c.tc : Thread Cert.MixffnSRefIdeal.nD Cert.MixffnSRefIdeal.τ).loc Cert.MixffnSRefIdeal.main_arg9) = m' ((c.tc : Thread Cert.MixffnSRefIdeal.nD Cert.MixffnSRefIdeal.τ).loc Cert.MixffnSRefIdeal.main_arg9))

def preserves_HgrnS_HgrnSIdeal : Prop :=
  True

def algebraic_HgrnSIdeal_HgrnSRefIdeal_pre_finite_sample [hHgrnSIdeal : Cert.HgrnSIdeal.Facts] [hHgrnSRefIdeal : Cert.HgrnSRefIdeal.Facts] [hPre_finite_sample : Cert.Pre_finite_sample.Facts] : Prop :=
  ∀ (m : (ℓ : Loc Cert.HgrnSIdeal.nD Cert.HgrnSIdeal.τ Cert.HgrnSIdeal.sig) → Buf (Elt Ideal) ℓ) (g : Dev Cert.HgrnSIdeal.nD → PrngReg)
    (m' : (ℓ : Loc Cert.HgrnSRefIdeal.nD Cert.HgrnSRefIdeal.τ Cert.HgrnSRefIdeal.sig) → Buf (Elt Ideal) ℓ) (g' : Dev Cert.HgrnSRefIdeal.nD → PrngReg), Pre_HgrnSIdeal_finite_sample m →
    (∀ c : Dev Cert.HgrnSIdeal.nD,
      m' ((c.tc : Thread Cert.HgrnSRefIdeal.nD Cert.HgrnSRefIdeal.τ).loc Cert.HgrnSRefIdeal.main_arg0) = m ((c.tc : Thread Cert.HgrnSIdeal.nD Cert.HgrnSIdeal.τ).loc Cert.HgrnSIdeal.main_arg0)
      ∧ m' ((c.tc : Thread Cert.HgrnSRefIdeal.nD Cert.HgrnSRefIdeal.τ).loc Cert.HgrnSRefIdeal.main_arg1) = m ((c.tc : Thread Cert.HgrnSIdeal.nD Cert.HgrnSIdeal.τ).loc Cert.HgrnSIdeal.main_arg1)
      ∧ m' ((c.tc : Thread Cert.HgrnSRefIdeal.nD Cert.HgrnSRefIdeal.τ).loc Cert.HgrnSRefIdeal.main_arg2) = m ((c.tc : Thread Cert.HgrnSIdeal.nD Cert.HgrnSIdeal.τ).loc Cert.HgrnSIdeal.main_arg2)
      ∧ m' ((c.tc : Thread Cert.HgrnSRefIdeal.nD Cert.HgrnSRefIdeal.τ).loc Cert.HgrnSRefIdeal.main_arg3) = m ((c.tc : Thread Cert.HgrnSIdeal.nD Cert.HgrnSIdeal.τ).loc Cert.HgrnSIdeal.main_arg3)) →
    ∃ (v0 : (c : Dev Cert.HgrnSIdeal.nD) → Buf (Elt Ideal) ((c.tc : Thread Cert.HgrnSIdeal.nD Cert.HgrnSIdeal.τ).loc Cert.HgrnSIdeal.main_v63_0)) (v1 : (c : Dev Cert.HgrnSIdeal.nD) → Buf (Elt Ideal) ((c.tc : Thread Cert.HgrnSIdeal.nD Cert.HgrnSIdeal.τ).loc Cert.HgrnSIdeal.main_v63_1)),
      θ_run (Cert.HgrnSIdeal.defs (F := Ideal)) (onTc (τ := Cert.HgrnSIdeal.τ) (Cert.HgrnSIdeal.main (F := Ideal))) ⟨m, fun _ => 0, g⟩ (fun r => ∀ c : Dev Cert.HgrnSIdeal.nD,
          r.2.mem ((c.tc : Thread Cert.HgrnSIdeal.nD Cert.HgrnSIdeal.τ).loc Cert.HgrnSIdeal.main_v63_0) = v0 c
          ∧ r.2.mem ((c.tc : Thread Cert.HgrnSIdeal.nD Cert.HgrnSIdeal.τ).loc Cert.HgrnSIdeal.main_v63_1) = v1 c
          ∧ r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
          ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
          ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
          ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ θ_run (Cert.HgrnSRefIdeal.defs (F := Ideal)) (onTc (τ := Cert.HgrnSRefIdeal.τ) (Cert.HgrnSRefIdeal.main (F := Ideal))) ⟨m', fun _ => 0, g'⟩ (fun r => ∀ c : Dev Cert.HgrnSRefIdeal.nD,
          r.2.mem ((c.tc : Thread Cert.HgrnSRefIdeal.nD Cert.HgrnSRefIdeal.τ).loc Cert.HgrnSRefIdeal.main_v96) = v0 c
          ∧ r.2.mem ((c.tc : Thread Cert.HgrnSRefIdeal.nD Cert.HgrnSRefIdeal.τ).loc Cert.HgrnSRefIdeal.main_v73) = v1 c
          ∧ r.2.mem ((c.tc : Thread Cert.HgrnSRefIdeal.nD Cert.HgrnSRefIdeal.τ).loc Cert.HgrnSRefIdeal.main_arg0) = m' ((c.tc : Thread Cert.HgrnSRefIdeal.nD Cert.HgrnSRefIdeal.τ).loc Cert.HgrnSRefIdeal.main_arg0)
          ∧ r.2.mem ((c.tc : Thread Cert.HgrnSRefIdeal.nD Cert.HgrnSRefIdeal.τ).loc Cert.HgrnSRefIdeal.main_arg1) = m' ((c.tc : Thread Cert.HgrnSRefIdeal.nD Cert.HgrnSRefIdeal.τ).loc Cert.HgrnSRefIdeal.main_arg1)
          ∧ r.2.mem ((c.tc : Thread Cert.HgrnSRefIdeal.nD Cert.HgrnSRefIdeal.τ).loc Cert.HgrnSRefIdeal.main_arg2) = m' ((c.tc : Thread Cert.HgrnSRefIdeal.nD Cert.HgrnSRefIdeal.τ).loc Cert.HgrnSRefIdeal.main_arg2)
          ∧ r.2.mem ((c.tc : Thread Cert.HgrnSRefIdeal.nD Cert.HgrnSRefIdeal.τ).loc Cert.HgrnSRefIdeal.main_arg3) = m' ((c.tc : Thread Cert.HgrnSRefIdeal.nD Cert.HgrnSRefIdeal.τ).loc Cert.HgrnSRefIdeal.main_arg3))

def Claim : Prop :=
  ∃ (hHgrn : Cert.Hgrn.Facts) (hHgrnIdeal : Cert.HgrnIdeal.Facts) (hHgrnRefIdeal : Cert.HgrnRefIdeal.Facts) (hInproj : Cert.Inproj.Facts) (hInprojIdeal : Cert.InprojIdeal.Facts) (hInprojRefIdeal : Cert.InprojRefIdeal.Facts) (hMixffn : Cert.Mixffn.Facts) (hMixffnIdeal : Cert.MixffnIdeal.Facts) (hMixffnRefIdeal : Cert.MixffnRefIdeal.Facts) (hInprojS : Cert.InprojS.Facts) (hInprojSIdeal : Cert.InprojSIdeal.Facts) (hInprojSRefIdeal : Cert.InprojSRefIdeal.Facts) (hMixffnS : Cert.MixffnS.Facts) (hMixffnSIdeal : Cert.MixffnSIdeal.Facts) (hMixffnSRefIdeal : Cert.MixffnSRefIdeal.Facts) (hHgrnS : Cert.HgrnS.Facts) (hHgrnSIdeal : Cert.HgrnSIdeal.Facts) (hHgrnSRefIdeal : Cert.HgrnSRefIdeal.Facts) (hPre_finite : Cert.Pre_finite.Facts) (hPre_finite_sample : Cert.Pre_finite_sample.Facts),
    quiescent_Hgrn (hHgrn := hHgrn)
    ∧ quiescent_HgrnIdeal (hHgrnIdeal := hHgrnIdeal)
    ∧ quiescent_HgrnIdeal_pre_finite (hHgrnIdeal := hHgrnIdeal) (hPre_finite := hPre_finite)
    ∧ quiescent_HgrnRefIdeal (hHgrnRefIdeal := hHgrnRefIdeal)
    ∧ quiescent_HgrnRefIdeal_pre_finite (hHgrnRefIdeal := hHgrnRefIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Mixffn (hMixffn := hMixffn)
    ∧ quiescent_MixffnIdeal (hMixffnIdeal := hMixffnIdeal)
    ∧ quiescent_MixffnRefIdeal (hMixffnRefIdeal := hMixffnRefIdeal)
    ∧ quiescent_InprojS (hInprojS := hInprojS)
    ∧ quiescent_InprojSIdeal (hInprojSIdeal := hInprojSIdeal)
    ∧ quiescent_InprojSRefIdeal (hInprojSRefIdeal := hInprojSRefIdeal)
    ∧ quiescent_MixffnS (hMixffnS := hMixffnS)
    ∧ quiescent_MixffnSIdeal (hMixffnSIdeal := hMixffnSIdeal)
    ∧ quiescent_MixffnSRefIdeal (hMixffnSRefIdeal := hMixffnSRefIdeal)
    ∧ quiescent_HgrnS (hHgrnS := hHgrnS)
    ∧ quiescent_HgrnSIdeal (hHgrnSIdeal := hHgrnSIdeal)
    ∧ quiescent_HgrnSIdeal_pre_finite_sample (hHgrnSIdeal := hHgrnSIdeal) (hPre_finite_sample := hPre_finite_sample)
    ∧ quiescent_HgrnSRefIdeal (hHgrnSRefIdeal := hHgrnSRefIdeal)
    ∧ quiescent_HgrnSRefIdeal_pre_finite_sample (hHgrnSRefIdeal := hHgrnSRefIdeal) (hPre_finite_sample := hPre_finite_sample)
    ∧ preserves_Hgrn_HgrnIdeal
    ∧ algebraic_HgrnIdeal_HgrnRefIdeal_pre_finite (hHgrnIdeal := hHgrnIdeal) (hHgrnRefIdeal := hHgrnRefIdeal) (hPre_finite := hPre_finite)
    ∧ preserves_Inproj_InprojIdeal
    ∧ algebraic_InprojIdeal_InprojRefIdeal (hInprojIdeal := hInprojIdeal) (hInprojRefIdeal := hInprojRefIdeal)
    ∧ preserves_Mixffn_MixffnIdeal
    ∧ algebraic_MixffnIdeal_MixffnRefIdeal (hMixffnIdeal := hMixffnIdeal) (hMixffnRefIdeal := hMixffnRefIdeal)
    ∧ preserves_InprojS_InprojSIdeal
    ∧ algebraic_InprojSIdeal_InprojSRefIdeal (hInprojSIdeal := hInprojSIdeal) (hInprojSRefIdeal := hInprojSRefIdeal)
    ∧ preserves_MixffnS_MixffnSIdeal
    ∧ algebraic_MixffnSIdeal_MixffnSRefIdeal (hMixffnSIdeal := hMixffnSIdeal) (hMixffnSRefIdeal := hMixffnSRefIdeal)
    ∧ preserves_HgrnS_HgrnSIdeal
    ∧ algebraic_HgrnSIdeal_HgrnSRefIdeal_pre_finite_sample (hHgrnSIdeal := hHgrnSIdeal) (hHgrnSRefIdeal := hHgrnSRefIdeal) (hPre_finite_sample := hPre_finite_sample)
-- ==== Pre_finite.lean ====
abbrev S65536x2048 : Shape := ⟨2, ![65536, 2048]⟩
abbrev S2x512 : Shape := ⟨2, ![2, 512]⟩
abbrev S128 : Shape := ⟨1, ![128]⟩
abbrev S65536x1536 : Shape := ⟨2, ![65536, 1536]⟩
abbrev S_ : Shape := ⟨0, ![]⟩

class Facts : Prop where
  slices_S65536x2048_S65536x1536_0_0 : S65536x2048.Slices ![0, 0] S65536x1536
  bcast_S_S65536x1536 : S_.BroadcastsInDim S65536x1536 (![] : Fin 0 → Fin S65536x1536.rank)
  reducesTo_S65536x1536_S_d0_1 : S65536x1536.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S65536x2048 .f32) (main_arg1 : FVec F S2x512 .f32) (main_arg2 : FVec F S128 .f32) : IVec S_ 1 :=
  let main_v0 : FVec F S65536x1536 .f32 := (extractStridedSlice S65536x1536 ![0, 0] · slices_S65536x2048_S65536x1536_0_0) main_arg0
  let main_v1 : FVec F S65536x1536 .f32 := Host.absf main_v0
  let main_cst : FVec F S_ .f32 := constant S_ .f32 0x7F800000#32
  let main_v2 : FVec F S65536x1536 .f32 := broadcastInDim S65536x1536 ![] bcast_S_S65536x1536 main_cst
  let main_v3 : IVec S65536x1536 1 := cmpf .olt main_v1 main_v2
  let main_c : IVec S_ 1 := constantI S_ 1 1#1
  let main_v4 : IVec S_ 1 := (fun x v => Host.reduce IntOp.andi x v reducesTo_S65536x1536_S_d0_1 h_S_) main_v3 main_c
  let main_v5 : FVec F S2x512 .f32 := Host.absf main_arg1
  let main_cst_0 : FVec F S_ .f32 := constant S_ .f32 0x7F800000#32
  let main_v6 : FVec F S2x512 .f32 := broadcastInDim S2x512 ![] bcast_S_S2x512 main_cst_0
  let main_v7 : IVec S2x512 1 := cmpf .olt main_v5 main_v6
  let main_c_1 : IVec S_ 1 := constantI S_ 1 1#1
  let main_v8 : IVec S_ 1 := (fun x v => Host.reduce IntOp.andi x v reducesTo_S2x512_S_d0_1 h_S_) main_v7 main_c_1
  let main_v9 : IVec S_ 1 := andi main_v4 main_v8
  main_v9
-- ==== Pre_finite_sample.lean ====
abbrev S1024x2048 : Shape := ⟨2, ![1024, 2048]⟩
abbrev S1x128x4x128x128 : Shape := ⟨5, ![1, 128, 4, 128, 128]⟩
abbrev S2x512 : Shape := ⟨2, ![2, 512]⟩
abbrev S128 : Shape := ⟨1, ![128]⟩
abbrev S1024x1536 : Shape := ⟨2, ![1024, 1536]⟩
abbrev S_ : Shape := ⟨0, ![]⟩

class Facts : Prop where
  slices_S1024x2048_S1024x1536_0_0 : S1024x2048.Slices ![0, 0] S1024x1536
  bcast_S_S1024x1536 : S_.BroadcastsInDim S1024x1536 (![] : Fin 0 → Fin S1024x1536.rank)
  reducesTo_S1024x1536_S_d0_1 : S1024x1536.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S1024x2048 .f32) (main_arg1 : FVec F S1x128x4x128x128 .f32) (main_arg2 : FVec F S2x512 .f32) (main_arg3 : FVec F S128 .f32) : IVec S_ 1 :=
  let main_v0 : FVec F S1024x1536 .f32 := (extractStridedSlice S1024x1536 ![0, 0] · slices_S1024x2048_S1024x1536_0_0) main_arg0
  let main_v1 : FVec F S1024x1536 .f32 := Host.absf main_v0
  let main_cst : FVec F S_ .f32 := constant S_ .f32 0x7F800000#32
  let main_v2 : FVec F S1024x1536 .f32 := broadcastInDim S1024x1536 ![] bcast_S_S1024x1536 main_cst
  let main_v3 : IVec S1024x1536 1 := cmpf .olt main_v1 main_v2
  let main_c : IVec S_ 1 := constantI S_ 1 1#1
  let main_v4 : IVec S_ 1 := (fun x v => Host.reduce IntOp.andi x v reducesTo_S1024x1536_S_d0_1 h_S_) main_v3 main_c
  let main_v5 : FVec F S2x512 .f32 := Host.absf main_arg2
  let main_cst_0 : FVec F S_ .f32 := constant S_ .f32 0x7F800000#32
  let main_v6 : FVec F S2x512 .f32 := broadcastInDim S2x512 ![] bcast_S_S2x512 main_cst_0
  let main_v7 : IVec S2x512 1 := cmpf .olt main_v5 main_v6
  let main_c_1 : IVec S_ 1 := constantI S_ 1 1#1
  let main_v8 : IVec S_ 1 := (fun x v => Host.reduce IntOp.andi x v reducesTo_S2x512_S_d0_1 h_S_) main_v7 main_c_1
  let main_v9 : IVec S_ 1 := andi main_v4 main_v8
  main_v9
-- ==== Hgrn.lean ====
abbrev S65536x2048 : Shape := ⟨2, ![65536, 2048]⟩
abbrev S2x512 : Shape := ⟨2, ![2, 512]⟩
abbrev S128 : Shape := ⟨1, ![128]⟩
abbrev S_ : Shape := ⟨0, ![]⟩
abbrev S16x4x128x128 : Shape := ⟨4, ![16, 4, 128, 128]⟩
abbrev S1x128 : Shape := ⟨2, ![1, 128]⟩
abbrev S1x128x128 : Shape := ⟨3, ![1, 128, 128]⟩
abbrev S7x128x128 : Shape := ⟨3, ![7, 128, 128]⟩
abbrev S2x128x128 : Shape := ⟨3, ![2, 128, 128]⟩
abbrev S7x1x128x128 : Shape := ⟨4, ![7, 1, 128, 128]⟩
abbrev S7x2x128x128 : Shape := ⟨4, ![7, 2, 128, 128]⟩
abbrev S14x128x128 : Shape := ⟨3, ![14, 128, 128]⟩
abbrev S16x128x128 : Shape := ⟨3, ![16, 128, 128]⟩
abbrev S2048x128 : Shape := ⟨2, ![2048, 128]⟩
abbrev S8x128x128 : Shape := ⟨3, ![8, 128, 128]⟩
abbrev S65536x512 : Shape := ⟨2, ![65536, 512]⟩
abbrev S128x2048 : Shape := ⟨2, ![128, 2048]⟩
abbrev S1x4x128x128 : Shape := ⟨4, ![1, 4, 128, 128]⟩
abbrev S128x512 : Shape := ⟨2, ![128, 512]⟩
abbrev S4x128x128 : Shape := ⟨3, ![4, 128, 128]⟩
abbrev S1x1x128x128 : Shape := ⟨4, ![1, 1, 128, 128]⟩
abbrev S128x128 : Shape := ⟨2, ![128, 128]⟩
abbrev S512 : Shape := ⟨1, ![512]⟩
abbrev S1x512 : Shape := ⟨2, ![1, 512]⟩
abbrev S2048x512 : Shape := ⟨2, ![2048, 512]⟩
abbrev S128x1 : Shape := ⟨2, ![128, 1]⟩

abbrev nBuf : Space → Nat
  | .hbm => 77
  | .vmem => 13
  | .smem => 0
  | _ => 0

abbrev bufTy : (tb : Table) → Fin (tcTables nBuf tb) → BufTy
  | .hbm, ⟨0, _⟩ => ⟨S65536x2048, .f32⟩
  | .hbm, ⟨1, _⟩ => ⟨S2x512, .f32⟩
  | .hbm, ⟨2, _⟩ => ⟨S128, .f32⟩
  | .hbm, ⟨3, _⟩ => ⟨S_, .f32⟩
  | .hbm, ⟨4, _⟩ => ⟨S16x4x128x128, .f32⟩
  | .hbm, ⟨5, _⟩ => ⟨S1x128, .f32⟩
  | .hbm, ⟨6, _⟩ => ⟨S1x128x128, .i32⟩
  | .hbm, ⟨7, _⟩ => ⟨S1x128x128, .i32⟩
  | .hbm, ⟨8, _⟩ => ⟨S7x128x128, .i32⟩
  | .hbm, ⟨9, _⟩ => ⟨S7x128x128, .i32⟩
  | .hbm, ⟨10, _⟩ => ⟨S7x128x128, .i32⟩
  | .hbm, ⟨11, _⟩ => ⟨S_, .i32⟩
  | .hbm, ⟨12, _⟩ => ⟨S7x128x128, .i32⟩
  | .hbm, ⟨13, _⟩ => ⟨S7x128x128, .i32⟩
  | .hbm, ⟨14, _⟩ => ⟨S_, .i32⟩
  | .hbm, ⟨15, _⟩ => ⟨S7x128x128, .i32⟩
  | .hbm, ⟨16, _⟩ => ⟨S7x128x128, .i32⟩
  | .hbm, ⟨17, _⟩ => ⟨S7x128x128, .i32⟩
  | .hbm, ⟨18, _⟩ => ⟨S_, .i32⟩
  | .hbm, ⟨19, _⟩ => ⟨S7x128x128, .i32⟩
  | .hbm, ⟨20, _⟩ => ⟨S7x128x128, .i32⟩
  | .hbm, ⟨21, _⟩ => ⟨S7x128x128, .i32⟩
  | .hbm, ⟨22, _⟩ => ⟨S7x128x128, .i32⟩
  | .hbm, ⟨23, _⟩ => ⟨S_, .i32⟩
  | .hbm, ⟨24, _⟩ => ⟨S7x128x128, .i32⟩
  | .hbm, ⟨25, _⟩ => ⟨S7x128x128, .i32⟩
  | .hbm, ⟨26, _⟩ => ⟨S7x128x128, .i32⟩
  | .hbm, ⟨27, _⟩ => ⟨S7x128x128, .i1⟩
  | .hbm, ⟨28, _⟩ => ⟨S7x128x128, .i1⟩
  | .hbm, ⟨29, _⟩ => ⟨S7x128x128, .i1⟩
  | .hbm, ⟨30, _⟩ => ⟨S7x128x128, .i1⟩
  | .hbm, ⟨31, _⟩ => ⟨S7x128x128, .i1⟩
  | .hbm, ⟨32, _⟩ => ⟨S7x128x128, .i1⟩
  | .hbm, ⟨33, _⟩ => ⟨S7x128x128, .i1⟩
  | .hbm, ⟨34, _⟩ => ⟨S7x128x128, .i1⟩
  | .hbm, ⟨35, _⟩ => ⟨S7x128x128, .i1⟩
  | .hbm, ⟨36, _⟩ => ⟨S7x128x128, .i1⟩
  | .hbm, ⟨37, _⟩ => ⟨S_, .i32⟩
  | .hbm, ⟨38, _⟩ => ⟨S7x128x128, .i32⟩
  | .hbm, ⟨39, _⟩ => ⟨S7x128x128, .i32⟩
  | .hbm, ⟨40, _⟩ => ⟨S7x128x128, .i32⟩
  | .hbm, ⟨41, _⟩ => ⟨S_, .i32⟩
  | .hbm, ⟨42, _⟩ => ⟨S7x128x128, .i32⟩
  | .hbm, ⟨43, _⟩ => ⟨S7x128x128, .i32⟩
  | .hbm, ⟨44, _⟩ => ⟨S7x128x128, .i32⟩
  | .hbm, ⟨45, _⟩ => ⟨S7x128x128, .i1⟩
  | .hbm, ⟨46, _⟩ => ⟨S7x128x128, .i1⟩
  | .hbm, ⟨47, _⟩ => ⟨S_, .i32⟩
  | .hbm, ⟨48, _⟩ => ⟨S7x128x128, .i32⟩
  | .hbm, ⟨49, _⟩ => ⟨S7x128x128, .i32⟩
  | .hbm, ⟨50, _⟩ => ⟨S7x128x128, .i32⟩
  | .hbm, ⟨51, _⟩ => ⟨S7x128x128, .i1⟩
  | .hbm, ⟨52, _⟩ => ⟨S7x128x128, .i1⟩
  | .hbm, ⟨53, _⟩ => ⟨S1x128x128, .i1⟩
  | .hbm, ⟨54, _⟩ => ⟨S1x128x128, .i1⟩
  | .hbm, ⟨55, _⟩ => ⟨S2x128x128, .i1⟩
  | .hbm, ⟨56, _⟩ => ⟨S7x1x128x128, .i1⟩
  | .hbm, ⟨57, _⟩ => ⟨S7x1x128x128, .i1⟩
  | .hbm, ⟨58, _⟩ => ⟨S7x2x128x128, .i1⟩
  | .hbm, ⟨59, _⟩ => ⟨S14x128x128, .i1⟩
  | .hbm, ⟨60, _⟩ => ⟨S16x128x128, .i1⟩
  | .hbm, ⟨61, _⟩ => ⟨S2048x128, .i1⟩
  | .hbm, ⟨62, _⟩ => ⟨S_, .f32⟩
  | .hbm, ⟨63, _⟩ => ⟨S2048x128, .f32⟩
  | .hbm, ⟨64, _⟩ => ⟨S_, .f32⟩
  | .hbm, ⟨65, _⟩ => ⟨S2048x128, .f32⟩
  | .hbm, ⟨66, _⟩ => ⟨S2048x128, .f32⟩
  | .hbm, ⟨67, _⟩ => ⟨S1x128x128, .i1⟩
  | .hbm, ⟨68, _⟩ => ⟨S8x128x128, .i1⟩
  | .hbm, ⟨69, _⟩ => ⟨S_, .f32⟩
  | .hbm, ⟨70, _⟩ => ⟨S8x128x128, .f32⟩
  | .hbm, ⟨71, _⟩ => ⟨S_, .f32⟩
  | .hbm, ⟨72, _⟩ => ⟨S8x128x128, .f32⟩
  | .hbm, ⟨73, _⟩ => ⟨S8x128x128, .f32⟩
  | .hbm, ⟨74, _⟩ => ⟨S2048x128, .bf16⟩
  | .hbm, ⟨75, _⟩ => ⟨S65536x512, .bf16⟩
  | .hbm, ⟨76, _⟩ => ⟨S16x4x128x128, .f32⟩
  | .local _ .vmem, ⟨0, _⟩ => ⟨S128x2048, .f32⟩
  | .local _ .vmem, ⟨1, _⟩ => ⟨S128x2048, .f32⟩
  | .local _ .vmem, ⟨2, _⟩ => ⟨S1x4x128x128, .f32⟩
  | .local _ .vmem, ⟨3, _⟩ => ⟨S1x4x128x128, .f32⟩
  | .local _ .vmem, ⟨4, _⟩ => ⟨S2x512, .f32⟩
  | .local _ .vmem, ⟨5, _⟩ => ⟨S1x128, .f32⟩
  | .local _ .vmem, ⟨6, _⟩ => ⟨S2048x128, .bf16⟩
  | .local _ .vmem, ⟨7, _⟩ => ⟨S8x128x128, .f32⟩
  | .local _ .vmem, ⟨8, _⟩ => ⟨S128x512, .bf16⟩
  | .local _ .vmem, ⟨9, _⟩ => ⟨S128x512, .bf16⟩
  | .local _ .vmem, ⟨10, _⟩ => ⟨S1x4x128x128, .f32⟩
  | .local _ .vmem, ⟨11, _⟩ => ⟨S1x4x128x128, .f32⟩
  | .local _ .vmem, ⟨12, _⟩ => ⟨S4x128x128, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60_0 : Ref sig .tc := ⟨.hbm, 75, rfl⟩
abbrev main_v60_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v653 : BitVec 1 := Scalar.cmpi .eq arg1 c31_i32
  let v654 : BitVec 32 := Scalar.extui v653
  let c0_i32_216 : BitVec 32 := 0#32
  let v655 : BitVec 1 := Scalar.cmpi .ne v654 c0_i32_216
  v655

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== HgrnRefIdeal.lean ====
abbrev S65536x2048 : Shape := ⟨2, ![65536, 2048]⟩
abbrev S2x512 : Shape := ⟨2, ![2, 512]⟩
abbrev S128 : Shape := ⟨1, ![128]⟩
abbrev S_ : Shape := ⟨0, ![]⟩
abbrev S16x4x128x128 : Shape := ⟨4, ![16, 4, 128, 128]⟩
abbrev S65536x512 : Shape := ⟨2, ![65536, 512]⟩
abbrev S16x4096x4x128 : Shape := ⟨4, ![16, 4096, 4, 128]⟩
abbrev S512 : Shape := ⟨1, ![512]⟩
abbrev S1x512 : Shape := ⟨2, ![1, 512]⟩
abbrev S4x128 : Shape := ⟨2, ![4, 128]⟩
abbrev S1x1x4x128 : Shape := ⟨4, ![1, 1, 4, 128]⟩
abbrev S16x64x64x4x128 : Shape := ⟨5, ![16, 64, 64, 4, 128]⟩
abbrev S64x16x64x4x128 : Shape := ⟨5, ![64, 16, 64, 4, 128]⟩
abbrev S1x16x64x4x128 : Shape := ⟨5, ![1, 16, 64, 4, 128]⟩
abbrev S16x64x4x128 : Shape := ⟨4, ![16, 64, 4, 128]⟩
abbrev S64x64 : Shape := ⟨2, ![64, 64]⟩
abbrev S1x64x64x1x1 : Shape := ⟨5, ![1, 64, 64, 1, 1]⟩
abbrev S16x4x128x64 : Shape := ⟨4, ![16, 4, 128, 64]⟩
abbrev S16x64x1x4x128 : Shape := ⟨5, ![16, 64, 1, 4, 128]⟩
abbrev S16x1x64x4x128 : Shape := ⟨5, ![16, 1, 64, 4, 128]⟩
abbrev S16x64x4x64 : Shape := ⟨4, ![16, 64, 4, 64]⟩
abbrev S16x64x64x4 : Shape := ⟨4, ![16, 64, 64, 4]⟩
abbrev S16x1x4x128 : Shape := ⟨4, ![16, 1, 4, 128]⟩
abbrev S16x4x128 : Shape := ⟨3, ![16, 4, 128]⟩
abbrev S16x4x128x1 : Shape := ⟨4, ![16, 4, 128, 1]⟩
abbrev S16x4096x4 : Shape := ⟨3, ![16, 4096, 4]⟩
abbrev S16x4096x4x1 : Shape := ⟨4, ![16, 4096, 4, 1]⟩
abbrev S1x1x1x128 : Shape := ⟨4, ![1, 1, 1, 128]⟩

abbrev nBuf : Space → Nat
  | .hbm => 187
  | .vmem => 0
  | .smem => 0
  | _ => 0

abbrev hbmTy0_0 (i : Nat) : BufTy := match i % 128 with
  | 0 => ⟨S65536x2048, .f32⟩
  | 1 => ⟨S2x512, .f32⟩
  | 2 => ⟨S128, .f32⟩
  | 3 => ⟨S_, .f32⟩
  | 4 => ⟨S16x4x128x128, .f32⟩
  | 5 => ⟨S65536x512, .f32⟩
  | 6 => ⟨S16x4096x4x128, .f32⟩
  | 7 => ⟨S65536x512, .f32⟩
  | 8 => ⟨S16x4096x4x128, .f32⟩
  | 9 => ⟨S65536x512, .f32⟩
  | 10 => ⟨S16x4096x4x128, .f32⟩
  | 11 => ⟨S_, .f32⟩
  | 12 => ⟨S512, .f32⟩
  | 13 => ⟨S_, .f32⟩
  | 14 => ⟨S512, .f32⟩
  | 15 => ⟨S512, .f32⟩
  | 16 => ⟨S1x512, .f32⟩
  | 17 => ⟨S2x512, .f32⟩
  | 18 => ⟨S2x512, .f32⟩
  | 19 => ⟨S2x512, .f32⟩
  | 20 => ⟨S_, .f32⟩
  | 21 => ⟨S512, .f32⟩
  | 22 => ⟨S1x512, .f32⟩
  | 23 => ⟨S2x512, .f32⟩
  | 24 => ⟨S2x512, .f32⟩
  | 25 => ⟨S_, .f32⟩
  | 26 => ⟨S_, .f32⟩
  | 27 => ⟨S2x512, .f32⟩
  | 28 => ⟨S1x512, .f32⟩
  | 29 => ⟨S512, .f32⟩
  | 30 => ⟨S4x128, .f32⟩
  | 31 => ⟨S_, .f32⟩
  | 32 => ⟨S4x128, .f32⟩
  | 33 => ⟨S4x128, .f32⟩
  | 34 => ⟨S16x4096x4x128, .f32⟩
  | 35 => ⟨S16x4096x4x128, .f32⟩
  | 36 => ⟨S_, .f32⟩
  | 37 => ⟨S16x4096x4x128, .f32⟩
  | 38 => ⟨S16x4096x4x128, .f32⟩
  | 39 => ⟨S_, .f32⟩
  | 40 => ⟨S16x4096x4x128, .f32⟩
  | 41 => ⟨S16x4096x4x128, .f32⟩
  | 42 => ⟨S1x1x4x128, .f32⟩
  | 43 => ⟨S16x4096x4x128, .f32⟩
  | 44 => ⟨S16x4096x4x128, .f32⟩
  | 45 => ⟨S1x1x4x128, .f32⟩
  | 46 => ⟨S16x4096x4x128, .f32⟩
  | 47 => ⟨S16x4096x4x128, .f32⟩
  | 48 => ⟨S16x4096x4x128, .f32⟩
  | 49 => ⟨S_, .f32⟩
  | 50 => ⟨S16x4096x4x128, .f32⟩
  | 51 => ⟨S16x4096x4x128, .f32⟩
  | 52 => ⟨S16x64x64x4x128, .f32⟩
  | 53 => ⟨S64x16x64x4x128, .f32⟩
  | 54 => ⟨S16x64x64x4x128, .f32⟩
  | 55 => ⟨S64x16x64x4x128, .f32⟩
  | 56 => ⟨S16x64x64x4x128, .f32⟩
  | 57 => ⟨S64x16x64x4x128, .f32⟩
  | 58 => ⟨S16x64x64x4x128, .f32⟩
  | 59 => ⟨S64x16x64x4x128, .f32⟩
  | 60 => ⟨S_, .f32⟩
  | 61 => ⟨S64x16x64x4x128, .f32⟩
  | 62 => ⟨S_, .i32⟩
  | 63 => ⟨S64x16x64x4x128, .f32⟩
  | 64 => ⟨S64x16x64x4x128, .f32⟩
  | 65 => ⟨S64x16x64x4x128, .f32⟩
  | 66 => ⟨S64x16x64x4x128, .f32⟩
  | 67 => ⟨S_, .i32⟩
  | 68 => ⟨S16x4x128x128, .f32⟩
  | 69 => ⟨S64x16x64x4x128, .f32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S1x16x64x4x128, .f32⟩
  | 77 => ⟨S16x64x4x128, .f32⟩
  | 78 => ⟨S_, .i32⟩
  | 79 => ⟨S_, .i32⟩
  | 80 => ⟨S_, .i32⟩
  | 81 => ⟨S_, .i32⟩
  | 82 => ⟨S1x16x64x4x128, .f32⟩
  | 83 => ⟨S16x64x4x128, .f32⟩
  | 84 => ⟨S_, .i32⟩
  | 85 => ⟨S_, .i32⟩
  | 86 => ⟨S_, .i32⟩
  | 87 => ⟨S_, .i32⟩
  | 88 => ⟨S1x16x64x4x128, .f32⟩
  | 89 => ⟨S16x64x4x128, .f32⟩
  | 90 => ⟨S_, .i32⟩
  | 91 => ⟨S_, .i32⟩
  | 92 => ⟨S_, .i32⟩
  | 93 => ⟨S_, .i32⟩
  | 94 => ⟨S1x16x64x4x128, .f32⟩
  | 95 => ⟨S16x64x4x128, .f32⟩
  | 96 => ⟨S_, .i1⟩
  | 97 => ⟨S64x64, .i1⟩
  | 98 => ⟨S64x64, .i32⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .i1⟩
  | 105 => ⟨S64x64, .i1⟩
  | 106 => ⟨S64x64, .i1⟩
  | 107 => ⟨S1x64x64x1x1, .i1⟩
  | 108 => ⟨S_, .f32⟩
  | 109 => ⟨S_, .f32⟩
  | 110 => ⟨S16x64x4x128, .f32⟩
  | 111 => ⟨S16x64x4x128, .f32⟩
  | 112 => ⟨S16x64x4x128, .f32⟩
  | 113 => ⟨S16x4x128x64, .f32⟩
  | 114 => ⟨S16x64x4x128, .f32⟩
  | 115 => ⟨S16x64x1x4x128, .f32⟩
  | 116 => ⟨S16x1x64x4x128, .f32⟩
  | 117 => ⟨S16x64x64x4x128, .f32⟩
  | 118 => ⟨S16x64x64x4x128, .f32⟩
  | 119 => ⟨S16x64x64x4x128, .f32⟩
  | 120 => ⟨S_, .f32⟩
  | 121 => ⟨S_, .f32⟩
  | 122 => ⟨S16x64x64x4x128, .i1⟩
  | 123 => ⟨S16x64x64x4x128, .f32⟩
  | 124 => ⟨S16x64x64x4x128, .f32⟩
  | 125 => ⟨S16x64x64x4x128, .f32⟩
  | 126 => ⟨S16x1x64x4x128, .f32⟩
  | 127 => ⟨S16x64x64x4x128, .f32⟩
  | _ => ⟨S65536x2048, .f32⟩

abbrev hbmTy0_1 (i : Nat) : BufTy := match i % 128 with
  | 0 => ⟨S16x64x64x4x128, .f32⟩
  | 1 => ⟨S16x64x4x64, .f32⟩
  | 2 => ⟨S16x64x64x4, .f32⟩
  | 3 => ⟨S16x4x128x64, .f32⟩
  | 4 => ⟨S16x64x4x128, .f32⟩
  | 5 => ⟨S16x1x4x128, .f32⟩
  | 6 => ⟨S16x4x128, .f32⟩
  | 7 => ⟨S16x4x128, .f32⟩
  | 8 => ⟨S16x4x128x1, .f32⟩
  | 9 => ⟨S16x4x128x128, .f32⟩
  | 10 => ⟨S16x4x128x128, .f32⟩
  | 11 => ⟨S16x1x4x128, .f32⟩
  | 12 => ⟨S16x64x4x128, .f32⟩
  | 13 => ⟨S16x64x4x128, .f32⟩
  | 14 => ⟨S16x64x4x128, .f32⟩
  | 15 => ⟨S16x64x4x128, .f32⟩
  | 16 => ⟨S16x4x128x128, .f32⟩
  | 17 => ⟨S16x4x128x128, .f32⟩
  | 18 => ⟨S16x64x4x128, .f32⟩
  | 19 => ⟨S1x16x64x4x128, .f32⟩
  | 20 => ⟨S_, .i32⟩
  | 21 => ⟨S_, .i32⟩
  | 22 => ⟨S_, .i32⟩
  | 23 => ⟨S_, .i32⟩
  | 24 => ⟨S64x16x64x4x128, .f32⟩
  | 25 => ⟨S_, .i32⟩
  | 26 => ⟨S_, .i32⟩
  | 27 => ⟨S16x64x64x4x128, .f32⟩
  | 28 => ⟨S16x4096x4x128, .f32⟩
  | 29 => ⟨S65536x512, .f32⟩
  | 30 => ⟨S16x4096x4x128, .f32⟩
  | 31 => ⟨S16x4096x4x128, .f32⟩
  | 32 => ⟨S_, .f32⟩
  | 33 => ⟨S16x4096x4, .f32⟩
  | 34 => ⟨S16x4096x4x1, .f32⟩
  | 35 => ⟨S_, .f32⟩
  | 36 => ⟨S16x4096x4x1, .f32⟩
  | 37 => ⟨S16x4096x4x1, .f32⟩
  | 38 => ⟨S_, .f32⟩
  | 39 => ⟨S16x4096x4x1, .f32⟩
  | 40 => ⟨S16x4096x4x1, .f32⟩
  | 41 => ⟨S16x4096x4x1, .f32⟩
  | 42 => ⟨S16x4096x4x128, .f32⟩
  | 43 => ⟨S16x4096x4x128, .f32⟩
  | 44 => ⟨S1x1x1x128, .f32⟩
  | 45 => ⟨S16x4096x4x128, .f32⟩
  | 46 => ⟨S16x4096x4x128, .f32⟩
  | 47 => ⟨S16x4096x4x128, .f32⟩
  | 48 => ⟨S16x4096x4x128, .f32⟩
  | 49 => ⟨S_, .f32⟩
  | 50 => ⟨S16x4096x4x128, .f32⟩
  | 51 => ⟨S16x4096x4x128, .f32⟩
  | 52 => ⟨S_, .f32⟩
  | 53 => ⟨S16x4096x4x128, .f32⟩
  | 54 => ⟨S16x4096x4x128, .f32⟩
  | 55 => ⟨S16x4096x4x128, .f32⟩
  | 56 => ⟨S16x4096x4x128, .f32⟩
  | 57 => ⟨S65536x512, .f32⟩
  | 58 => ⟨S65536x512, .bf16⟩
  | _ => ⟨S65536x2048, .f32⟩

abbrev hbmTy (i : Nat) : BufTy := match i / 128 with
  | 0 => hbmTy0_0 i
  | 1 => hbmTy0_1 i
  | _ => ⟨S65536x2048, .f32⟩

abbrev bufTy : (tb : Table) → Fin (tcTables nBuf tb) → BufTy
  | .hbm, ⟨i, _⟩ => hbmTy i
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_call0_cst : Ref sig .tc := ⟨.hbm, 25, rfl⟩
abbrev main_call0_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_c : Ref sig .tc := ⟨.hbm, 62, rfl⟩
abbrev main_v48_0 : Ref sig .tc := ⟨.hbm, 63, rfl⟩
abbrev main_v48_1 : Ref sig .tc := ⟨.hbm, 64, rfl⟩
abbrev main_v48_2 : Ref sig .tc := ⟨.hbm, 65, rfl⟩
abbrev main_v48_3 : Ref sig .tc := ⟨.hbm, 66, rfl⟩
abbrev main_v48_4 : Ref sig .tc := ⟨.hbm, 67, rfl⟩
abbrev main_v48_5 : Ref sig .tc := ⟨.hbm, 68, rfl⟩
abbrev main_v48_6 : Ref sig .tc := ⟨.hbm, 69, rfl⟩
abbrev main_while0c_c_17 : Ref sig .tc := ⟨.hbm, 70, rfl⟩
abbrev main_while0c_v70 : Ref sig .tc := ⟨.hbm, 71, rfl⟩
abbrev main_while0b_call1_c : Ref sig .tc := ⟨.hbm, 72, rfl⟩
abbrev main_while0b_call1_c_0 : Ref sig .tc := ⟨.hbm, 73, rfl⟩
abbrev main_while0b_call1_c_1 : Ref sig .tc := ⟨.hbm, 74, rfl⟩
abbrev main_while0b_call1_c_2 : Ref sig .tc := ⟨.hbm, 75, rfl⟩
abbrev main_while0b_call1_v0 : Ref sig .tc := ⟨.hbm, 76, rfl⟩
abbrev main_while0b_v70 : Ref sig .tc := ⟨.hbm, 77, rfl⟩
abbrev main_while0b_call2_c : Ref sig .tc := ⟨.hbm, 78, rfl⟩
abbrev main_while0b_call2_c_0 : Ref sig .tc := ⟨.hbm, 79, rfl⟩
abbrev main_while0b_call2_c_1 : Ref sig .tc := ⟨.hbm, 80, rfl⟩
abbrev main_while0b_call2_c_2 : Ref sig .tc := ⟨.hbm, 81, rfl⟩
abbrev main_while0b_call2_v0 : Ref sig .tc := ⟨.hbm, 82, rfl⟩
abbrev main_while0b_v71 : Ref sig .tc := ⟨.hbm, 83, rfl⟩
abbrev main_while0b_call3_c : Ref sig .tc := ⟨.hbm, 84, rfl⟩
abbrev main_while0b_call3_c_0 : Ref sig .tc := ⟨.hbm, 85, rfl⟩
abbrev main_while0b_call3_c_1 : Ref sig .tc := ⟨.hbm, 86, rfl⟩
abbrev main_while0b_call3_c_2 : Ref sig .tc := ⟨.hbm, 87, rfl⟩
abbrev main_while0b_call3_v0 : Ref sig .tc := ⟨.hbm, 88, rfl⟩
abbrev main_while0b_v72 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_call4_c_1 : Ref sig .tc := ⟨.hbm, 92, rfl⟩
abbrev main_while0b_call4_c_2 : Ref sig .tc := ⟨.hbm, 93, rfl⟩
abbrev main_while0b_call4_v0 : Ref sig .tc := ⟨.hbm, 94, rfl⟩
abbrev main_while0b_v73 : Ref sig .tc := ⟨.hbm, 95, rfl⟩
abbrev main_while0b_c_17 : Ref sig .tc := ⟨.hbm, 96, rfl⟩
abbrev main_while0b_v74 : Ref sig .tc := ⟨.hbm, 97, rfl⟩
abbrev main_while0b_call5_v0 : Ref sig .tc := ⟨.hbm, 98, rfl⟩
abbrev main_while0b_call5_c : Ref sig .tc := ⟨.hbm, 99, rfl⟩
abbrev main_while0b_call5_v1 : Ref sig .tc := ⟨.hbm, 100, rfl⟩
abbrev main_while0b_call5_v2 : Ref sig .tc := ⟨.hbm, 101, rfl⟩
abbrev main_while0b_call5_v3 : Ref sig .tc := ⟨.hbm, 102, rfl⟩
abbrev main_while0b_call5_v4 : Ref sig .tc := ⟨.hbm, 103, rfl⟩
abbrev main_while0b_call5_c_0 : Ref sig .tc := ⟨.hbm, 104, rfl⟩
abbrev main_while0b_call5_v5 : Ref sig .tc := ⟨.hbm, 105, rfl⟩
abbrev main_while0b_v75 : Ref sig .tc := ⟨.hbm, 106, rfl⟩
abbrev main_while0b_v76 : Ref sig .tc := ⟨.hbm, 107, rfl⟩
abbrev main_while0b_call6_call0_cst : Ref sig .tc := ⟨.hbm, 108, rfl⟩
abbrev main_while0b_call6_call0_v0 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_v80 : Ref sig .tc := ⟨.hbm, 113, rfl⟩
abbrev main_while0b_v81 : Ref sig .tc := ⟨.hbm, 114, rfl⟩
abbrev main_while0b_v82 : Ref sig .tc := ⟨.hbm, 115, rfl⟩
abbrev main_while0b_v83 : Ref sig .tc := ⟨.hbm, 116, rfl⟩
abbrev main_while0b_v84 : Ref sig .tc := ⟨.hbm, 117, rfl⟩
abbrev main_while0b_v85 : Ref sig .tc := ⟨.hbm, 118, rfl⟩
abbrev main_while0b_v86 : Ref sig .tc := ⟨.hbm, 119, rfl⟩
abbrev main_while0b_cst_18 : Ref sig .tc := ⟨.hbm, 120, rfl⟩
abbrev main_while0b_call7_v0 : Ref sig .tc := ⟨.hbm, 121, rfl⟩
abbrev main_while0b_call7_v1 : Ref sig .tc := ⟨.hbm, 122, rfl⟩
abbrev main_while0b_call7_v2 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_v90 : Ref sig .tc := ⟨.hbm, 127, rfl⟩
abbrev main_while0b_v91 : Ref sig .tc := ⟨.hbm, 128, rfl⟩
abbrev main_while0b_v92 : Ref sig .tc := ⟨.hbm, 129, rfl⟩
abbrev main_while0b_v93 : Ref sig .tc := ⟨.hbm, 130, rfl⟩
abbrev main_while0b_v94 : Ref sig .tc := ⟨.hbm, 131, rfl⟩
abbrev main_while0b_v95 : Ref sig .tc := ⟨.hbm, 132, rfl⟩
abbrev main_while0b_v96 : Ref sig .tc := ⟨.hbm, 133, rfl⟩
abbrev main_while0b_v97 : Ref sig .tc := ⟨.hbm, 134, rfl⟩
abbrev main_while0b_v98 : Ref sig .tc := ⟨.hbm, 135, rfl⟩
abbrev main_while0b_v99 : Ref sig .tc := ⟨.hbm, 136, rfl⟩
abbrev main_while0b_v100 : Ref sig .tc := ⟨.hbm, 137, rfl⟩
abbrev main_while0b_v101 : Ref sig .tc := ⟨.hbm, 138, rfl⟩
abbrev main_while0b_v102 : Ref sig .tc := ⟨.hbm, 139, rfl⟩
abbrev main_while0b_v103 : Ref sig .tc := ⟨.hbm, 140, rfl⟩
abbrev main_while0b_v104 : Ref sig .tc := ⟨.hbm, 141, rfl⟩
abbrev main_while0b_v105 : Ref sig .tc := ⟨.hbm, 142, rfl⟩
abbrev main_while0b_v106 : Ref sig .tc := ⟨.hbm, 143, rfl⟩
abbrev main_while0b_v107 : Ref sig .tc := ⟨.hbm, 144, rfl⟩
abbrev main_while0b_v108 : Ref sig .tc := ⟨.hbm, 145, rfl⟩
abbrev main_while0b_v109 : Ref sig .tc := ⟨.hbm, 146, rfl⟩
abbrev main_while0b_call8_v0 : Ref sig .tc := ⟨.hbm, 147, rfl⟩
abbrev main_while0b_call8_c : Ref sig .tc := ⟨.hbm, 148, rfl⟩
abbrev main_while0b_call8_c_0 : Ref sig .tc := ⟨.hbm, 149, rfl⟩
abbrev main_while0b_call8_c_1 : Ref sig .tc := ⟨.hbm, 150, rfl⟩
abbrev main_while0b_call8_c_2 : Ref sig .tc := ⟨.hbm, 151, rfl⟩
abbrev main_while0b_v110 : Ref sig .tc := ⟨.hbm, 152, rfl⟩
abbrev main_while0b_c_19 : Ref sig .tc := ⟨.hbm, 153, rfl⟩
abbrev main_while0b_v111 : Ref sig .tc := ⟨.hbm, 154, rfl⟩
abbrev main_v49 : Ref sig .tc := ⟨.hbm, 155, rfl⟩
abbrev main_v50 : Ref sig .tc := ⟨.hbm, 156, rfl⟩
abbrev main_v51 : Ref sig .tc := ⟨.hbm, 157, rfl⟩
abbrev main_v52 : Ref sig .tc := ⟨.hbm, 158, rfl⟩
abbrev main_v53 : Ref sig .tc := ⟨.hbm, 159, rfl⟩
abbrev main_cst_8 : Ref sig .tc := ⟨.hbm, 160, rfl⟩
abbrev main_v54 : Ref sig .tc := ⟨.hbm, 161, rfl⟩
abbrev main_v55 : Ref sig .tc := ⟨.hbm, 162, rfl⟩
abbrev main_cst_9 : Ref sig .tc := ⟨.hbm, 163, rfl⟩
abbrev main_v56 : Ref sig .tc := ⟨.hbm, 164, rfl⟩
abbrev main_v57 : Ref sig .tc := ⟨.hbm, 165, rfl⟩
abbrev main_cst_10 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_v63 : Ref sig .tc := ⟨.hbm, 172, rfl⟩
abbrev main_v64 : Ref sig .tc := ⟨.hbm, 173, rfl⟩
abbrev main_v65 : Ref sig .tc := ⟨.hbm, 174, rfl⟩
abbrev main_call9_v0 : Ref sig .tc := ⟨.hbm, 175, rfl⟩
abbrev main_call9_v1 : Ref sig .tc := ⟨.hbm, 176, rfl⟩
abbrev main_call9_cst : Ref sig .tc := ⟨.hbm, 177, rfl⟩
abbrev main_call9_v2 : Ref sig .tc := ⟨.hbm, 178, rfl⟩
abbrev main_call9_v3 : Ref sig .tc := ⟨.hbm, 179, rfl⟩
abbrev main_call9_cst_0 : Ref sig .tc := ⟨.hbm, 180, rfl⟩
abbrev main_call9_v4 : Ref sig .tc := ⟨.hbm, 181, rfl⟩
abbrev main_call9_v5 : Ref sig .tc := ⟨.hbm, 182, rfl⟩
abbrev main_v66 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩

abbrev nD : Nat := 1
abbrev τ : Topo := Topo.v7x

variable {F : FTy → Type} [FloatOps F]

abbrev main_while0_count : Scf.Loop 32 := ⟨0#32, 64#32, 1#32⟩
-- ==== Inproj.lean ====
abbrev S16x4096x1024 : Shape := ⟨3, ![16, 4096, 1024]⟩
abbrev S1x1024 : Shape := ⟨2, ![1, 1024]⟩
abbrev S1x1024x6216 : Shape := ⟨3, ![1, 1024, 6216]⟩
abbrev S1x64 : Shape := ⟨2, ![1, 64]⟩
abbrev S65536x1024 : Shape := ⟨2, ![65536, 1024]⟩
abbrev S1x1024x4096 : Shape := ⟨3, ![1, 1024, 4096]⟩
abbrev S1024x4096 : Shape := ⟨2, ![1024, 4096]⟩
abbrev S1x1024x72 : Shape := ⟨3, ![1, 1024, 72]⟩
abbrev S1024x72 : Shape := ⟨2, ![1024, 72]⟩
abbrev S_ : Shape := ⟨0, ![]⟩
abbrev S1024x128 : Shape := ⟨2, ![1024, 128]⟩
abbrev S1x1024x2048 : Shape := ⟨3, ![1, 1024, 2048]⟩
abbrev S1024x2048 : Shape := ⟨2, ![1024, 2048]⟩
abbrev S1024 : Shape := ⟨1, ![1024]⟩
abbrev S64 : Shape := ⟨1, ![64]⟩
abbrev S128 : Shape := ⟨1, ![128]⟩
abbrev S1x128 : Shape := ⟨2, ![1, 128]⟩
abbrev S65536x2048 : Shape := ⟨2, ![65536, 2048]⟩
abbrev S65536x512 : Shape := ⟨2, ![65536, 512]⟩
abbrev S65536x128 : Shape := ⟨2, ![65536, 128]⟩
abbrev S16x512x4096 : Shape := ⟨3, ![16, 512, 4096]⟩
abbrev S16x64x4096 : Shape := ⟨3, ![16, 64, 4096]⟩
abbrev S16x128x4096 : Shape := ⟨3, ![16, 128, 4096]⟩
abbrev S512x1024 : Shape := ⟨2, ![512, 1024]⟩
abbrev S512x2048 : Shape := ⟨2, ![512, 2048]⟩
abbrev S512x512 : Shape := ⟨2, ![512, 512]⟩
abbrev S512x128 : Shape := ⟨2, ![512, 128]⟩
abbrev S1x512x512 : Shape := ⟨3, ![1, 512, 512]⟩
abbrev S1x64x512 : Shape := ⟨3, ![1, 64, 512]⟩
abbrev S1x128x512 : Shape := ⟨3, ![1, 128, 512]⟩
abbrev S512 : Shape := ⟨1, ![512]⟩
abbrev S512x1 : Shape := ⟨2, ![512, 1]⟩
abbrev S1024x512 : Shape := ⟨2, ![1024, 512]⟩
abbrev S128x512 : Shape := ⟨2, ![128, 512]⟩
abbrev S64x512 : Shape := ⟨2, ![64, 512]⟩

abbrev nBuf : Space → Nat
  | .hbm => 41
  | .vmem => 30
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x6216, .f32⟩
  | .hbm, ⟨3, _⟩ => ⟨S1x64, .f32⟩
  | .hbm, ⟨4, _⟩ => ⟨S1x64, .f32⟩
  | .hbm, ⟨5, _⟩ => ⟨S65536x1024, .f32⟩
  | .hbm, ⟨6, _⟩ => ⟨S1x1024x4096, .f32⟩
  | .hbm, ⟨7, _⟩ => ⟨S1024x4096, .f32⟩
  | .hbm, ⟨8, _⟩ => ⟨S1024x4096, .bf16⟩
  | .hbm, ⟨9, _⟩ => ⟨S1x1024x72, .f32⟩
  | .hbm, ⟨10, _⟩ => ⟨S1024x72, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1x1024x2048, .f32⟩
  | .hbm, ⟨16, _⟩ => ⟨S1024x2048, .f32⟩
  | .hbm, ⟨17, _⟩ => ⟨S1024x2048, .bf16⟩
  | .hbm, ⟨18, _⟩ => ⟨S1024, .f32⟩
  | .hbm, ⟨19, _⟩ => ⟨S1x1024, .f32⟩
  | .hbm, ⟨20, _⟩ => ⟨S64, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S64, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S65536x2048, .f32⟩
  | .hbm, ⟨31, _⟩ => ⟨S65536x512, .bf16⟩
  | .hbm, ⟨32, _⟩ => ⟨S65536x512, .bf16⟩
  | .hbm, ⟨33, _⟩ => ⟨S65536x512, .bf16⟩
  | .hbm, ⟨34, _⟩ => ⟨S65536x128, .f32⟩
  | .hbm, ⟨35, _⟩ => ⟨S65536x2048, .bf16⟩
  | .hbm, ⟨36, _⟩ => ⟨S16x512x4096, .f32⟩
  | .hbm, ⟨37, _⟩ => ⟨S16x512x4096, .f32⟩
  | .hbm, ⟨38, _⟩ => ⟨S16x64x4096, .f32⟩
  | .hbm, ⟨39, _⟩ => ⟨S16x512x4096, .bf16⟩
  | .hbm, ⟨40, _⟩ => ⟨S16x128x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .bf16⟩
  | .local _ .vmem, ⟨5, _⟩ => ⟨S1024x2048, .bf16⟩
  | .local _ .vmem, ⟨6, _⟩ => ⟨S1x128, .f32⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .f32⟩
  | .local _ .vmem, ⟨17, _⟩ => ⟨S512x128, .f32⟩
  | .local _ .vmem, ⟨18, _⟩ => ⟨S512x2048, .bf16⟩
  | .local _ .vmem, ⟨19, _⟩ => ⟨S512x2048, .bf16⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x64x512, .f32⟩
  | .local _ .vmem, ⟨25, _⟩ => ⟨S1x64x512, .f32⟩
  | .local _ .vmem, ⟨26, _⟩ => ⟨S1x512x512, .bf16⟩
  | .local _ .vmem, ⟨27, _⟩ => ⟨S1x512x512, .bf16⟩
  | .local _ .vmem, ⟨28, _⟩ => ⟨S1x128x512, .bf16⟩
  | .local _ .vmem, ⟨29, _⟩ => ⟨S1x128x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev main_v19_6 : Ref sig .tc := ⟨.hbm, 36, rfl⟩
abbrev main_v19_7 : Ref sig .tc := ⟨.hbm, 37, rfl⟩
abbrev main_v19_8 : Ref sig .tc := ⟨.hbm, 38, rfl⟩
abbrev main_v19_9 : Ref sig .tc := ⟨.hbm, 39, rfl⟩
abbrev main_v19_10 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InprojRefIdeal.lean ====
abbrev S16x4096x1024 : Shape := ⟨3, ![16, 4096, 1024]⟩
abbrev S1x1024 : Shape := ⟨2, ![1, 1024]⟩
abbrev S1x1024x6216 : Shape := ⟨3, ![1, 1024, 6216]⟩
abbrev S1x64 : Shape := ⟨2, ![1, 64]⟩
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x6216 : Shape := ⟨2, ![1024, 6216]⟩
abbrev S65536x6216 : Shape := ⟨2, ![65536, 6216]⟩
abbrev S65536x512 : Shape := ⟨2, ![65536, 512]⟩
abbrev S65536x64 : Shape := ⟨2, ![65536, 64]⟩
abbrev S65536x8 : Shape := ⟨2, ![65536, 8]⟩
abbrev S65536x2048 : Shape := ⟨2, ![65536, 2048]⟩
abbrev S64 : Shape := ⟨1, ![64]⟩
abbrev S65536x72 : Shape := ⟨2, ![65536, 72]⟩
abbrev S65536x56 : Shape := ⟨2, ![65536, 56]⟩
abbrev S65536x128 : Shape := ⟨2, ![65536, 128]⟩
abbrev S16x4096x512 : Shape := ⟨3, ![16, 4096, 512]⟩
abbrev S16x512x4096 : Shape := ⟨3, ![16, 512, 4096]⟩
abbrev S16x4096x64 : Shape := ⟨3, ![16, 4096, 64]⟩
abbrev S16x64x4096 : Shape := ⟨3, ![16, 64, 4096]⟩
abbrev S16x128x4096 : Shape := ⟨3, ![16, 128, 4096]⟩

abbrev nBuf : Space → Nat
  | .hbm => 95
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x6216, .f32⟩
  | .hbm, ⟨3, _⟩ => ⟨S1x64, .f32⟩
  | .hbm, ⟨4, _⟩ => ⟨S1x64, .f32⟩
  | .hbm, ⟨5, _⟩ => ⟨S65536x1024, .f32⟩
  | .hbm, ⟨6, _⟩ => ⟨S1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S1024x6216, .f32⟩
  | .hbm, ⟨24, _⟩ => ⟨S65536x6216, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S65536x64, .f32⟩
  | .hbm, ⟨30, _⟩ => ⟨S65536x8, .f32⟩
  | .hbm, ⟨31, _⟩ => ⟨S65536x2048, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x64, .f32⟩
  | .hbm, ⟨41, _⟩ => ⟨S65536x64, .f32⟩
  | .hbm, ⟨42, _⟩ => ⟨S65536x64, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x64, .f32⟩
  | .hbm, ⟨50, _⟩ => ⟨S65536x64, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1, .f32⟩
  | .hbm, ⟨55, _⟩ => ⟨S65536x64, .f32⟩
  | .hbm, ⟨56, _⟩ => ⟨S65536x64, .f32⟩
  | .hbm, ⟨57, _⟩ => ⟨S1x64, .f32⟩
  | .hbm, ⟨58, _⟩ => ⟨S65536x64, .f32⟩
  | .hbm, ⟨59, _⟩ => ⟨S65536x64, .f32⟩
  | .hbm, ⟨60, _⟩ => ⟨S1x64, .f32⟩
  | .hbm, ⟨61, _⟩ => ⟨S65536x64, .f32⟩
  | .hbm, ⟨62, _⟩ => ⟨S65536x64, .f32⟩
  | .hbm, ⟨63, _⟩ => ⟨S_, .f32⟩
  | .hbm, ⟨64, _⟩ => ⟨S65536x8, .f32⟩
  | .hbm, ⟨65, _⟩ => ⟨S65536x8, .f32⟩
  | .hbm, ⟨66, _⟩ => ⟨S_, .f32⟩
  | .hbm, ⟨67, _⟩ => ⟨S65536x8, .f32⟩
  | .hbm, ⟨68, _⟩ => ⟨S65536x8, .f32⟩
  | .hbm, ⟨69, _⟩ => ⟨S65536x72, .f32⟩
  | .hbm, ⟨70, _⟩ => ⟨S_, .f32⟩
  | .hbm, ⟨71, _⟩ => ⟨S65536x56, .f32⟩
  | .hbm, ⟨72, _⟩ => ⟨S65536x128, .f32⟩
  | .hbm, ⟨73, _⟩ => ⟨S65536x2048, .f32⟩
  | .hbm, ⟨74, _⟩ => ⟨S65536x512, .bf16⟩
  | .hbm, ⟨75, _⟩ => ⟨S65536x512, .bf16⟩
  | .hbm, ⟨76, _⟩ => ⟨S65536x512, .bf16⟩
  | .hbm, ⟨77, _⟩ => ⟨S65536x2048, .f32⟩
  | .hbm, ⟨78, _⟩ => ⟨S65536x2048, .f32⟩
  | .hbm, ⟨79, _⟩ => ⟨S_, .f32⟩
  | .hbm, ⟨80, _⟩ => ⟨S65536x2048, .f32⟩
  | .hbm, ⟨81, _⟩ => ⟨S65536x2048, .f32⟩
  | .hbm, ⟨82, _⟩ => ⟨S_, .f32⟩
  | .hbm, ⟨83, _⟩ => ⟨S65536x2048, .f32⟩
  | .hbm, ⟨84, _⟩ => ⟨S65536x2048, .f32⟩
  | .hbm, ⟨85, _⟩ => ⟨S65536x2048, .bf16⟩
  | .hbm, ⟨86, _⟩ => ⟨S16x4096x512, .f32⟩
  | .hbm, ⟨87, _⟩ => ⟨S16x512x4096, .f32⟩
  | .hbm, ⟨88, _⟩ => ⟨S16x4096x512, .f32⟩
  | .hbm, ⟨89, _⟩ => ⟨S16x512x4096, .f32⟩
  | .hbm, ⟨90, _⟩ => ⟨S16x4096x64, .f32⟩
  | .hbm, ⟨91, _⟩ => ⟨S16x64x4096, .f32⟩
  | .hbm, ⟨92, _⟩ => ⟨S16x512x4096, .bf16⟩
  | .hbm, ⟨93, _⟩ => ⟨S16x128x4096, .f32⟩
  | .hbm, ⟨94, _⟩ => ⟨S16x128x4096, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Mixffn.lean ====
abbrev S16x4096x1024 : Shape := ⟨3, ![16, 4096, 1024]⟩
abbrev S65536x512 : Shape := ⟨2, ![65536, 512]⟩
abbrev S65536x2048 : Shape := ⟨2, ![65536, 2048]⟩
abbrev S1x2x512x1024 : Shape := ⟨4, ![1, 2, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S65536x1024 : Shape := ⟨2, ![65536, 1024]⟩
abbrev S2x512x1024 : Shape := ⟨3, ![2, 512, 1024]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S512x512 : Shape := ⟨2, ![512, 512]⟩
abbrev S512x2048 : Shape := ⟨2, ![512, 2048]⟩
abbrev S1x512x1024 : Shape := ⟨3, ![1, 512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 23
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S65536x512, .bf16⟩
  | .hbm, ⟨2, _⟩ => ⟨S65536x512, .bf16⟩
  | .hbm, ⟨3, _⟩ => ⟨S65536x2048, .bf16⟩
  | .hbm, ⟨4, _⟩ => ⟨S1x2x512x1024, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1024, .f32⟩
  | .hbm, ⟨10, _⟩ => ⟨S65536x1024, .f32⟩
  | .hbm, ⟨11, _⟩ => ⟨S2x512x1024, .f32⟩
  | .hbm, ⟨12, _⟩ => ⟨S2x512x1024, .bf16⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S1024x5632, .f32⟩
  | .hbm, ⟨18, _⟩ => ⟨S1024x5632, .bf16⟩
  | .hbm, ⟨19, _⟩ => ⟨S2816x1024, .f32⟩
  | .hbm, ⟨20, _⟩ => ⟨S2816x1024, .bf16⟩
  | .hbm, ⟨21, _⟩ => ⟨S1x1024, .f32⟩
  | .hbm, ⟨22, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S2x512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixffnIdeal.lean ====
abbrev S16x4096x1024 : Shape := ⟨3, ![16, 4096, 1024]⟩
abbrev S65536x512 : Shape := ⟨2, ![65536, 512]⟩
abbrev S65536x2048 : Shape := ⟨2, ![65536, 2048]⟩
abbrev S1x2x512x1024 : Shape := ⟨4, ![1, 2, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S65536x1024 : Shape := ⟨2, ![65536, 1024]⟩
abbrev S2x512x1024 : Shape := ⟨3, ![2, 512, 1024]⟩
abbrev S1024x1024 : Shape := ⟨2, ![1024, 1024]⟩
abbrev S1024x5632 : Shape := ⟨2, ![1024, 5632]⟩
abbrev S2816x1024 : Shape := ⟨2, ![2816, 1024]⟩
abbrev S512x1024 : Shape := ⟨2, ![512, 1024]⟩
abbrev S512x512 : Shape := ⟨2, ![512, 512]⟩
abbrev S512x2048 : Shape := ⟨2, ![512, 2048]⟩
abbrev S1x512x1024 : Shape := ⟨3, ![1, 512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 23
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S65536x512, .bf16⟩
  | .hbm, ⟨2, _⟩ => ⟨S65536x512, .bf16⟩
  | .hbm, ⟨3, _⟩ => ⟨S65536x2048, .bf16⟩
  | .hbm, ⟨4, _⟩ => ⟨S1x2x512x1024, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1024, .f32⟩
  | .hbm, ⟨10, _⟩ => ⟨S65536x1024, .f32⟩
  | .hbm, ⟨11, _⟩ => ⟨S2x512x1024, .f32⟩
  | .hbm, ⟨12, _⟩ => ⟨S2x512x1024, .bf16⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S1024x5632, .f32⟩
  | .hbm, ⟨18, _⟩ => ⟨S1024x5632, .bf16⟩
  | .hbm, ⟨19, _⟩ => ⟨S2816x1024, .f32⟩
  | .hbm, ⟨20, _⟩ => ⟨S2816x1024, .bf16⟩
  | .hbm, ⟨21, _⟩ => ⟨S1x1024, .f32⟩
  | .hbm, ⟨22, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S2x512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixffnRefIdeal.lean ====
abbrev S16x4096x1024 : Shape := ⟨3, ![16, 4096, 1024]⟩
abbrev S65536x512 : Shape := ⟨2, ![65536, 512]⟩
abbrev S65536x2048 : Shape := ⟨2, ![65536, 2048]⟩
abbrev S1x2x512x1024 : Shape := ⟨4, ![1, 2, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S16x4096x512 : Shape := ⟨3, ![16, 4096, 512]⟩
abbrev S16x4096x1x512 : Shape := ⟨4, ![16, 4096, 1, 512]⟩
abbrev S16x4096x2x512 : Shape := ⟨4, ![16, 4096, 2, 512]⟩
abbrev S16x4096x2x1024 : Shape := ⟨4, ![16, 4096, 2, 1024]⟩
abbrev S2x512x1024 : Shape := ⟨3, ![2, 512, 1024]⟩
abbrev S2x1024x16x4096 : Shape := ⟨4, ![2, 1024, 16, 4096]⟩
abbrev S_ : Shape := ⟨0, ![]⟩
abbrev S1024x1024 : Shape := ⟨2, ![1024, 1024]⟩
abbrev S16x4096 : Shape := ⟨2, ![16, 4096]⟩
abbrev S16x4096x1 : Shape := ⟨3, ![16, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S16x4096x5632 : Shape := ⟨3, ![16, 4096, 5632]⟩
abbrev S16x4096x2816 : Shape := ⟨3, ![16, 4096, 2816]⟩
abbrev S65536x1024 : Shape := ⟨2, ![65536, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S65536x512, .bf16⟩
  | .hbm, ⟨2, _⟩ => ⟨S65536x512, .bf16⟩
  | .hbm, ⟨3, _⟩ => ⟨S65536x2048, .bf16⟩
  | .hbm, ⟨4, _⟩ => ⟨S1x2x512x1024, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1024, .f32⟩
  | .hbm, ⟨10, _⟩ => ⟨S65536x512, .f32⟩
  | .hbm, ⟨11, _⟩ => ⟨S16x4096x512, .f32⟩
  | .hbm, ⟨12, _⟩ => ⟨S65536x512, .f32⟩
  | .hbm, ⟨13, _⟩ => ⟨S16x4096x512, .f32⟩
  | .hbm, ⟨14, _⟩ => ⟨S16x4096x1x512, .f32⟩
  | .hbm, ⟨15, _⟩ => ⟨S16x4096x1x512, .f32⟩
  | .hbm, ⟨16, _⟩ => ⟨S16x4096x2x512, .f32⟩
  | .hbm, ⟨17, _⟩ => ⟨S65536x2048, .f32⟩
  | .hbm, ⟨18, _⟩ => ⟨S16x4096x2x1024, .f32⟩
  | .hbm, ⟨19, _⟩ => ⟨S2x512x1024, .f32⟩
  | .hbm, ⟨20, _⟩ => ⟨S2x1024x16x4096, .f32⟩
  | .hbm, ⟨21, _⟩ => ⟨S16x4096x2x1024, .f32⟩
  | .hbm, ⟨22, _⟩ => ⟨S16x4096x2x1024, .f32⟩
  | .hbm, ⟨23, _⟩ => ⟨S_, .f32⟩
  | .hbm, ⟨24, _⟩ => ⟨S16x4096x1024, .f32⟩
  | .hbm, ⟨25, _⟩ => ⟨S1024x1024, .f32⟩
  | .hbm, ⟨26, _⟩ => ⟨S16x4096x1024, .f32⟩
  | .hbm, ⟨27, _⟩ => ⟨S16x4096x1024, .f32⟩
  | .hbm, ⟨28, _⟩ => ⟨S1024, .f32⟩
  | .hbm, ⟨29, _⟩ => ⟨S16x4096x1024, .f32⟩
  | .hbm, ⟨30, _⟩ => ⟨S_, .f32⟩
  | .hbm, ⟨31, _⟩ => ⟨S16x4096, .f32⟩
  | .hbm, ⟨32, _⟩ => ⟨S16x4096x1, .f32⟩
  | .hbm, ⟨33, _⟩ => ⟨S_, .f32⟩
  | .hbm, ⟨34, _⟩ => ⟨S16x4096x1, .f32⟩
  | .hbm, ⟨35, _⟩ => ⟨S16x4096x1, .f32⟩
  | .hbm, ⟨36, _⟩ => ⟨S_, .f32⟩
  | .hbm, ⟨37, _⟩ => ⟨S16x4096x1, .f32⟩
  | .hbm, ⟨38, _⟩ => ⟨S16x4096x1, .f32⟩
  | .hbm, ⟨39, _⟩ => ⟨S16x4096x1, .f32⟩
  | .hbm, ⟨40, _⟩ => ⟨S16x4096x1024, .f32⟩
  | .hbm, ⟨41, _⟩ => ⟨S16x4096x1024, .f32⟩
  | .hbm, ⟨42, _⟩ => ⟨S1x1x1024, .f32⟩
  | .hbm, ⟨43, _⟩ => ⟨S16x4096x1024, .f32⟩
  | .hbm, ⟨44, _⟩ => ⟨S16x4096x1024, .f32⟩
  | .hbm, ⟨45, _⟩ => ⟨S1024x5632, .f32⟩
  | .hbm, ⟨46, _⟩ => ⟨S2816x1024, .f32⟩
  | .hbm, ⟨47, _⟩ => ⟨S16x4096x5632, .f32⟩
  | .hbm, ⟨48, _⟩ => ⟨S16x4096x2816, .f32⟩
  | .hbm, ⟨49, _⟩ => ⟨S16x4096x2816, .f32⟩
  | .hbm, ⟨50, _⟩ => ⟨S16x4096x2816, .f32⟩
  | .hbm, ⟨51, _⟩ => ⟨S16x4096x2816, .f32⟩
  | .hbm, ⟨52, _⟩ => ⟨S_, .f32⟩
  | .hbm, ⟨53, _⟩ => ⟨S16x4096x2816, .f32⟩
  | .hbm, ⟨54, _⟩ => ⟨S16x4096x2816, .f32⟩
  | .hbm, ⟨55, _⟩ => ⟨S_, .f32⟩
  | .hbm, ⟨56, _⟩ => ⟨S16x4096x2816, .f32⟩
  | .hbm, ⟨57, _⟩ => ⟨S16x4096x2816, .f32⟩
  | .hbm, ⟨58, _⟩ => ⟨S16x4096x2816, .f32⟩
  | .hbm, ⟨59, _⟩ => ⟨S16x4096x2816, .f32⟩
  | .hbm, ⟨60, _⟩ => ⟨S16x4096x1024, .f32⟩
  | .hbm, ⟨61, _⟩ => ⟨S16x4096x1024, .f32⟩
  | .hbm, ⟨62, _⟩ => ⟨S16x4096x1024, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S_, .f32⟩
  | .hbm, ⟨67, _⟩ => ⟨S16x4096x1, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S16x4096x1, .f32⟩
  | .hbm, ⟨73, _⟩ => ⟨S16x4096x1024, .f32⟩
  | .hbm, ⟨74, _⟩ => ⟨S16x4096x1024, .f32⟩
  | .hbm, ⟨75, _⟩ => ⟨S1x1x1024, .f32⟩
  | .hbm, ⟨76, _⟩ => ⟨S16x4096x1024, .f32⟩
  | .hbm, ⟨77, _⟩ => ⟨S16x4096x1024, .f32⟩
  | .hbm, ⟨78, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== InprojS.lean ====
abbrev S128x8x1024 : Shape := ⟨3, ![128, 8, 1024]⟩
abbrev S1x1024 : Shape := ⟨2, ![1, 1024]⟩
abbrev S1x1024x6216 : Shape := ⟨3, ![1, 1024, 6216]⟩
abbrev S1x64 : Shape := ⟨2, ![1, 64]⟩
abbrev S1024x1024 : Shape := ⟨2, ![1024, 1024]⟩
abbrev S1x1024x4096 : Shape := ⟨3, ![1, 1024, 4096]⟩
abbrev S1024x4096 : Shape := ⟨2, ![1024, 4096]⟩
abbrev S1x1024x72 : Shape := ⟨3, ![1, 1024, 72]⟩
abbrev S1024x72 : Shape := ⟨2, ![1024, 72]⟩
abbrev S_ : Shape := ⟨0, ![]⟩
abbrev S1024x128 : Shape := ⟨2, ![1024, 128]⟩
abbrev S1x1024x2048 : Shape := ⟨3, ![1, 1024, 2048]⟩
abbrev S1024x2048 : Shape := ⟨2, ![1024, 2048]⟩
abbrev S1024 : Shape := ⟨1, ![1024]⟩
abbrev S64 : Shape := ⟨1, ![64]⟩
abbrev S128 : Shape := ⟨1, ![128]⟩
abbrev S1x128 : Shape := ⟨2, ![1, 128]⟩
abbrev S1024x512 : Shape := ⟨2, ![1024, 512]⟩
abbrev S512x1024 : Shape := ⟨2, ![512, 1024]⟩
abbrev S512x2048 : Shape := ⟨2, ![512, 2048]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 38
  | .vmem => 24
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x6216, .f32⟩
  | .hbm, ⟨3, _⟩ => ⟨S1x64, .f32⟩
  | .hbm, ⟨4, _⟩ => ⟨S1x64, .f32⟩
  | .hbm, ⟨5, _⟩ => ⟨S1024x1024, .f32⟩
  | .hbm, ⟨6, _⟩ => ⟨S1x1024x4096, .f32⟩
  | .hbm, ⟨7, _⟩ => ⟨S1024x4096, .f32⟩
  | .hbm, ⟨8, _⟩ => ⟨S1024x4096, .bf16⟩
  | .hbm, ⟨9, _⟩ => ⟨S1x1024x72, .f32⟩
  | .hbm, ⟨10, _⟩ => ⟨S1024x72, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1x1024x2048, .f32⟩
  | .hbm, ⟨16, _⟩ => ⟨S1024x2048, .f32⟩
  | .hbm, ⟨17, _⟩ => ⟨S1024x2048, .bf16⟩
  | .hbm, ⟨18, _⟩ => ⟨S1024, .f32⟩
  | .hbm, ⟨19, _⟩ => ⟨S1x1024, .f32⟩
  | .hbm, ⟨20, _⟩ => ⟨S64, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S64, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S1024x2048, .f32⟩
  | .hbm, ⟨31, _⟩ => ⟨S1024x512, .bf16⟩
  | .hbm, ⟨32, _⟩ => ⟨S1024x512, .bf16⟩
  | .hbm, ⟨33, _⟩ => ⟨S1024x512, .bf16⟩
  | .hbm, ⟨34, _⟩ => ⟨S1024x128, .f32⟩
  | .hbm, ⟨35, _⟩ => ⟨S1024x2048, .bf16⟩
  | .hbm, ⟨36, _⟩ => ⟨S1024x512, .f32⟩
  | .hbm, ⟨37, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .bf16⟩
  | .local _ .vmem, ⟨5, _⟩ => ⟨S1024x2048, .bf16⟩
  | .local _ .vmem, ⟨6, _⟩ => ⟨S1x128, .f32⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .f32⟩
  | .local _ .vmem, ⟨17, _⟩ => ⟨S512x128, .f32⟩
  | .local _ .vmem, ⟨18, _⟩ => ⟨S512x2048, .bf16⟩
  | .local _ .vmem, ⟨19, _⟩ => ⟨S512x2048, .bf16⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev main_v19_6 : Ref sig .tc := ⟨.hbm, 36, rfl⟩
abbrev main_v19_7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InprojSRefIdeal.lean ====
abbrev S128x8x1024 : Shape := ⟨3, ![128, 8, 1024]⟩
abbrev S1x1024 : Shape := ⟨2, ![1, 1024]⟩
abbrev S1x1024x6216 : Shape := ⟨3, ![1, 1024, 6216]⟩
abbrev S1x64 : Shape := ⟨2, ![1, 64]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1024x6216 : Shape := ⟨2, ![1024, 6216]⟩
abbrev S1024x512 : Shape := ⟨2, ![1024, 512]⟩
abbrev S1024x64 : Shape := ⟨2, ![1024, 64]⟩
abbrev S1024x8 : Shape := ⟨2, ![1024, 8]⟩
abbrev S1024x2048 : Shape := ⟨2, ![1024, 2048]⟩
abbrev S64 : Shape := ⟨1, ![64]⟩
abbrev S1024x72 : Shape := ⟨2, ![1024, 72]⟩
abbrev S1024x56 : Shape := ⟨2, ![1024, 56]⟩
abbrev S1024x128 : Shape := ⟨2, ![1024, 128]⟩

abbrev nBuf : Space → Nat
  | .hbm => 86
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x6216, .f32⟩
  | .hbm, ⟨3, _⟩ => ⟨S1x64, .f32⟩
  | .hbm, ⟨4, _⟩ => ⟨S1x64, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1x1024, .f32⟩
  | .hbm, ⟨21, _⟩ => ⟨S1024x1024, .f32⟩
  | .hbm, ⟨22, _⟩ => ⟨S1024x1024, .f32⟩
  | .hbm, ⟨23, _⟩ => ⟨S1024x6216, .f32⟩
  | .hbm, ⟨24, _⟩ => ⟨S1024x6216, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S1024x64, .f32⟩
  | .hbm, ⟨30, _⟩ => ⟨S1024x8, .f32⟩
  | .hbm, ⟨31, _⟩ => ⟨S1024x2048, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S1024, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x64, .f32⟩
  | .hbm, ⟨41, _⟩ => ⟨S1024x64, .f32⟩
  | .hbm, ⟨42, _⟩ => ⟨S1024x64, .f32⟩
  | .hbm, ⟨43, _⟩ => ⟨S_, .f32⟩
  | .hbm, ⟨44, _⟩ => ⟨S1024, .f32⟩
  | .hbm, ⟨45, _⟩ => ⟨S1024x1, .f32⟩
  | .hbm, ⟨46, _⟩ => ⟨S_, .f32⟩
  | .hbm, ⟨47, _⟩ => ⟨S1024x1, .f32⟩
  | .hbm, ⟨48, _⟩ => ⟨S1024x1, .f32⟩
  | .hbm, ⟨49, _⟩ => ⟨S1024x64, .f32⟩
  | .hbm, ⟨50, _⟩ => ⟨S1024x64, .f32⟩
  | .hbm, ⟨51, _⟩ => ⟨S_, .f32⟩
  | .hbm, ⟨52, _⟩ => ⟨S1024x1, .f32⟩
  | .hbm, ⟨53, _⟩ => ⟨S1024x1, .f32⟩
  | .hbm, ⟨54, _⟩ => ⟨S1024x1, .f32⟩
  | .hbm, ⟨55, _⟩ => ⟨S1024x64, .f32⟩
  | .hbm, ⟨56, _⟩ => ⟨S1024x64, .f32⟩
  | .hbm, ⟨57, _⟩ => ⟨S1x64, .f32⟩
  | .hbm, ⟨58, _⟩ => ⟨S1024x64, .f32⟩
  | .hbm, ⟨59, _⟩ => ⟨S1024x64, .f32⟩
  | .hbm, ⟨60, _⟩ => ⟨S1x64, .f32⟩
  | .hbm, ⟨61, _⟩ => ⟨S1024x64, .f32⟩
  | .hbm, ⟨62, _⟩ => ⟨S1024x64, .f32⟩
  | .hbm, ⟨63, _⟩ => ⟨S_, .f32⟩
  | .hbm, ⟨64, _⟩ => ⟨S1024x8, .f32⟩
  | .hbm, ⟨65, _⟩ => ⟨S1024x8, .f32⟩
  | .hbm, ⟨66, _⟩ => ⟨S_, .f32⟩
  | .hbm, ⟨67, _⟩ => ⟨S1024x8, .f32⟩
  | .hbm, ⟨68, _⟩ => ⟨S1024x8, .f32⟩
  | .hbm, ⟨69, _⟩ => ⟨S1024x72, .f32⟩
  | .hbm, ⟨70, _⟩ => ⟨S_, .f32⟩
  | .hbm, ⟨71, _⟩ => ⟨S1024x56, .f32⟩
  | .hbm, ⟨72, _⟩ => ⟨S1024x128, .f32⟩
  | .hbm, ⟨73, _⟩ => ⟨S1024x2048, .f32⟩
  | .hbm, ⟨74, _⟩ => ⟨S1024x512, .bf16⟩
  | .hbm, ⟨75, _⟩ => ⟨S1024x512, .bf16⟩
  | .hbm, ⟨76, _⟩ => ⟨S1024x512, .bf16⟩
  | .hbm, ⟨77, _⟩ => ⟨S1024x2048, .f32⟩
  | .hbm, ⟨78, _⟩ => ⟨S1024x2048, .f32⟩
  | .hbm, ⟨79, _⟩ => ⟨S_, .f32⟩
  | .hbm, ⟨80, _⟩ => ⟨S1024x2048, .f32⟩
  | .hbm, ⟨81, _⟩ => ⟨S1024x2048, .f32⟩
  | .hbm, ⟨82, _⟩ => ⟨S_, .f32⟩
  | .hbm, ⟨83, _⟩ => ⟨S1024x2048, .f32⟩
  | .hbm, ⟨84, _⟩ => ⟨S1024x2048, .f32⟩
  | .hbm, ⟨85, _⟩ => ⟨S1024x2048, .bf16⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== MixffnS.lean ====
abbrev S128x8x1024 : Shape := ⟨3, ![128, 8, 1024]⟩
abbrev S1024x512 : Shape := ⟨2, ![1024, 512]⟩
abbrev S1024x2048 : Shape := ⟨2, ![1024, 2048]⟩
abbrev S1x2x512x1024 : Shape := ⟨4, ![1, 2, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S2x512x1024 : Shape := ⟨3, ![2, 512, 1024]⟩
abbrev S1024x5632 : Shape := ⟨2, ![1024, 5632]⟩
abbrev S2816x1024 : Shape := ⟨2, ![2816, 1024]⟩
abbrev S512x1024 : Shape := ⟨2, ![512, 1024]⟩
abbrev S512x512 : Shape := ⟨2, ![512, 512]⟩
abbrev S512x2048 : Shape := ⟨2, ![512, 2048]⟩
abbrev S1x512x1024 : Shape := ⟨3, ![1, 512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 23
  | .vmem => 16
  | .smem => 0
  | _ => 0

abbrev bufTy : (tb : Table) → Fin (tcTables nBuf tb) → BufTy
  | .hbm, ⟨0, _⟩ => ⟨S128x8x1024, .f32⟩
  | .hbm, ⟨1, _⟩ => ⟨S1024x512, .bf16⟩
  | .hbm, ⟨2, _⟩ => ⟨S1024x512, .bf16⟩
  | .hbm, ⟨3, _⟩ => ⟨S1024x2048, .bf16⟩
  | .hbm, ⟨4, _⟩ => ⟨S1x2x512x1024, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1024, .f32⟩
  | .hbm, ⟨10, _⟩ => ⟨S1024x1024, .f32⟩
  | .hbm, ⟨11, _⟩ => ⟨S2x512x1024, .f32⟩
  | .hbm, ⟨12, _⟩ => ⟨S2x512x1024, .bf16⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S1024x5632, .f32⟩
  | .hbm, ⟨18, _⟩ => ⟨S1024x5632, .bf16⟩
  | .hbm, ⟨19, _⟩ => ⟨S2816x1024, .f32⟩
  | .hbm, ⟨20, _⟩ => ⟨S2816x1024, .bf16⟩
  | .hbm, ⟨21, _⟩ => ⟨S1x1024, .f32⟩
  | .hbm, ⟨22, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S2x512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixffnSRefIdeal.lean ====
abbrev S128x8x1024 : Shape := ⟨3, ![128, 8, 1024]⟩
abbrev S1024x512 : Shape := ⟨2, ![1024, 512]⟩
abbrev S1024x2048 : Shape := ⟨2, ![1024, 2048]⟩
abbrev S1x2x512x1024 : Shape := ⟨4, ![1, 2, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S128x8x512 : Shape := ⟨3, ![128, 8, 512]⟩
abbrev S128x8x1x512 : Shape := ⟨4, ![128, 8, 1, 512]⟩
abbrev S128x8x2x512 : Shape := ⟨4, ![128, 8, 2, 512]⟩
abbrev S128x8x2x1024 : Shape := ⟨4, ![128, 8, 2, 1024]⟩
abbrev S2x512x1024 : Shape := ⟨3, ![2, 512, 1024]⟩
abbrev S2x1024x128x8 : Shape := ⟨4, ![2, 1024, 128, 8]⟩
abbrev S_ : Shape := ⟨0, ![]⟩
abbrev S1024x1024 : Shape := ⟨2, ![1024, 1024]⟩
abbrev S128x8 : Shape := ⟨2, ![128, 8]⟩
abbrev S128x8x1 : Shape := ⟨3, ![128, 8, 1]⟩
abbrev S1x1x1024 : Shape := ⟨3, ![1, 1, 1024]⟩
abbrev S1024x5632 : Shape := ⟨2, ![1024, 5632]⟩
abbrev S2816x1024 : Shape := ⟨2, ![2816, 1024]⟩
abbrev S128x8x5632 : Shape := ⟨3, ![128, 8, 5632]⟩
abbrev S128x8x2816 : Shape := ⟨3, ![128, 8, 2816]⟩

abbrev nBuf : Space → Nat
  | .hbm => 79
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024x512, .bf16⟩
  | .hbm, ⟨2, _⟩ => ⟨S1024x512, .bf16⟩
  | .hbm, ⟨3, _⟩ => ⟨S1024x2048, .bf16⟩
  | .hbm, ⟨4, _⟩ => ⟨S1x2x512x1024, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1024, .f32⟩
  | .hbm, ⟨10, _⟩ => ⟨S1024x512, .f32⟩
  | .hbm, ⟨11, _⟩ => ⟨S128x8x512, .f32⟩
  | .hbm, ⟨12, _⟩ => ⟨S1024x512, .f32⟩
  | .hbm, ⟨13, _⟩ => ⟨S128x8x512, .f32⟩
  | .hbm, ⟨14, _⟩ => ⟨S128x8x1x512, .f32⟩
  | .hbm, ⟨15, _⟩ => ⟨S128x8x1x512, .f32⟩
  | .hbm, ⟨16, _⟩ => ⟨S128x8x2x512, .f32⟩
  | .hbm, ⟨17, _⟩ => ⟨S1024x2048, .f32⟩
  | .hbm, ⟨18, _⟩ => ⟨S128x8x2x1024, .f32⟩
  | .hbm, ⟨19, _⟩ => ⟨S2x512x1024, .f32⟩
  | .hbm, ⟨20, _⟩ => ⟨S2x1024x128x8, .f32⟩
  | .hbm, ⟨21, _⟩ => ⟨S128x8x2x1024, .f32⟩
  | .hbm, ⟨22, _⟩ => ⟨S128x8x2x1024, .f32⟩
  | .hbm, ⟨23, _⟩ => ⟨S_, .f32⟩
  | .hbm, ⟨24, _⟩ => ⟨S128x8x1024, .f32⟩
  | .hbm, ⟨25, _⟩ => ⟨S1024x1024, .f32⟩
  | .hbm, ⟨26, _⟩ => ⟨S128x8x1024, .f32⟩
  | .hbm, ⟨27, _⟩ => ⟨S128x8x1024, .f32⟩
  | .hbm, ⟨28, _⟩ => ⟨S1024, .f32⟩
  | .hbm, ⟨29, _⟩ => ⟨S128x8x1024, .f32⟩
  | .hbm, ⟨30, _⟩ => ⟨S_, .f32⟩
  | .hbm, ⟨31, _⟩ => ⟨S128x8, .f32⟩
  | .hbm, ⟨32, _⟩ => ⟨S128x8x1, .f32⟩
  | .hbm, ⟨33, _⟩ => ⟨S_, .f32⟩
  | .hbm, ⟨34, _⟩ => ⟨S128x8x1, .f32⟩
  | .hbm, ⟨35, _⟩ => ⟨S128x8x1, .f32⟩
  | .hbm, ⟨36, _⟩ => ⟨S_, .f32⟩
  | .hbm, ⟨37, _⟩ => ⟨S128x8x1, .f32⟩
  | .hbm, ⟨38, _⟩ => ⟨S128x8x1, .f32⟩
  | .hbm, ⟨39, _⟩ => ⟨S128x8x1, .f32⟩
  | .hbm, ⟨40, _⟩ => ⟨S128x8x1024, .f32⟩
  | .hbm, ⟨41, _⟩ => ⟨S128x8x1024, .f32⟩
  | .hbm, ⟨42, _⟩ => ⟨S1x1x1024, .f32⟩
  | .hbm, ⟨43, _⟩ => ⟨S128x8x1024, .f32⟩
  | .hbm, ⟨44, _⟩ => ⟨S128x8x1024, .f32⟩
  | .hbm, ⟨45, _⟩ => ⟨S1024x5632, .f32⟩
  | .hbm, ⟨46, _⟩ => ⟨S2816x1024, .f32⟩
  | .hbm, ⟨47, _⟩ => ⟨S128x8x5632, .f32⟩
  | .hbm, ⟨48, _⟩ => ⟨S128x8x2816, .f32⟩
  | .hbm, ⟨49, _⟩ => ⟨S128x8x2816, .f32⟩
  | .hbm, ⟨50, _⟩ => ⟨S128x8x2816, .f32⟩
  | .hbm, ⟨51, _⟩ => ⟨S128x8x2816, .f32⟩
  | .hbm, ⟨52, _⟩ => ⟨S_, .f32⟩
  | .hbm, ⟨53, _⟩ => ⟨S128x8x2816, .f32⟩
  | .hbm, ⟨54, _⟩ => ⟨S128x8x2816, .f32⟩
  | .hbm, ⟨55, _⟩ => ⟨S_, .f32⟩
  | .hbm, ⟨56, _⟩ => ⟨S128x8x2816, .f32⟩
  | .hbm, ⟨57, _⟩ => ⟨S128x8x2816, .f32⟩
  | .hbm, ⟨58, _⟩ => ⟨S128x8x2816, .f32⟩
  | .hbm, ⟨59, _⟩ => ⟨S128x8x2816, .f32⟩
  | .hbm, ⟨60, _⟩ => ⟨S128x8x1024, .f32⟩
  | .hbm, ⟨61, _⟩ => ⟨S128x8x1024, .f32⟩
  | .hbm, ⟨62, _⟩ => ⟨S128x8x1024, .f32⟩
  | .hbm, ⟨63, _⟩ => ⟨S_, .f32⟩
  | .hbm, ⟨64, _⟩ => ⟨S128x8, .f32⟩
  | .hbm, ⟨65, _⟩ => ⟨S128x8x1, .f32⟩
  | .hbm, ⟨66, _⟩ => ⟨S_, .f32⟩
  | .hbm, ⟨67, _⟩ => ⟨S128x8x1, .f32⟩
  | .hbm, ⟨68, _⟩ => ⟨S128x8x1, .f32⟩
  | .hbm, ⟨69, _⟩ => ⟨S_, .f32⟩
  | .hbm, ⟨70, _⟩ => ⟨S128x8x1, .f32⟩
  | .hbm, ⟨71, _⟩ => ⟨S128x8x1, .f32⟩
  | .hbm, ⟨72, _⟩ => ⟨S128x8x1, .f32⟩
  | .hbm, ⟨73, _⟩ => ⟨S128x8x1024, .f32⟩
  | .hbm, ⟨74, _⟩ => ⟨S128x8x1024, .f32⟩
  | .hbm, ⟨75, _⟩ => ⟨S1x1x1024, .f32⟩
  | .hbm, ⟨76, _⟩ => ⟨S128x8x1024, .f32⟩
  | .hbm, ⟨77, _⟩ => ⟨S128x8x1024, .f32⟩
  | .hbm, ⟨78, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== HgrnS.lean ====
abbrev S1024x2048 : Shape := ⟨2, ![1024, 2048]⟩
abbrev S1x128x4x128x128 : Shape := ⟨5, ![1, 128, 4, 128, 128]⟩
abbrev S2x512 : Shape := ⟨2, ![2, 512]⟩
abbrev S128 : Shape := ⟨1, ![128]⟩
abbrev S128x8x2048 : Shape := ⟨3, ![128, 8, 2048]⟩
abbrev S_ : Shape := ⟨0, ![]⟩
abbrev S128x16x2048 : Shape := ⟨3, ![128, 16, 2048]⟩
abbrev S2048x2048 : Shape := ⟨2, ![2048, 2048]⟩
abbrev S128x4x128x128 : Shape := ⟨4, ![128, 4, 128, 128]⟩
abbrev S1x128 : Shape := ⟨2, ![1, 128]⟩
abbrev S1x16x16 : Shape := ⟨3, ![1, 16, 16]⟩
abbrev S4x16x16 : Shape := ⟨3, ![4, 16, 16]⟩
abbrev S2x16x16 : Shape := ⟨3, ![2, 16, 16]⟩
abbrev S4x1x16x16 : Shape := ⟨4, ![4, 1, 16, 16]⟩
abbrev S4x2x16x16 : Shape := ⟨4, ![4, 2, 16, 16]⟩
abbrev S8x16x16 : Shape := ⟨3, ![8, 16, 16]⟩
abbrev S10x16x16 : Shape := ⟨3, ![10, 16, 16]⟩
abbrev S160x16 : Shape := ⟨2, ![160, 16]⟩
abbrev S5x16x16 : Shape := ⟨3, ![5, 16, 16]⟩
abbrev S2048x512 : Shape := ⟨2, ![2048, 512]⟩
abbrev S16x2048 : Shape := ⟨2, ![16, 2048]⟩
abbrev S1x4x128x128 : Shape := ⟨4, ![1, 4, 128, 128]⟩
abbrev S16x512 : Shape := ⟨2, ![16, 512]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S512 : Shape := ⟨1, ![512]⟩
abbrev S1x512 : Shape := ⟨2, ![1, 512]⟩
abbrev S160x512 : Shape := ⟨2, ![160, 512]⟩
abbrev S16x128 : Shape := ⟨2, ![16, 128]⟩
abbrev S16x16 : Shape := ⟨2, ![16, 16]⟩
abbrev S16 : Shape := ⟨1, ![16]⟩
abbrev S16x1 : Shape := ⟨2, ![16, 1]⟩

abbrev nBuf : Space → Nat
  | .hbm => 82
  | .vmem => 13
  | .smem => 0
  | _ => 0

abbrev bufTy : (tb : Table) → Fin (tcTables nBuf tb) → BufTy
  | .hbm, ⟨0, _⟩ => ⟨S1024x2048, .f32⟩
  | .hbm, ⟨1, _⟩ => ⟨S1x128x4x128x128, .f32⟩
  | .hbm, ⟨2, _⟩ => ⟨S2x512, .f32⟩
  | .hbm, ⟨3, _⟩ => ⟨S128, .f32⟩
  | .hbm, ⟨4, _⟩ => ⟨S128x8x2048, .f32⟩
  | .hbm, ⟨5, _⟩ => ⟨S_, .i32⟩
  | .hbm, ⟨6, _⟩ => ⟨S_, .f32⟩
  | .hbm, ⟨7, _⟩ => ⟨S128x16x2048, .f32⟩
  | .hbm, ⟨8, _⟩ => ⟨S2048x2048, .f32⟩
  | .hbm, ⟨9, _⟩ => ⟨S128x4x128x128, .f32⟩
  | .hbm, ⟨10, _⟩ => ⟨S1x128, .f32⟩
  | .hbm, ⟨11, _⟩ => ⟨S1x16x16, .i32⟩
  | .hbm, ⟨12, _⟩ => ⟨S1x16x16, .i32⟩
  | .hbm, ⟨13, _⟩ => ⟨S4x16x16, .i32⟩
  | .hbm, ⟨14, _⟩ => ⟨S4x16x16, .i32⟩
  | .hbm, ⟨15, _⟩ => ⟨S4x16x16, .i32⟩
  | .hbm, ⟨16, _⟩ => ⟨S_, .i32⟩
  | .hbm, ⟨17, _⟩ => ⟨S4x16x16, .i32⟩
  | .hbm, ⟨18, _⟩ => ⟨S4x16x16, .i32⟩
  | .hbm, ⟨19, _⟩ => ⟨S_, .i32⟩
  | .hbm, ⟨20, _⟩ => ⟨S4x16x16, .i32⟩
  | .hbm, ⟨21, _⟩ => ⟨S4x16x16, .i32⟩
  | .hbm, ⟨22, _⟩ => ⟨S4x16x16, .i32⟩
  | .hbm, ⟨23, _⟩ => ⟨S_, .i32⟩
  | .hbm, ⟨24, _⟩ => ⟨S4x16x16, .i32⟩
  | .hbm, ⟨25, _⟩ => ⟨S4x16x16, .i32⟩
  | .hbm, ⟨26, _⟩ => ⟨S4x16x16, .i32⟩
  | .hbm, ⟨27, _⟩ => ⟨S4x16x16, .i32⟩
  | .hbm, ⟨28, _⟩ => ⟨S_, .i32⟩
  | .hbm, ⟨29, _⟩ => ⟨S4x16x16, .i32⟩
  | .hbm, ⟨30, _⟩ => ⟨S4x16x16, .i32⟩
  | .hbm, ⟨31, _⟩ => ⟨S4x16x16, .i32⟩
  | .hbm, ⟨32, _⟩ => ⟨S4x16x16, .i1⟩
  | .hbm, ⟨33, _⟩ => ⟨S4x16x16, .i1⟩
  | .hbm, ⟨34, _⟩ => ⟨S4x16x16, .i1⟩
  | .hbm, ⟨35, _⟩ => ⟨S4x16x16, .i1⟩
  | .hbm, ⟨36, _⟩ => ⟨S4x16x16, .i1⟩
  | .hbm, ⟨37, _⟩ => ⟨S4x16x16, .i1⟩
  | .hbm, ⟨38, _⟩ => ⟨S4x16x16, .i1⟩
  | .hbm, ⟨39, _⟩ => ⟨S4x16x16, .i1⟩
  | .hbm, ⟨40, _⟩ => ⟨S4x16x16, .i1⟩
  | .hbm, ⟨41, _⟩ => ⟨S4x16x16, .i1⟩
  | .hbm, ⟨42, _⟩ => ⟨S_, .i32⟩
  | .hbm, ⟨43, _⟩ => ⟨S4x16x16, .i32⟩
  | .hbm, ⟨44, _⟩ => ⟨S4x16x16, .i32⟩
  | .hbm, ⟨45, _⟩ => ⟨S4x16x16, .i32⟩
  | .hbm, ⟨46, _⟩ => ⟨S_, .i32⟩
  | .hbm, ⟨47, _⟩ => ⟨S4x16x16, .i32⟩
  | .hbm, ⟨48, _⟩ => ⟨S4x16x16, .i32⟩
  | .hbm, ⟨49, _⟩ => ⟨S4x16x16, .i32⟩
  | .hbm, ⟨50, _⟩ => ⟨S4x16x16, .i1⟩
  | .hbm, ⟨51, _⟩ => ⟨S4x16x16, .i1⟩
  | .hbm, ⟨52, _⟩ => ⟨S_, .i32⟩
  | .hbm, ⟨53, _⟩ => ⟨S4x16x16, .i32⟩
  | .hbm, ⟨54, _⟩ => ⟨S4x16x16, .i32⟩
  | .hbm, ⟨55, _⟩ => ⟨S4x16x16, .i32⟩
  | .hbm, ⟨56, _⟩ => ⟨S4x16x16, .i1⟩
  | .hbm, ⟨57, _⟩ => ⟨S4x16x16, .i1⟩
  | .hbm, ⟨58, _⟩ => ⟨S1x16x16, .i1⟩
  | .hbm, ⟨59, _⟩ => ⟨S1x16x16, .i1⟩
  | .hbm, ⟨60, _⟩ => ⟨S2x16x16, .i1⟩
  | .hbm, ⟨61, _⟩ => ⟨S4x1x16x16, .i1⟩
  | .hbm, ⟨62, _⟩ => ⟨S4x1x16x16, .i1⟩
  | .hbm, ⟨63, _⟩ => ⟨S4x2x16x16, .i1⟩
  | .hbm, ⟨64, _⟩ => ⟨S8x16x16, .i1⟩
  | .hbm, ⟨65, _⟩ => ⟨S10x16x16, .i1⟩
  | .hbm, ⟨66, _⟩ => ⟨S160x16, .i1⟩
  | .hbm, ⟨67, _⟩ => ⟨S_, .f32⟩
  | .hbm, ⟨68, _⟩ => ⟨S160x16, .f32⟩
  | .hbm, ⟨69, _⟩ => ⟨S_, .f32⟩
  | .hbm, ⟨70, _⟩ => ⟨S160x16, .f32⟩
  | .hbm, ⟨71, _⟩ => ⟨S160x16, .f32⟩
  | .hbm, ⟨72, _⟩ => ⟨S1x16x16, .i1⟩
  | .hbm, ⟨73, _⟩ => ⟨S5x16x16, .i1⟩
  | .hbm, ⟨74, _⟩ => ⟨S_, .f32⟩
  | .hbm, ⟨75, _⟩ => ⟨S5x16x16, .f32⟩
  | .hbm, ⟨76, _⟩ => ⟨S_, .f32⟩
  | .hbm, ⟨77, _⟩ => ⟨S5x16x16, .f32⟩
  | .hbm, ⟨78, _⟩ => ⟨S5x16x16, .f32⟩
  | .hbm, ⟨79, _⟩ => ⟨S160x16, .bf16⟩
  | .hbm, ⟨80, _⟩ => ⟨S2048x512, .bf16⟩
  | .hbm, ⟨81, _⟩ => ⟨S128x4x128x128, .f32⟩
  | .local _ .vmem, ⟨0, _⟩ => ⟨S16x2048, .f32⟩
  | .local _ .vmem, ⟨1, _⟩ => ⟨S16x2048, .f32⟩
  | .local _ .vmem, ⟨2, _⟩ => ⟨S1x4x128x128, .f32⟩
  | .local _ .vmem, ⟨3, _⟩ => ⟨S1x4x128x128, .f32⟩
  | .local _ .vmem, ⟨4, _⟩ => ⟨S2x512, .f32⟩
  | .local _ .vmem, ⟨5, _⟩ => ⟨S1x128, .f32⟩
  | .local _ .vmem, ⟨6, _⟩ => ⟨S160x16, .bf16⟩
  | .local _ .vmem, ⟨7, _⟩ => ⟨S5x16x16, .f32⟩
  | .local _ .vmem, ⟨8, _⟩ => ⟨S16x512, .bf16⟩
  | .local _ .vmem, ⟨9, _⟩ => ⟨S16x512, .bf16⟩
  | .local _ .vmem, ⟨10, _⟩ => ⟨S1x4x128x128, .f32⟩
  | .local _ .vmem, ⟨11, _⟩ => ⟨S1x4x128x128, .f32⟩
  | .local _ .vmem, ⟨12, _⟩ => ⟨S4x128x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63_0 : Ref sig .tc := ⟨.hbm, 80, rfl⟩
abbrev main_v63_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_173 : BitVec 32 := 0#32
  let v511 : BitVec 1 := Scalar.cmpi .eq arg1 c0_i32_173
  let v512 : BitVec 32 := Scalar.extui v511
  let c0_i32_174 : BitVec 32 := 0#32
  let v513 : BitVec 1 := Scalar.cmpi .ne v512 c0_i32_174
  v513

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S160x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S5x16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== HgrnSRefIdeal.lean ====
abbrev S1024x2048 : Shape := ⟨2, ![1024, 2048]⟩
abbrev S1x128x4x128x128 : Shape := ⟨5, ![1, 128, 4, 128, 128]⟩
abbrev S2x512 : Shape := ⟨2, ![2, 512]⟩
abbrev S128 : Shape := ⟨1, ![128]⟩
abbrev S128x4x128x128 : Shape := ⟨4, ![128, 4, 128, 128]⟩
abbrev S1024x512 : Shape := ⟨2, ![1024, 512]⟩
abbrev S128x8x4x128 : Shape := ⟨4, ![128, 8, 4, 128]⟩
abbrev S_ : Shape := ⟨0, ![]⟩
abbrev S512 : Shape := ⟨1, ![512]⟩
abbrev S1x512 : Shape := ⟨2, ![1, 512]⟩
abbrev S4x128 : Shape := ⟨2, ![4, 128]⟩
abbrev S1x1x4x128 : Shape := ⟨4, ![1, 1, 4, 128]⟩
abbrev S8x8 : Shape := ⟨2, ![8, 8]⟩
abbrev S1x8x8x1x1 : Shape := ⟨5, ![1, 8, 8, 1, 1]⟩
abbrev S128x4x128x8 : Shape := ⟨4, ![128, 4, 128, 8]⟩
abbrev S128x8x1x4x128 : Shape := ⟨5, ![128, 8, 1, 4, 128]⟩
abbrev S128x1x8x4x128 : Shape := ⟨5, ![128, 1, 8, 4, 128]⟩
abbrev S128x8x8x4x128 : Shape := ⟨5, ![128, 8, 8, 4, 128]⟩
abbrev S128x8x4x8 : Shape := ⟨4, ![128, 8, 4, 8]⟩
abbrev S128x8x8x4 : Shape := ⟨4, ![128, 8, 8, 4]⟩
abbrev S128x1x4x128 : Shape := ⟨4, ![128, 1, 4, 128]⟩
abbrev S128x4x128 : Shape := ⟨3, ![128, 4, 128]⟩
abbrev S128x4x128x1 : Shape := ⟨4, ![128, 4, 128, 1]⟩
abbrev S128x8x4 : Shape := ⟨3, ![128, 8, 4]⟩
abbrev S128x8x4x1 : Shape := ⟨4, ![128, 8, 4, 1]⟩
abbrev S1x1x1x128 : Shape := ⟨4, ![1, 1, 1, 128]⟩
abbrev S128x8x512 : Shape := ⟨3, ![128, 8, 512]⟩
abbrev S128x16x512 : Shape := ⟨3, ![128, 16, 512]⟩
abbrev S2048x512 : Shape := ⟨2, ![2048, 512]⟩

abbrev nBuf : Space → Nat
  | .hbm => 138
  | .vmem => 0
  | .smem => 0
  | _ => 0

abbrev hbmTy0_0 (i : Nat) : BufTy := match i % 128 with
  | 0 => ⟨S1024x2048, .f32⟩
  | 1 => ⟨S1x128x4x128x128, .f32⟩
  | 2 => ⟨S2x512, .f32⟩
  | 3 => ⟨S128, .f32⟩
  | 4 => ⟨S128x4x128x128, .f32⟩
  | 5 => ⟨S1024x512, .f32⟩
  | 6 => ⟨S128x8x4x128, .f32⟩
  | 7 => ⟨S1024x512, .f32⟩
  | 8 => ⟨S128x8x4x128, .f32⟩
  | 9 => ⟨S1024x512, .f32⟩
  | 10 => ⟨S128x8x4x128, .f32⟩
  | 11 => ⟨S_, .f32⟩
  | 12 => ⟨S512, .f32⟩
  | 13 => ⟨S_, .f32⟩
  | 14 => ⟨S512, .f32⟩
  | 15 => ⟨S512, .f32⟩
  | 16 => ⟨S1x512, .f32⟩
  | 17 => ⟨S2x512, .f32⟩
  | 18 => ⟨S2x512, .f32⟩
  | 19 => ⟨S2x512, .f32⟩
  | 20 => ⟨S_, .f32⟩
  | 21 => ⟨S512, .f32⟩
  | 22 => ⟨S1x512, .f32⟩
  | 23 => ⟨S2x512, .f32⟩
  | 24 => ⟨S2x512, .f32⟩
  | 25 => ⟨S_, .f32⟩
  | 26 => ⟨S_, .f32⟩
  | 27 => ⟨S2x512, .f32⟩
  | 28 => ⟨S1x512, .f32⟩
  | 29 => ⟨S512, .f32⟩
  | 30 => ⟨S4x128, .f32⟩
  | 31 => ⟨S_, .f32⟩
  | 32 => ⟨S4x128, .f32⟩
  | 33 => ⟨S4x128, .f32⟩
  | 34 => ⟨S128x8x4x128, .f32⟩
  | 35 => ⟨S128x8x4x128, .f32⟩
  | 36 => ⟨S_, .f32⟩
  | 37 => ⟨S128x8x4x128, .f32⟩
  | 38 => ⟨S128x8x4x128, .f32⟩
  | 39 => ⟨S_, .f32⟩
  | 40 => ⟨S128x8x4x128, .f32⟩
  | 41 => ⟨S128x8x4x128, .f32⟩
  | 42 => ⟨S1x1x4x128, .f32⟩
  | 43 => ⟨S128x8x4x128, .f32⟩
  | 44 => ⟨S128x8x4x128, .f32⟩
  | 45 => ⟨S1x1x4x128, .f32⟩
  | 46 => ⟨S128x8x4x128, .f32⟩
  | 47 => ⟨S128x8x4x128, .f32⟩
  | 48 => ⟨S128x8x4x128, .f32⟩
  | 49 => ⟨S_, .f32⟩
  | 50 => ⟨S128x8x4x128, .f32⟩
  | 51 => ⟨S128x8x4x128, .f32⟩
  | 52 => ⟨S_, .i1⟩
  | 53 => ⟨S8x8, .i1⟩
  | 54 => ⟨S8x8, .i32⟩
  | 55 => ⟨S_, .i32⟩
  | 56 => ⟨S8x8, .i32⟩
  | 57 => ⟨S8x8, .i32⟩
  | 58 => ⟨S8x8, .i32⟩
  | 59 => ⟨S8x8, .i1⟩
  | 60 => ⟨S_, .i1⟩
  | 61 => ⟨S8x8, .i1⟩
  | 62 => ⟨S8x8, .i1⟩
  | 63 => ⟨S1x8x8x1x1, .i1⟩
  | 64 => ⟨S_, .f32⟩
  | 65 => ⟨S_, .f32⟩
  | 66 => ⟨S128x8x4x128, .f32⟩
  | 67 => ⟨S128x8x4x128, .f32⟩
  | 68 => ⟨S128x8x4x128, .f32⟩
  | 69 => ⟨S128x4x128x8, .f32⟩
  | 70 => ⟨S128x8x4x128, .f32⟩
  | 71 => ⟨S128x8x1x4x128, .f32⟩
  | 72 => ⟨S128x1x8x4x128, .f32⟩
  | 73 => ⟨S128x8x8x4x128, .f32⟩
  | 74 => ⟨S128x8x8x4x128, .f32⟩
  | 75 => ⟨S128x8x8x4x128, .f32⟩
  | 76 => ⟨S_, .f32⟩
  | 77 => ⟨S_, .f32⟩
  | 78 => ⟨S128x8x8x4x128, .i1⟩
  | 79 => ⟨S128x8x8x4x128, .f32⟩
  | 80 => ⟨S128x8x8x4x128, .f32⟩
  | 81 => ⟨S128x8x8x4x128, .f32⟩
  | 82 => ⟨S128x1x8x4x128, .f32⟩
  | 83 => ⟨S128x8x8x4x128, .f32⟩
  | 84 => ⟨S128x8x8x4x128, .f32⟩
  | 85 => ⟨S128x8x4x8, .f32⟩
  | 86 => ⟨S128x8x8x4, .f32⟩
  | 87 => ⟨S128x4x128x8, .f32⟩
  | 88 => ⟨S128x8x4x128, .f32⟩
  | 89 => ⟨S128x1x4x128, .f32⟩
  | 90 => ⟨S128x4x128, .f32⟩
  | 91 => ⟨S128x4x128, .f32⟩
  | 92 => ⟨S128x4x128x1, .f32⟩
  | 93 => ⟨S128x4x128x128, .f32⟩
  | 94 => ⟨S128x4x128x128, .f32⟩
  | 95 => ⟨S128x1x4x128, .f32⟩
  | 96 => ⟨S128x8x4x128, .f32⟩
  | 97 => ⟨S128x8x4x128, .f32⟩
  | 98 => ⟨S128x8x4x128, .f32⟩
  | 99 => ⟨S128x8x4x128, .f32⟩
  | 100 => ⟨S128x4x128x128, .f32⟩
  | 101 => ⟨S128x4x128x128, .f32⟩
  | 102 => ⟨S128x8x4x128, .f32⟩
  | 103 => ⟨S1024x512, .f32⟩
  | 104 => ⟨S128x8x4x128, .f32⟩
  | 105 => ⟨S128x8x4x128, .f32⟩
  | 106 => ⟨S_, .f32⟩
  | 107 => ⟨S128x8x4, .f32⟩
  | 108 => ⟨S128x8x4x1, .f32⟩
  | 109 => ⟨S_, .f32⟩
  | 110 => ⟨S128x8x4x1, .f32⟩
  | 111 => ⟨S128x8x4x1, .f32⟩
  | 112 => ⟨S_, .f32⟩
  | 113 => ⟨S128x8x4x1, .f32⟩
  | 114 => ⟨S128x8x4x1, .f32⟩
  | 115 => ⟨S128x8x4x1, .f32⟩
  | 116 => ⟨S128x8x4x128, .f32⟩
  | 117 => ⟨S128x8x4x128, .f32⟩
  | 118 => ⟨S1x1x1x128, .f32⟩
  | 119 => ⟨S128x8x4x128, .f32⟩
  | 120 => ⟨S128x8x4x128, .f32⟩
  | 121 => ⟨S128x8x4x128, .f32⟩
  | 122 => ⟨S128x8x4x128, .f32⟩
  | 123 => ⟨S_, .f32⟩
  | 124 => ⟨S128x8x4x128, .f32⟩
  | 125 => ⟨S128x8x4x128, .f32⟩
  | 126 => ⟨S_, .f32⟩
  | 127 => ⟨S128x8x4x128, .f32⟩
  | _ => ⟨S1024x2048, .f32⟩

abbrev hbmTy0_1 (i : Nat) : BufTy := match i % 128 with
  | 0 => ⟨S128x8x4x128, .f32⟩
  | 1 => ⟨S128x8x4x128, .f32⟩
  | 2 => ⟨S128x8x4x128, .f32⟩
  | 3 => ⟨S1024x512, .f32⟩
  | 4 => ⟨S1024x512, .bf16⟩
  | 5 => ⟨S128x8x512, .bf16⟩
  | 6 => ⟨S_, .i32⟩
  | 7 => ⟨S_, .bf16⟩
  | 8 => ⟨S128x16x512, .bf16⟩
  | 9 => ⟨S2048x512, .bf16⟩
  | _ => ⟨S1024x2048, .f32⟩

abbrev hbmTy (i : Nat) : BufTy := match i / 128 with
  | 0 => hbmTy0_0 i
  | 1 => hbmTy0_1 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_call0_cst : Ref sig .tc := ⟨.hbm, 25, rfl⟩
abbrev main_call0_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_v39 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_0 : Ref sig .tc := ⟨.hbm, 60, rfl⟩
abbrev main_call1_v5 : Ref sig .tc := ⟨.hbm, 61, rfl⟩
abbrev main_v40 : Ref sig .tc := ⟨.hbm, 62, rfl⟩
abbrev main_v41 : Ref sig .tc := ⟨.hbm, 63, rfl⟩
abbrev main_call2_call0_cst : Ref sig .tc := ⟨.hbm, 64, rfl⟩
abbrev main_call2_call0_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_7 : Ref sig .tc := ⟨.hbm, 106, rfl⟩
abbrev main_v78 : Ref sig .tc := ⟨.hbm, 107, rfl⟩
abbrev main_v79 : Ref sig .tc := ⟨.hbm, 108, rfl⟩
abbrev main_cst_8 : Ref sig .tc := ⟨.hbm, 109, rfl⟩
abbrev main_v80 : Ref sig .tc := ⟨.hbm, 110, rfl⟩
abbrev main_v81 : Ref sig .tc := ⟨.hbm, 111, rfl⟩
abbrev main_cst_9 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_call4_v0 : Ref sig .tc := ⟨.hbm, 121, rfl⟩
abbrev main_call4_v1 : Ref sig .tc := ⟨.hbm, 122, rfl⟩
abbrev main_call4_cst : Ref sig .tc := ⟨.hbm, 123, rfl⟩
abbrev main_call4_v2 : Ref sig .tc := ⟨.hbm, 124, rfl⟩
abbrev main_call4_v3 : Ref sig .tc := ⟨.hbm, 125, rfl⟩
abbrev main_call4_cst_0 : Ref sig .tc := ⟨.hbm, 126, rfl⟩
abbrev main_call4_v4 : Ref sig .tc := ⟨.hbm, 127, rfl⟩
abbrev main_call4_v5 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_10 : Ref sig .tc := ⟨.hbm, 134, rfl⟩
abbrev main_call5_v0 : Ref sig .tc := ⟨.hbm, 135, rfl⟩
abbrev main_v95 : Ref sig .tc := ⟨.hbm, 136, rfl⟩
abbrev main_v96 : Ref sig .tc := ⟨.hbm, 137, rfl⟩

abbrev nD : Nat := 1
abbrev τ : Topo := Topo.v7x

variable {F : FTy → Type} [FloatOps F]
-- ==== Proof.HgrnBlock.lean ====
/- One grid point of the recurrence kernel, as a function of its blocks: the four heads are one text. -/
module
public import proofs.«01_k».proof.Proof.Gen.HgrnIdeal.Value
public import Idealize.ShloMosaic.Lib.Pointwise
public import Idealize.ShloMosaic.Lib.Pipeline.ReadBack
@[expose] public section
set_option maxRecDepth 16384
noncomputable section
namespace Cert.HgrnProof
open Idealize.ShloMosaic Idealize.ShloMosaic.TcCoe Idealize.ShloMosaic.Tactic
open Cert.HgrnIdeal Cert.HgrnIdeal.Gen
variable {F : FTy → Type} [FloatOps F]

/-- Columns of head `h` of a block of 512 columns. -/
def col {φ : FTy} (h : Fin 4) (x : FVec F S128x512 φ) : FVec F S128x128 φ :=
  extractStridedSlice S128x128 ![0, 128 * h.val] x (by fin_cases h <;> decide)
/-- Band `r` of the sums, columns of head `h`. -/
def blk (r : Fin 16) (h : Fin 4) (x : FVec F S2048x512 .f32) : FVec F S128x128 .f32 :=
  extractStridedSlice S128x128 ![128 * r.val, 128 * h.val] x ⟨rfl, fun a => by fin_cases h <;> fin_cases a <;> simp [S128x128, S2048x512] <;> omega⟩
/-- The whole chunk's sum, columns of head `h`. -/
def lastRow (h : Fin 4) (x : FVec F S2048x512 .f32) : FVec F S1x128 .f32 :=
  extractStridedSlice S1x128 ![127, 128 * h.val] x (by fin_cases h <;> decide)

/-- The state of a head after the chunk. -/
def headS (k : FVec F S128x128 .f32) (v : FVec F S128x128 .bf16) (eEnd : FVec F S128x128 .f32) (eLast : FVec F S1x128 .f32)
    (st : FVec F S128x128 .f32) : FVec F S128x128 .f32 :=
  addf (mulf st (broadcastTo S128x128 (exp eLast) broadcasts_S1x128_S128x128))
    (matmul dot_S128x128_S128x128_S128x128_0_0_1_1_n_n none v (truncf .bf16 (mulf k (exp eEnd)) bitsLt_bf16_f32)
      (constant S128x128 .f32 0x00000000#32))

/-- One level's scores: the masked product of decayed queries and decayed keys. -/
def headL (q k eq ek : FVec F S128x128 .f32) (mk : FVec F S1x128x128 .f32) : FVec F S128x128 .f32 :=
  mulf (shapeCast S128x128 mk shapeCasts_S1x128x128_S128x128)
    (matmul dot_S128x128_S128x128_S128x128_1_1_0_0_n_n none (truncf .bf16 (mulf q (exp eq)) bitsLt_bf16_f32)
      (truncf .bf16 (mulf k (exp ek)) bitsLt_bf16_f32) (constant S128x128 .f32 0x00000000#32))

/-- The chunk's scores: the diagonal and the seven levels. -/
def headA (q k : FVec F S128x128 .f32) (E : Fin 16 → FVec F S128x128 .f32) (mk : Fin 8 → FVec F S1x128x128 .f32) :
    FVec F S128x128 .f32 :=
  addf (addf (addf (addf (addf (addf (addf
    (mulf (shapeCast S128x128 (mk 0) shapeCasts_S1x128x128_S128x128)
      (matmul dot_S128x128_S128x128_S128x128_1_1_0_0_n_n none (truncf .bf16 q bitsLt_bf16_f32)
        (truncf .bf16 k bitsLt_bf16_f32) (constant S128x128 .f32 0x00000000#32)))
    (headL q k (E 2) (E 3) (mk 1))) (headL q k (E 4) (E 5) (mk 2))) (headL q k (E 6) (E 7) (mk 3)))
    (headL q k (E 8) (E 9) (mk 4))) (headL q k (E 10) (E 11) (mk 5))) (headL q k (E 12) (E 13) (mk 6)))
    (headL q k (E 14) (E 15) (mk 7))

/-- What a head reads: the scores against the values, and the decayed queries against the old state. -/
def headO (q k : FVec F S128x128 .f32) (v : FVec F S128x128 .bf16) (E : Fin 16 → FVec F S128x128 .f32)
    (mk : Fin 8 → FVec F S1x128x128 .f32) (st : FVec F S128x128 .f32) : FVec F S128x128 .f32 :=
  addf (matmul dot_S128x128_S128x128_S128x128_1_0_0_1_n_n none (truncf .bf16 (headA q k E mk) bitsLt_bf16_f32) v
      (constant S128x128 .f32 0x00000000#32))
    (matmul dot_S128x128_S128x128_S128x128_1_1_0_0_n_n none (truncf .bf16 (mulf q (exp (E 0))) bitsLt_bf16_f32)
      (truncf .bf16 st bitsLt_bf16_f32) (constant S128x128 .f32 0x00000000#32))

/-- The loads of a point: queries, gate inputs, values, and the gate of head `h`. -/
def ldQ (x0 : Vec F S128x2048 .f32) : Vec F S128x512 .f32 := View.ld x0 (Rect.unit ![0, 0] S128x512.size inb_S128x2048_S128x512_0_0)
def ldF (x0 : Vec F S128x2048 .f32) : Vec F S128x512 .f32 := View.ld x0 (Rect.unit ![0, 512] S128x512.size inb_S128x2048_S128x512_0_512)
def ldV (x0 : Vec F S128x2048 .f32) : Vec F S128x512 .f32 := View.ld x0 (Rect.unit ![0, 1024] S128x512.size inb_S128x2048_S128x512_0_1024)
def ldB (x2 : Vec F S2x512 .f32) : Vec F S2x512 .f32 := View.ld x2 (Rect.unit ![0, 0] S2x512.size inb_S2x512_S2x512_0_0)
def ldW (x4 : Vec F S2048x128 .bf16) : Vec F S2048x128 .bf16 := View.ld x4 (Rect.unit ![0, 0] S2048x128.size inb_S2048x128_S2048x128_0_0)
def ldN (x3 : Vec F S1x128 .f32) : Vec F S1x128 .f32 := View.ld x3 (Rect.unit ![0, 0] S1x128.size inb_S1x128_S1x128_0_0)
def ldG (x0 : Vec F S128x2048 .f32) (h : Fin 4) : Vec F S128x128 .f32 :=
  View.ld x0 (Rect.unit ![0, 1536 + 128 * h.val] S128x128.size (fun a => by fin_cases h <;> fin_cases a <;> decide))
def ldM (x5 : Vec F S8x128x128 .f32) (l : Fin 8) : Vec F S1x128x128 .f32 :=
  View.ld x5 (Rect.unit ![l.val, 0, 0] S1x128x128.size (fun a => by fin_cases l <;> fin_cases a <;> decide))
def ldS (xs : Vec F S4x128x128 .f32) (h : Fin 4) : Vec F S1x128x128 .f32 :=
  View.ld xs (Rect.unit ![h.val, 0, 0] S1x128x128.size (fun a => by fin_cases h <;> fin_cases a <;> decide))

/-- The keys and the sums of the log decays of a point. -/
def kk (x0 : Vec F S128x2048 .f32) (x2 : Vec F S2x512 .f32) : FVec F S128x512 .f32 := k0_pay11 (ldB x2) (ldF x0)
def ex (x0 : Vec F S128x2048 .f32) (x2 : Vec F S2x512 .f32) (x4 : Vec F S2048x128 .bf16) : FVec F S2048x512 .f32 :=
  k0_pay15 (k0_pay12 (ldB x2) (ldF x0)) (k0_pay13 (ldB x2) (ldF x0)) (k0_pay14 (ldB x2) (ldF x0)) (ldW x4)

/-- The state of head `h` after a point, of the state loaded before it. -/
def ptS (x0 : Vec F S128x2048 .f32) (x2 : Vec F S2x512 .f32) (x4 : Vec F S2048x128 .bf16) (h : Fin 4) (l : Vec F S1x128x128 .f32) :
    FVec F S128x128 .f32 :=
  headS (col h (kk x0 x2)) (truncf .bf16 (col h (ldV x0)) bitsLt_bf16_f32) (blk 1 h (ex x0 x2 x4)) (lastRow h (ex x0 x2 x4))
    (shapeCast S128x128 l shapeCasts_S1x128x128_S128x128)
/-- What head `h` reads at a point. -/
def ptO (x0 : Vec F S128x2048 .f32) (x2 : Vec F S2x512 .f32) (x4 : Vec F S2048x128 .bf16) (x5 : Vec F S8x128x128 .f32) (h : Fin 4)
    (l : Vec F S1x128x128 .f32) : FVec F S128x128 .f32 :=
  headO (col h (ldQ x0)) (col h (kk x0 x2)) (truncf .bf16 (col h (ldV x0)) bitsLt_bf16_f32) (fun r => blk r h (ex x0 x2 x4)) (ldM x5)
    (shapeCast S128x128 l shapeCasts_S1x128x128_S128x128)
/-- What head `h` stores: its read, normed and gated. -/
def ptN (x0 : Vec F S128x2048 .f32) (x2 : Vec F S2x512 .f32) (x3 : Vec F S1x128 .f32) (x4 : Vec F S2048x128 .bf16)
    (x5 : Vec F S8x128x128 .f32) (h : Fin 4) (l : Vec F S1x128x128 .f32) : FVec F S128x128 .bf16 :=
  k0_pay30 (ptO x0 x2 x4 x5 h l) (ldN x3) (ldG x0 h)
/-- The state of head `h`, laid out as the scratch keeps it. -/
def ptP (x0 : Vec F S128x2048 .f32) (x2 : Vec F S2x512 .f32) (x4 : Vec F S2048x128 .bf16) (h : Fin 4) (l : Vec F S1x128x128 .f32) :
    FVec F S1x128x128 .f32 := k0_pay29 (ptS x0 x2 x4 h l)

/-- The pieces the scratch is written in. -/
def piecesS (x0 : Vec F S128x2048 .f32) (x2 : Vec F S2x512 .f32) (x4 : Vec F S2048x128 .bf16) (l : Fin 4 → Vec F S1x128x128 .f32)
    (L : List (View.Piece (Elt F) S4x128x128 .f32)) : List (View.Piece (Elt F) S4x128x128 .f32) :=
  ⟨Rect.unit ![3, 0, 0] S1x128x128.size inb_S4x128x128_S1x128x128_3_0_0, ptP x0 x2 x4 3 (l 3)⟩ ::
  ⟨Rect.unit ![2, 0, 0] S1x128x128.size inb_S4x128x128_S1x128x128_2_0_0, ptP x0 x2 x4 2 (l 2)⟩ ::
  ⟨Rect.unit ![1, 0, 0] S1x128x128.size inb_S4x128x128_S1x128x128_1_0_0, ptP x0 x2 x4 1 (l 1)⟩ ::
  ⟨Rect.unit ![0, 0, 0] S1x128x128.size inb_S4x128x128_S1x128x128_0_0_0, ptP x0 x2 x4 0 (l 0)⟩ :: L
/-- The pieces the output block is written in. -/
def piecesO (x0 : Vec F S128x2048 .f32) (x2 : Vec F S2x512 .f32) (x3 : Vec F S1x128 .f32) (x4 : Vec F S2048x128 .bf16)
    (x5 : Vec F S8x128x128 .f32) (l : Fin 4 → Vec F S1x128x128 .f32) : List (View.Piece (Elt F) S128x512 .bf16) :=
  [⟨Rect.unit ![0, 384] S128x128.size inb_S128x512_S128x128_0_384, ptN x0 x2 x3 x4 x5 3 (l 3)⟩,
   ⟨Rect.unit ![0, 256] S128x128.size inb_S128x512_S128x128_0_256, ptN x0 x2 x3 x4 x5 2 (l 2)⟩,
   ⟨Rect.unit ![0, 128] S128x128.size inb_S128x512_S128x128_0_128, ptN x0 x2 x3 x4 x5 1 (l 1)⟩,
   ⟨Rect.unit ![0, 0] S128x128.size inb_S128x512_S128x128_0_0, ptN x0 x2 x3 x4 x5 0 (l 0)⟩]
/-- The pieces the first point of a sequence writes the given state in. -/
def piecesI (x1 : Vec F S1x4x128x128 .f32) : List (View.Piece (Elt F) S4x128x128 .f32) :=
  [⟨Rect.unit ![3, 0, 0] S1x128x128.size inb_S4x128x128_S1x128x128_3_0_0, k0_pay8 (View.ld x1 (Rect.unit ![0, 3, 0, 0] S1x1x128x128.size inb_S1x4x128x128_S1x1x128x128_0_3_0_0))⟩,
   ⟨Rect.unit ![2, 0, 0] S1x128x128.size inb_S4x128x128_S1x128x128_2_0_0, k0_pay7 (View.ld x1 (Rect.unit ![0, 2, 0, 0] S1x1x128x128.size inb_S1x4x128x128_S1x1x128x128_0_2_0_0))⟩,
   ⟨Rect.unit ![1, 0, 0] S1x128x128.size inb_S4x128x128_S1x128x128_1_0_0, k0_pay6 (View.ld x1 (Rect.unit ![0, 1, 0, 0] S1x1x128x128.size inb_S1x4x128x128_S1x1x128x128_0_1_0_0))⟩,
   ⟨Rect.unit ![0, 0, 0] S1x128x128.size inb_S4x128x128_S1x128x128_0_0_0, k0_pay5 (View.ld x1 (Rect.unit ![0, 0, 0, 0] S1x1x128x128.size inb_S1x4x128x128_S1x1x128x128_0_0_0_0))⟩]
/-- The state the first point of a sequence loads for head `h`: the given one, transposed. -/
def ini (x1 : Vec F S1x4x128x128 .f32) (h : Fin 4) : Vec F S1x128x128 .f32 :=
  k0_pay5 (View.ld x1 (Rect.unit ![0, h.val, 0, 0] S1x1x128x128.size (fun a => by fin_cases h <;> fin_cases a <;> decide)))
/-- The pieces the final state is written in. -/
def piecesE (l : Fin 4 → Vec F S1x128x128 .f32) : List (View.Piece (Elt F) S1x4x128x128 .f32) :=
  [⟨Rect.unit ![0, 3, 0, 0] S1x1x128x128.size inb_S1x4x128x128_S1x1x128x128_0_3_0_0, k0_pay1 (l 3)⟩,
   ⟨Rect.unit ![0, 2, 0, 0] S1x1x128x128.size inb_S1x4x128x128_S1x1x128x128_0_2_0_0, k0_pay1 (l 2)⟩,
   ⟨Rect.unit ![0, 1, 0, 0] S1x1x128x128.size inb_S1x4x128x128_S1x1x128x128_0_1_0_0, k0_pay1 (l 1)⟩,
   ⟨Rect.unit ![0, 0, 0, 0] S1x1x128x128.size inb_S1x4x128x128_S1x1x128x128_0_0_0_0, k0_pay1 (l 0)⟩]

section
variable (c : Dev nD) (i : grid0.Coords) (arg2 : Memref sig .tc .vmem S128x2048 .f32) (harg2 : arg2.IsWhole) (arg3 : Memref sig .tc .vmem S1x4x128x128 .f32) (harg3 : arg3.IsWhole) (arg4 : Memref sig .tc .vmem S2x512 .f32) (harg4 : arg4.IsWhole) (arg5 : Memref sig .tc .vmem S1x128 .f32) (harg5 : arg5.IsWhole) (arg6 : Memref sig .tc .vmem S2048x128 .bf16) (harg6 : arg6.IsWhole) (arg7 : Memref sig .tc .vmem S8x128x128 .f32) (harg7 : arg7.IsWhole) (arg8 : Memref sig .tc .vmem S128x512 .bf16) (harg8 : arg8.IsWhole) (arg9 : Memref sig .tc .vmem S1x4x128x128 .f32) (harg9 : arg9.IsWhole) (arg10 : Memref sig .tc .vmem S4x128x128 .f32) (harg10 : arg10.IsWhole)
  (x0 : Vec F S128x2048 .f32) (x1 : Vec F S1x4x128x128 .f32) (x2 : Vec F S2x512 .f32) (x3 : Vec F S1x128 .f32) (x4 : Vec F S2048x128 .bf16) (x5 : Vec F S8x128x128 .f32)

/-- A middle point leaves the scratch in four pieces. -/
theorem souts_B (hc0 : ¬cond0_0 i) (hc1 : ¬cond0_1 i) (xs0 : Vec F S4x128x128 .f32) :
    sout0_B_0 c i arg2 harg2 arg3 harg3 arg4 harg4 arg5 harg5 arg6 harg6 arg7 harg7 arg8 harg8 arg9 harg9 arg10 harg10 hc0 hc1 x0 x1 x2 x3 x4 x5 xs0 = View.canon (piecesS x0 x2 x4 (ldS xs0) []) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  simp only [View.readAt_eq_ld, harg2.read_unread, harg3.read_unread, harg4.read_unread, harg5.read_unread, harg6.read_unread, harg7.read_unread, harg10.read_unread]
  rfl

/-- A middle point leaves the output block in four pieces. -/
theorem outs_B (hc0 : ¬cond0_0 i) (hc1 : ¬cond0_1 i) (xs0 : Vec F S4x128x128 .f32) :
    out0_B_6 c i arg2 harg2 arg3 harg3 arg4 harg4 arg5 harg5 arg6 harg6 arg7 harg7 arg8 harg8 arg9 harg9 arg10 harg10 hc0 hc1 x0 x1 x2 x3 x4 x5 xs0 = View.canon (piecesO x0 x2 x3 x4 x5 (ldS xs0)) := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  simp only [View.readAt_eq_ld, harg2.read_unread, harg3.read_unread, harg4.read_unread, harg5.read_unread, harg6.read_unread, harg7.read_unread, harg10.read_unread]
  rfl

/-- The last point likewise. -/
theorem souts_C (hc0 : ¬cond0_0 i) (hc1 : cond0_1 i) (xs0 : Vec F S4x128x128 .f32) :
    sout0_C_0 c i arg2 harg2 arg3 harg3 arg4 harg4 arg5 harg5 arg6 harg6 arg7 harg7 arg8 harg8 arg9 harg9 arg10 harg10 hc0 hc1 x0 x1 x2 x3 x4 x5 xs0 = View.canon (piecesS x0 x2 x4 (ldS xs0) []) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  simp only [View.readAt_eq_ld, harg2.read_unread, harg3.read_unread, harg4.read_unread, harg5.read_unread, harg6.read_unread, harg7.read_unread, harg10.read_unread]
  rfl

/-- The last point likewise. -/
theorem outs_C (hc0 : ¬cond0_0 i) (hc1 : cond0_1 i) (xs0 : Vec F S4x128x128 .f32) :
    out0_C_6 c i arg2 harg2 arg3 harg3 arg4 harg4 arg5 harg5 arg6 harg6 arg7 harg7 arg8 harg8 arg9 harg9 arg10 harg10 hc0 hc1 x0 x1 x2 x3 x4 x5 xs0 = View.canon (piecesO x0 x2 x3 x4 x5 (ldS xs0)) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  simp only [View.readAt_eq_ld, harg2.read_unread, harg3.read_unread, harg4.read_unread, harg5.read_unread, harg6.read_unread, harg7.read_unread, harg10.read_unread]
  rfl

/-- The last point stores the state it leaves. -/
theorem oute_C (hc0 : ¬cond0_0 i) (hc1 : cond0_1 i) (xs0 : Vec F S4x128x128 .f32) :
    out0_C_7 c i arg2 harg2 arg3 harg3 arg4 harg4 arg5 harg5 arg6 harg6 arg7 harg7 arg8 harg8 arg9 harg9 arg10 harg10 hc0 hc1 x0 x1 x2 x3 x4 x5 xs0 = View.canon (piecesE (fun h => ptP x0 x2 x4 h (ldS xs0 h))) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  simp (disch := decide) only [↓ View.readCov_skip, ↓ View.readCov_cons_toLoadRect]
  simp only [View.readAt_eq_ld, harg2.read_unread, harg3.read_unread, harg4.read_unread, harg5.read_unread, harg6.read_unread, harg7.read_unread, harg10.read_unread]
  rfl

/-- The first point of a sequence leaves the scratch in four pieces, over the given state. -/
theorem souts_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5 = View.canon (piecesS x0 x2 x4 (ini x1) (piecesI x1)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp (disch := decide) only [↓ View.readCov_skip, ↓ View.readCov_cons_toLoadRect]
  simp only [View.readAt_eq_ld, harg2.read_unread, harg3.read_unread, harg4.read_unread, harg5.read_unread, harg6.read_unread, harg7.read_unread, harg10.read_unread]
  rfl

/-- The first point of a sequence leaves the output block in four pieces. -/
theorem outs_A (hc0 : cond0_0 i) (hc1 : ¬cond0_1 i) :
    out0_A_6 c i arg2 harg2 arg3 harg3 arg4 harg4 arg5 harg5 arg6 harg6 arg7 harg7 arg8 harg8 arg9 harg9 arg10 harg10 hc0 hc1 x0 x1 x2 x3 x4 x5 = View.canon (piecesO x0 x2 x3 x4 x5 (ini x1)) := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp (disch := decide) only [↓ View.readCov_skip, ↓ View.readCov_cons_toLoadRect]
  simp only [View.readAt_eq_ld, harg2.read_unread, harg3.read_unread, harg4.read_unread, harg5.read_unread, harg6.read_unread, harg7.read_unread, harg10.read_unread]
  rfl
end

/-- What a point leaves in the scratch, as one array. -/
def gS (x0 : Vec F S128x2048 .f32) (x2 : Vec F S2x512 .f32) (x4 : Vec F S2048x128 .bf16) (l : Fin 4 → Vec F S1x128x128 .f32) :
    Vec F S4x128x128 .f32 := fun y => ptS x0 x2 x4 (y 0) (l (y 0)) (ix2 (y 1) (y 2))
/-- What a point leaves in the output block, as one array. -/
def gO (x0 : Vec F S128x2048 .f32) (x2 : Vec F S2x512 .f32) (x3 : Vec F S1x128 .f32) (x4 : Vec F S2048x128 .bf16)
    (x5 : Vec F S8x128x128 .f32) (l : Fin 4 → Vec F S1x128x128 .f32) : Vec F S128x512 .bf16 := fun y =>
  have h : (y 1).val < 512 := (y 1).isLt
  ptN x0 x2 x3 x4 x5 ⟨(y 1).val / 128, by omega⟩ (l ⟨(y 1).val / 128, by omega⟩) (ix2 (y 0) ⟨(y 1).val % 128, by omega⟩)
/-- The final state, as one array. -/
def gE (S : Vec F S4x128x128 .f32) : Vec F S1x4x128x128 .f32 := fun y => S (ix3 (y 1) (y 3) (y 2))

end Cert.HgrnProof
-- ==== Proof.HgrnPoint.lean ====
/- What a point leaves: the pieces it stores, put together as arrays. -/
module
public import proofs.«01_k».proof.Proof.HgrnBlock
public import Idealize.ShloMosaic.Lib.Pipeline.ReadBack
public import Idealize.ShloMosaic.Lib.Pipeline.ValueKit.Tiles
@[expose] public section
set_option maxRecDepth 16384
noncomputable section
namespace Cert.HgrnProof
open Idealize.ShloMosaic Idealize.ShloMosaic.TcCoe Idealize.ShloMosaic.Tactic
open Cert.HgrnIdeal Cert.HgrnIdeal.Gen

variable {F : FTy → Type} [FloatOps F]
/-- A leading unit axis put on. -/
theorem shapeCast_lead {φ : FTy} (u : FVec F S128x128 φ) (x : S1x128x128.Idx) :
    shapeCast S1x128x128 u shapeCasts_S128x128_S1x128x128 x = u (ix2 (x 1) (x 2)) := by
  pointwise
/-- A leading unit axis dropped. -/
theorem shapeCast_drop {φ : FTy} (u : FVec F S1x128x128 φ) (x : S128x128.Idx) :
    shapeCast S128x128 u shapeCasts_S1x128x128_S128x128 x = u (ix3 0 (x 0) (x 1)) := by
  pointwise
/-- A scratch piece is a slab of the array. -/
theorem gS_piece (x0 : Vec F S128x2048 .f32) (x2 : Vec F S2x512 .f32) (x4 : Vec F S2048x128 .bf16) (l : Fin 4 → Vec F S1x128x128 .f32)
    (h : Fin 4) (x : S1x128x128.Idx) (y : S4x128x128.Idx) (e0 : (y 0).val = h.val) (e1 : (y 1).val = (x 1).val) (e2 : (y 2).val = (x 2).val) :
    ptP x0 x2 x4 h (l h) x = gS x0 x2 x4 l y := by
  have a0 : y 0 = h := Fin.ext e0
  have a1 : y 1 = x 1 := Fin.ext e1
  have a2 : y 2 = x 2 := Fin.ext e2
  unfold gS
  rw [a0, a1, a2]
  exact shapeCast_lead (ptS x0 x2 x4 h (l h)) x
/-- The scratch pieces, over anything, are the array. -/
theorem canon_S (x0 : Vec F S128x2048 .f32) (x2 : Vec F S2x512 .f32) (x4 : Vec F S2048x128 .bf16) (l : Fin 4 → Vec F S1x128x128 .f32)
    (L : List (View.Piece (Elt F) S4x128x128 .f32)) :
    View.canon (piecesS x0 x2 x4 l L) = gS x0 x2 x4 l := by
  funext y
  have hx : ∀ x : S1x128x128.Idx, (x 0).val = 0 := fun x => Nat.lt_one_iff.mp (x 0).isLt
  have hy0 : (y 0).val < 4 := (y 0).isLt
  have hy1 : (y 1).val < 128 := (y 1).isLt
  have hy2 : (y 2).val < 128 := (y 2).isLt
  have e : ∀ n k : ℕ, n + 1 * k = n + k := fun n k => by rw [Nat.one_mul]
  refine View.canon_append_of_piecesOf (gS x0 x2 x4 l) L (piecesS x0 x2 x4 l []) ⟨fun x => ?_, fun x => ?_, fun x => ?_, fun x => ?_, trivial⟩ y ?_
  · exact gS_piece x0 x2 x4 l 3 x _ ((e 3 _).trans (by rw [hx x]; rfl)) ((e 0 _).trans (Nat.zero_add _)) ((e 0 _).trans (Nat.zero_add _))
  · exact gS_piece x0 x2 x4 l 2 x _ ((e 2 _).trans (by rw [hx x]; rfl)) ((e 0 _).trans (Nat.zero_add _)) ((e 0 _).trans (Nat.zero_add _))
  · exact gS_piece x0 x2 x4 l 1 x _ ((e 1 _).trans (by rw [hx x]; rfl)) ((e 0 _).trans (Nat.zero_add _)) ((e 0 _).trans (Nat.zero_add _))
  · exact gS_piece x0 x2 x4 l 0 x _ ((e 0 _).trans (by rw [hx x]; rfl)) ((e 0 _).trans (Nat.zero_add _)) ((e 0 _).trans (Nat.zero_add _))
  · have hm : ∀ h : ℕ, (y 0).val = h → ∀ inb, y ∈ (Rect.unit (s := S4x128x128) ![h, 0, 0] S1x128x128.size inb).set := by
      intro h hh inb
      rw [Rect.mem_set_unit]
      intro a
      match a with
      | ⟨0, _⟩ => exact ⟨by show h ≤ (y 0).val; omega, by show (y 0).val < h + 1; omega⟩
      | ⟨1, _⟩ => exact ⟨by show 0 ≤ (y 1).val; omega, by show (y 1).val < 0 + 128; omega⟩
      | ⟨2, _⟩ => exact ⟨by show 0 ≤ (y 2).val; omega, by show (y 2).val < 0 + 128; omega⟩
    have hc : (y 0).val = 0 ∨ (y 0).val = 1 ∨ (y 0).val = 2 ∨ (y 0).val = 3 := by omega
    rcases hc with hh | hh | hh | hh
    · exact ⟨_, List.mem_cons_of_mem _ (List.mem_cons_of_mem _ (List.mem_cons_of_mem _ List.mem_cons_self)), hm 0 hh inb_S4x128x128_S1x128x128_0_0_0⟩
    · exact ⟨_, List.mem_cons_of_mem _ (List.mem_cons_of_mem _ List.mem_cons_self), hm 1 hh inb_S4x128x128_S1x128x128_1_0_0⟩
    · exact ⟨_, List.mem_cons_of_mem _ List.mem_cons_self, hm 2 hh inb_S4x128x128_S1x128x128_2_0_0⟩
    · exact ⟨_, List.mem_cons_self, hm 3 hh inb_S4x128x128_S1x128x128_3_0_0⟩

/-- An output piece is a slab of columns of the array. -/
theorem gO_piece (x0 : Vec F S128x2048 .f32) (x2 : Vec F S2x512 .f32) (x3 : Vec F S1x128 .f32) (x4 : Vec F S2048x128 .bf16)
    (x5 : Vec F S8x128x128 .f32) (l : Fin 4 → Vec F S1x128x128 .f32)
    (h : Fin 4) (x : S128x128.Idx) (y : S128x512.Idx) (e0 : (y 0).val = (x 0).val) (e1 : (y 1).val = 128 * h.val + (x 1).val) :
    ptN x0 x2 x3 x4 x5 h (l h) x = gO x0 x2 x3 x4 x5 l y := by
  have a0 : y 0 = x 0 := Fin.ext e0
  have b1 : (x 1).val < 128 := (x 1).isLt
  have hy : (y 1).val < 512 := (y 1).isLt
  have hd : (⟨(y 1).val / 128, by omega⟩ : Fin 4) = h := Fin.ext (by show (y 1).val / 128 = h.val; omega)
  have hm : (⟨(y 1).val % 128, by omega⟩ : Fin 128) = x 1 := Fin.ext (by show (y 1).val % 128 = (x 1).val; omega)
  unfold gO
  dsimp only
  rw [hd, hm, a0]
  exact congrArg _ (ix2_eta x).symm
/-- The output pieces are the array. -/
theorem canon_O (x0 : Vec F S128x2048 .f32) (x2 : Vec F S2x512 .f32) (x3 : Vec F S1x128 .f32) (x4 : Vec F S2048x128 .bf16)
    (x5 : Vec F S8x128x128 .f32) (l : Fin 4 → Vec F S1x128x128 .f32) :
    View.canon (piecesO x0 x2 x3 x4 x5 l) = gO x0 x2 x3 x4 x5 l := by
  funext y
  have hy0 : (y 0).val < 128 := (y 0).isLt
  have hy1 : (y 1).val < 512 := (y 1).isLt
  have e : ∀ n k : ℕ, n + 1 * k = n + k := fun n k => by rw [Nat.one_mul]
  refine View.canon_append_of_piecesOf (gO x0 x2 x3 x4 x5 l) [] (piecesO x0 x2 x3 x4 x5 l) ⟨fun x => ?_, fun x => ?_, fun x => ?_, fun x => ?_, trivial⟩ y ?_
  · exact gO_piece x0 x2 x3 x4 x5 l 3 x _ ((e 0 _).trans (Nat.zero_add _)) (e 384 _)
  · exact gO_piece x0 x2 x3 x4 x5 l 2 x _ ((e 0 _).trans (Nat.zero_add _)) (e 256 _)
  · exact gO_piece x0 x2 x3 x4 x5 l 1 x _ ((e 0 _).trans (Nat.zero_add _)) (e 128 _)
  · exact gO_piece x0 x2 x3 x4 x5 l 0 x _ ((e 0 _).trans (Nat.zero_add _)) (e 0 _)
  · have hm : ∀ h : ℕ, h ≤ (y 1).val → (y 1).val < h + 128 → ∀ inb, y ∈ (Rect.unit (s := S128x512) ![0, h] S128x128.size inb).set := by
      intro h h1 h2 inb
      rw [Rect.mem_set_unit]
      intro a
      match a with
      | ⟨0, _⟩ => exact ⟨by show 0 ≤ (y 0).val; omega, by show (y 0).val < 0 + 128; omega⟩
      | ⟨1, _⟩ => exact ⟨h1, h2⟩
    have hc : (y 1).val < 128 ∨ (128 ≤ (y 1).val ∧ (y 1).val < 256) ∨ (256 ≤ (y 1).val ∧ (y 1).val < 384) ∨ 384 ≤ (y 1).val := by omega
    rcases hc with hh | hh | hh | hh
    · exact ⟨_, List.mem_cons_of_mem _ (List.mem_cons_of_mem _ (List.mem_cons_of_mem _ List.mem_cons_self)), hm 0 (by omega) (by omega) inb_S128x512_S128x128_0_0⟩
    · exact ⟨_, List.mem_cons_of_mem _ (List.mem_cons_of_mem _ List.mem_cons_self), hm 128 hh.1 hh.2 inb_S128x512_S128x128_0_128⟩
    · exact ⟨_, List.mem_cons_of_mem _ List.mem_cons_self, hm 256 hh.1 hh.2 inb_S128x512_S128x128_0_256⟩
    · exact ⟨_, List.mem_cons_self, hm 384 hh (by omega) inb_S128x512_S128x128_0_384⟩

/-- A final piece is a slab of the scratch, transposed. -/
theorem gE_piece (u : FVec F S128x128 .f32) (x : S1x1x128x128.Idx) :
    k0_pay1 (k0_pay29 u) x = u (ix2 (x 3) (x 2)) := by
  pointwise [k0_pay1, k0_pay29]
/-- What the first point loads: the given state, transposed. -/
theorem ini_apply (x1 : Vec F S1x4x128x128 .f32) (h : Fin 4) (x : S1x128x128.Idx) : ini x1 h x = x1 (ix4 0 h (x 2) (x 1)) := by
  have e : ini x1 h x = View.ld x1 (Rect.unit ![0, h.val, 0, 0] S1x1x128x128.size (fun a => by fin_cases h <;> fin_cases a <;> decide)) (ix4 0 0 (x 2) (x 1)) := by
    pointwise [ini, k0_pay5]
  rw [e]
  refine View.ld_unit_apply_of _ _ _ _ _ _ fun a => ?_
  match a with
  | ⟨0, _⟩ => rfl
  | ⟨1, _⟩ => exact (Nat.add_zero _).symm
  | ⟨2, _⟩ => exact (Nat.zero_add _).symm
  | ⟨3, _⟩ => exact (Nat.zero_add _).symm
/-- A slab of the scratch. -/
theorem ldS_apply (S : Vec F S4x128x128 .f32) (h : Fin 4) (x : S1x128x128.Idx) : ldS S h x = S (ix3 h (x 1) (x 2)) := by
  have hx : (x 0).val = 0 := Nat.lt_one_iff.mp (x 0).isLt
  refine View.ld_unit_apply_of _ _ _ _ _ _ fun a => ?_
  match a with
  | ⟨0, _⟩ => show h.val = h.val + (x 0).val; omega
  | ⟨1, _⟩ => exact (Nat.zero_add _).symm
  | ⟨2, _⟩ => exact (Nat.zero_add _).symm
/-- The final pieces are the array. -/
theorem canon_E (x0 : Vec F S128x2048 .f32) (x2 : Vec F S2x512 .f32) (x4 : Vec F S2048x128 .bf16) (l : Fin 4 → Vec F S1x128x128 .f32) :
    View.canon (piecesE (fun h => ptP x0 x2 x4 h (l h))) = gE (gS x0 x2 x4 l) := by
  funext y
  have hy0 : (y 0).val < 1 := (y 0).isLt
  have hy1 : (y 1).val < 4 := (y 1).isLt
  have hy2 : (y 2).val < 128 := (y 2).isLt
  have hy3 : (y 3).val < 128 := (y 3).isLt
  have hx : ∀ x : S1x1x128x128.Idx, (x 1).val = 0 := fun x => Nat.lt_one_iff.mp (x 1).isLt
  have e : ∀ n k : ℕ, n + 1 * k = n + k := fun n k => by rw [Nat.one_mul]
  have main : ∀ (h : Fin 4) (x : S1x1x128x128.Idx) (y : S1x4x128x128.Idx), (y 1).val = h.val → (y 2).val = (x 2).val → (y 3).val = (x 3).val →
      k0_pay1 (ptP x0 x2 x4 h (l h)) x = gE (gS x0 x2 x4 l) y := by
    intro h x y a1 a2 a3
    have a1 : y 1 = h := Fin.ext a1
    have a2 : y 2 = x 2 := Fin.ext a2
    have a3 : y 3 = x 3 := Fin.ext a3
    rw [ptP, gE_piece]
    show _ = ptS x0 x2 x4 (y 1) (l (y 1)) (ix2 (y 3) (y 2))
    rw [a1, a2, a3]
  refine View.canon_append_of_piecesOf (gE (gS x0 x2 x4 l)) [] (piecesE (fun h => ptP x0 x2 x4 h (l h))) ⟨fun x => ?_, fun x => ?_, fun x => ?_, fun x => ?_, trivial⟩ y ?_
  · exact main 3 x _ ((e 3 _).trans (by rw [hx x]; rfl)) ((e 0 _).trans (Nat.zero_add _)) ((e 0 _).trans (Nat.zero_add _))
  · exact main 2 x _ ((e 2 _).trans (by rw [hx x]; rfl)) ((e 0 _).trans (Nat.zero_add _)) ((e 0 _).trans (Nat.zero_add _))
  · exact main 1 x _ ((e 1 _).trans (by rw [hx x]; rfl)) ((e 0 _).trans (Nat.zero_add _)) ((e 0 _).trans (Nat.zero_add _))
  · exact main 0 x _ ((e 0 _).trans (by rw [hx x]; rfl)) ((e 0 _).trans (Nat.zero_add _)) ((e 0 _).trans (Nat.zero_add _))
  · have hm : ∀ h : ℕ, (y 1).val = h → ∀ inb, y ∈ (Rect.unit (s := S1x4x128x128) ![0, h, 0, 0] S1x1x128x128.size inb).set := by
      intro h hh inb
      rw [Rect.mem_set_unit]
      intro a
      match a with
      | ⟨0, _⟩ => exact ⟨by show 0 ≤ (y 0).val; omega, by show (y 0).val < 0 + 1; omega⟩
      | ⟨1, _⟩ => exact ⟨by show h ≤ (y 1).val; omega, by show (y 1).val < h + 1; omega⟩
      | ⟨2, _⟩ => exact ⟨by show 0 ≤ (y 2).val; omega, by show (y 2).val < 0 + 128; omega⟩
      | ⟨3, _⟩ => exact ⟨by show 0 ≤ (y 3).val; omega, by show (y 3).val < 0 + 128; omega⟩
    have hc : (y 1).val = 0 ∨ (y 1).val = 1 ∨ (y 1).val = 2 ∨ (y 1).val = 3 := by omega
    rcases hc with hh | hh | hh | hh
    · exact ⟨_, List.mem_cons_of_mem _ (List.mem_cons_of_mem _ (List.mem_cons_of_mem _ List.mem_cons_self)), hm 0 hh inb_S1x4x128x128_S1x1x128x128_0_0_0_0⟩
    · exact ⟨_, List.mem_cons_of_mem _ (List.mem_cons_of_mem _ List.mem_cons_self), hm 1 hh inb_S1x4x128x128_S1x1x128x128_0_1_0_0⟩
    · exact ⟨_, List.mem_cons_of_mem _ List.mem_cons_self, hm 2 hh inb_S1x4x128x128_S1x1x128x128_0_2_0_0⟩
    · exact ⟨_, List.mem_cons_self, hm 3 hh inb_S1x4x128x128_S1x1x128x128_0_3_0_0⟩

end Cert.HgrnProof
-- ==== Proof.Recurrence.lean ====
/- The gated recurrence over the reals: the state of the tokens up to one, and what a chunk of tokens makes of it. -/
module

public import Mathlib.Analysis.SpecialFunctions.Exp
public import Mathlib.Algebra.BigOperators.Fin
public import Mathlib.Algebra.BigOperators.Intervals

@[expose] public section

open Finset

namespace Cert.Recurrence

/-- The state after `n` tokens: each token forgets by `exp (lf n)` and adds its key times its value. -/
noncomputable def S (lf k v : ℕ → Fin 128 → ℝ) : ℕ → Fin 128 → Fin 128 → ℝ
  | 0, _, _ => 0
  | n + 1, i, j => Real.exp (lf n i) * S lf k v n i j + k n i * v n j

/-- What token `n` reads: its query against the state that holds it. -/
noncomputable def O (q lf k v : ℕ → Fin 128 → ℝ) (n : ℕ) (j : Fin 128) : ℝ :=
  ∑ i : Fin 128, q n i * S lf k v (n + 1) i j

/-- `j` tokens on from `n0`, the state is the old one decayed plus the tokens' own parts decayed. -/
theorem S_add (lf k v : ℕ → Fin 128 → ℝ) (n0 j : ℕ) (a b : Fin 128) :
    S lf k v (n0 + j) a b = Real.exp (∑ u ∈ range j, lf (n0 + u) a) * S lf k v n0 a b
      + ∑ s ∈ range j, k (n0 + s) a * Real.exp (∑ u ∈ Ico (s + 1) j, lf (n0 + u) a) * v (n0 + s) b := by
  induction j with
  | zero => simp
  | succ j ih =>
    rw [← add_assoc, S, ih, sum_range_succ, sum_range_succ (fun s => _ * _ * _), mul_add, mul_sum, Ico_self, sum_empty,
      Real.exp_zero, mul_one, ← mul_assoc, ← Real.exp_add, add_comm (lf (n0 + j) a), add_assoc]
    congr 2
    refine sum_congr rfl fun s hs => ?_
    rw [sum_Ico_succ_top (by have := mem_range.mp hs; omega), Real.exp_add]
    ring

variable {c : ℕ}

/-- The sum of a chunk's entries up to and with `t`. -/
noncomputable def upto (x : Fin c → ℝ) (t : Fin c) : ℝ := ∑ u : Fin c, if u ≤ t then x u else 0
/-- The sum of a chunk's entries past `s`. -/
noncomputable def past (x : Fin c → ℝ) (s : Fin c) : ℝ := ∑ u : Fin c, if s < u then x u else 0
/-- The sum of a chunk's entries past `s` and up to `t`. -/
noncomputable def gap (x : Fin c → ℝ) (s t : Fin c) : ℝ := ∑ u : Fin c, if s < u ∧ u ≤ t then x u else 0

/-- A sum up to a row is a sum over a range. -/
theorem upto_eq (x : ℕ → ℝ) (t : Fin c) : upto (fun u : Fin c => x u) t = ∑ u ∈ range (t.val + 1), x u := by
  have h := Fin.sum_univ_eq_sum_range (fun u => if u ≤ t.val then x u else 0) c
  unfold upto
  simp only [Fin.le_def]
  rw [h, ← sum_filter]
  congr 1
  ext u; simp only [mem_filter, mem_range]; omega

/-- A sum between two rows is a sum over an interval. -/
theorem gap_eq (x : ℕ → ℝ) (s t : Fin c) :
    gap (fun u : Fin c => x u) s t = ∑ u ∈ Ico (s.val + 1) (t.val + 1), x u := by
  have h := Fin.sum_univ_eq_sum_range (fun u => if s.val < u ∧ u ≤ t.val then x u else 0) c
  unfold gap
  simp only [Fin.le_def, Fin.lt_def]
  rw [h, ← sum_filter]
  congr 1
  ext u; simp only [mem_filter, mem_range, mem_Ico]; omega

/-- A sum after a row is a sum over an interval. -/
theorem past_eq (x : ℕ → ℝ) (s : Fin c) : past (fun u : Fin c => x u) s = ∑ u ∈ Ico (s.val + 1) c, x u := by
  have h := Fin.sum_univ_eq_sum_range (fun u => if s.val < u then x u else 0) c
  unfold past
  simp only [Fin.lt_def]
  rw [h, ← sum_filter]
  congr 1
  ext u; simp only [mem_filter, mem_range, mem_Ico]; omega

/-- Past `s` and up to `t` is the difference of the two running sums, for `s ≤ t`. -/
theorem gap_sub (x : Fin c → ℝ) (s t : Fin c) (h : s ≤ t) : upto x t - upto x s = gap x s t := by
  unfold upto gap
  rw [← sum_sub_distrib]
  refine sum_congr rfl fun u _ => ?_
  simp only [Fin.le_def, Fin.lt_def] at *
  by_cases h1 : u.val ≤ s.val
  · rw [if_pos (by omega), if_pos h1, if_neg (by omega), sub_self]
  · by_cases h2 : u.val ≤ t.val
    · rw [if_pos h2, if_neg h1, if_pos (by omega), sub_zero]
    · rw [if_neg h2, if_neg h1, if_neg (by omega), sub_zero]

/-- Past `s` is the whole chunk less the running sum up to `s`. -/
theorem past_sub (x : Fin c → ℝ) (s l : Fin c) (hl : l.val + 1 = c) : upto x l - upto x s = past x s := by
  rw [gap_sub x s l (by simp only [Fin.le_def]; omega)]
  unfold gap past
  refine sum_congr rfl fun u _ => ?_
  simp only [Fin.le_def, Fin.lt_def]
  exact if_congr (by omega) rfl rfl

/-- The state at the end of a chunk of `c` tokens. -/
theorem S_chunk (lf k v : ℕ → Fin 128 → ℝ) (n0 : ℕ) (l : Fin c) (hl : l.val + 1 = c) (a b : Fin 128) :
    S lf k v (n0 + c) a b = Real.exp (upto (fun u : Fin c => lf (n0 + u) a) l) * S lf k v n0 a b
      + ∑ s : Fin c, k (n0 + s) a * Real.exp (past (fun u : Fin c => lf (n0 + u) a) s) * v (n0 + s) b := by
  rw [S_add, upto_eq (fun u => lf (n0 + u) a), hl, ← Fin.sum_univ_eq_sum_range (fun s => _ * _ * _) c]
  congr 1
  exact sum_congr rfl fun s _ => by rw [past_eq (fun u => lf (n0 + u) a)]

/-- The score of token `s` for token `t` of the same chunk: nothing if `s` comes later. -/
noncomputable def score (q lf k : ℕ → Fin 128 → ℝ) (n0 : ℕ) (t s : Fin c) : ℝ :=
  if s ≤ t then ∑ a : Fin 128, q (n0 + t) a * k (n0 + s) a * Real.exp (gap (fun u : Fin c => lf (n0 + u) a) s t) else 0

/-- What a token of a chunk reads: the chunk's scores against its values, and the old state. -/
theorem O_chunk (q lf k v : ℕ → Fin 128 → ℝ) (n0 : ℕ) (t : Fin c) (b : Fin 128) :
    O q lf k v (n0 + t) b = (∑ s : Fin c, score q lf k n0 t s * v (n0 + s) b)
      + ∑ a : Fin 128, q (n0 + t) a * Real.exp (upto (fun u : Fin c => lf (n0 + u) a) t) * S lf k v n0 a b := by
  unfold O
  have hS : ∀ a, S lf k v (n0 + t + 1) a b
      = Real.exp (upto (fun u : Fin c => lf (n0 + u) a) t) * S lf k v n0 a b
        + ∑ s : Fin c, if s ≤ t then k (n0 + s) a * Real.exp (gap (fun u : Fin c => lf (n0 + u) a) s t) * v (n0 + s) b else 0 := by
    intro a
    rw [add_assoc, S_add, upto_eq (fun u => lf (n0 + u) a)]
    congr 1
    have h := Fin.sum_univ_eq_sum_range (fun s => if s ≤ t.val then
      k (n0 + s) a * Real.exp (∑ u ∈ Ico (s + 1) (t.val + 1), lf (n0 + u) a) * v (n0 + s) b else 0) c
    simp only [gap_eq (fun u => lf (n0 + u) a), Fin.le_def]
    rw [h, ← sum_filter]
    congr 1
    ext u; simp only [mem_filter, mem_range]; omega
  simp only [hS, mul_add, sum_add_distrib, mul_sum, ← mul_assoc]
  rw [add_comm, sum_comm]
  congr 1
  refine sum_congr rfl fun s _ => ?_
  unfold score
  by_cases h : s ≤ t
  · simp only [if_pos h, sum_mul, mul_assoc]
  · simp [if_neg h]

/-- Token `t` lies in the upper half of its block of `2 m` tokens. -/
def up (m t : ℕ) : Prop := m ≤ t % (2 * m)
instance (m t : ℕ) : Decidable (up m t) := inferInstanceAs (Decidable (_ ≤ _))
/-- The first token of the upper half of the block of `t`. -/
def mid (m t : ℕ) : ℕ := t / (2 * m) * (2 * m) + m
/-- `t` in the upper and `s` in the lower half of one block of `2 m` tokens. -/
def pair (m t s : ℕ) : Prop := (t / (2 * m) = s / (2 * m) ∧ up m t) ∧ s % (2 * m) < m
instance (m t s : ℕ) : Decidable (pair m t s) := inferInstanceAs (Decidable ((_ ∧ _) ∧ _))

/-- Of two rows met at a level, the key's is the earlier. -/
theorem pair_lt {m t s : ℕ} (h : pair m t s) : s < t := by
  obtain ⟨⟨h1, h2⟩, h3⟩ := h
  unfold up at h2
  have ht := Nat.div_add_mod t (2 * m)
  have hs := Nat.div_add_mod s (2 * m)
  rw [h1] at ht
  omega

/-- The upper half's sum up to `t` and the lower half's sum past `s` make the sum past `s` and up to `t`. -/
theorem gap_halves (m : ℕ) (x : Fin c → ℝ) (t s : Fin c) (h : pair m t s) :
    (∑ u : Fin c, if (up m t ∧ mid m t ≤ u.val) ∧ u.val ≤ t.val then x u else 0)
      + (∑ u : Fin c, if (¬ up m s ∧ s.val < u.val) ∧ u.val < mid m s then x u else 0) = gap x s t := by
  obtain ⟨⟨h1, h2⟩, h3⟩ := h
  have hu : ¬ up m s := by unfold up; omega
  have hm : mid m s = mid m t := by unfold mid; rw [h1]
  have ht := Nat.div_add_mod t.val (2 * m)
  have hs := Nat.div_add_mod s.val (2 * m)
  have ha : mid m t ≤ t.val := by unfold mid; unfold up at h2; rw [Nat.mul_comm] at ht; omega
  have hb : s.val < mid m t := by rw [← hm]; unfold mid; rw [Nat.mul_comm] at hs; omega
  unfold gap
  rw [← sum_add_distrib]
  refine sum_congr rfl fun u _ => ?_
  simp only [Fin.le_def, Fin.lt_def, hm, h2, hu, true_and, not_false_eq_true]
  by_cases ca : mid m t ≤ u.val
  · rw [if_neg (show ¬ (s.val < u.val ∧ u.val < mid m t) by omega), add_zero]
    exact if_congr (by omega) rfl rfl
  · rw [if_neg (show ¬ (mid m t ≤ u.val ∧ u.val ≤ t.val) by omega), zero_add]
    exact if_congr (by omega) rfl rfl

/-- Each pair of tokens of a chunk of 128 is split by exactly one of the seven levels. -/
theorem one_level : ∀ t s : Fin 128, s < t →
    (univ.filter fun lv : Fin 7 => pair (2 ^ lv.val) t.val s.val).card = 1 := by decide +kernel

/-- … and each pair of a chunk of 16 by exactly one of the first four. -/
theorem one_level16 : ∀ t s : Fin 16, s < t →
    (univ.filter fun lv : Fin 4 => pair (2 ^ lv.val) t.val s.val).card = 1 := by decide +kernel

/-- Over the levels, the masked values sum to the value where `s` comes before `t`, to nothing elsewhere. -/
theorem sum_levels_of {N : ℕ} (h1 : ∀ t s : Fin c, s < t → (univ.filter fun lv : Fin N => pair (2 ^ lv.val) t.val s.val).card = 1)
    (t s : Fin c) (X : ℝ) :
    (∑ lv : Fin N, if pair (2 ^ lv.val) t.val s.val then X else 0) = if s < t then X else 0 := by
  by_cases h : s < t
  · rw [← sum_filter, sum_const, h1 t s h, one_smul, if_pos h]
  · rw [if_neg h]
    exact sum_eq_zero fun lv _ => if_neg fun hp => h (pair_lt hp)

/-- A chunk's score from its levels: the diagonal, and for each level the product of the two halves' decays. -/
theorem score_levels_of {N : ℕ} (h1 : ∀ t s : Fin c, s < t → (univ.filter fun lv : Fin N => pair (2 ^ lv.val) t.val s.val).card = 1)
    (q lf k : ℕ → Fin 128 → ℝ) (n0 : ℕ) (t s : Fin c) :
    (if s = t then ∑ a : Fin 128, q (n0 + t) a * k (n0 + s) a else 0)
      + (∑ lv : Fin N, if pair (2 ^ lv.val) t.val s.val then ∑ a : Fin 128,
          (q (n0 + t) a * Real.exp (∑ u : Fin c, if (up (2 ^ lv.val) t ∧ mid (2 ^ lv.val) t ≤ u.val) ∧ u.val ≤ t.val
            then lf (n0 + u) a else 0))
          * (k (n0 + s) a * Real.exp (∑ u : Fin c, if (¬ up (2 ^ lv.val) s ∧ s.val < u.val) ∧ u.val < mid (2 ^ lv.val) s
            then lf (n0 + u) a else 0)) else 0)
      = score q lf k n0 t s := by
  have hl : ∀ lv : Fin N, (if pair (2 ^ lv.val) t.val s.val then ∑ a : Fin 128,
          (q (n0 + t) a * Real.exp (∑ u : Fin c, if (up (2 ^ lv.val) t ∧ mid (2 ^ lv.val) t ≤ u.val) ∧ u.val ≤ t.val
            then lf (n0 + u) a else 0))
          * (k (n0 + s) a * Real.exp (∑ u : Fin c, if (¬ up (2 ^ lv.val) s ∧ s.val < u.val) ∧ u.val < mid (2 ^ lv.val) s
            then lf (n0 + u) a else 0)) else 0)
      = if pair (2 ^ lv.val) t.val s.val then ∑ a : Fin 128, q (n0 + t) a * k (n0 + s) a
          * Real.exp (gap (fun u : Fin c => lf (n0 + u) a) s t) else 0 := by
    intro lv
    by_cases hp : pair (2 ^ lv.val) t.val s.val
    · rw [if_pos hp, if_pos hp]
      refine sum_congr rfl fun a _ => ?_
      rw [← gap_halves (2 ^ lv.val) (fun u : Fin c => lf (n0 + u) a) t s hp, Real.exp_add]
      ring
    · rw [if_neg hp, if_neg hp]
  simp only [hl, sum_levels_of h1]
  unfold score
  rcases lt_trichotomy s t with h | h | h
  · rw [if_neg h.ne, if_pos h, if_pos h.le, zero_add]
  · subst h
    rw [if_pos rfl, if_neg (lt_irrefl _), if_pos le_rfl, add_zero]
    refine sum_congr rfl fun a _ => ?_
    have : gap (fun u : Fin c => lf (n0 + u) a) s s = 0 :=
      sum_eq_zero fun u _ => if_neg fun hu => absurd (lt_of_lt_of_le hu.1 hu.2) (lt_irrefl _)
    rw [this, Real.exp_zero, mul_one]
  · rw [if_neg h.ne', if_neg (not_lt.mpr h.le), if_neg (not_le.mpr h), add_zero]

/-- The levels of a chunk of 128 tokens. -/
theorem score_levels (q lf k : ℕ → Fin 128 → ℝ) (n0 : ℕ) (t s : Fin 128) :
    (if s = t then ∑ a : Fin 128, q (n0 + t) a * k (n0 + s) a else 0)
      + (∑ lv : Fin 7, if pair (2 ^ lv.val) t.val s.val then ∑ a : Fin 128,
          (q (n0 + t) a * Real.exp (∑ u : Fin 128, if (up (2 ^ lv.val) t ∧ mid (2 ^ lv.val) t ≤ u.val) ∧ u.val ≤ t.val
            then lf (n0 + u) a else 0))
          * (k (n0 + s) a * Real.exp (∑ u : Fin 128, if (¬ up (2 ^ lv.val) s ∧ s.val < u.val) ∧ u.val < mid (2 ^ lv.val) s
            then lf (n0 + u) a else 0)) else 0)
      = score q lf k n0 t s :=
  score_levels_of one_level q lf k n0 t s

/-- The levels of a chunk of 16 tokens. -/
theorem score_levels16 (q lf k : ℕ → Fin 128 → ℝ) (n0 : ℕ) (t s : Fin 16) :
    (if s = t then ∑ a : Fin 128, q (n0 + t) a * k (n0 + s) a else 0)
      + (∑ lv : Fin 4, if pair (2 ^ lv.val) t.val s.val then ∑ a : Fin 128,
          (q (n0 + t) a * Real.exp (∑ u : Fin 16, if (up (2 ^ lv.val) t ∧ mid (2 ^ lv.val) t ≤ u.val) ∧ u.val ≤ t.val
            then lf (n0 + u) a else 0))
          * (k (n0 + s) a * Real.exp (∑ u : Fin 16, if (¬ up (2 ^ lv.val) s ∧ s.val < u.val) ∧ u.val < mid (2 ^ lv.val) s
            then lf (n0 + u) a else 0)) else 0)
      = score q lf k n0 t s :=
  score_levels_of one_level16 q lf k n0 t s

end Cert.Recurrence
-- ==== Proof.HgrnChunk.lean ====
/- One chunk of the recurrence kernel, over the reals: the state after it and what it reads are the token recurrence. -/
module
public import proofs.«01_k».proof.Proof.HgrnPoint
public import proofs.«01_k».proof.Proof.Recurrence
@[expose] public section
set_option maxRecDepth 16384
noncomputable section
namespace Cert.HgrnProof
open Idealize.ShloMosaic Idealize.ShloMosaic.TcCoe Idealize.ShloMosaic.Tactic
open Cert.HgrnIdeal Cert.HgrnIdeal.Gen
open Cert.Recurrence
open scoped BigOperators

/-- A sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Columns of a head, read. -/
theorem col_apply {φ : FTy} (h : Fin 4) (x : FVec Ideal S128x512 φ) (t a : Fin 128) :
    col h x (ix2 t a) = x (ix2 t ⟨128 * h.val + a.val, by omega⟩) := by
  refine extractStridedSlice_apply _ x _ _ _ fun b => ?_
  match b with
  | ⟨0, _⟩ => exact (Nat.zero_add _).symm
  | ⟨1, _⟩ => rfl
/-- A band of the sums, read. -/
theorem blk_apply (r : Fin 16) (h : Fin 4) (x : FVec Ideal S2048x512 .f32) (t a : Fin 128) :
    blk r h x (ix2 t a) = x (ix2 ⟨128 * r.val + t.val, by omega⟩ ⟨128 * h.val + a.val, by omega⟩) := by
  refine extractStridedSlice_apply _ x _ _ _ fun b => ?_
  match b with
  | ⟨0, _⟩ => rfl
  | ⟨1, _⟩ => rfl
/-- The chunk's whole sum is the last row of the first band. -/
theorem lastRow_apply (h : Fin 4) (x : FVec Ideal S2048x512 .f32) (a : Fin 128) :
    lastRow h x (ix2 0 a) = blk 0 h x (ix2 127 a) := by
  rw [blk_apply]
  refine extractStridedSlice_apply _ x _ _ _ fun b => ?_
  match b with
  | ⟨0, _⟩ => rfl
  | ⟨1, _⟩ => rfl

/-- The sums' entries: the table's row against the three parts of the log decays. -/
theorem pay15_apply (a b d : FVec Ideal S128x512 .bf16) (w : Vec Ideal S2048x128 .bf16) (i : Fin 2048) (j : Fin 512) :
    k0_pay15 a b d w (ix2 i j)
      = ∑ x, w (ix2 i x) * a (ix2 x j) + ∑ x, w (ix2 i x) * d (ix2 x j) + ∑ x, w (ix2 i x) * (b (ix2 x j) - d (ix2 x j)) := by
  pointwise [k0_pay15]

/-- A state's entry after a chunk. -/
theorem headS_apply (k : FVec Ideal S128x128 .f32) (v : FVec Ideal S128x128 .bf16) (eEnd : FVec Ideal S128x128 .f32) (eLast : FVec Ideal S1x128 .f32)
    (st : FVec Ideal S128x128 .f32) (i j : Fin 128) :
    headS k v eEnd eLast st (ix2 i j)
      = st (ix2 i j) * Ideal.exp (eLast (ix2 0 j)) + ∑ x, v (ix2 x i) * (k (ix2 x j) * Ideal.exp (eEnd (ix2 x j))) := by
  pointwise [headS]
/-- A level's score. -/
theorem headL_apply (q k eq ek : FVec Ideal S128x128 .f32) (mk : FVec Ideal S1x128x128 .f32) (i j : Fin 128) :
    headL q k eq ek mk (ix2 i j)
      = mk (ix3 0 i j) * ∑ x, q (ix2 i x) * Ideal.exp (eq (ix2 i x)) * (k (ix2 j x) * Ideal.exp (ek (ix2 j x))) := by
  pointwise [headL]
/-- The scores: the diagonal and the levels. -/
theorem headA_apply (q k : FVec Ideal S128x128 .f32) (E : Fin 16 → FVec Ideal S128x128 .f32) (mk : Fin 8 → FVec Ideal S1x128x128 .f32)
    (i j : Fin 128) :
    headA q k E mk (ix2 i j)
      = mk 0 (ix3 0 i j) * (∑ x, q (ix2 i x) * k (ix2 j x))
        + headL q k (E 2) (E 3) (mk 1) (ix2 i j) + headL q k (E 4) (E 5) (mk 2) (ix2 i j) + headL q k (E 6) (E 7) (mk 3) (ix2 i j)
        + headL q k (E 8) (E 9) (mk 4) (ix2 i j) + headL q k (E 10) (E 11) (mk 5) (ix2 i j) + headL q k (E 12) (E 13) (mk 6) (ix2 i j)
        + headL q k (E 14) (E 15) (mk 7) (ix2 i j) := by
  pointwise [headA]
/-- What a head reads. -/
theorem headO_apply (q k : FVec Ideal S128x128 .f32) (v : FVec Ideal S128x128 .bf16) (E : Fin 16 → FVec Ideal S128x128 .f32)
    (mk : Fin 8 → FVec Ideal S1x128x128 .f32) (st : FVec Ideal S128x128 .f32) (i j : Fin 128) :
    headO q k v E mk st (ix2 i j)
      = (∑ s, headA q k E mk (ix2 i s) * v (ix2 s j)) + ∑ a, q (ix2 i a) * Ideal.exp (E 0 (ix2 i a)) * st (ix2 j a) := by
  pointwise [headO]

/-- What a chunk's blocks hold, head `h`, from token `n0` on: queries, log decays, keys and values as reals, and the two tables. -/
structure Holds (q lf k v : ℕ → Fin 128 → ℝ) (n0 : ℕ) (h : Fin 4) (x0 : Vec Ideal S128x2048 .f32) (x2 : Vec Ideal S2x512 .f32)
    (x4 : Vec Ideal S2048x128 .bf16) (x5 : Vec Ideal S8x128x128 .f32) : Prop where
  hq : ∀ t a : Fin 128, ldQ x0 (ix2 t ⟨128 * h.val + a.val, by omega⟩) = (q (n0 + t) a : EReal)
  hv : ∀ t a : Fin 128, ldV x0 (ix2 t ⟨128 * h.val + a.val, by omega⟩) = (v (n0 + t) a : EReal)
  hk : ∀ t a : Fin 128, kk x0 x2 (ix2 t ⟨128 * h.val + a.val, by omega⟩) = (k (n0 + t) a : EReal)
  hl : ∀ t a : Fin 128, k0_pay10 (ldB x2) (ldF x0) (ix2 t ⟨128 * h.val + a.val, by omega⟩) = (lf (n0 + t) a : EReal)
  w0 : ∀ t u : Fin 128, ldW x4 (ix2 ⟨128 * 0 + t.val, by omega⟩ u) = ((if u ≤ t then 1 else 0 : ℝ) : EReal)
  w1 : ∀ t u : Fin 128, ldW x4 (ix2 ⟨128 * 1 + t.val, by omega⟩ u) = ((if t < u then 1 else 0 : ℝ) : EReal)
  wq : ∀ (lv : Fin 7) (t u : Fin 128), ldW x4 (ix2 ⟨128 * (2 + 2 * lv.val) + t.val, by omega⟩ u)
    = ((if (up (2 ^ lv.val) t ∧ mid (2 ^ lv.val) t ≤ u.val) ∧ u.val ≤ t.val then 1 else 0 : ℝ) : EReal)
  wk : ∀ (lv : Fin 7) (t u : Fin 128), ldW x4 (ix2 ⟨128 * (3 + 2 * lv.val) + t.val, by omega⟩ u)
    = ((if (¬ up (2 ^ lv.val) t ∧ t.val < u.val) ∧ u.val < mid (2 ^ lv.val) t then 1 else 0 : ℝ) : EReal)
  m0 : ∀ t s : Fin 128, ldM x5 0 (ix3 0 t s) = ((if s = t then 1 else 0 : ℝ) : EReal)
  ml : ∀ (lv : Fin 7) (t s : Fin 128), ldM x5 lv.succ (ix3 0 t s) = ((if pair (2 ^ lv.val) t.val s.val then 1 else 0 : ℝ) : EReal)

section
variable {q lf k v : ℕ → Fin 128 → ℝ} {n0 : ℕ} {h : Fin 4} {x0 : Vec Ideal S128x2048 .f32} {x2 : Vec Ideal S2x512 .f32}
  {x4 : Vec Ideal S2048x128 .bf16} {x5 : Vec Ideal S8x128x128 .f32}

/-- A band's entry: the sum of the log decays the table's row picks. -/
theorem blk_ex (H : Holds q lf k v n0 h x0 x2 x4 x5) (r : Fin 16) (t a : Fin 128) (p : Fin 128 → Prop) [DecidablePred p]
    (hw : ∀ u, ldW x4 (ix2 ⟨128 * r.val + t.val, by omega⟩ u) = ((if p u then 1 else 0 : ℝ) : EReal)) :
    blk r h (ex x0 x2 x4) (ix2 t a) = ((∑ u, if p u then lf (n0 + u) a else 0 : ℝ) : EReal) := by
  rw [blk_apply]
  unfold ex
  rw [pay15_apply]
  have e12 : ∀ x j, k0_pay12 (ldB x2) (ldF x0) (ix2 x j) = k0_pay10 (ldB x2) (ldF x0) (ix2 x j) := fun _ _ => by pointwise [k0_pay12]
  have e13 : ∀ x j, k0_pay13 (ldB x2) (ldF x0) (ix2 x j)
      = k0_pay10 (ldB x2) (ldF x0) (ix2 x j) - k0_pay10 (ldB x2) (ldF x0) (ix2 x j) := fun _ _ => by pointwise [k0_pay12, k0_pay13]
  have e14 : ∀ x j, k0_pay14 (ldB x2) (ldF x0) (ix2 x j) = k0_pay13 (ldB x2) (ldF x0) (ix2 x j) := fun _ _ => by pointwise [k0_pay14]
  simp only [e12, e14, e13, H.hl, hw, ← EReal.coe_sub, ← EReal.coe_mul, coe_sum, ← EReal.coe_add]
  congr 1
  simp only [sub_self, mul_zero, Finset.sum_const_zero, add_zero, ite_mul, one_mul, zero_mul]

/-- The state's entry after the chunk is the recurrence's. -/
theorem ptS_eq (H : Holds q lf k v n0 h x0 x2 x4 x5) (l : Vec Ideal S1x128x128 .f32)
    (hs : ∀ b a : Fin 128, l (ix3 0 b a) = (S lf k v n0 a b : EReal)) (b a : Fin 128) :
    ptS x0 x2 x4 h l (ix2 b a) = (S lf k v (n0 + 128) a b : EReal) := by
  unfold ptS
  rw [headS_apply, lastRow_apply, blk_ex H 0 127 a (fun u => u ≤ 127) (H.w0 127)]
  have e1 : ∀ x : Fin 128, blk 1 h (ex x0 x2 x4) (ix2 x a) = ((∑ u, if x < u then lf (n0 + u) a else 0 : ℝ) : EReal) :=
    fun x => blk_ex H 1 x a (fun u => x < u) (H.w1 x)
  have ev : ∀ x : Fin 128, (truncf .bf16 (col h (ldV x0)) bitsLt_bf16_f32 : FVec Ideal S128x128 .bf16) (ix2 x b) = (v (n0 + x) b : EReal) :=
    fun x => (col_apply h (ldV x0) x b).trans (H.hv x b)
  have el : (shapeCast S128x128 l shapeCasts_S1x128x128_S128x128 : FVec Ideal S128x128 .f32) (ix2 b a) = (S lf k v n0 a b : EReal) :=
    (shapeCast_drop (F := Ideal) l (ix2 b a)).trans (hs b a)
  simp only [e1, ev, el, col_apply, H.hk, Ideal.exp_coe, ← EReal.coe_mul, coe_sum, ← EReal.coe_add]
  congr 1
  rw [S_chunk (c := 128) lf k v n0 127 rfl a b]
  unfold upto past
  rw [mul_comm]
  congr 1
  exact Finset.sum_congr rfl fun s _ => by ring

/-- A level's score, of reals. -/
theorem headL_eq (H : Holds q lf k v n0 h x0 x2 x4 x5) (lv : Fin 7) (t s : Fin 128) :
    headL (col h (ldQ x0)) (col h (kk x0 x2)) (blk ⟨2 + 2 * lv.val, by omega⟩ h (ex x0 x2 x4)) (blk ⟨3 + 2 * lv.val, by omega⟩ h (ex x0 x2 x4))
        (ldM x5 lv.succ) (ix2 t s)
      = ((if pair (2 ^ lv.val) t.val s.val then ∑ a : Fin 128,
          (q (n0 + t) a * Real.exp (∑ u : Fin 128, if (up (2 ^ lv.val) t ∧ mid (2 ^ lv.val) t ≤ u.val) ∧ u.val ≤ t.val
            then lf (n0 + u) a else 0))
          * (k (n0 + s) a * Real.exp (∑ u : Fin 128, if (¬ up (2 ^ lv.val) s ∧ s.val < u.val) ∧ u.val < mid (2 ^ lv.val) s
            then lf (n0 + u) a else 0)) else 0 : ℝ) : EReal) := by
  rw [headL_apply, H.ml]
  have eq : ∀ a, blk ⟨2 + 2 * lv.val, by omega⟩ h (ex x0 x2 x4) (ix2 t a) = _ := fun a => blk_ex H ⟨2 + 2 * lv.val, by omega⟩ t a _ (H.wq lv t)
  have ek : ∀ a, blk ⟨3 + 2 * lv.val, by omega⟩ h (ex x0 x2 x4) (ix2 s a) = _ := fun a => blk_ex H ⟨3 + 2 * lv.val, by omega⟩ s a _ (H.wk lv s)
  simp only [eq, ek, col_apply, H.hk, H.hq, Ideal.exp_coe, ← EReal.coe_mul, coe_sum]
  congr 1
  rw [ite_mul, one_mul, zero_mul]

/-- The scores are the recurrence's. -/
theorem headA_eq (H : Holds q lf k v n0 h x0 x2 x4 x5) (t s : Fin 128) :
    headA (col h (ldQ x0)) (col h (kk x0 x2)) (fun r => blk r h (ex x0 x2 x4)) (ldM x5) (ix2 t s) = (score q lf k n0 t s : EReal) := by
  rw [headA_apply, ← score_levels, H.m0]
  have e0 := headL_eq H 0 t s
  have e1 := headL_eq H 1 t s
  have e2 := headL_eq H 2 t s
  have e3 := headL_eq H 3 t s
  have e4 := headL_eq H 4 t s
  have e5 := headL_eq H 5 t s
  have e6 := headL_eq H 6 t s
  have d0 : ((if s = t then 1 else 0 : ℝ) : EReal) * (∑ x, col h (ldQ x0) (ix2 t x) * col h (kk x0 x2) (ix2 s x))
      = ((if s = t then ∑ a : Fin 128, q (n0 + t) a * k (n0 + s) a else 0 : ℝ) : EReal) := by
    simp only [col_apply, H.hk, H.hq, ← EReal.coe_mul, coe_sum]
    congr 1
    rw [ite_mul, one_mul, zero_mul]
  rw [Fin.sum_univ_seven, EReal.coe_add, EReal.coe_add, EReal.coe_add, EReal.coe_add, EReal.coe_add, EReal.coe_add, EReal.coe_add,
    ← d0, ← e0, ← e1, ← e2, ← e3, ← e4, ← e5, ← e6]
  simp only [← add_assoc]
  rfl

/-- What a head reads is the recurrence's. -/
theorem ptO_eq (H : Holds q lf k v n0 h x0 x2 x4 x5) (l : Vec Ideal S1x128x128 .f32)
    (hs : ∀ b a : Fin 128, l (ix3 0 b a) = (S lf k v n0 a b : EReal)) (t b : Fin 128) :
    ptO x0 x2 x4 x5 h l (ix2 t b) = (O q lf k v (n0 + t) b : EReal) := by
  unfold ptO
  rw [headO_apply]
  have e0 : ∀ a : Fin 128, blk 0 h (ex x0 x2 x4) (ix2 t a) = ((∑ u, if u ≤ t then lf (n0 + u) a else 0 : ℝ) : EReal) :=
    fun a => blk_ex H 0 t a (fun u => u ≤ t) (H.w0 t)
  have ev : ∀ x : Fin 128, (truncf .bf16 (col h (ldV x0)) bitsLt_bf16_f32 : FVec Ideal S128x128 .bf16) (ix2 x b) = (v (n0 + x) b : EReal) :=
    fun x => (col_apply h (ldV x0) x b).trans (H.hv x b)
  have el : ∀ a, (shapeCast S128x128 l shapeCasts_S1x128x128_S128x128 : FVec Ideal S128x128 .f32) (ix2 b a) = (S lf k v n0 a b : EReal) :=
    fun a => (shapeCast_drop (F := Ideal) l (ix2 b a)).trans (hs b a)
  simp only [e0, ev, el, headA_eq H, col_apply, H.hq, Ideal.exp_coe, ← EReal.coe_mul, coe_sum, ← EReal.coe_add]
  congr 1
  rw [O_chunk (c := 128)]
  rfl
end

end Cert.HgrnProof
-- ==== Proof.HgrnGate.lean ====
/- The forget gate over the reals: what the kernel computes of it. -/
module
public import proofs.«01_k».proof.Proof.HgrnBlock
public import proofs.«01_k».proof.Proof.HgrnChunk
@[expose] public section
set_option maxRecDepth 16384
noncomputable section
namespace Cert.HgrnProof
open Idealize.ShloMosaic Idealize.ShloMosaic.TcCoe Idealize.ShloMosaic.Tactic
open Cert.HgrnIdeal Cert.HgrnIdeal.Gen

/-- The share a softmax of two logits gives to the first. -/
def share (a b : ℝ) : ℝ := Real.exp (a - max a b) / (Real.exp (a - max a b) + Real.exp (b - max a b))
/-- The gate: the share as a floor under the sigmoid. -/
def gate (a b y : ℝ) : ℝ := share a b + (1 - share a b) * (1 / (1 + Real.exp (-y)))

/-- The share of one logit against another is positive. -/
theorem share_pos (a b : ℝ) : 0 < share a b := by
  unfold share
  have h1 := Real.exp_pos (a - max a b)
  have h2 := Real.exp_pos (b - max a b)
  positivity
/-- The share is below one. -/
theorem share_lt (a b : ℝ) : share a b < 1 := by
  unfold share
  have h1 := Real.exp_pos (a - max a b)
  have h2 := Real.exp_pos (b - max a b)
  rw [div_lt_one (by positivity)]
  linarith
/-- The gate is positive. -/
theorem gate_pos (a b y : ℝ) : 0 < gate a b y := by
  unfold gate
  have h0 := share_pos a b
  have h1 : 0 < 1 - share a b := by linarith [share_lt a b]
  have h2 := Real.exp_pos (-y)
  positivity

/-- The bits of minus infinity are the least value. -/
theorem bot_word : Ideal.ofBits .f32 4286578688#32 = (⊥ : EReal) := by
  simp [Ideal.ofBits, Ideal.ieee]
/-- The maximum over two rows, started from minus infinity, is the larger of the two. -/
theorem max_two (f : Fin 2 → EReal) : Finset.fold max (Ideal.ofBits .f32 4286578688#32) f Finset.univ = max (f 0) (f 1) := by
  rw [bot_word, show (Finset.univ : Finset (Fin 2)) = {0, 1} from rfl, Finset.fold_insert (by decide), Finset.fold_singleton, max_bot_right]
/-- The softmax's first entry, over the reals. -/
theorem share_coe (a b : ℝ) : Ideal.div (Ideal.exp ((a : EReal) - max (a : EReal) (b : EReal)))
    (Ideal.exp ((a : EReal) - max (a : EReal) (b : EReal)) + Ideal.exp ((b : EReal) - max (a : EReal) (b : EReal))) = (share a b : EReal) := by
  have hm : max (a : EReal) (b : EReal) = ((max a b : ℝ) : EReal) := (EReal.coe_strictMono.monotone.map_max).symm
  have h1 := Real.exp_pos (a - max a b)
  have h2 := Real.exp_pos (b - max a b)
  rw [hm, ← EReal.coe_sub, ← EReal.coe_sub, Ideal.exp_coe, Ideal.exp_coe, ← EReal.coe_add, Ideal.div_coe (by positivity), ← EReal.coe_mul]
  unfold share
  congr 1
  rw [mul_one_div]
/-- The sigmoid, over the reals. -/
theorem sigmoid_coe (y : ℝ) (z : EReal) (hz : z = ((-y : ℝ) : EReal)) :
    Ideal.div 1 (1 + Ideal.exp z) = ((1 / (1 + Real.exp (-y)) : ℝ) : EReal) := by
  have h := Real.exp_pos (-y)
  rw [hz, Ideal.exp_coe, ← EReal.coe_one, ← EReal.coe_add, Ideal.div_coe (by positivity), ← EReal.coe_mul, one_mul]
/-- The gate, computed from a real share and a real sigmoid, is the real gate. -/
theorem gate_coe (a b y : ℝ) (p s : EReal) (hp : p = (share a b : EReal)) (hs : s = ((1 / (1 + Real.exp (-y)) : ℝ) : EReal)) :
    p + (1 - p) * s = (gate a b y : EReal) := by
  rw [hp, hs, ← EReal.coe_one, ← EReal.coe_sub, ← EReal.coe_mul, ← EReal.coe_add]
  rfl
/-- The logarithm of the gate is the real logarithm. -/
theorem log_gate (a b y : ℝ) : Ideal.log (gate a b y : EReal) = (Real.log (gate a b y) : EReal) := by
  rw [Ideal.log_coe, if_neg (not_le.2 (gate_pos a b y))]

/-- What the kernel's gate, its logarithm and its complement read at an entry. -/
theorem pay9_apply (x2 : Vec Ideal S2x512 .f32) (u : Vec Ideal S128x512 .f32) (i : Fin 128) (j : Fin 512) (a b y : ℝ)
    (ha : x2 (ix2 0 j) = (a : EReal)) (hb : x2 (ix2 1 j) = (b : EReal)) (hy : u (ix2 i j) = (y : EReal)) :
    k0_pay9 x2 u (ix2 i j) = (gate a b y : EReal) := by
  pointwise [k0_pay9]
  simp only [max_two, Fin.sum_univ_two, ha, hb, hy, Finset.univ_unique, Finset.sum_singleton, share_coe]
  exact gate_coe a b y _ _ rfl (sigmoid_coe y _ (by rw [zero_sub, EReal.coe_neg]))
/-- The kernel's log gate at an entry. -/
theorem pay10_apply (x2 : Vec Ideal S2x512 .f32) (u : Vec Ideal S128x512 .f32) (i : Fin 128) (j : Fin 512) (a b y : ℝ)
    (ha : x2 (ix2 0 j) = (a : EReal)) (hb : x2 (ix2 1 j) = (b : EReal)) (hy : u (ix2 i j) = (y : EReal)) :
    k0_pay10 x2 u (ix2 i j) = (Real.log (gate a b y) : EReal) :=
  (show k0_pay10 x2 u (ix2 i j) = Ideal.log (k0_pay9 x2 u (ix2 i j)) by pointwise [k0_pay10]).trans
    ((congrArg Ideal.log (pay9_apply x2 u i j a b y ha hb hy)).trans (log_gate a b y))
/-- The kernel's key at an entry. -/
theorem pay11_apply (x2 : Vec Ideal S2x512 .f32) (u : Vec Ideal S128x512 .f32) (i : Fin 128) (j : Fin 512) (a b y : ℝ)
    (ha : x2 (ix2 0 j) = (a : EReal)) (hb : x2 (ix2 1 j) = (b : EReal)) (hy : u (ix2 i j) = (y : EReal)) :
    k0_pay11 x2 u (ix2 i j) = ((1 - gate a b y : ℝ) : EReal) :=
  (show k0_pay11 x2 u (ix2 i j) = 1 - k0_pay9 x2 u (ix2 i j) by pointwise [k0_pay11]).trans
    (by rw [pay9_apply x2 u i j a b y ha hb hy, EReal.coe_sub, EReal.coe_one])

end Cert.HgrnProof
-- ==== Proof.HgrnRefSum.lean ====
/- Running sums, as the host writes them, over the reals: a window of the whole axis, padded below. -/
module
public import proofs.«01_k».proof.Proof.HgrnGate
@[expose] public section
set_option maxRecDepth 16384
noncomputable section
namespace Cert.HgrnProof
open Idealize.ShloMosaic Idealize.ShloMosaic.TcCoe Idealize.ShloMosaic.Tactic
open Cert.Recurrence

/-- A sum folded from the left is the start plus the list's sum. -/
theorem foldl_plus {α : Type} (f : α → EReal) (l : List α) (v : EReal) :
    l.foldl (fun r n => r + f n) v = v + (l.map f).sum := by
  induction l generalizing v with
  | nil => simp
  | cons a l ih => rw [List.foldl_cons, ih, List.map_cons, List.sum_cons, add_assoc]

/-- A window sum from zero is the sum over the window's positions. -/
theorem window_sum {s t u : Shape} (window strides lo hi : Fin s.rank → Nat) (x : Vec Ideal s .f32) (init : Vec Ideal u .f32)
    (h : s.ReduceWindows window strides lo hi t) (hu : 0 < u.numel) (h0 : init (Shape.Idx.first hu) = (0 : EReal)) (j : t.Idx) :
    Host.reduceWindowAdd (F := Ideal) (φ := .f32) window strides lo hi x init h hu j =
      ∑ w : (⟨s.rank, window⟩ : Shape).Idx, (if hin : ∀ a, lo a ≤ (j (a.cast h.1.symm)).val * strides a + (w a).val ∧
        (j (a.cast h.1.symm)).val * strides a + (w a).val - lo a < s.size a then
          x (fun a => ⟨(j (a.cast h.1.symm)).val * strides a + (w a).val - lo a, (hin a).2⟩) else (0 : EReal)) := by
  show Host.reduceWindow (· + ·) window strides lo hi x (fun _ : (⟨0, ![]⟩ : Shape).Idx => init (Shape.Idx.first hu)) h (by decide) j = _
  unfold Host.reduceWindow
  dsimp only
  rw [h0]
  refine (foldl_plus _ _ _).trans ?_
  rw [zero_add, ← Fin.sum_univ_def]
  exact Fintype.sum_equiv (⟨s.rank, window⟩ : Shape).rowMajor.symm _ _ (fun _ => by congr)

/-- The positions of a padded window that meet the axis are its first entries. -/
theorem shift_sum {C : ℕ} (g : ℕ → EReal) (t : Fin C) :
    (∑ w : Fin C, if C - 1 ≤ t.val + w.val then g (t.val + w.val - (C - 1)) else 0) = ∑ s : Fin C, if s ≤ t then g s.val else 0 := by
  rw [← Finset.sum_filter, ← Finset.sum_filter]
  refine Finset.sum_bij' (fun w _ => (⟨t.val + w.val - (C - 1), by have := t.2; have := w.2; omega⟩ : Fin C))
    (fun s _ => (⟨(s.val + (C - 1) - t.val) % C, Nat.mod_lt _ (by have := t.2; omega)⟩ : Fin C)) ?_ ?_ ?_ ?_ ?_
  · intro w hw
    rw [Finset.mem_filter] at hw ⊢
    exact ⟨Finset.mem_univ _, by show t.val + w.val - (C - 1) ≤ t.val; omega⟩
  · intro s hs
    rw [Finset.mem_filter] at hs ⊢
    have h1 : s.val ≤ t.val := hs.2
    have := t.2
    refine ⟨Finset.mem_univ _, ?_⟩
    show C - 1 ≤ t.val + (s.val + (C - 1) - t.val) % C
    rw [Nat.mod_eq_of_lt (by omega)]
    omega
  · intro w hw
    rw [Finset.mem_filter] at hw
    have h1 : C - 1 ≤ t.val + w.val := hw.2
    have := t.2
    have := w.2
    refine Fin.ext ?_
    show (t.val + w.val - (C - 1) + (C - 1) - t.val) % C = w.val
    rw [Nat.mod_eq_of_lt (by omega)]
    omega
  · intro s hs
    rw [Finset.mem_filter] at hs
    have h1 : s.val ≤ t.val := hs.2
    have := t.2
    refine Fin.ext ?_
    show t.val + (s.val + (C - 1) - t.val) % C - (C - 1) = s.val
    rw [Nat.mod_eq_of_lt (by omega)]
    omega
  · intro w hw
    rfl

/-- A running sum down the second of four axes. -/
theorem running4 {A C H D : ℕ} (x : Vec Ideal ⟨4, ![A, C, H, D]⟩ .f32) {u : Shape} (init : Vec Ideal u .f32) (hu : 0 < u.numel)
    (h0 : init (Shape.Idx.first hu) = (0 : EReal)) (c1 : ℕ) (hc : c1 = C - 1)
    (h : (⟨4, ![A, C, H, D]⟩ : Shape).ReduceWindows ![1, C, 1, 1] ![1, 1, 1, 1] ![0, c1, 0, 0] ![0, 0, 0, 0] ⟨4, ![A, C, H, D]⟩)
    (b : Fin A) (t : Fin C) (k : Fin H) (a : Fin D) :
    Host.reduceWindowAdd (F := Ideal) (φ := .f32) ![1, C, 1, 1] ![1, 1, 1, 1] ![0, c1, 0, 0] ![0, 0, 0, 0] x init h hu (ix4 b t k a) =
      ∑ s : Fin C, if s ≤ t then x (ix4 b s k a) else (0 : EReal) := by
  subst hc
  rw [window_sum _ _ _ _ _ _ _ _ h0]
  have key : ∀ w : Fin C, (if hin : ∀ a', (![0, C - 1, 0, 0] : Fin 4 → ℕ) a' ≤ ((ix4 b t k a) (a'.cast h.1.symm)).val * (![1, 1, 1, 1] : Fin 4 → ℕ) a' + ((ix4 (n0 := 1) (n1 := C) (n2 := 1) (n3 := 1) 0 w 0 0) a').val ∧
        ((ix4 b t k a) (a'.cast h.1.symm)).val * (![1, 1, 1, 1] : Fin 4 → ℕ) a' + ((ix4 (n0 := 1) (n1 := C) (n2 := 1) (n3 := 1) 0 w 0 0) a').val - (![0, C - 1, 0, 0] : Fin 4 → ℕ) a' < (⟨4, ![A, C, H, D]⟩ : Shape).size a' then
          x (fun a' => ⟨((ix4 b t k a) (a'.cast h.1.symm)).val * (![1, 1, 1, 1] : Fin 4 → ℕ) a' + ((ix4 (n0 := 1) (n1 := C) (n2 := 1) (n3 := 1) 0 w 0 0) a').val - (![0, C - 1, 0, 0] : Fin 4 → ℕ) a', (hin a').2⟩) else (0 : EReal)) =
      if C - 1 ≤ t.val + w.val then (fun n => if hn : n < C then x (ix4 b ⟨n, hn⟩ k a) else 0) (t.val + w.val - (C - 1)) else 0 := by
    intro w
    split
    · next hin =>
      have h1 : C - 1 ≤ t.val * 1 + w.val := (hin 1).1
      rw [if_pos (by omega)]
      dsimp only
      rw [dif_pos (by omega)]
      refine congrArg x (funext fun a' => Fin.ext ?_)
      match a' with
      | ⟨0, _⟩ => show b.val * 1 + 0 - 0 = b.val; omega
      | ⟨1, _⟩ => show t.val * 1 + w.val - (C - 1) = t.val + w.val - (C - 1); omega
      | ⟨2, _⟩ => show k.val * 1 + 0 - 0 = k.val; omega
      | ⟨3, _⟩ => show a.val * 1 + 0 - 0 = a.val; omega
    · next hin =>
      rw [if_neg fun hle => hin fun a' => by
        match a' with
        | ⟨0, _⟩ => show 0 ≤ b.val * 1 + 0 ∧ b.val * 1 + 0 - 0 < A; omega
        | ⟨1, _⟩ => show C - 1 ≤ t.val * 1 + w.val ∧ t.val * 1 + w.val - (C - 1) < C; omega
        | ⟨2, _⟩ => show 0 ≤ k.val * 1 + 0 ∧ k.val * 1 + 0 - 0 < H; omega
        | ⟨3, _⟩ => show 0 ≤ a.val * 1 + 0 ∧ a.val * 1 + 0 - 0 < D; omega]
  refine (Fintype.sum_bijective (fun w : Fin C => (ix4 (n0 := 1) (n1 := C) (n2 := 1) (n3 := 1) 0 w 0 0)) ⟨?_, ?_⟩ _ _ (fun w => (key w).symm)).symm.trans ?_
  · intro w w' e
    exact congrFun e 1
  · intro i
    refine ⟨i 1, ?_⟩
    refine Eq.trans ?_ (eq_ix4 i).symm
    show ix4 (n0 := 1) (n1 := C) (n2 := 1) (n3 := 1) 0 (i 1) 0 0 = ix4 (i 0) (i 1) (i 2) (i 3)
    congr 1 <;> exact Subsingleton.elim (α := Fin 1) _ _
  · refine (shift_sum (fun n => if hn : n < C then x (ix4 b ⟨n, hn⟩ k a) else 0) t).trans ?_
    refine Finset.sum_congr rfl fun s _ => ?_
    rw [dif_pos s.2]
/-- A running sum down the first of two axes. -/
theorem running2 {C D : ℕ} (x : Vec Ideal ⟨2, ![C, D]⟩ .f32) {u : Shape} (init : Vec Ideal u .f32) (hu : 0 < u.numel)
    (h0 : init (Shape.Idx.first hu) = (0 : EReal)) (c1 : ℕ) (hc : c1 = C - 1)
    (h : (⟨2, ![C, D]⟩ : Shape).ReduceWindows ![C, 1] ![1, 1] ![c1, 0] ![0, 0] ⟨2, ![C, D]⟩)
    (t : Fin C) (a : Fin D) :
    Host.reduceWindowAdd (F := Ideal) (φ := .f32) ![C, 1] ![1, 1] ![c1, 0] ![0, 0] x init h hu (ix2 t a) =
      ∑ s : Fin C, if s ≤ t then x (ix2 s a) else (0 : EReal) := by
  subst hc
  rw [window_sum _ _ _ _ _ _ _ _ h0]
  have key : ∀ w : Fin C, (if hin : ∀ a', (![C - 1, 0] : Fin 2 → ℕ) a' ≤ ((ix2 t a) (a'.cast h.1.symm)).val * (![1, 1] : Fin 2 → ℕ) a' + ((ix2 (n0 := C) (n1 := 1) w 0) a').val ∧
        ((ix2 t a) (a'.cast h.1.symm)).val * (![1, 1] : Fin 2 → ℕ) a' + ((ix2 (n0 := C) (n1 := 1) w 0) a').val - (![C - 1, 0] : Fin 2 → ℕ) a' < (⟨2, ![C, D]⟩ : Shape).size a' then
          x (fun a' => ⟨((ix2 t a) (a'.cast h.1.symm)).val * (![1, 1] : Fin 2 → ℕ) a' + ((ix2 (n0 := C) (n1 := 1) w 0) a').val - (![C - 1, 0] : Fin 2 → ℕ) a', (hin a').2⟩) else (0 : EReal)) =
      if C - 1 ≤ t.val + w.val then (fun n => if hn : n < C then x (ix2 ⟨n, hn⟩ a) else 0) (t.val + w.val - (C - 1)) else 0 := by
    intro w
    split
    · next hin =>
      have h1 : C - 1 ≤ t.val * 1 + w.val := (hin 0).1
      rw [if_pos (by omega)]
      dsimp only
      rw [dif_pos (by omega)]
      refine congrArg x (funext fun a' => Fin.ext ?_)
      match a' with
      | ⟨0, _⟩ => show t.val * 1 + w.val - (C - 1) = t.val + w.val - (C - 1); omega
      | ⟨1, _⟩ => show a.val * 1 + 0 - 0 = a.val; omega
    · next hin =>
      rw [if_neg fun hle => hin fun a' => by
        match a' with
        | ⟨0, _⟩ => show C - 1 ≤ t.val * 1 + w.val ∧ t.val * 1 + w.val - (C - 1) < C; omega
        | ⟨1, _⟩ => show 0 ≤ a.val * 1 + 0 ∧ a.val * 1 + 0 - 0 < D; omega]
  refine (Fintype.sum_bijective (fun w : Fin C => (ix2 (n0 := C) (n1 := 1) w 0)) ⟨?_, ?_⟩ _ _ (fun w => (key w).symm)).symm.trans ?_
  · intro w w' e
    exact congrFun e 0
  · intro i
    refine ⟨i 0, ?_⟩
    refine Eq.trans ?_ (eq_ix2 i).symm
    show ix2 (n0 := C) (n1 := 1) (i 0) 0 = ix2 (i 0) (i 1)
    congr 1
    exact Subsingleton.elim (α := Fin 1) _ _
  · refine (shift_sum (fun n => if hn : n < C then x (ix2 ⟨n, hn⟩ a) else 0) t).trans ?_
    refine Finset.sum_congr rfl fun s _ => ?_
    rw [dif_pos s.2]

end Cert.HgrnProof
-- ==== Proof.HgrnTables.lean ====
/- The two tables of zeros and ones that the kernel's host code builds: which rows each band of the decay sums adds up, and
   which pairs of tokens each level's mask lets through. -/
module
public import proofs.«01_k».proof.Proof.Gen.HgrnIdeal.Value
public import proofs.«01_k».proof.Proof.Recurrence
public import Idealize.ShloMosaic.Lib.Claim
public import Idealize.ShloMosaic.Lib.Pointwise
public import Idealize.ShloMosaic.Lib.StableHlo.Predicate
@[expose] public section
set_option maxRecDepth 16384
noncomputable section
namespace Cert.HgrnProof
open Idealize.ShloMosaic Idealize.ShloMosaic.TcCoe Idealize.ShloMosaic.Tactic
open Cert.HgrnIdeal Cert.HgrnIdeal.Gen Cert.Recurrence

/-- A truth value as a bit. -/
abbrev bit (p : Prop) [Decidable p] : BitVec 1 := BitVec.ofBool (decide p)

/-- Both bits. -/
theorem bit_and (p q : Prop) [Decidable p] [Decidable q] : IntOp.andi (bit p) (bit q) = bit (p ∧ q) := by
  by_cases hp : p <;> by_cases hq : q <;> simp [bit, hp, hq, IntOp.andi]
/-- The other bit. -/
theorem bit_not (p : Prop) [Decidable p] : ~~~ (bit p) = bit (¬ p) := by
  by_cases hp : p <;> simp [bit, hp]
/-- A bit that is one just when something holds. -/
theorem bit_of (b : BitVec 1) (p : Prop) [Decidable p] (h : b = 1#1 ↔ p) : b = bit p := by
  by_cases hp : p
  · rw [h.2 hp]; simp [bit, hp]
  · have : b ≠ 1#1 := fun e => hp (h.1 e)
    simp only [bit, hp, decide_false]
    clear h
    revert b; decide
/-- A small number, as a word, is that number. -/
theorem toNat_word (n : ℕ) (h : n < 2 ^ 31) : (BitVec.ofNat 32 n).toNat = n := by
  rw [BitVec.toNat_ofNat]; omega
/-- At most, on words of small numbers. -/
theorem sle_bit (a b : ℕ) (ha : a < 2 ^ 31) (hb : b < 2 ^ 31) : IntOp.cmpi .sle (BitVec.ofNat 32 a) (BitVec.ofNat 32 b) = bit (a ≤ b) :=
  bit_of _ _ ((StableHlo.Predicate.sle_iff_toNat (by rwa [toNat_word a ha]) (by rwa [toNat_word b hb])).trans (by rw [toNat_word a ha, toNat_word b hb]))
/-- Below, on words of small numbers. -/
theorem slt_bit (a b : ℕ) (ha : a < 2 ^ 31) (hb : b < 2 ^ 31) : IntOp.cmpi .slt (BitVec.ofNat 32 a) (BitVec.ofNat 32 b) = bit (a < b) :=
  bit_of _ _ ((StableHlo.Predicate.slt_iff_toNat (by rwa [toNat_word a ha]) (by rwa [toNat_word b hb])).trans (by rw [toNat_word a ha, toNat_word b hb]))
/-- At least, on words of small numbers. -/
theorem sge_bit (a b : ℕ) (ha : a < 2 ^ 31) (hb : b < 2 ^ 31) : IntOp.cmpi .sge (BitVec.ofNat 32 a) (BitVec.ofNat 32 b) = bit (b ≤ a) :=
  bit_of _ _ ((StableHlo.Predicate.sge_iff_toNat (by rwa [toNat_word a ha]) (by rwa [toNat_word b hb])).trans (by rw [toNat_word a ha, toNat_word b hb]))
/-- Above, on words of small numbers. -/
theorem sgt_bit (a b : ℕ) (ha : a < 2 ^ 31) (hb : b < 2 ^ 31) : IntOp.cmpi .sgt (BitVec.ofNat 32 a) (BitVec.ofNat 32 b) = bit (b < a) :=
  bit_of _ _ ((StableHlo.Predicate.sgt_iff_toNat (by rwa [toNat_word a ha]) (by rwa [toNat_word b hb])).trans (by rw [toNat_word a ha, toNat_word b hb]))
/-- Equality, on words of small numbers. -/
theorem eq_bit (a b : ℕ) (ha : a < 2 ^ 31) (hb : b < 2 ^ 31) : IntOp.cmpi .eq (BitVec.ofNat 32 a) (BitVec.ofNat 32 b) = bit (a = b) := by
  refine bit_of _ _ ⟨fun h => ?_, fun h => by subst h; simp [IntOp.cmpi]⟩
  have e : BitVec.ofNat 32 a = BitVec.ofNat 32 b := by
    by_contra hne
    have hf : (BitVec.ofNat 32 a == BitVec.ofNat 32 b) = false := beq_eq_false_iff_ne.2 hne
    simp only [IntOp.cmpi, hf] at h
    exact absurd h (by decide)
  rw [← toNat_word a ha, ← toNat_word b hb, e]

/-- The half block of a level, and the block, as words. -/
theorem halfW : ∀ lv : Fin 7, IntOp.shli .host 1#32 (BitVec.ofNat 32 lv.val) = BitVec.ofNat 32 (2 ^ lv.val) := by decide +kernel
/-- Twice a level's width, as a word. -/
theorem wholeW : ∀ lv : Fin 7, IntOp.muli 2#32 (BitVec.ofNat 32 (2 ^ lv.val)) = BitVec.ofNat 32 (2 * 2 ^ lv.val) := by decide +kernel
/-- The quotient by twice a level's width, as a word. -/
theorem divW : ∀ (lv : Fin 7) (t : Fin 128),
    IntOp.divsi .host (BitVec.ofNat 32 t.val) (BitVec.ofNat 32 (2 * 2 ^ lv.val)) = BitVec.ofNat 32 (t.val / (2 * 2 ^ lv.val)) := by decide +kernel
/-- The remainder by twice a level's width, as a word. -/
theorem remW : ∀ (lv : Fin 7) (t : Fin 128),
    IntOp.remsi .host (BitVec.ofNat 32 t.val) (BitVec.ofNat 32 (2 * 2 ^ lv.val)) = BitVec.ofNat 32 (t.val % (2 * 2 ^ lv.val)) := by decide +kernel
/-- The middle of a level's group, as a word. -/
theorem midW : ∀ (lv : Fin 7) (t : Fin 128),
    IntOp.addi (IntOp.muli (BitVec.ofNat 32 (t.val / (2 * 2 ^ lv.val))) (BitVec.ofNat 32 (2 * 2 ^ lv.val))) (BitVec.ofNat 32 (2 ^ lv.val))
      = BitVec.ofNat 32 (mid (2 ^ lv.val) t.val) := by decide +kernel
/-- The numbers compared are small enough for signed words. -/
theorem small : ∀ (lv : Fin 7) (t : Fin 128), 2 ^ lv.val < 2 ^ 31 ∧ t.val / (2 * 2 ^ lv.val) < 2 ^ 31 ∧ t.val % (2 * 2 ^ lv.val) < 2 ^ 31
    ∧ mid (2 ^ lv.val) t.val < 2 ^ 31 ∧ t.val < 2 ^ 31 := by decide +kernel

abbrev half : IVec S7x128x128 32 := Host.shli (broadcastInDim S7x128x128 ![] bcast_S_S7x128x128 (constantI S_ 32 1#32)) (iotaInDim S7x128x128 32 0)
abbrev whole : IVec S7x128x128 32 := muli (broadcastInDim S7x128x128 ![] bcast_S_S7x128x128 (constantI S_ 32 2#32)) half
abbrev tT : IVec S7x128x128 32 := iotaInDim S7x128x128 32 1
abbrev tU : IVec S7x128x128 32 := iotaInDim S7x128x128 32 2
abbrev middle : IVec S7x128x128 32 := addi (muli (Host.divsi tT whole) whole) half
abbrev upper : IVec S7x128x128 1 := cmpi .sge (Host.remsi tT whole) half
/-- The rows an upper half's sums take, those a lower half's sums take, and the pairs of a level. -/
def rowsU : IVec S7x128x128 1 := andi (andi upper (cmpi .sge tU middle)) (cmpi .sle tU tT)
def rowsL : IVec S7x128x128 1 := andi (andi (noti upper) (cmpi .sgt tU tT)) (cmpi .slt tU middle)
def pairs : IVec S7x128x128 1 :=
  andi (andi (cmpi .eq (Host.divsi tT whole) (Host.divsi tU whole)) upper) (cmpi .slt (Host.remsi tU whole) half)

/-- The upper half's rows at a level, at an entry. -/
theorem rowsU_apply (lv : Fin 7) (t u : Fin 128) :
    rowsU (ix3 lv t u) = bit ((up (2 ^ lv.val) t ∧ mid (2 ^ lv.val) t ≤ u.val) ∧ u.val ≤ t.val) := by
  obtain ⟨h1, h2, h3, h4, h5⟩ := small lv t
  obtain ⟨-, h6, h7, -, h8⟩ := small lv u
  pointwise [rowsU, upper, middle, whole, half, tT, tU]
  simp only [halfW, wholeW, divW, remW, midW, sge_bit _ _ h3 h1, sge_bit _ _ h8 h4, sle_bit _ _ h8 h5, bit_and]
  rfl
/-- The lower half's rows at a level, at an entry. -/
theorem rowsL_apply (lv : Fin 7) (t u : Fin 128) :
    rowsL (ix3 lv t u) = bit ((¬ up (2 ^ lv.val) t ∧ t.val < u.val) ∧ u.val < mid (2 ^ lv.val) t) := by
  obtain ⟨h1, h2, h3, h4, h5⟩ := small lv t
  obtain ⟨-, h6, h7, -, h8⟩ := small lv u
  pointwise [rowsL, upper, middle, whole, half, tT, tU]
  simp only [halfW, wholeW, divW, remW, midW, sge_bit _ _ h3 h1, slt_bit _ _ h8 h4, sgt_bit _ _ h8 h5, bit_and, bit_not]
  rfl
/-- The pairs met at a level, at an entry. -/
theorem pairs_apply (lv : Fin 7) (t u : Fin 128) : pairs (ix3 lv t u) = bit (pair (2 ^ lv.val) t u) := by
  obtain ⟨h1, h2, h3, h4, h5⟩ := small lv t
  obtain ⟨-, h6, h7, -, h8⟩ := small lv u
  pointwise [pairs, upper, whole, half, tT, tU]
  simp only [halfW, wholeW, divW, remW, sge_bit _ _ h3 h1, slt_bit _ _ h7 h1, eq_bit _ _ h2 h6, bit_and]
  rfl

/-- The sixteen bands of the sums' table, one above another. -/
def bands : IVec S16x128x128 1 := concatenate S16x128x128 0
  [⟨S2x128x128, concatenate S2x128x128 0
      [⟨S1x128x128, cmpi .sle (iotaInDim S1x128x128 32 2) (iotaInDim S1x128x128 32 1)⟩,
       ⟨S1x128x128, cmpi .sgt (iotaInDim S1x128x128 32 2) (iotaInDim S1x128x128 32 1)⟩]
      concatenates_S1x128x128_S1x128x128_S2x128x128_d0⟩,
   ⟨S14x128x128, shapeCast S14x128x128 (concatenate S7x2x128x128 1
      [⟨S7x1x128x128, broadcastInDim S7x1x128x128 ![0, 2, 3] bcast_S7x128x128_S7x1x128x128_0_2_3 rowsU⟩,
       ⟨S7x1x128x128, broadcastInDim S7x1x128x128 ![0, 2, 3] bcast_S7x128x128_S7x1x128x128_0_2_3 rowsL⟩]
      concatenates_S7x1x128x128_S7x1x128x128_S7x2x128x128_d1) shapeCasts_S7x2x128x128_S14x128x128⟩]
  concatenates_S2x128x128_S14x128x128_S16x128x128_d0
/-- The eight masks: the diagonal, then the levels' pairs. -/
def masks : IVec S8x128x128 1 := concatenate S8x128x128 0
  [⟨S1x128x128, cmpi .eq (iotaInDim S1x128x128 32 2) (iotaInDim S1x128x128 32 1)⟩, ⟨S7x128x128, pairs⟩]
  concatenates_S1x128x128_S7x128x128_S8x128x128_d0

/-- The first band sums up to and with the row. -/
theorem bands_0 (t u : Fin 128) : bands (ix3 ⟨0, by omega⟩ t u) = bit (u.val ≤ t.val) := by
  have := t.2; have := u.2
  pointwise [bands]
  exact sle_bit _ _ (by omega) (by omega)
/-- The second band sums the rows after. -/
theorem bands_1 (t u : Fin 128) : bands (ix3 ⟨1, by omega⟩ t u) = bit (t.val < u.val) := by
  have := t.2; have := u.2
  pointwise [bands]
  exact sgt_bit _ _ (by omega) (by omega)
/-- A level's first band is that of the upper half. -/
theorem bands_U (lv : Fin 7) (t u : Fin 128) : bands (ix3 ⟨2 + 2 * lv.val, by omega⟩ t u) = rowsU (ix3 lv t u) := by
  pointwise [bands]
  rw [dif_pos (by omega)]
/-- A level's second band is that of the lower half. -/
theorem bands_L (lv : Fin 7) (t u : Fin 128) : bands (ix3 ⟨3 + 2 * lv.val, by omega⟩ t u) = rowsL (ix3 lv t u) := by
  pointwise [bands]
  rw [dif_neg (by omega), dif_neg (by omega)]
  exact congrArg (fun i => rowsL (ix3 i t u)) (Fin.ext (by show (_ - 2) / 2 = _; omega))
/-- The first mask is the diagonal. -/
theorem masks_0 (t u : Fin 128) : masks (ix3 ⟨0, by omega⟩ t u) = bit (u.val = t.val) := by
  have := t.2; have := u.2
  pointwise [masks]
  exact eq_bit _ _ (by omega) (by omega)
/-- A later mask is its level's pairs. -/
theorem masks_l (lv : Fin 7) (t u : Fin 128) : masks (ix3 ⟨1 + lv.val, by omega⟩ t u) = pairs (ix3 lv t u) := by
  pointwise [masks]

variable {F : FTy → Type} [FloatOps F]
variable (m : (ℓ : Loc nD τ sig) → Buf (Elt F) ℓ)
/-- What the kernel finds in its operands that the host code makes: the zero state, the gain as a row, and the two tables. -/
theorem V_zero (c : Dev nD) : V m c main_v0 = broadcastInDim S16x4x128x128 ![] bcast_S_S16x4x128x128 (constant S_ .f32 0x00000000#32) := by
  entry_read
  rfl
/-- The norm's weights, as the call takes them. -/
theorem V_gain (c : Dev nD) : V m c main_v1 = shapeCast S1x128 (m (c, Proc.tc.devRef main_arg2)) shapeCasts_S128_S1x128 := by
  entry_read
  rfl
/-- The masks, as the call takes them. -/
theorem V_masks (c : Dev nD) : V m c main_v58 = select masks
    (broadcastInDim S8x128x128 ![] bcast_S_S8x128x128 (constant S_ FTy.f32 1065353216#32))
    (broadcastInDim S8x128x128 ![] bcast_S_S8x128x128 (constant S_ FTy.f32 0#32)) := by
  entry_read
  rfl
set_option maxHeartbeats 4000000 in
/-- The prefix sums' table, as the call takes it. -/
theorem V_sums (c : Dev nD) : V m c main_v59 = truncf .bf16 (select (shapeCast S2048x128 bands shapeCasts_S16x128x128_S2048x128)
    (broadcastInDim S2048x128 ![] bcast_S_S2048x128 (constant S_ FTy.f32 1065353216#32))
    (broadcastInDim S2048x128 ![] bcast_S_S2048x128 (constant S_ FTy.f32 0#32))) bitsLt_bf16_f32 := by
  entry_read
  rfl

end Cert.HgrnProof
-- ==== Proof.HgrnWin.lean ====
/- What one grid point of the kernel finds in its blocks: the tokens, the gate and the tables as the recurrence names them. -/
module
public import proofs.«01_k».proof.Proof.HgrnPoint
public import proofs.«01_k».proof.Proof.HgrnChunk
public import proofs.«01_k».proof.Proof.HgrnGate
public import proofs.«01_k».proof.Proof.HgrnTables
public import Idealize.ShloMosaic.Lib.Pipeline.ValueKit
@[expose] public section
set_option maxRecDepth 16384
noncomputable section
namespace Cert.HgrnProof
open Idealize.ShloMosaic Idealize.ShloMosaic.TcCoe Idealize.ShloMosaic.Tactic
open Cert.HgrnIdeal Cert.HgrnIdeal.Gen Cert.Recurrence

variable (m : (ℓ : Loc nD τ sig) → Buf (Elt Ideal) ℓ)
/-- Where window 0 lies at a point. -/
theorem idx0 : ∀ t, win0_0.index t = ![t.val, 0] := by decide +kernel
/-- Where window 1 lies at a point. -/
theorem idx1 : ∀ t, win0_1.index t = ![t.val / 32, 0, 0, 0] := by decide +kernel
/-- Where window 2 lies at a point. -/
theorem idx2 : ∀ t, win0_2.index t = ![0, 0] := by decide +kernel
/-- Where window 3 lies at a point. -/
theorem idx3 : ∀ t, win0_3.index t = ![0, 0] := by decide +kernel
/-- Where window 4 lies at a point. -/
theorem idx4 : ∀ t, win0_4.index t = ![0, 0] := by decide +kernel
/-- Where window 5 lies at a point. -/
theorem idx5 : ∀ t, win0_5.index t = ![0, 0, 0] := by decide +kernel
/-- Window 0 at an entry, from the arguments. -/
theorem rd0 (c : Dev nD) (t : Fin cfg0.N) (r : Fin 128) (j : Fin 2048) (w : Fin 65536) (hw : w.val = 128 * t.val + r.val) :
    iblk m c 0 t (ix2 r j) = m (c, Proc.tc.devRef main_arg0) (ix2 w j) := by
  blk_ext [iblk, V, idx0 t]
/-- Window 2 at an entry, from the arguments. -/
theorem rd2 (c : Dev nD) (t : Fin cfg0.N) (r : Fin 2) (j : Fin 512) :
    iblk m c 2 t (ix2 r j) = m (c, Proc.tc.devRef main_arg1) (ix2 r j) := by
  blk_ext [iblk, V, idx2 t]
/-- Window 3 at an entry, from the arguments. -/
theorem rd3 (c : Dev nD) (t : Fin cfg0.N) (r : Fin 1) (j : Fin 128) :
    iblk m c 3 t (ix2 r j) = V m c main_v1 (ix2 r j) := by
  blk_ext [iblk, idx3 t]
/-- Window 1 at an entry, from the arguments. -/
theorem rd1 (c : Dev nD) (t : Fin cfg0.N) (h : Fin 4) (i j : Fin 128) (b : Fin 16) (hb : b.val = t.val / 32) :
    iblk m c 1 t (ix4 0 h i j) = V m c main_v0 (ix4 b h i j) := by
  blk_ext [iblk, idx1 t]
/-- Window 4 at an entry, from the arguments. -/
theorem rd4 (c : Dev nD) (t : Fin cfg0.N) (r : Fin 2048) (j : Fin 128) :
    iblk m c 4 t (ix2 r j) = V m c main_v59 (ix2 r j) := by
  blk_ext [iblk, idx4 t]
/-- Window 5 at an entry, from the arguments. -/
theorem rd5 (c : Dev nD) (t : Fin cfg0.N) (r : Fin 8) (i j : Fin 128) :
    iblk m c 5 t (ix3 r i j) = V m c main_v58 (ix3 r i j) := by
  blk_ext [iblk, idx5 t]

/-- A bit picked into a one or a nothing. -/
theorem word_bit (p : Prop) [Decidable p] (b : BitVec 1) (hb : b = bit p) :
    (if b = 1#1 then (1 : EReal) else 0) = ((if p then 1 else 0 : ℝ) : EReal) := by
  subst hb
  by_cases hp : p <;> simp [bit, hp]
/-- A row of band `r` of the sums' table. -/
theorem sums_at (c : Dev nD) (r : Fin 16) (t u : Fin 128) (p : Prop) [Decidable p] (hp : bands (ix3 r t u) = bit p) :
    V m c main_v59 (ix2 ⟨128 * r.val + t.val, by omega⟩ u) = ((if p then 1 else 0 : ℝ) : EReal) := by
  rw [V_sums]
  refine Eq.trans ?_ (word_bit p _ hp)
  pointwise
  rfl
/-- A row of mask `r`. -/
theorem masks_at (c : Dev nD) (r : Fin 8) (t u : Fin 128) (p : Prop) [Decidable p] (hp : masks (ix3 r t u) = bit p) :
    V m c main_v58 (ix3 r t u) = ((if p then 1 else 0 : ℝ) : EReal) := by
  rw [V_masks]
  refine Eq.trans ?_ (word_bit p _ hp)
  pointwise
  rfl

/-- Loads of whole blocks, of column groups and of a mask's slab. -/
theorem ldQ_apply (x : Vec Ideal S128x2048 .f32) (r : Fin 128) (j : Fin 512) : ldQ x (ix2 r j) = x (ix2 r ⟨j.val, by omega⟩) := by
  refine View.ld_unit_apply_of _ _ _ _ _ _ fun a => ?_
  match a with
  | ⟨0, _⟩ => exact (Nat.zero_add _).symm
  | ⟨1, _⟩ => exact (Nat.zero_add _).symm
/-- A read of the forget columns. -/
theorem ldF_apply (x : Vec Ideal S128x2048 .f32) (r : Fin 128) (j : Fin 512) : ldF x (ix2 r j) = x (ix2 r ⟨512 + j.val, by omega⟩) := by
  refine View.ld_unit_apply_of _ _ _ _ _ _ fun a => ?_
  match a with
  | ⟨0, _⟩ => exact (Nat.zero_add _).symm
  | ⟨1, _⟩ => rfl
/-- A read of the value columns. -/
theorem ldV_apply (x : Vec Ideal S128x2048 .f32) (r : Fin 128) (j : Fin 512) : ldV x (ix2 r j) = x (ix2 r ⟨1024 + j.val, by omega⟩) := by
  refine View.ld_unit_apply_of _ _ _ _ _ _ fun a => ?_
  match a with
  | ⟨0, _⟩ => exact (Nat.zero_add _).symm
  | ⟨1, _⟩ => rfl
/-- A read of a head's gate columns. -/
theorem ldG_apply (x : Vec Ideal S128x2048 .f32) (h : Fin 4) (r j : Fin 128) : ldG x h (ix2 r j) = x (ix2 r ⟨1536 + (128 * h.val + j.val), by omega⟩) := by
  refine View.ld_unit_apply_of _ _ _ _ _ _ fun a => ?_
  match a with
  | ⟨0, _⟩ => exact (Nat.zero_add _).symm
  | ⟨1, _⟩ => exact (Nat.add_assoc _ _ _).symm
/-- A read of the lower bound's logits. -/
theorem ldB_apply (x : Vec Ideal S2x512 .f32) (r : Fin 2) (j : Fin 512) : ldB x (ix2 r j) = x (ix2 r j) := by
  refine View.ld_unit_apply_of _ _ _ _ _ _ fun a => ?_
  match a with
  | ⟨0, _⟩ => exact (Nat.zero_add _).symm
  | ⟨1, _⟩ => exact (Nat.zero_add _).symm
/-- A read of the prefix sums' table. -/
theorem ldW_apply (x : Vec Ideal S2048x128 .bf16) (r : Fin 2048) (j : Fin 128) : ldW x (ix2 r j) = x (ix2 r j) := by
  refine View.ld_unit_apply_of _ _ _ _ _ _ fun a => ?_
  match a with
  | ⟨0, _⟩ => exact (Nat.zero_add _).symm
  | ⟨1, _⟩ => exact (Nat.zero_add _).symm
/-- A read of the norm's weights. -/
theorem ldN_apply (x : Vec Ideal S1x128 .f32) (r : Fin 1) (j : Fin 128) : ldN x (ix2 r j) = x (ix2 r j) := by
  refine View.ld_unit_apply_of _ _ _ _ _ _ fun a => ?_
  match a with
  | ⟨0, _⟩ => exact (Nat.zero_add _).symm
  | ⟨1, _⟩ => exact (Nat.zero_add _).symm
/-- A read of a mask. -/
theorem ldM_apply (x : Vec Ideal S8x128x128 .f32) (l : Fin 8) (i j : Fin 128) : ldM x l (ix3 0 i j) = x (ix3 l i j) := by
  refine View.ld_unit_apply_of _ _ _ _ _ _ fun a => ?_
  match a with
  | ⟨0, _⟩ => rfl
  | ⟨1, _⟩ => exact (Nat.zero_add _).symm
  | ⟨2, _⟩ => exact (Nat.zero_add _).symm

/-- The row of a batch's token, and the queries, values, gates, log decays and keys of a batch and head. -/
def row (b n : ℕ) : Fin 65536 := ⟨(4096 * b + n) % 65536, Nat.mod_lt _ (by norm_num)⟩
variable (X : Vec Ideal S65536x2048 .f32) (L : Vec Ideal S2x512 .f32)
def qT (b : ℕ) (h : Fin 4) (n : ℕ) (a : Fin 128) : ℝ := (X (ix2 (row b n) ⟨128 * h.val + a.val, by omega⟩)).toReal
def vT (b : ℕ) (h : Fin 4) (n : ℕ) (a : Fin 128) : ℝ := (X (ix2 (row b n) ⟨1024 + (128 * h.val + a.val), by omega⟩)).toReal
def gT (b : ℕ) (h : Fin 4) (n : ℕ) (a : Fin 128) : ℝ :=
  gate (L (ix2 0 ⟨128 * h.val + a.val, by omega⟩)).toReal (L (ix2 1 ⟨128 * h.val + a.val, by omega⟩)).toReal
    (X (ix2 (row b n) ⟨512 + (128 * h.val + a.val), by omega⟩)).toReal
def lT (b : ℕ) (h : Fin 4) (n : ℕ) (a : Fin 128) : ℝ := Real.log (gT X L b h n a)
def kT (b : ℕ) (h : Fin 4) (n : ℕ) (a : Fin 128) : ℝ := 1 - gT X L b h n a

/-- Every entry of the first three column groups and of the logits is a real number. -/
structure Fine : Prop where
  hX : ∀ (i : Fin 65536) (j : Fin 2048), j.val < 1536 → X (ix2 i j) = ((X (ix2 i j)).toReal : EReal)
  hL : ∀ (i : Fin 2) (j : Fin 512), L (ix2 i j) = ((L (ix2 i j)).toReal : EReal)

/-- A row's number, from the point and the row in its block. -/
theorem row_eq (t r : ℕ) (ht : t < 512) (hr : r < 128) : (row (t / 32) (128 * (t % 32) + r)).val = 128 * t + r := by
  show _ % 65536 = _
  omega

/-- What a point finds is what the recurrence asks for. -/
theorem holds_at (c : Dev nD) (t : Fin cfg0.N) (h : Fin 4)
    (H : Fine (m (c, Proc.tc.devRef main_arg0)) (m (c, Proc.tc.devRef main_arg1))) :
    Holds (qT (m (c, Proc.tc.devRef main_arg0)) (t.val / 32) h) (lT (m (c, Proc.tc.devRef main_arg0)) (m (c, Proc.tc.devRef main_arg1)) (t.val / 32) h)
      (kT (m (c, Proc.tc.devRef main_arg0)) (m (c, Proc.tc.devRef main_arg1)) (t.val / 32) h) (vT (m (c, Proc.tc.devRef main_arg0)) (t.val / 32) h)
      (128 * (t.val % 32)) h (iblk m c 0 t) (iblk m c 2 t) (iblk m c 4 t) (iblk m c 5 t) where
  hq r a := (ldQ_apply _ _ _).trans ((rd0 m c t r _ _ (row_eq t.val r.val t.2 r.2)).trans (H.hX _ _ (by show 128 * h.val + a.val < 1536; omega)))
  hv r a := (ldV_apply _ _ _).trans ((rd0 m c t r _ _ (row_eq t.val r.val t.2 r.2)).trans (H.hX _ _ (by show 1024 + (128 * h.val + a.val) < 1536; omega)))
  hk r a := pay11_apply _ _ _ _ _ _ _ ((ldB_apply _ _ _).trans ((rd2 m c t _ _).trans (H.hL _ _)))
    ((ldB_apply _ _ _).trans ((rd2 m c t _ _).trans (H.hL _ _)))
    ((ldF_apply _ _ _).trans ((rd0 m c t r _ _ (row_eq t.val r.val t.2 r.2)).trans (H.hX _ _ (by show 512 + (128 * h.val + a.val) < 1536; omega))))
  hl r a := pay10_apply _ _ _ _ _ _ _ ((ldB_apply _ _ _).trans ((rd2 m c t _ _).trans (H.hL _ _)))
    ((ldB_apply _ _ _).trans ((rd2 m c t _ _).trans (H.hL _ _)))
    ((ldF_apply _ _ _).trans ((rd0 m c t r _ _ (row_eq t.val r.val t.2 r.2)).trans (H.hX _ _ (by show 512 + (128 * h.val + a.val) < 1536; omega))))
  w0 r u := (ldW_apply _ _ _).trans ((rd4 m c t _ _).trans (sums_at m c ⟨0, by omega⟩ r u _ (bands_0 r u)))
  w1 r u := (ldW_apply _ _ _).trans ((rd4 m c t _ _).trans (sums_at m c ⟨1, by omega⟩ r u _ (bands_1 r u)))
  wq lv r u := (ldW_apply _ _ _).trans ((rd4 m c t _ _).trans (sums_at m c ⟨2 + 2 * lv.val, by omega⟩ r u _ ((bands_U lv r u).trans (rowsU_apply lv r u))))
  wk lv r u := (ldW_apply _ _ _).trans ((rd4 m c t _ _).trans (sums_at m c ⟨3 + 2 * lv.val, by omega⟩ r u _ ((bands_L lv r u).trans (rowsL_apply lv r u))))
  m0 r u := (ldM_apply _ _ _ _).trans ((rd5 m c t _ _ _).trans ((masks_at m c ⟨0, by omega⟩ r u _ (masks_0 r u)).trans (by simp only [Fin.ext_iff])))
  ml lv r u := (ldM_apply _ _ _ _).trans ((rd5 m c t _ _ _).trans ((congrArg (fun i => V m c main_v58 (ix3 i r u)) (Fin.ext (by show lv.val + 1 = 1 + lv.val; omega))).trans
    (masks_at m c ⟨1 + lv.val, by omega⟩ r u _ ((masks_l lv r u).trans (pairs_apply lv r u)))))

end Cert.HgrnProof
-- ==== Proof.HgrnFold.lean ====
/- What the kernel leaves after each grid point: the carried scratch is the recurrence's state after the point's chunk, the
   output block the gated readout of it, and the last point of a sequence stores that state. -/
module
public import proofs.«01_k».proof.Proof.HgrnWin
@[expose] public section
set_option maxRecDepth 16384
noncomputable section
namespace Cert.HgrnProof
open Idealize.ShloMosaic Idealize.ShloMosaic.TcCoe Idealize.ShloMosaic.Tactic
open Cert.HgrnIdeal Cert.HgrnIdeal.Gen Cert.Recurrence

section
variable {F : FTy → Type} [FloatOps F]
variable (m : (ℓ : Loc nD τ sig) → Buf (Elt F) ℓ)
/-- A point leaves the step of the state it finds: that state, and the three results of the step. -/
def Leaves (c : Dev nD) (t : Fin cfg0.N) (l : Fin 4 → Vec F S1x128x128 .f32) : Prop :=
  (outsAt0 m c t.val t.isLt).2.2 = gS (iblk m c 0 t) (iblk m c 2 t) (iblk m c 4 t) l
  ∧ (outsAt0 m c t.val t.isLt).1 = gO (iblk m c 0 t) (iblk m c 2 t) (iblk m c 3 t) (iblk m c 4 t) (iblk m c 5 t) l
  ∧ (t.val % 32 = 31 → (outsAt0 m c t.val t.isLt).2.1 = gE (gS (iblk m c 0 t) (iblk m c 2 t) (iblk m c 4 t) l))

/-- A sequence's first point leaves what it computes from the given state. -/
theorem leaves_A (c : Dev nD) (t : Fin cfg0.N) (h0 : t.val % 32 = 0) : Leaves m c t (ini (iblk m c 1 t)) := by
  have h1 : ¬ t.val % 32 = 31 := by omega
  unfold Leaves
  rw [outsAt0_A m c t h0 h1]
  dsimp only
  rw [souts_A, canon_S, outs_A, canon_O]
  exact ⟨rfl, rfl, fun h => absurd h h1⟩
/-- A later point leaves what it computes from the state of the point before. -/
theorem leaves_B (c : Dev nD) (t : Fin cfg0.N) (h0 : ¬ t.val % 32 = 0) :
    Leaves m c t (ldS (outsAt0 m c (t.val - 1) (Nat.lt_of_le_of_lt (Nat.sub_le _ _) t.isLt)).2.2) := by
  unfold Leaves
  by_cases h1 : t.val % 32 = 31
  · rw [outsAt0_C m c t h0 h1]
    dsimp only
    rw [souts_C, canon_S, outs_C, canon_O, oute_C, canon_E]
    exact ⟨rfl, rfl, fun _ => rfl⟩
  · rw [outsAt0_B m c t h0 h1]
    dsimp only
    rw [souts_B, canon_S, outs_B, canon_O]
    exact ⟨rfl, rfl, fun h => absurd h h1⟩
end

variable (m : (ℓ : Loc nD τ sig) → Buf (Elt Ideal) ℓ)

/-- The token arrays as the memory holds them. -/
abbrev mX (c : Dev nD) : Vec Ideal S65536x2048 .f32 := m (c, Proc.tc.devRef main_arg0)
abbrev mL (c : Dev nD) : Vec Ideal S2x512 .f32 := m (c, Proc.tc.devRef main_arg1)
/-- The recurrence's state of a batch and head before token `n`, and its readout at token `n`. -/
abbrev stT (X : Vec Ideal S65536x2048 .f32) (L : Vec Ideal S2x512 .f32) (b : ℕ) (h : Fin 4) (n : ℕ) (κ ν : Fin 128) : ℝ :=
  S (lT X L b h) (kT X L b h) (vT X b h) n κ ν
abbrev roT (X : Vec Ideal S65536x2048 .f32) (L : Vec Ideal S2x512 .f32) (b : ℕ) (h : Fin 4) (n : ℕ) (ν : Fin 128) : ℝ :=
  O (qT X b h) (lT X L b h) (kT X L b h) (vT X b h) n ν

/-- The state a point finds is the recurrence's before its chunk. -/
def Finds (c : Dev nD) (t : Fin cfg0.N) (l : Fin 4 → Vec Ideal S1x128x128 .f32) : Prop :=
  ∀ (h : Fin 4) (b a : Fin 128), l h (ix3 0 b a) = (stT (mX m c) (mL m c) (t.val / 32) h (128 * (t.val % 32)) a b : EReal)

/-- … so what it leaves in the scratch is the recurrence's after it. -/
theorem scratch_of (c : Dev nD) (t : Fin cfg0.N) (H : Fine (mX m c) (mL m c)) (l : Fin 4 → Vec Ideal S1x128x128 .f32)
    (hl : Leaves m c t l) (hf : Finds m c t l) (h : Fin 4) (b a : Fin 128) :
    (outsAt0 m c t.val t.isLt).2.2 (ix3 h b a) = (stT (mX m c) (mL m c) (t.val / 32) h (128 * (t.val % 32) + 128) a b : EReal) := by
  rw [hl.1]
  exact ptS_eq (holds_at m c t h H) (l h) (hf h) b a

/-- The first point of a sequence finds the zero state. -/
theorem finds_A (c : Dev nD) (t : Fin cfg0.N) (h0 : t.val % 32 = 0) : Finds m c t (ini (iblk m c 1 t)) := by
  intro h b a
  have e0 : 128 * (t.val % 32) = 0 := by omega
  have ht : t.val / 32 < 16 := by have : t.val < 512 := t.isLt; omega
  have ez : (stT (mX m c) (mL m c) (t.val / 32) h (128 * (t.val % 32)) a b : EReal) = 0 := by rw [e0]; exact EReal.coe_zero
  refine (ini_apply (F := Ideal) _ _ _).trans ?_
  refine (rd1 m c t h a b ⟨t.val / 32, ht⟩ rfl).trans (Eq.trans ?_ ez.symm)
  rw [V_zero]
  pointwise

/-- Every point finds the recurrence's state before its chunk and leaves the step of it. -/
theorem point (c : Dev nD) (H : Fine (mX m c) (mL m c)) : ∀ (n : ℕ) (hn : n < cfg0.N),
    ∃ l, Leaves m c ⟨n, hn⟩ l ∧ Finds m c ⟨n, hn⟩ l := by
  intro n
  induction n with
  | zero => exact fun hn => ⟨_, leaves_A m c ⟨0, hn⟩ rfl, finds_A m c ⟨0, hn⟩ rfl⟩
  | succ n ih =>
    intro hn
    by_cases h0 : (n + 1) % 32 = 0
    · exact ⟨_, leaves_A m c ⟨n + 1, hn⟩ h0, finds_A m c ⟨n + 1, hn⟩ h0⟩
    · refine ⟨_, leaves_B m c ⟨n + 1, hn⟩ h0, fun h b a => ?_⟩
      obtain ⟨l, hl, hf⟩ := ih (Nat.lt_of_succ_lt hn)
      refine (ldS_apply (F := Ideal) _ _ _).trans ((scratch_of m c ⟨n, Nat.lt_of_succ_lt hn⟩ H l hl hf h b a).trans ?_)
      have e1 : n / 32 = (n + 1) / 32 := by omega
      have e2 : 128 * (n % 32) + 128 = 128 * ((n + 1) % 32) := by omega
      show ((stT (mX m c) (mL m c) (n / 32) h (128 * (n % 32) + 128) a b : ℝ) : EReal) = (stT (mX m c) (mL m c) ((n + 1) / 32) h (128 * ((n + 1) % 32)) a b : ℝ)
      rw [e1, e2]

/-- A readout, normalised over the head, scaled by the gain and gated: the layer's own closing line. -/
def gated (o : Fin 128 → ℝ) (w g : EReal) (b : Fin 128) : EReal :=
  (o b : EReal) * Ideal.rsqrt (Ideal.div (∑ x, (o x : EReal) * (o x : EReal)) (Ideal.ofBits .f32 1124073472#32) + Ideal.ofBits .f32 897988541#32) * w
    * (g * Ideal.div 1 (1 + Ideal.exp (0 - g)))
/-- Norming and gating at an entry. -/
theorem pay30_apply (o : Vec Ideal S128x128 .f32) (w : Vec Ideal S1x128 .f32) (g : Vec Ideal S128x128 .f32) (r b : Fin 128)
    (f : Fin 128 → ℝ) (ho : ∀ x, o (ix2 r x) = (f x : EReal)) : k0_pay30 o w g (ix2 r b) = gated f (w (ix2 0 b)) (g (ix2 r b)) b := by
  pointwise [k0_pay30, gated]
  simp only [ho]

/-- The output block of a point. -/
theorem out_at (c : Dev nD) (H : Fine (mX m c) (mL m c)) (t : Fin cfg0.N) (r : Fin 128) (h : Fin 4) (b : Fin 128) :
    (outsAt0 m c t.val t.isLt).1 (ix2 r ⟨128 * h.val + b.val, by omega⟩)
      = gated (roT (mX m c) (mL m c) (t.val / 32) h (128 * (t.val % 32) + r.val)) ((m (c, Proc.tc.devRef main_arg2) : Vec Ideal S128 .f32) (ix1 b))
          (mX m c (ix2 (row (t.val / 32) (128 * (t.val % 32) + r.val)) ⟨1536 + (128 * h.val + b.val), by omega⟩)) b := by
  obtain ⟨l, hl, hf⟩ := point m c H t.val t.isLt
  rw [hl.2.1]
  have e1 : (⟨(128 * h.val + b.val) / 128, by omega⟩ : Fin 4) = h := Fin.ext (by show _ / 128 = _; omega)
  have e2 : (⟨(128 * h.val + b.val) % 128, Nat.mod_lt _ (by norm_num)⟩ : Fin 128) = b := Fin.ext (by show _ % 128 = _; omega)
  have eg : ∀ (x0 : Vec Ideal S128x2048 .f32) (x2 : Vec Ideal S2x512 .f32) (x3 : Vec Ideal S1x128 .f32) (x4 : Vec Ideal S2048x128 .bf16) (x5 : Vec Ideal S8x128x128 .f32),
      gO x0 x2 x3 x4 x5 l (ix2 r ⟨128 * h.val + b.val, by omega⟩) = ptN x0 x2 x3 x4 x5 h (l h) (ix2 r b) := by
    intro x0 x2 x3 x4 x5
    show ptN x0 x2 x3 x4 x5 ⟨(128 * h.val + b.val) / 128, _⟩ (l ⟨(128 * h.val + b.val) / 128, _⟩) (ix2 r ⟨(128 * h.val + b.val) % 128, _⟩) = _
    rw [e1, e2]
  refine (eg _ _ _ _ _).trans ((pay30_apply _ _ _ _ _ _ (fun x => ptO_eq (holds_at m c t h H) (l h) (hf h) r x)).trans ?_)
  have ew : ldN (iblk m c 3 t) (ix2 0 b) = (m (c, Proc.tc.devRef main_arg2) : Vec Ideal S128 .f32) (ix1 b) := by
    refine (ldN_apply _ _ _).trans ((rd3 m c t 0 b).trans ?_)
    rw [V_gain]
    pointwise
  have eG : ldG (iblk m c 0 t) h (ix2 r b) = mX m c (ix2 (row (t.val / 32) (128 * (t.val % 32) + r.val)) ⟨1536 + (128 * h.val + b.val), by omega⟩) :=
    (ldG_apply _ _ _ _).trans (rd0 m c t r _ _ (row_eq t.val r.val t.isLt r.2))
  rw [ew, eG]

/-- The state the last point of a sequence stores. -/
theorem state_at (c : Dev nD) (H : Fine (mX m c) (mL m c)) (t : Fin cfg0.N) (h1 : t.val % 32 = 31) (h : Fin 4) (κ ν : Fin 128) :
    (outsAt0 m c t.val t.isLt).2.1 (ix4 0 h κ ν) = (stT (mX m c) (mL m c) (t.val / 32) h 4096 κ ν : EReal) := by
  obtain ⟨l, hl, hf⟩ := point m c H t.val t.isLt
  rw [hl.2.2 h1]
  have e := ptS_eq (holds_at m c t h H) (l h) (hf h) ν κ
  have e2 : 128 * (t.val % 32) + 128 = 4096 := by omega
  rw [e2] at e
  exact e

end Cert.HgrnProof
-- ==== Proof.HgrnOut.lean ====
/- The kernel's two results as arrays of the recurrence. -/
module
public import proofs.«01_k».proof.Proof.HgrnFold
@[expose] public section
set_option maxRecDepth 16384
noncomputable section
namespace Cert.HgrnProof
open Idealize.ShloMosaic Idealize.ShloMosaic.TcCoe Idealize.ShloMosaic.Tactic
open Cert.HgrnIdeal Cert.HgrnIdeal.Gen Cert.HgrnIdeal.Value Cert.Recurrence

/-- The readout array and the final states, from the token array, the logits and the gain. -/
def readouts (X : Vec Ideal S65536x2048 .f32) (L : Vec Ideal S2x512 .f32) (w : Vec Ideal S128 .f32) : Vec Ideal S65536x512 .bf16 := fun i =>
  have h1 : (i 1).val < 512 := (i 1).isLt
  gated (roT X L ((i 0).val / 4096) ⟨(i 1).val / 128, by omega⟩ ((i 0).val % 4096)) (w (ix1 ⟨(i 1).val % 128, by omega⟩))
    (X (ix2 (i 0) ⟨1536 + (i 1).val, by omega⟩)) ⟨(i 1).val % 128, by omega⟩
def states (X : Vec Ideal S65536x2048 .f32) (L : Vec Ideal S2x512 .f32) : Vec Ideal S16x4x128x128 .f32 := fun i =>
  ((stT X L (i 0).val (i 1) 4096 (i 2) (i 3) : ℝ) : EReal)

variable (m : (ℓ : Loc nD τ sig) → Buf (Elt Ideal) ℓ)
/-- The array of outputs is the readouts' function. -/
theorem G6_eq (c : Dev nD) (H : Fine (mX m c) (mL m c)) : G6 m c = readouts (mX m c) (mL m c) (m (c, Proc.tc.devRef main_arg2)) := by
  funext i
  obtain ⟨i0, i1, rfl⟩ : ∃ (i0 : Fin 65536) (i1 : Fin 512), i = ix2 i0 i1 := ⟨i 0, i 1, by funext k; fin_cases k <;> rfl⟩
  have hp : pt6Of (ix2 i0 i1) = i0.val / 128 := by
    show 1 * (i0.val / 128 - 0) + 1 * (i1.val / 512 - 0) = _
    omega
  have hlt : i0.val / 128 < cfg0.N := by show _ < 512; omega
  have hs : ∀ (n : ℕ) (h : n < cfg0.N), n = i0.val / 128 →
      (Pipeline.accAt (fun n h => stAt0 m c n h junk0) (stAt0 m c) 0 n (by omega)).1 (loc6Of (ix2 i0 i1)) = readouts (mX m c) (mL m c) (m (c, Proc.tc.devRef main_arg2)) (ix2 i0 i1) := by
    intro n h hn
    rw [← outsAt0_sweep m c n h]
    subst hn
    have el : loc6Of (ix2 i0 i1) = ix2 (⟨i0.val % 128, Nat.mod_lt _ (by norm_num)⟩ : Fin 128) (⟨128 * (i1.val / 128) + i1.val % 128, by omega⟩ : Fin 512) := by
      funext k
      match k with
      | ⟨0, _⟩ => rfl
      | ⟨1, _⟩ => exact Fin.ext (by show i1.val % 512 = 128 * (i1.val / 128) + i1.val % 128; omega)
    rw [el]
    refine (out_at m c H ⟨i0.val / 128, h⟩ ⟨i0.val % 128, Nat.mod_lt _ (by norm_num)⟩ ⟨i1.val / 128, by omega⟩ ⟨i1.val % 128, Nat.mod_lt _ (by norm_num)⟩).trans ?_
    have e1 : i0.val / 128 / 32 = i0.val / 4096 := by omega
    have e2 : 128 * (i0.val / 128 % 32) + i0.val % 128 = i0.val % 4096 := by omega
    have e3 : row (i0.val / 4096) (i0.val % 4096) = i0 := Fin.ext (by show (_ : ℕ) % 65536 = _; omega)
    have e4 : (⟨1536 + (128 * (i1.val / 128) + i1.val % 128), by omega⟩ : Fin 2048) = ⟨1536 + i1.val, by omega⟩ := Fin.ext (by show 1536 + (128 * (i1.val / 128) + i1.val % 128) = 1536 + i1.val; omega)
    show gated (roT _ _ (i0.val / 128 / 32) _ (128 * (i0.val / 128 % 32) + i0.val % 128)) _ (mX m c (ix2 (row (i0.val / 128 / 32) (128 * (i0.val / 128 % 32) + i0.val % 128)) ⟨1536 + (128 * (i1.val / 128) + i1.val % 128), _⟩)) _ = _
    rw [e1, e2, e3, e4]
    rfl
  unfold G6
  rw [dif_pos (hp.symm ▸ hlt)]
  exact hs _ (hp.symm ▸ hlt) hp

/-- The array of last states is the states' function. -/
theorem G7_eq (c : Dev nD) (H : Fine (mX m c) (mL m c)) : G7 m c = states (mX m c) (mL m c) := by
  funext i
  obtain ⟨b, h, κ, ν, rfl⟩ : ∃ (b : Fin 16) (h : Fin 4) (κ ν : Fin 128), i = ix4 b h κ ν := ⟨i 0, i 1, i 2, i 3, by funext k; fin_cases k <;> rfl⟩
  have hp : pt7Of (ix4 b h κ ν) = 32 * b.val + 31 := by
    show 32 * (1 * (b.val / 1 - 0) + 1 * (h.val / 4 - 0) + 1 * (κ.val / 128 - 0) + 1 * (ν.val / 128 - 0)) + 31 = _
    omega
  have hlt : 32 * b.val + 31 < cfg0.N := by show _ < 512; omega
  have hs : ∀ (n : ℕ) (hn : n < cfg0.N), n = 32 * b.val + 31 →
      (Pipeline.accAt (fun n h => stAt0 m c n h junk0) (stAt0 m c) 0 n (by omega)).2.1 (loc7Of (ix4 b h κ ν)) = states (mX m c) (mL m c) (ix4 b h κ ν) := by
    intro n hn e
    rw [← outsAt0_sweep m c n hn]
    subst e
    have el : loc7Of (ix4 b h κ ν) = ix4 (0 : Fin 1) h κ ν := by
      funext k
      match k with
      | ⟨0, _⟩ => exact Fin.ext (Nat.mod_one _)
      | ⟨1, _⟩ => exact Fin.ext (Nat.mod_eq_of_lt h.2)
      | ⟨2, _⟩ => exact Fin.ext (Nat.mod_eq_of_lt κ.2)
      | ⟨3, _⟩ => exact Fin.ext (Nat.mod_eq_of_lt ν.2)
    rw [el]
    refine (state_at m c H ⟨32 * b.val + 31, hn⟩ (by show (32 * b.val + 31) % 32 = 31; omega) h κ ν).trans ?_
    have e1 : (32 * b.val + 31) / 32 = b.val := by omega
    show ((stT _ _ ((32 * b.val + 31) / 32) h 4096 κ ν : ℝ) : EReal) = _
    rw [e1]
    rfl
  unfold G7
  rw [dif_pos (hp.symm ▸ hlt)]
  exact hs _ (hp.symm ▸ hlt) hp

end Cert.HgrnProof
-- ==== Proof.HgrnRefEntry.lean ====
/- What the reference carries into its loop: queries, log decays, keys and values, token by token, and what a trip reads of them. -/
module
public import proofs.«01_k».proof.Proof.HgrnRefSum
public import proofs.«01_k».proof.Proof.HgrnOut
public import proofs.«01_k».proof.Proof.Gen.HgrnRefIdeal.Step
public import Idealize.ShloMosaic.Lib.DynamicIndex
@[expose] public section
set_option maxRecDepth 16384
noncomputable section
namespace Cert.HgrnProof
open Idealize.ShloMosaic Idealize.ShloMosaic.TcCoe Idealize.ShloMosaic.Tactic
open Cert.HgrnRefIdeal Cert.HgrnRefIdeal.Gen Cert.HgrnRefIdeal.Step

variable (X : Vec Ideal S65536x2048 .f32) (L : Vec Ideal S2x512 .f32)

/-- The reference's query at an entry. -/
theorem q_entry (H : Fine X L) (j : Fin 64) (b : Fin 16) (t : Fin 64) (h : Fin 4) (a : Fin 128) :
    A_main_v40 X L (ix5 j b t h a) = (qT X b.val h (64 * j.val + t.val) a : EReal) := by
  pointwise [A_main_v40, A_main_v39, A_main_v2, A_main_v1]
  refine (H.hX _ _ (by show h.val * 128 + a.val < 1536; omega)).trans ?_
  unfold qT
  congr 4
  · exact Fin.ext (by show b.val * 4096 + j.val * 64 + t.val = (4096 * b.val + (64 * j.val + t.val)) % 65536; omega)
  · exact Fin.ext (by show h.val * 128 + a.val = 128 * h.val + a.val; omega)
/-- The reference's value at an entry. -/
theorem v_entry (H : Fine X L) (j : Fin 64) (b : Fin 16) (t : Fin 64) (h : Fin 4) (a : Fin 128) :
    A_main_v46 X L (ix5 j b t h a) = (vT X b.val h (64 * j.val + t.val) a : EReal) := by
  pointwise [A_main_v46, A_main_v45, A_main_v6, A_main_v5]
  refine (H.hX _ _ (by show 1024 + (h.val * 128 + a.val) < 1536; omega)).trans ?_
  unfold vT
  congr 4
  · exact Fin.ext (by show b.val * 4096 + j.val * 64 + t.val = (4096 * b.val + (64 * j.val + t.val)) % 65536; omega)
  · exact Fin.ext (by show 1024 + (h.val * 128 + a.val) = 1024 + (128 * h.val + a.val); omega)
/-- The softmax's first row. -/
theorem soft_entry (H : Fine X L) (c : Fin 512) :
    A_main_v17 X L (ix2 0 c) = (share (L (ix2 0 c)).toReal (L (ix2 1 c)).toReal : EReal) := by
  pointwise [A_main_v17, A_main_v16, A_main_v15, A_main_v14, A_main_v13, A_main_v12, A_main_v11, A_main_v10, A_main_v9, A_main_v7, K_main_v8, K_main_cst_0, K_main_cst_1, K_main_cst_2]
  rw [Fin.sum_univ_two]
  simp only [max_two]
  rw [bot_word, max_bot_left, H.hL 0 c, H.hL 1 c]
  exact share_coe _ _
/-- The running sum's first row is the softmax's. -/
theorem floor_entry (H : Fine X L) (c : Fin 512) :
    A_main_v18 X L (ix2 0 c) = (share (L (ix2 0 c)).toReal (L (ix2 1 c)).toReal : EReal) := by
  unfold A_main_v18
  refine (running2 _ _ _ ?_ 1 rfl _ 0 c).trans ?_
  · pointwise [K_main_call0_call0_v0, K_main_call0_call0_cst]
  · rw [Fin.sum_univ_two, if_pos (le_refl _), if_neg (by decide), add_zero]
    exact soft_entry X L H c
/-- The reference's gate at an entry. -/
theorem gate_entry (H : Fine X L) (b : Fin 16) (n : Fin 4096) (h : Fin 4) (a : Fin 128) :
    A_main_v35 X L (ix4 b n h a) = (gT X L b.val h n.val a : EReal) := by
  pointwise [A_main_v35, A_main_v34, A_main_v33, A_main_v32, A_main_v31, A_main_v30, A_main_v29, A_main_v27, A_main_v25, A_main_v24, A_main_v4, A_main_v3, A_main_v23, A_main_v21, A_main_v20, A_main_v19, K_main_v22, K_main_cst_3, K_main_v26, K_main_v28, K_main_cst_4, K_main_cst_5]
  have ec : (⟨h.val * 128 + a.val, by omega⟩ : Fin 512) = ⟨128 * h.val + a.val, by omega⟩ := Fin.ext (by show h.val * 128 + a.val = 128 * h.val + a.val; omega)
  have er : (⟨b.val * 4096 + n.val, by omega⟩ : Fin 65536) = row b.val n.val := Fin.ext (by show b.val * 4096 + n.val = (4096 * b.val + n.val) % 65536; omega)
  have ed : (⟨512 + (h.val * 128 + a.val), by omega⟩ : Fin 2048) = ⟨512 + (128 * h.val + a.val), by omega⟩ := Fin.ext (by show 512 + (h.val * 128 + a.val) = 512 + (128 * h.val + a.val); omega)
  refine (gate_coe _ _ _ _ _ (floor_entry X L H _) (sigmoid_coe _ _ ((congrArg (fun x : EReal => -x) (H.hX _ _ (by show 512 + (h.val * 128 + a.val) < 1536; omega))).trans (EReal.coe_neg _).symm))).trans ?_
  exact congrArg (fun x : ℝ => (x : EReal)) (congr (congr (congrArg gate (congrArg (fun c => (L (ix2 0 c)).toReal) ec)) (congrArg (fun c => (L (ix2 1 c)).toReal) ec))
    (congrArg₂ (fun r c => (X (ix2 r c)).toReal) er ed))
/-- A token's number, from its chunk and its place in it. -/
theorem tok (j t : Fin 64) : (⟨j.val * 64 + t.val, by omega⟩ : Fin 4096) = ⟨64 * j.val + t.val, by omega⟩ := Fin.ext (by show j.val * 64 + t.val = 64 * j.val + t.val; omega)
/-- The reference's log gate at an entry. -/
theorem l_entry (H : Fine X L) (j : Fin 64) (b : Fin 16) (t : Fin 64) (h : Fin 4) (a : Fin 128) :
    A_main_v42 X L (ix5 j b t h a) = (lT X L b.val h (64 * j.val + t.val) a : EReal) := by
  pointwise [A_main_v42, A_main_v41, A_main_v36]
  rw [tok j t, gate_entry X L H]
  exact log_gate _ _ _
/-- The reference's key at an entry. -/
theorem k_entry (H : Fine X L) (j : Fin 64) (b : Fin 16) (t : Fin 64) (h : Fin 4) (a : Fin 128) :
    A_main_v44 X L (ix5 j b t h a) = (kT X L b.val h (64 * j.val + t.val) a : EReal) := by
  pointwise [A_main_v44, A_main_v43, A_main_v38, K_main_v37, K_main_cst_6]
  rw [tok j t, gate_entry X L H, ← EReal.coe_one, ← EReal.coe_sub]
  rfl

/-- Where a trip's slices begin. -/
theorem starts (j : ℕ) (hj : j < 64) (i : S_.Idx) (a : Fin 5) :
    ((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal)) a i).toInt
      = (((![j, 0, 0, 0, 0] : Fin 5 → ℕ) a : ℕ) : Int) := by
  have h0 : (BitVec.ofNat 32 j).toInt = (j : Int) := toInt_ofNat_of_lt (by omega)
  match a with
  | ⟨0, _⟩ => exact h0
  | ⟨1, _⟩ => rfl
  | ⟨2, _⟩ => rfl
  | ⟨3, _⟩ => rfl
  | ⟨4, _⟩ => rfl
/-- A chunk's slice lies within the array. -/
theorem fits_at (j : ℕ) (hj : j < 64) : S64x16x64x4x128.Slices (![j, 0, 0, 0, 0] : Fin 5 → ℕ) S1x16x64x4x128 := by
  refine ⟨rfl, fun a => ?_⟩
  match a with
  | ⟨0, _⟩ => show j + 1 ≤ 64; omega
  | ⟨1, _⟩ => show 0 + 16 ≤ 16; omega
  | ⟨2, _⟩ => show 0 + 64 ≤ 64; omega
  | ⟨3, _⟩ => show 0 + 4 ≤ 4; omega
  | ⟨4, _⟩ => show 0 + 128 ≤ 128; omega
/-- A trip reads its own chunk. -/
theorem slice_at (x : Vec Ideal S64x16x64x4x128 .f32) (j : ℕ) (hj : j < 64) (start : Fin 5 → Int)
    (hs : ∀ a, start a = (((![j, 0, 0, 0, 0] : Fin 5 → ℕ) a : ℕ) : Int)) (b : Fin 16) (t : Fin 64) (h : Fin 4) (a : Fin 128) :
    shapeCast S16x64x4x128 (Host.dynamicSlice S1x16x64x4x128 x start sliceFits_S64x16x64x4x128_S1x16x64x4x128) shapeCasts_S1x16x64x4x128_S16x64x4x128 (ix4 b t h a)
      = x (ix5 ⟨j, hj⟩ b t h a) := by
  rw [Host.dynamicSlice_eq_extractStridedSlice S1x16x64x4x128 x start (![j, 0, 0, 0, 0] : Fin 5 → ℕ) _ (fits_at j hj) hs]
  pointwise
/-- A trip writes its own chunk. -/
theorem update_at (x : Vec Ideal S64x16x64x4x128 .f32) (u : Vec Ideal S1x16x64x4x128 .f32) (j : ℕ) (hj : j < 64) (start : Fin 5 → Int)
    (hs : ∀ a, start a = (((![j, 0, 0, 0, 0] : Fin 5 → ℕ) a : ℕ) : Int)) (i : Fin 64) (b : Fin 16) (t : Fin 64) (h : Fin 4) (a : Fin 128) :
    Host.dynamicUpdateSlice x u start updateFits_S64x16x64x4x128_S1x16x64x4x128 (ix5 i b t h a)
      = if i.val = j then u (ix5 0 b t h a) else x (ix5 i b t h a) := by
  rw [Host.dynamicUpdateSlice_eq_updateSlice x u start _ (![j, 0, 0, 0, 0] : Fin 5 → ℕ) (fun k => by have := (fits_at j hj).2 k; rw [hs k]; omega) (fits_at j hj)]
  pointwise
  by_cases e : i.val = j
  · rw [dif_pos (by omega), if_pos e]
    exact congrArg (fun z : Fin 1 => u (ix5 z b t h a)) (Subsingleton.elim _ _)
  · rw [dif_neg (by omega), if_neg e]

end Cert.HgrnProof
-- ==== Proof.HgrnRef.lean ====
/- One trip of the reference, over the reals: the state moves on by a chunk of 64 tokens and the chunk is read. -/
module
public import proofs.«01_k».proof.Proof.HgrnRefEntry
@[expose] public section
set_option maxRecDepth 16384
noncomputable section
namespace Cert.HgrnProof
open Idealize.ShloMosaic Idealize.ShloMosaic.TcCoe Idealize.ShloMosaic.Tactic
open Cert.HgrnRefIdeal Cert.HgrnRefIdeal.Gen Cert.HgrnRefIdeal.Step Cert.Recurrence

variable (X : Vec Ideal S65536x2048 .f32) (L : Vec Ideal S2x512 .f32)

/-- What the loop's values are before trip `j`. -/
structure Carries (s : State Ideal) (j : ℕ) : Prop where
  hq : ∀ (i : Fin 64) (b : Fin 16) (t : Fin 64) (h : Fin 4) (a : Fin 128), s.main_v48_0 (ix5 i b t h a) = (qT X b.val h (64 * i.val + t.val) a : EReal)
  hl : ∀ (i : Fin 64) (b : Fin 16) (t : Fin 64) (h : Fin 4) (a : Fin 128), s.main_v48_1 (ix5 i b t h a) = (lT X L b.val h (64 * i.val + t.val) a : EReal)
  hk : ∀ (i : Fin 64) (b : Fin 16) (t : Fin 64) (h : Fin 4) (a : Fin 128), s.main_v48_2 (ix5 i b t h a) = (kT X L b.val h (64 * i.val + t.val) a : EReal)
  hv : ∀ (i : Fin 64) (b : Fin 16) (t : Fin 64) (h : Fin 4) (a : Fin 128), s.main_v48_3 (ix5 i b t h a) = (vT X b.val h (64 * i.val + t.val) a : EReal)
  hs : ∀ (b : Fin 16) (h : Fin 4) (κ ν : Fin 128), s.main_v48_5 (ix4 b h κ ν) = (stT X L b.val h (64 * j) κ ν : EReal)
  ho : ∀ (i : Fin 64) (b : Fin 16) (t : Fin 64) (h : Fin 4) (a : Fin 128), i.val < j → s.main_v48_6 (ix5 i b t h a) = (roT X L b.val h (64 * i.val + t.val) a : EReal)

variable {X L} {s : State Ideal} {j : ℕ}

/-- A query that a trip takes from its chunk. -/
theorem b5_at (H : Carries X L s j) (hj : j < 64) (b : Fin 16) (t : Fin 64) (h : Fin 4) (a : Fin 128) :
    b5 j s (ix4 b t h a) = (qT X b.val h (64 * j + t.val) a : EReal) := by
  unfold b5 b4 b0 b1 b2 b3
  exact (slice_at _ j hj _ (fun k => starts j hj _ k) b t h a).trans (H.hq ⟨j, hj⟩ b t h a)
/-- A log gate that a trip takes from its chunk. -/
theorem b11_at (H : Carries X L s j) (hj : j < 64) (b : Fin 16) (t : Fin 64) (h : Fin 4) (a : Fin 128) :
    b11 j s (ix4 b t h a) = (lT X L b.val h (64 * j + t.val) a : EReal) := by
  unfold b11 b10 b6 b7 b8 b9
  exact (slice_at _ j hj _ (fun k => starts j hj _ k) b t h a).trans (H.hl ⟨j, hj⟩ b t h a)
/-- A key that a trip takes from its chunk. -/
theorem b17_at (H : Carries X L s j) (hj : j < 64) (b : Fin 16) (t : Fin 64) (h : Fin 4) (a : Fin 128) :
    b17 j s (ix4 b t h a) = (kT X L b.val h (64 * j + t.val) a : EReal) := by
  unfold b17 b16 b12 b13 b14 b15
  exact (slice_at _ j hj _ (fun k => starts j hj _ k) b t h a).trans (H.hk ⟨j, hj⟩ b t h a)
/-- A value that a trip takes from its chunk. -/
theorem b23_at (H : Carries X L s j) (hj : j < 64) (b : Fin 16) (t : Fin 64) (h : Fin 4) (a : Fin 128) :
    b23 j s (ix4 b t h a) = (vT X b.val h (64 * j + t.val) a : EReal) := by
  unfold b23 b22 b18 b19 b20 b21
  exact (slice_at _ j hj _ (fun k => starts j hj _ k) b t h a).trans (H.hv ⟨j, hj⟩ b t h a)

/-- The running sum of the chunk's log decays. -/
theorem b38_at (H : Carries X L s j) (hj : j < 64) (b : Fin 16) (t : Fin 64) (h : Fin 4) (a : Fin 128) :
    b38 j s (ix4 b t h a) = ((upto (fun u : Fin 64 => lT X L b.val h (64 * j + u.val) a) t : ℝ) : EReal) := by
  unfold b38
  refine (running4 _ _ _ ?_ 63 rfl _ b t h a).trans ?_
  · pointwise [b37, b36]
  · unfold upto
    rw [← coe_sum]
    refine Finset.sum_congr rfl fun u _ => ?_
    by_cases e : u ≤ t
    · rw [if_pos e, if_pos e, b11_at H hj]
    · rw [if_neg e, if_neg e, EReal.coe_zero]

/-- The trip's triangle: a token sees itself and the tokens before it. -/
theorem b34_at (t u : Fin 64) : b34 j s (ix2 t u) = bit (u.val ≤ t.val) := by
  pointwise [b34, b33, b32, b31, b30, b29, b28, b27, b26, b25, b24]
  rw [show IntOp.addi (BitVec.ofNat 32 t.val) 0#32 = BitVec.ofNat 32 t.val from by simp [IntOp.addi], sge_bit _ _ (by omega) (by omega)]
  by_cases e : u.val ≤ t.val <;> simp [bit, e, Scalar.select]

/-- What the old state gives a token. -/
theorem b42_at (H : Carries X L s j) (hj : j < 64) (b : Fin 16) (t : Fin 64) (h : Fin 4) (ν : Fin 128) :
    b42 j s (ix4 b t h ν) = ((∑ a : Fin 128, qT X b.val h (64 * j + t.val) a * Real.exp (upto (fun u : Fin 64 => lT X L b.val h (64 * j + u.val) a) t)
      * stT X L b.val h (64 * j) a ν : ℝ) : EReal) := by
  pointwise [b42, b41, b40, b39]
  rw [← coe_sum]
  refine Finset.sum_congr rfl fun a _ => ?_
  rw [H.hs, b5_at H hj, b38_at H hj, Ideal.exp_coe, ← EReal.coe_mul, ← EReal.coe_mul, mul_comm]

/-- What the chunk's own tokens give a token. -/
theorem b60_at (H : Carries X L s j) (hj : j < 64) (b : Fin 16) (t : Fin 64) (h : Fin 4) (ν : Fin 128) :
    b60 j s (ix4 b t h ν) = ((∑ u : Fin 64, score (qT X b.val h) (lT X L b.val h) (kT X L b.val h) (64 * j) t u * vT X b.val h (64 * j + u.val) ν : ℝ) : EReal) := by
  pointwise [b60, b59, b58, b57, b56, b55, b54, b53, b52, b51, b50, b49, b48, b47, b46, b45, b44, b43, b35]
  rw [← coe_sum]
  refine Finset.sum_congr rfl fun u _ => ?_
  rw [b23_at H hj, b34_at, EReal.coe_mul, mul_comm]
  congr 1
  unfold score
  by_cases e : u ≤ t
  · rw [if_pos e, ← coe_sum]
    refine Finset.sum_congr rfl fun a _ => ?_
    rw [b38_at H hj, b38_at H hj, b17_at H hj, b5_at H hj, ← EReal.coe_sub, gap_sub _ _ _ e]
    have eb : bit (u.val ≤ t.val) = 1#1 := by simp [bit, Fin.le_def.1 e]
    rw [eb]
    refine (congrArg (fun x : EReal => x * _ * _) (Ideal.exp_coe (r := _))).trans ?_
    rw [← EReal.coe_mul, ← EReal.coe_mul]
    congr 1
    ring
  · rw [if_neg e, EReal.coe_zero]
    refine Finset.sum_eq_zero fun a _ => ?_
    have eb : bit (u.val ≤ t.val) = 0#1 := by
      have e' : ¬ u.val ≤ t.val := fun h => e (Fin.le_def.2 h)
      unfold bit
      rw [decide_eq_false e']
      rfl
    rw [eb, bot_word, b17_at H hj, b5_at H hj]
    show Ideal.exp ⊥ * _ * _ = _
    rw [Ideal.exp_bot, zero_mul, zero_mul]

/-- The next state. -/
theorem b73_at (H : Carries X L s j) (hj : j < 64) (b : Fin 16) (h : Fin 4) (κ ν : Fin 128) :
    b73 j s (ix4 b h κ ν) = (stT X L b.val h (64 * (j + 1)) κ ν : EReal) := by
  pointwise [b73, b72, b71, b70, b69, b68, b67, b66, b65, b64, b63, b62, b61]
  have e0 : stT X L b.val h (64 * (j + 1)) κ ν = _ := S_chunk (lT X L b.val h) (kT X L b.val h) (vT X b.val h) (64 * j) (63 : Fin 64) rfl κ ν
  rw [e0, EReal.coe_add, EReal.coe_mul, b38_at H hj, H.hs, Ideal.exp_coe]
  congr 1
  rw [← coe_sum]
  refine Finset.sum_congr rfl fun u _ => ?_
  rw [b17_at H hj, b38_at H hj, b23_at H hj, ← EReal.coe_sub, past_sub _ u 63 rfl, Ideal.exp_coe, ← EReal.coe_mul, ← EReal.coe_mul]

/-- The chunk's readouts. -/
theorem b74_at (H : Carries X L s j) (hj : j < 64) (b : Fin 16) (t : Fin 64) (h : Fin 4) (ν : Fin 128) :
    b74 j s (ix4 b t h ν) = (roT X L b.val h (64 * j + t.val) ν : EReal) := by
  pointwise [b74]
  rw [b42_at H hj, b60_at H hj, ← EReal.coe_add, add_comm]
  congr 1
  exact (O_chunk (qT X b.val h) (lT X L b.val h) (kT X L b.val h) (vT X b.val h) (64 * j) t ν).symm

/-- A trip of the loop keeps what the loop carries, one chunk further. -/
theorem trip (H : Carries X L s j) (hj : j < 64) : Carries X L (step j s) (j + 1) where
  hq := H.hq
  hl := H.hl
  hk := H.hk
  hv := H.hv
  hs := b73_at H hj
  ho := by
    intro i b t h a hi
    show b80 j s (ix5 i b t h a) = _
    unfold b80 b79 b78 b77 b76
    refine (update_at _ _ j hj _ (fun k => starts j hj _ k) i b t h a).trans ?_
    by_cases e : i.val = j
    · rw [if_pos e, e]
      refine Eq.trans ?_ (b74_at H hj b t h a)
      pointwise [b75]
    · rw [if_neg e]
      exact H.ho i b t h a (by omega)
/-- Before the first trip. -/
theorem begins (H : Fine X L) : Carries X L (init X L) 0 where
  hq := q_entry X L H
  hl := l_entry X L H
  hk := k_entry X L H
  hv := v_entry X L H
  hs := by
    intro b h κ ν
    show K_main_v0 (F := Ideal) (ix4 b h κ ν) = _
    pointwise [K_main_v0, K_main_cst]
    exact EReal.coe_zero.symm
  ho := fun _ _ _ _ _ h => absurd h (Nat.not_lt_zero _)
/-- Before every trip. -/
theorem carries (H : Fine X L) (it : ℕ → State Ideal) (h0 : it 0 = init X L) (hs : ∀ n, it (n + 1) = step n (it n)) :
    ∀ n, n ≤ 64 → Carries X L (it n) n := by
  intro n
  induction n with
  | zero => intro _; rw [h0]; exact begins H
  | succ n ih => intro hn; rw [hs]; exact trip (ih (by omega)) (by omega)

/-- The reference's readout array. -/
theorem out_is (H : Carries X L s 64) (w : Vec Ideal S128 .f32) : R_main_v69 s X w = readouts X L w := by
  funext i
  obtain ⟨r, c, rfl⟩ : ∃ (r : Fin 65536) (c : Fin 512), i = ix2 r c := ⟨i 0, i 1, eq_ix2 i⟩
  pointwise [R_main_v69]
  have e : ∀ x : Fin 128, s.main_v48_6 (ix5 ⟨r.val % 4096 / 64, by omega⟩ ⟨r.val / 4096, by omega⟩ ⟨r.val % 4096 % 64, by omega⟩ ⟨c.val / 128, by omega⟩ x)
      = (roT X L (r.val / 4096) ⟨c.val / 128, by omega⟩ (r.val % 4096) x : EReal) := by
    intro x
    refine (H.ho _ _ _ _ _ (by show r.val % 4096 / 64 < 64; omega)).trans ?_
    show ((roT X L (r.val / 4096) ⟨c.val / 128, by omega⟩ (64 * (r.val % 4096 / 64) + r.val % 4096 % 64) x : ℝ) : EReal) = _
    rw [Nat.div_add_mod]
  simp only [e]
  rw [← zero_sub (X (ix2 r ⟨1536 + c.val, by omega⟩))]
  rfl
/-- The reference's final states. -/
theorem state_is (H : Carries X L s 64) : s.main_v48_5 = states X L := by
  funext i
  obtain ⟨b, h, κ, ν, rfl⟩ : ∃ (b : Fin 16) (h : Fin 4) (κ ν : Fin 128), i = ix4 b h κ ν := ⟨i 0, i 1, i 2, i 3, eq_ix4 i⟩
  exact H.hs b h κ ν

end Cert.HgrnProof
-- ==== Proof.HgrnRefStep.lean ====
/- One trip of the reference's loop, value by value: at a valuation that holds a state, every value of the trip is the one
   the step names, so the run's results are the fields of the step iterated 64 times from the initial state. Follows the
   generated account of that loop; the last written field is stated by its own equation. -/
module

public import proofs.«01_k».proof.Proof.Gen.HgrnRefIdeal.Run
public import proofs.«01_k».proof.Proof.Gen.HgrnRefIdeal.Step

@[expose] public section

noncomputable section

namespace Cert.HgrnRefIdeal.StepRunB

open Idealize.ShloMosaic Idealize.ShloMosaic.TcCoe Idealize.SL.Sem Idealize.ShloMosaic.StableHlo
open Cert.HgrnRefIdeal Cert.HgrnRefIdeal.Gen Cert.HgrnRefIdeal.Value
open Cert.HgrnRefIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v48_5) = s.main_v48_5
  f_6 : V0 (Proc.devRef .tc main_v48_6) = s.main_v48_6
  f_0 : V0 (Proc.devRef .tc main_v48_0) = s.main_v48_0
  f_1 : V0 (Proc.devRef .tc main_v48_1) = s.main_v48_1
  f_2 : V0 (Proc.devRef .tc main_v48_2) = s.main_v48_2
  f_3 : V0 (Proc.devRef .tc main_v48_3) = s.main_v48_3
  n_4 : V0 (Proc.devRef .tc main_v48_4) = constantI S_ 32 (BitVec.ofNat 32 j)

variable {V0 s j}

set_option maxRecDepth 8192 in
/-- Value 0 of a trip is that value of the step. -/
theorem al_0 (h : Holds V0 s j) : (constantI S_ 32 0#32 : (Proc.devRef .tc main_while0b_call1_c : DevRef τ sig).ty.Contents (Elt F)) = Cert.HgrnRefIdeal.Step.b0 j s := by
  unfold Cert.HgrnRefIdeal.Step.b0
  rfl
set_option maxRecDepth 8192 in
/-- Value 1 of a trip is that value of the step. -/
theorem al_1 (h : Holds V0 s j) : (constantI S_ 32 0#32 : (Proc.devRef .tc main_while0b_call1_c_0 : DevRef τ sig).ty.Contents (Elt F)) = Cert.HgrnRefIdeal.Step.b1 j s := by
  unfold Cert.HgrnRefIdeal.Step.b1
  rfl
set_option maxRecDepth 8192 in
/-- Value 2 of a trip is that value of the step. -/
theorem al_2 (h : Holds V0 s j) : (constantI S_ 32 0#32 : (Proc.devRef .tc main_while0b_call1_c_1 : DevRef τ sig).ty.Contents (Elt F)) = Cert.HgrnRefIdeal.Step.b2 j s := by
  unfold Cert.HgrnRefIdeal.Step.b2
  rfl
set_option maxRecDepth 8192 in
/-- Value 3 of a trip is that value of the step. -/
theorem al_3 (h : Holds V0 s j) : (constantI S_ 32 0#32 : (Proc.devRef .tc main_while0b_call1_c_2 : DevRef τ sig).ty.Contents (Elt F)) = Cert.HgrnRefIdeal.Step.b3 j s := by
  unfold Cert.HgrnRefIdeal.Step.b3
  rfl
set_option maxRecDepth 8192 in
/-- Value 4 of a trip is that value of the step. -/
theorem al_4 (h : Holds V0 s j) : (Host.dynamicSlice S1x16x64x4x128 (V0 (Proc.devRef .tc main_v48_0)) (fun k => (((![V0 (Proc.devRef .tc main_v48_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x64x4x128_S1x16x64x4x128 : (Proc.devRef .tc main_while0b_call1_v0 : DevRef τ sig).ty.Contents (Elt F)) = Cert.HgrnRefIdeal.Step.b4 j s := by
  unfold Cert.HgrnRefIdeal.Step.b4
  rw [← al_0 h, ← al_1 h, ← al_2 h, ← al_3 h, h.f_0, h.n_4]
  try rfl
set_option maxRecDepth 8192 in
/-- Value 5 of a trip is that value of the step. -/
theorem al_5 (h : Holds V0 s j) : (res_main_while0b_v70 V0 : (Proc.devRef .tc main_while0b_v70 : DevRef τ sig).ty.Contents (Elt F)) = Cert.HgrnRefIdeal.Step.b5 j s := by
  unfold res_main_while0b_v70 Cert.HgrnRefIdeal.Step.b5
  rw [← al_4 h]
  try rfl
set_option maxRecDepth 8192 in
/-- Value 6 of a trip is that value of the step. -/
theorem al_6 (h : Holds V0 s j) : (constantI S_ 32 0#32 : (Proc.devRef .tc main_while0b_call2_c : DevRef τ sig).ty.Contents (Elt F)) = Cert.HgrnRefIdeal.Step.b6 j s := by
  unfold Cert.HgrnRefIdeal.Step.b6
  rfl
set_option maxRecDepth 8192 in
/-- Value 7 of a trip is that value of the step. -/
theorem al_7 (h : Holds V0 s j) : (constantI S_ 32 0#32 : (Proc.devRef .tc main_while0b_call2_c_0 : DevRef τ sig).ty.Contents (Elt F)) = Cert.HgrnRefIdeal.Step.b7 j s := by
  unfold Cert.HgrnRefIdeal.Step.b7
  rfl
set_option maxRecDepth 8192 in
/-- Value 8 of a trip is that value of the step. -/
theorem al_8 (h : Holds V0 s j) : (constantI S_ 32 0#32 : (Proc.devRef .tc main_while0b_call2_c_1 : DevRef τ sig).ty.Contents (Elt F)) = Cert.HgrnRefIdeal.Step.b8 j s := by
  unfold Cert.HgrnRefIdeal.Step.b8
  rfl
set_option maxRecDepth 8192 in
/-- Value 9 of a trip is that value of the step. -/
theorem al_9 (h : Holds V0 s j) : (constantI S_ 32 0#32 : (Proc.devRef .tc main_while0b_call2_c_2 : DevRef τ sig).ty.Contents (Elt F)) = Cert.HgrnRefIdeal.Step.b9 j s := by
  unfold Cert.HgrnRefIdeal.Step.b9
  rfl
set_option maxRecDepth 8192 in
/-- Value 10 of a trip is that value of the step. -/
theorem al_10 (h : Holds V0 s j) : (Host.dynamicSlice S1x16x64x4x128 (V0 (Proc.devRef .tc main_v48_1)) (fun k => (((![V0 (Proc.devRef .tc main_v48_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x64x4x128_S1x16x64x4x128 : (Proc.devRef .tc main_while0b_call2_v0 : DevRef τ sig).ty.Contents (Elt F)) = Cert.HgrnRefIdeal.Step.b10 j s := by
  unfold Cert.HgrnRefIdeal.Step.b10
  rw [← al_6 h, ← al_7 h, ← al_8 h, ← al_9 h, h.f_1, h.n_4]
  try rfl
set_option maxRecDepth 8192 in
/-- Value 11 of a trip is that value of the step. -/
theorem al_11 (h : Holds V0 s j) : (shapeCast S16x64x4x128 (Host.dynamicSlice S1x16x64x4x128 (V0 (Proc.devRef .tc main_v48_1)) (fun k => (((![V0 (Proc.devRef .tc main_v48_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x64x4x128_S1x16x64x4x128) shapeCasts_S1x16x64x4x128_S16x64x4x128 : (Proc.devRef .tc main_while0b_v71 : DevRef τ sig).ty.Contents (Elt F)) = Cert.HgrnRefIdeal.Step.b11 j s := by
  unfold Cert.HgrnRefIdeal.Step.b11
  rw [← al_10 h]
  try rfl
set_option maxRecDepth 8192 in
/-- Value 12 of a trip is that value of the step. -/
theorem al_12 (h : Holds V0 s j) : (constantI S_ 32 0#32 : (Proc.devRef .tc main_while0b_call3_c : DevRef τ sig).ty.Contents (Elt F)) = Cert.HgrnRefIdeal.Step.b12 j s := by
  unfold Cert.HgrnRefIdeal.Step.b12
  rfl
set_option maxRecDepth 8192 in
/-- Value 13 of a trip is that value of the step. -/
theorem al_13 (h : Holds V0 s j) : (constantI S_ 32 0#32 : (Proc.devRef .tc main_while0b_call3_c_0 : DevRef τ sig).ty.Contents (Elt F)) = Cert.HgrnRefIdeal.Step.b13 j s := by
  unfold Cert.HgrnRefIdeal.Step.b13
  rfl
set_option maxRecDepth 8192 in
/-- Value 14 of a trip is that value of the step. -/
theorem al_14 (h : Holds V0 s j) : (constantI S_ 32 0#32 : (Proc.devRef .tc main_while0b_call3_c_1 : DevRef τ sig).ty.Contents (Elt F)) = Cert.HgrnRefIdeal.Step.b14 j s := by
  unfold Cert.HgrnRefIdeal.Step.b14
  rfl
set_option maxRecDepth 8192 in
/-- Value 15 of a trip is that value of the step. -/
theorem al_15 (h : Holds V0 s j) : (constantI S_ 32 0#32 : (Proc.devRef .tc main_while0b_call3_c_2 : DevRef τ sig).ty.Contents (Elt F)) = Cert.HgrnRefIdeal.Step.b15 j s := by
  unfold Cert.HgrnRefIdeal.Step.b15
  rfl
set_option maxRecDepth 8192 in
/-- Value 16 of a trip is that value of the step. -/
theorem al_16 (h : Holds V0 s j) : (Host.dynamicSlice S1x16x64x4x128 (V0 (Proc.devRef .tc main_v48_2)) (fun k => (((![V0 (Proc.devRef .tc main_v48_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x64x4x128_S1x16x64x4x128 : (Proc.devRef .tc main_while0b_call3_v0 : DevRef τ sig).ty.Contents (Elt F)) = Cert.HgrnRefIdeal.Step.b16 j s := by
  unfold Cert.HgrnRefIdeal.Step.b16
  rw [← al_12 h, ← al_13 h, ← al_14 h, ← al_15 h, h.f_2, h.n_4]
  try rfl
set_option maxRecDepth 8192 in
/-- Value 17 of a trip is that value of the step. -/
theorem al_17 (h : Holds V0 s j) : (res_main_while0b_v72 V0 : (Proc.devRef .tc main_while0b_v72 : DevRef τ sig).ty.Contents (Elt F)) = Cert.HgrnRefIdeal.Step.b17 j s := by
  unfold res_main_while0b_v72 Cert.HgrnRefIdeal.Step.b17
  rw [← al_16 h]
  try rfl
set_option maxRecDepth 8192 in
/-- Value 18 of a trip is that value of the step. -/
theorem al_18 (h : Holds V0 s j) : (constantI S_ 32 0#32 : (Proc.devRef .tc main_while0b_call4_c : DevRef τ sig).ty.Contents (Elt F)) = Cert.HgrnRefIdeal.Step.b18 j s := by
  unfold Cert.HgrnRefIdeal.Step.b18
  rfl
set_option maxRecDepth 8192 in
/-- Value 19 of a trip is that value of the step. -/
theorem al_19 (h : Holds V0 s j) : (constantI S_ 32 0#32 : (Proc.devRef .tc main_while0b_call4_c_0 : DevRef τ sig).ty.Contents (Elt F)) = Cert.HgrnRefIdeal.Step.b19 j s := by
  unfold Cert.HgrnRefIdeal.Step.b19
  rfl
set_option maxRecDepth 8192 in
/-- Value 20 of a trip is that value of the step. -/
theorem al_20 (h : Holds V0 s j) : (constantI S_ 32 0#32 : (Proc.devRef .tc main_while0b_call4_c_1 : DevRef τ sig).ty.Contents (Elt F)) = Cert.HgrnRefIdeal.Step.b20 j s := by
  unfold Cert.HgrnRefIdeal.Step.b20
  rfl
set_option maxRecDepth 8192 in
/-- Value 21 of a trip is that value of the step. -/
theorem al_21 (h : Holds V0 s j) : (constantI S_ 32 0#32 : (Proc.devRef .tc main_while0b_call4_c_2 : DevRef τ sig).ty.Contents (Elt F)) = Cert.HgrnRefIdeal.Step.b21 j s := by
  unfold Cert.HgrnRefIdeal.Step.b21
  rfl
set_option maxRecDepth 8192 in
/-- Value 22 of a trip is that value of the step. -/
theorem al_22 (h : Holds V0 s j) : (Host.dynamicSlice S1x16x64x4x128 (V0 (Proc.devRef .tc main_v48_3)) (fun k => (((![V0 (Proc.devRef .tc main_v48_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x64x4x128_S1x16x64x4x128 : (Proc.devRef .tc main_while0b_call4_v0 : DevRef τ sig).ty.Contents (Elt F)) = Cert.HgrnRefIdeal.Step.b22 j s := by
  unfold Cert.HgrnRefIdeal.Step.b22
  rw [← al_18 h, ← al_19 h, ← al_20 h, ← al_21 h, h.f_3, h.n_4]
  try rfl
set_option maxRecDepth 8192 in
/-- Value 23 of a trip is that value of the step. -/
theorem al_23 (h : Holds V0 s j) : (res_main_while0b_v73 V0 : (Proc.devRef .tc main_while0b_v73 : DevRef τ sig).ty.Contents (Elt F)) = Cert.HgrnRefIdeal.Step.b23 j s := by
  unfold res_main_while0b_v73 Cert.HgrnRefIdeal.Step.b23
  rw [← al_22 h]
  try rfl
set_option maxRecDepth 8192 in
/-- Value 24 of a trip is that value of the step. -/
theorem al_24 (h : Holds V0 s j) : (constantI S_ 1 1#1 : (Proc.devRef .tc main_while0b_c_17 : DevRef τ sig).ty.Contents (Elt F)) = Cert.HgrnRefIdeal.Step.b24 j s := by
  unfold Cert.HgrnRefIdeal.Step.b24
  rfl
set_option maxRecDepth 8192 in
/-- Value 25 of a trip is that value of the step. -/
theorem al_25 (h : Holds V0 s j) : (broadcastInDim S64x64 ![] bcast_S_S64x64 (constantI S_ 1 1#1) : (Proc.devRef .tc main_while0b_v74 : DevRef τ sig).ty.Contents (Elt F)) = Cert.HgrnRefIdeal.Step.b25 j s := by
  unfold Cert.HgrnRefIdeal.Step.b25
  rw [← al_24 h]
  try rfl
set_option maxRecDepth 8192 in
/-- Value 26 of a trip is that value of the step. -/
theorem al_26 (h : Holds V0 s j) : (iotaInDim S64x64 32 0 : (Proc.devRef .tc main_while0b_call5_v0 : DevRef τ sig).ty.Contents (Elt F)) = Cert.HgrnRefIdeal.Step.b26 j s := by
  unfold Cert.HgrnRefIdeal.Step.b26
  rfl
set_option maxRecDepth 8192 in
/-- Value 27 of a trip is that value of the step. -/
theorem al_27 (h : Holds V0 s j) : (constantI S_ 32 0#32 : (Proc.devRef .tc main_while0b_call5_c : DevRef τ sig).ty.Contents (Elt F)) = Cert.HgrnRefIdeal.Step.b27 j s := by
  unfold Cert.HgrnRefIdeal.Step.b27
  rfl
set_option maxRecDepth 8192 in
/-- Value 28 of a trip is that value of the step. -/
theorem al_28 (h : Holds V0 s j) : (broadcastInDim S64x64 ![] bcast_S_S64x64 (constantI S_ 32 0#32) : (Proc.devRef .tc main_while0b_call5_v1 : DevRef τ sig).ty.Contents (Elt F)) = Cert.HgrnRefIdeal.Step.b28 j s := by
  unfold Cert.HgrnRefIdeal.Step.b28
  rw [← al_27 h]
  try rfl
set_option maxRecDepth 8192 in
/-- Value 29 of a trip is that value of the step. -/
theorem al_29 (h : Holds V0 s j) : (addi (iotaInDim S64x64 32 0) (broadcastInDim S64x64 ![] bcast_S_S64x64 (constantI S_ 32 0#32)) : (Proc.devRef .tc main_while0b_call5_v2 : DevRef τ sig).ty.Contents (Elt F)) = Cert.HgrnRefIdeal.Step.b29 j s := by
  unfold Cert.HgrnRefIdeal.Step.b29
  rw [← al_26 h, ← al_28 h]
  try rfl
set_option maxRecDepth 8192 in
/-- Value 30 of a trip is that value of the step. -/
theorem al_30 (h : Holds V0 s j) : (iotaInDim S64x64 32 1 : (Proc.devRef .tc main_while0b_call5_v3 : DevRef τ sig).ty.Contents (Elt F)) = Cert.HgrnRefIdeal.Step.b30 j s := by
  unfold Cert.HgrnRefIdeal.Step.b30
  rfl
set_option maxRecDepth 8192 in
/-- Value 31 of a trip is that value of the step. -/
theorem al_31 (h : Holds V0 s j) : (cmpi .sge (addi (iotaInDim S64x64 32 0) (broadcastInDim S64x64 ![] bcast_S_S64x64 (constantI S_ 32 0#32))) (iotaInDim S64x64 32 1) : (Proc.devRef .tc main_while0b_call5_v4 : DevRef τ sig).ty.Contents (Elt F)) = Cert.HgrnRefIdeal.Step.b31 j s := by
  unfold Cert.HgrnRefIdeal.Step.b31
  rw [← al_29 h, ← al_30 h]
  try rfl
set_option maxRecDepth 8192 in
/-- Value 32 of a trip is that value of the step. -/
theorem al_32 (h : Holds V0 s j) : (constantI S_ 1 0#1 : (Proc.devRef .tc main_while0b_call5_c_0 : DevRef τ sig).ty.Contents (Elt F)) = Cert.HgrnRefIdeal.Step.b32 j s := by
  unfold Cert.HgrnRefIdeal.Step.b32
  rfl
set_option maxRecDepth 8192 in
/-- Value 33 of a trip is that value of the step. -/
theorem al_33 (h : Holds V0 s j) : (broadcastInDim S64x64 ![] bcast_S_S64x64 (constantI S_ 1 0#1) : (Proc.devRef .tc main_while0b_call5_v5 : DevRef τ sig).ty.Contents (Elt F)) = Cert.HgrnRefIdeal.Step.b33 j s := by
  unfold Cert.HgrnRefIdeal.Step.b33
  rw [← al_32 h]
  try rfl
set_option maxRecDepth 8192 in
/-- Value 34 of a trip is that value of the step. -/
theorem al_34 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v75 : DevRef τ sig).ty.Contents (Elt F)) = Cert.HgrnRefIdeal.Step.b34 j s := by
  unfold Cert.HgrnRefIdeal.Step.b34
  rw [← al_31 h, ← al_25 h, ← al_33 h]
  try rfl
set_option maxRecDepth 8192 in
/-- Value 35 of a trip is that value of the step. -/
theorem al_35 (h : Holds V0 s j) : (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) : (Proc.devRef .tc main_while0b_v76 : DevRef τ sig).ty.Contents (Elt F)) = Cert.HgrnRefIdeal.Step.b35 j s := by
  unfold Cert.HgrnRefIdeal.Step.b35
  rw [← al_34 h]
  try rfl
set_option maxRecDepth 8192 in
/-- Value 36 of a trip is that value of the step. -/
theorem al_36 (h : Holds V0 s j) : (constant S_ .f32 0x00000000#32 : (Proc.devRef .tc main_while0b_call6_call0_cst : DevRef τ sig).ty.Contents (Elt F)) = Cert.HgrnRefIdeal.Step.b36 j s := by
  unfold Cert.HgrnRefIdeal.Step.b36
  rfl
set_option maxRecDepth 8192 in
/-- Value 37 of a trip is that value of the step. -/
theorem al_37 (h : Holds V0 s j) : (broadcastInDim S_ ![] bcast_S_S_ (constant S_ .f32 0x00000000#32) : (Proc.devRef .tc main_while0b_call6_call0_v0 : DevRef τ sig).ty.Contents (Elt F)) = Cert.HgrnRefIdeal.Step.b37 j s := by
  unfold Cert.HgrnRefIdeal.Step.b37
  rw [← al_36 h]
  try rfl
set_option maxRecDepth 8192 in
/-- Value 38 of a trip is that value of the step. -/
theorem al_38 (h : Holds V0 s j) : (res_main_while0b_v77 V0 : (Proc.devRef .tc main_while0b_v77 : DevRef τ sig).ty.Contents (Elt F)) = Cert.HgrnRefIdeal.Step.b38 j s := by
  unfold res_main_while0b_v77 Cert.HgrnRefIdeal.Step.b38
  rw [← al_11 h, ← al_37 h]
  try rfl
set_option maxRecDepth 8192 in
/-- Value 39 of a trip is that value of the step. -/
theorem al_39 (h : Holds V0 s j) : (Host.exp (res_main_while0b_v77 V0) : (Proc.devRef .tc main_while0b_v78 : DevRef τ sig).ty.Contents (Elt F)) = Cert.HgrnRefIdeal.Step.b39 j s := by
  unfold Cert.HgrnRefIdeal.Step.b39
  rw [← al_38 h]
  try rfl
set_option maxRecDepth 8192 in
/-- Value 40 of a trip is that value of the step. -/
theorem al_40 (h : Holds V0 s j) : (mulf (res_main_while0b_v70 V0) (Host.exp (res_main_while0b_v77 V0)) : (Proc.devRef .tc main_while0b_v79 : DevRef τ sig).ty.Contents (Elt F)) = Cert.HgrnRefIdeal.Step.b40 j s := by
  unfold Cert.HgrnRefIdeal.Step.b40
  rw [← al_5 h, ← al_39 h]
  try rfl
set_option maxRecDepth 8192 in
/-- Value 41 of a trip is that value of the step. -/
theorem al_41 (h : Holds V0 s j) : (Host.dotGeneral dot_S16x4x128x128_S16x64x4x128_S16x4x128x64_2_3_3_1_01_02 none (V0 (Proc.devRef .tc main_v48_5)) (mulf (res_main_while0b_v70 V0) (Host.exp (res_main_while0b_v77 V0))) : (Proc.devRef .tc main_while0b_v80 : DevRef τ sig).ty.Contents (Elt F)) = Cert.HgrnRefIdeal.Step.b41 j s := by
  unfold Cert.HgrnRefIdeal.Step.b41
  rw [← al_40 h, h.f_5]
  try rfl
set_option maxRecDepth 8192 in
/-- Value 42 of a trip is that value of the step. -/
theorem al_42 (h : Holds V0 s j) : (transpose S16x64x4x128 [0, 3, 1, 2] (Host.dotGeneral dot_S16x4x128x128_S16x64x4x128_S16x4x128x64_2_3_3_1_01_02 none (V0 (Proc.devRef .tc main_v48_5)) (mulf (res_main_while0b_v70 V0) (Host.exp (res_main_while0b_v77 V0)))) transposes_S16x4x128x64_S16x64x4x128_0_3_1_2 : (Proc.devRef .tc main_while0b_v81 : DevRef τ sig).ty.Contents (Elt F)) = Cert.HgrnRefIdeal.Step.b42 j s := by
  unfold Cert.HgrnRefIdeal.Step.b42
  rw [← al_41 h]
  try rfl
set_option maxRecDepth 8192 in
/-- Value 43 of a trip is that value of the step. -/
theorem al_43 (h : Holds V0 s j) : (broadcastInDim S16x64x1x4x128 ![0, 1, 3, 4] bcast_S16x64x4x128_S16x64x1x4x128_0_1_3_4 (res_main_while0b_v77 V0) : (Proc.devRef .tc main_while0b_v82 : DevRef τ sig).ty.Contents (Elt F)) = Cert.HgrnRefIdeal.Step.b43 j s := by
  unfold Cert.HgrnRefIdeal.Step.b43
  rw [← al_38 h]
  try rfl
set_option maxRecDepth 8192 in
/-- Value 44 of a trip is that value of the step. -/
theorem al_44 (h : Holds V0 s j) : (broadcastInDim S16x1x64x4x128 ![0, 2, 3, 4] bcast_S16x64x4x128_S16x1x64x4x128_0_2_3_4 (res_main_while0b_v77 V0) : (Proc.devRef .tc main_while0b_v83 : DevRef τ sig).ty.Contents (Elt F)) = Cert.HgrnRefIdeal.Step.b44 j s := by
  unfold Cert.HgrnRefIdeal.Step.b44
  rw [← al_38 h]
  try rfl
set_option maxRecDepth 8192 in
/-- Value 45 of a trip is that value of the step. -/
theorem al_45 (h : Holds V0 s j) : (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0)) : (Proc.devRef .tc main_while0b_v84 : DevRef τ sig).ty.Contents (Elt F)) = Cert.HgrnRefIdeal.Step.b45 j s := by
  unfold Cert.HgrnRefIdeal.Step.b45
  rw [← al_43 h]
  try rfl
set_option maxRecDepth 8192 in
/-- Value 46 of a trip is that value of the step. -/
theorem al_46 (h : Holds V0 s j) : (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0)) : (Proc.devRef .tc main_while0b_v85 : DevRef τ sig).ty.Contents (Elt F)) = Cert.HgrnRefIdeal.Step.b46 j s := by
  unfold Cert.HgrnRefIdeal.Step.b46
  rw [← al_44 h]
  try rfl
set_option maxRecDepth 8192 in
/-- Value 47 of a trip is that value of the step. -/
theorem al_47 (h : Holds V0 s j) : (subf (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0))) : (Proc.devRef .tc main_while0b_v86 : DevRef τ sig).ty.Contents (Elt F)) = Cert.HgrnRefIdeal.Step.b47 j s := by
  unfold Cert.HgrnRefIdeal.Step.b47
  rw [← al_45 h, ← al_46 h]
  try rfl
set_option maxRecDepth 8192 in
/-- Value 48 of a trip is that value of the step. -/
theorem al_48 (h : Holds V0 s j) : (constant S_ .f32 0xFF800000#32 : (Proc.devRef .tc main_while0b_cst_18 : DevRef τ sig).ty.Contents (Elt F)) = Cert.HgrnRefIdeal.Step.b48 j s := by
  unfold Cert.HgrnRefIdeal.Step.b48
  rfl
set_option maxRecDepth 8192 in
/-- Value 49 of a trip is that value of the step. -/
theorem al_49 (h : Holds V0 s j) : (id (constant S_ .f32 0xFF800000#32) : (Proc.devRef .tc main_while0b_call7_v0 : DevRef τ sig).ty.Contents (Elt F)) = Cert.HgrnRefIdeal.Step.b49 j s := by
  unfold Cert.HgrnRefIdeal.Step.b49
  rw [← al_48 h]
  try rfl
set_option maxRecDepth 8192 in
/-- Value 50 of a trip is that value of the step. -/
theorem al_50 (h : Holds V0 s j) : (broadcastInDim S16x64x64x4x128 ![0, 1, 2, 3, 4] bcast_S1x64x64x1x1_S16x64x64x4x128_0_1_2_3_4 (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) : (Proc.devRef .tc main_while0b_call7_v1 : DevRef τ sig).ty.Contents (Elt F)) = Cert.HgrnRefIdeal.Step.b50 j s := by
  unfold Cert.HgrnRefIdeal.Step.b50
  rw [← al_35 h]
  try rfl
set_option maxRecDepth 8192 in
/-- Value 51 of a trip is that value of the step. -/
theorem al_51 (h : Holds V0 s j) : (broadcastInDim S16x64x64x4x128 ![] bcast_S_S16x64x64x4x128 (id (constant S_ .f32 0xFF800000#32)) : (Proc.devRef .tc main_while0b_call7_v2 : DevRef τ sig).ty.Contents (Elt F)) = Cert.HgrnRefIdeal.Step.b51 j s := by
  unfold Cert.HgrnRefIdeal.Step.b51
  rw [← al_49 h]
  try rfl
set_option maxRecDepth 8192 in
/-- Value 52 of a trip is that value of the step. -/
theorem al_52 (h : Holds V0 s j) : (select (broadcastInDim S16x64x64x4x128 ![0, 1, 2, 3, 4] bcast_S1x64x64x1x1_S16x64x64x4x128_0_1_2_3_4 (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0)))) (broadcastInDim S16x64x64x4x128 ![] bcast_S_S16x64x64x4x128 (id (constant S_ .f32 0xFF800000#32))) : (Proc.devRef .tc main_while0b_v87 : DevRef τ sig).ty.Contents (Elt F)) = Cert.HgrnRefIdeal.Step.b52 j s := by
  unfold Cert.HgrnRefIdeal.Step.b52
  rw [← al_50 h, ← al_47 h, ← al_51 h]
  try rfl
set_option maxRecDepth 8192 in
/-- Value 53 of a trip is that value of the step. -/
theorem al_53 (h : Holds V0 s j) : (Host.exp (select (broadcastInDim S16x64x64x4x128 ![0, 1, 2, 3, 4] bcast_S1x64x64x1x1_S16x64x64x4x128_0_1_2_3_4 (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0)))) (broadcastInDim S16x64x64x4x128 ![] bcast_S_S16x64x64x4x128 (id (constant S_ .f32 0xFF800000#32)))) : (Proc.devRef .tc main_while0b_v88 : DevRef τ sig).ty.Contents (Elt F)) = Cert.HgrnRefIdeal.Step.b53 j s := by
  unfold Cert.HgrnRefIdeal.Step.b53
  rw [← al_52 h]
  try rfl
set_option maxRecDepth 8192 in
/-- Value 54 of a trip is that value of the step. -/
theorem al_54 (h : Holds V0 s j) : (broadcastInDim S16x1x64x4x128 ![0, 2, 3, 4] bcast_S16x64x4x128_S16x1x64x4x128_0_2_3_4 (res_main_while0b_v72 V0) : (Proc.devRef .tc main_while0b_v89 : DevRef τ sig).ty.Contents (Elt F)) = Cert.HgrnRefIdeal.Step.b54 j s := by
  unfold Cert.HgrnRefIdeal.Step.b54
  rw [← al_17 h]
  try rfl
set_option maxRecDepth 8192 in
/-- Value 55 of a trip is that value of the step. -/
theorem al_55 (h : Holds V0 s j) : (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v72 V0)) : (Proc.devRef .tc main_while0b_v90 : DevRef τ sig).ty.Contents (Elt F)) = Cert.HgrnRefIdeal.Step.b55 j s := by
  unfold Cert.HgrnRefIdeal.Step.b55
  rw [← al_54 h]
  try rfl
set_option maxRecDepth 8192 in
/-- Value 56 of a trip is that value of the step. -/
theorem al_56 (h : Holds V0 s j) : (mulf (Host.exp (select (broadcastInDim S16x64x64x4x128 ![0, 1, 2, 3, 4] bcast_S1x64x64x1x1_S16x64x64x4x128_0_1_2_3_4 (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0)))) (broadcastInDim S16x64x64x4x128 ![] bcast_S_S16x64x64x4x128 (id (constant S_ .f32 0xFF800000#32))))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v72 V0))) : (Proc.devRef .tc main_while0b_v91 : DevRef τ sig).ty.Contents (Elt F)) = Cert.HgrnRefIdeal.Step.b56 j s := by
  unfold Cert.HgrnRefIdeal.Step.b56
  rw [← al_53 h, ← al_55 h]
  try rfl
set_option maxRecDepth 8192 in
/-- Value 57 of a trip is that value of the step. -/
theorem al_57 (h : Holds V0 s j) : (Host.dotGeneral dot_S16x64x64x4x128_S16x64x4x128_S16x64x4x64_4_3_2_n_013_012 none (mulf (Host.exp (select (broadcastInDim S16x64x64x4x128 ![0, 1, 2, 3, 4] bcast_S1x64x64x1x1_S16x64x64x4x128_0_1_2_3_4 (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0)))) (broadcastInDim S16x64x64x4x128 ![] bcast_S_S16x64x64x4x128 (id (constant S_ .f32 0xFF800000#32))))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v72 V0)))) (res_main_while0b_v70 V0) : (Proc.devRef .tc main_while0b_v92 : DevRef τ sig).ty.Contents (Elt F)) = Cert.HgrnRefIdeal.Step.b57 j s := by
  unfold Cert.HgrnRefIdeal.Step.b57
  rw [← al_56 h, ← al_5 h]
  try rfl
set_option maxRecDepth 8192 in
/-- Value 58 of a trip is that value of the step. -/
theorem al_58 (h : Holds V0 s j) : (transpose S16x64x64x4 [0, 1, 3, 2] (Host.dotGeneral dot_S16x64x64x4x128_S16x64x4x128_S16x64x4x64_4_3_2_n_013_012 none (mulf (Host.exp (select (broadcastInDim S16x64x64x4x128 ![0, 1, 2, 3, 4] bcast_S1x64x64x1x1_S16x64x64x4x128_0_1_2_3_4 (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0)))) (broadcastInDim S16x64x64x4x128 ![] bcast_S_S16x64x64x4x128 (id (constant S_ .f32 0xFF800000#32))))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v72 V0)))) (res_main_while0b_v70 V0)) transposes_S16x64x4x64_S16x64x64x4_0_1_3_2 : (Proc.devRef .tc main_while0b_v93 : DevRef τ sig).ty.Contents (Elt F)) = Cert.HgrnRefIdeal.Step.b58 j s := by
  unfold Cert.HgrnRefIdeal.Step.b58
  rw [← al_57 h]
  try rfl
set_option maxRecDepth 8192 in
/-- Value 59 of a trip is that value of the step. -/
theorem al_59 (h : Holds V0 s j) : (Host.dotGeneral dot_S16x64x4x128_S16x64x64x4_S16x4x128x64_1_2_3_1_02_03 none (res_main_while0b_v73 V0) (transpose S16x64x64x4 [0, 1, 3, 2] (Host.dotGeneral dot_S16x64x64x4x128_S16x64x4x128_S16x64x4x64_4_3_2_n_013_012 none (mulf (Host.exp (select (broadcastInDim S16x64x64x4x128 ![0, 1, 2, 3, 4] bcast_S1x64x64x1x1_S16x64x64x4x128_0_1_2_3_4 (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0)))) (broadcastInDim S16x64x64x4x128 ![] bcast_S_S16x64x64x4x128 (id (constant S_ .f32 0xFF800000#32))))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v72 V0)))) (res_main_while0b_v70 V0)) transposes_S16x64x4x64_S16x64x64x4_0_1_3_2) : (Proc.devRef .tc main_while0b_v94 : DevRef τ sig).ty.Contents (Elt F)) = Cert.HgrnRefIdeal.Step.b59 j s := by
  unfold Cert.HgrnRefIdeal.Step.b59
  rw [← al_23 h, ← al_58 h]
  try rfl
set_option maxRecDepth 8192 in
/-- Value 60 of a trip is that value of the step. -/
theorem al_60 (h : Holds V0 s j) : (transpose S16x64x4x128 [0, 3, 1, 2] (Host.dotGeneral dot_S16x64x4x128_S16x64x64x4_S16x4x128x64_1_2_3_1_02_03 none (res_main_while0b_v73 V0) (transpose S16x64x64x4 [0, 1, 3, 2] (Host.dotGeneral dot_S16x64x64x4x128_S16x64x4x128_S16x64x4x64_4_3_2_n_013_012 none (mulf (Host.exp (select (broadcastInDim S16x64x64x4x128 ![0, 1, 2, 3, 4] bcast_S1x64x64x1x1_S16x64x64x4x128_0_1_2_3_4 (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0)))) (broadcastInDim S16x64x64x4x128 ![] bcast_S_S16x64x64x4x128 (id (constant S_ .f32 0xFF800000#32))))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v72 V0)))) (res_main_while0b_v70 V0)) transposes_S16x64x4x64_S16x64x64x4_0_1_3_2)) transposes_S16x4x128x64_S16x64x4x128_0_3_1_2 : (Proc.devRef .tc main_while0b_v95 : DevRef τ sig).ty.Contents (Elt F)) = Cert.HgrnRefIdeal.Step.b60 j s := by
  unfold Cert.HgrnRefIdeal.Step.b60
  rw [← al_59 h]
  try rfl
set_option maxRecDepth 8192 in
/-- Value 61 of a trip is that value of the step. -/
theorem al_61 (h : Holds V0 s j) : (extractStridedSlice S16x1x4x128 ![0, 63, 0, 0] (res_main_while0b_v77 V0) slices_S16x64x4x128_S16x1x4x128_0_63_0_0 : (Proc.devRef .tc main_while0b_v96 : DevRef τ sig).ty.Contents (Elt F)) = Cert.HgrnRefIdeal.Step.b61 j s := by
  unfold Cert.HgrnRefIdeal.Step.b61
  rw [← al_38 h]
  try rfl
set_option maxRecDepth 8192 in
/-- Value 62 of a trip is that value of the step. -/
theorem al_62 (h : Holds V0 s j) : (res_main_while0b_v97 V0 : (Proc.devRef .tc main_while0b_v97 : DevRef τ sig).ty.Contents (Elt F)) = Cert.HgrnRefIdeal.Step.b62 j s := by
  unfold res_main_while0b_v97 Cert.HgrnRefIdeal.Step.b62
  rw [← al_61 h]
  try rfl
set_option maxRecDepth 8192 in
/-- Value 63 of a trip is that value of the step. -/
theorem al_63 (h : Holds V0 s j) : (Host.exp (res_main_while0b_v97 V0) : (Proc.devRef .tc main_while0b_v98 : DevRef τ sig).ty.Contents (Elt F)) = Cert.HgrnRefIdeal.Step.b63 j s := by
  unfold Cert.HgrnRefIdeal.Step.b63
  rw [← al_62 h]
  try rfl
set_option maxRecDepth 8192 in
/-- Value 64 of a trip is that value of the step. -/
theorem al_64 (h : Holds V0 s j) : (broadcastInDim S16x4x128x1 ![0, 1, 2] bcast_S16x4x128_S16x4x128x1_0_1_2 (Host.exp (res_main_while0b_v97 V0)) : (Proc.devRef .tc main_while0b_v99 : DevRef τ sig).ty.Contents (Elt F)) = Cert.HgrnRefIdeal.Step.b64 j s := by
  unfold Cert.HgrnRefIdeal.Step.b64
  rw [← al_63 h]
  try rfl
set_option maxRecDepth 8192 in
/-- Value 65 of a trip is that value of the step. -/
theorem al_65 (h : Holds V0 s j) : (broadcastInDim S16x4x128x128 ![0, 1, 2, 3] bcast_S16x4x128x1_S16x4x128x128_0_1_2_3 (broadcastInDim S16x4x128x1 ![0, 1, 2] bcast_S16x4x128_S16x4x128x1_0_1_2 (Host.exp (res_main_while0b_v97 V0))) : (Proc.devRef .tc main_while0b_v100 : DevRef τ sig).ty.Contents (Elt F)) = Cert.HgrnRefIdeal.Step.b65 j s := by
  unfold Cert.HgrnRefIdeal.Step.b65
  rw [← al_64 h]
  try rfl
set_option maxRecDepth 8192 in
/-- Value 66 of a trip is that value of the step. -/
theorem al_66 (h : Holds V0 s j) : (mulf (broadcastInDim S16x4x128x128 ![0, 1, 2, 3] bcast_S16x4x128x1_S16x4x128x128_0_1_2_3 (broadcastInDim S16x4x128x1 ![0, 1, 2] bcast_S16x4x128_S16x4x128x1_0_1_2 (Host.exp (res_main_while0b_v97 V0)))) (V0 (Proc.devRef .tc main_v48_5)) : (Proc.devRef .tc main_while0b_v101 : DevRef τ sig).ty.Contents (Elt F)) = Cert.HgrnRefIdeal.Step.b66 j s := by
  unfold Cert.HgrnRefIdeal.Step.b66
  rw [← al_65 h, h.f_5]
  try rfl
set_option maxRecDepth 8192 in
/-- Value 67 of a trip is that value of the step. -/
theorem al_67 (h : Holds V0 s j) : (broadcastInDim S16x1x4x128 ![0, 2, 3] bcast_S16x4x128_S16x1x4x128_0_2_3 (res_main_while0b_v97 V0) : (Proc.devRef .tc main_while0b_v102 : DevRef τ sig).ty.Contents (Elt F)) = Cert.HgrnRefIdeal.Step.b67 j s := by
  unfold Cert.HgrnRefIdeal.Step.b67
  rw [← al_62 h]
  try rfl
set_option maxRecDepth 8192 in
/-- Value 68 of a trip is that value of the step. -/
theorem al_68 (h : Holds V0 s j) : (broadcastInDim S16x64x4x128 ![0, 1, 2, 3] bcast_S16x1x4x128_S16x64x4x128_0_1_2_3 (broadcastInDim S16x1x4x128 ![0, 2, 3] bcast_S16x4x128_S16x1x4x128_0_2_3 (res_main_while0b_v97 V0)) : (Proc.devRef .tc main_while0b_v103 : DevRef τ sig).ty.Contents (Elt F)) = Cert.HgrnRefIdeal.Step.b68 j s := by
  unfold Cert.HgrnRefIdeal.Step.b68
  rw [← al_67 h]
  try rfl
set_option maxRecDepth 8192 in
/-- Value 69 of a trip is that value of the step. -/
theorem al_69 (h : Holds V0 s j) : (subf (broadcastInDim S16x64x4x128 ![0, 1, 2, 3] bcast_S16x1x4x128_S16x64x4x128_0_1_2_3 (broadcastInDim S16x1x4x128 ![0, 2, 3] bcast_S16x4x128_S16x1x4x128_0_2_3 (res_main_while0b_v97 V0))) (res_main_while0b_v77 V0) : (Proc.devRef .tc main_while0b_v104 : DevRef τ sig).ty.Contents (Elt F)) = Cert.HgrnRefIdeal.Step.b69 j s := by
  unfold Cert.HgrnRefIdeal.Step.b69
  rw [← al_68 h, ← al_38 h]
  try rfl
set_option maxRecDepth 8192 in
/-- Value 70 of a trip is that value of the step. -/
theorem al_70 (h : Holds V0 s j) : (Host.exp (subf (broadcastInDim S16x64x4x128 ![0, 1, 2, 3] bcast_S16x1x4x128_S16x64x4x128_0_1_2_3 (broadcastInDim S16x1x4x128 ![0, 2, 3] bcast_S16x4x128_S16x1x4x128_0_2_3 (res_main_while0b_v97 V0))) (res_main_while0b_v77 V0)) : (Proc.devRef .tc main_while0b_v105 : DevRef τ sig).ty.Contents (Elt F)) = Cert.HgrnRefIdeal.Step.b70 j s := by
  unfold Cert.HgrnRefIdeal.Step.b70
  rw [← al_69 h]
  try rfl
set_option maxRecDepth 8192 in
/-- Value 71 of a trip is that value of the step. -/
theorem al_71 (h : Holds V0 s j) : (mulf (res_main_while0b_v72 V0) (Host.exp (subf (broadcastInDim S16x64x4x128 ![0, 1, 2, 3] bcast_S16x1x4x128_S16x64x4x128_0_1_2_3 (broadcastInDim S16x1x4x128 ![0, 2, 3] bcast_S16x4x128_S16x1x4x128_0_2_3 (res_main_while0b_v97 V0))) (res_main_while0b_v77 V0))) : (Proc.devRef .tc main_while0b_v106 : DevRef τ sig).ty.Contents (Elt F)) = Cert.HgrnRefIdeal.Step.b71 j s := by
  unfold Cert.HgrnRefIdeal.Step.b71
  rw [← al_17 h, ← al_70 h]
  try rfl
set_option maxRecDepth 8192 in
/-- Value 72 of a trip is that value of the step. -/
theorem al_72 (h : Holds V0 s j) : (Host.dotGeneral dot_S16x64x4x128_S16x64x4x128_S16x4x128x128_1_1_3_3_02_02 none (mulf (res_main_while0b_v72 V0) (Host.exp (subf (broadcastInDim S16x64x4x128 ![0, 1, 2, 3] bcast_S16x1x4x128_S16x64x4x128_0_1_2_3 (broadcastInDim S16x1x4x128 ![0, 2, 3] bcast_S16x4x128_S16x1x4x128_0_2_3 (res_main_while0b_v97 V0))) (res_main_while0b_v77 V0)))) (res_main_while0b_v73 V0) : (Proc.devRef .tc main_while0b_v107 : DevRef τ sig).ty.Contents (Elt F)) = Cert.HgrnRefIdeal.Step.b72 j s := by
  unfold Cert.HgrnRefIdeal.Step.b72
  rw [← al_71 h, ← al_23 h]
  try rfl
set_option maxRecDepth 8192 in
/-- Value 73 of a trip is that value of the step. -/
theorem al_73 (h : Holds V0 s j) : (addf (mulf (broadcastInDim S16x4x128x128 ![0, 1, 2, 3] bcast_S16x4x128x1_S16x4x128x128_0_1_2_3 (broadcastInDim S16x4x128x1 ![0, 1, 2] bcast_S16x4x128_S16x4x128x1_0_1_2 (Host.exp (res_main_while0b_v97 V0)))) (V0 (Proc.devRef .tc main_v48_5))) (Host.dotGeneral dot_S16x64x4x128_S16x64x4x128_S16x4x128x128_1_1_3_3_02_02 none (mulf (res_main_while0b_v72 V0) (Host.exp (subf (broadcastInDim S16x64x4x128 ![0, 1, 2, 3] bcast_S16x1x4x128_S16x64x4x128_0_1_2_3 (broadcastInDim S16x1x4x128 ![0, 2, 3] bcast_S16x4x128_S16x1x4x128_0_2_3 (res_main_while0b_v97 V0))) (res_main_while0b_v77 V0)))) (res_main_while0b_v73 V0)) : (Proc.devRef .tc main_while0b_v108 : DevRef τ sig).ty.Contents (Elt F)) = Cert.HgrnRefIdeal.Step.b73 j s := by
  unfold Cert.HgrnRefIdeal.Step.b73
  rw [← al_66 h, ← al_72 h]
  try rfl
set_option maxRecDepth 8192 in
/-- Value 74 of a trip is that value of the step. -/
theorem al_74 (h : Holds V0 s j) : (addf (transpose S16x64x4x128 [0, 3, 1, 2] (Host.dotGeneral dot_S16x4x128x128_S16x64x4x128_S16x4x128x64_2_3_3_1_01_02 none (V0 (Proc.devRef .tc main_v48_5)) (mulf (res_main_while0b_v70 V0) (Host.exp (res_main_while0b_v77 V0)))) transposes_S16x4x128x64_S16x64x4x128_0_3_1_2) (transpose S16x64x4x128 [0, 3, 1, 2] (Host.dotGeneral dot_S16x64x4x128_S16x64x64x4_S16x4x128x64_1_2_3_1_02_03 none (res_main_while0b_v73 V0) (transpose S16x64x64x4 [0, 1, 3, 2] (Host.dotGeneral dot_S16x64x64x4x128_S16x64x4x128_S16x64x4x64_4_3_2_n_013_012 none (mulf (Host.exp (select (broadcastInDim S16x64x64x4x128 ![0, 1, 2, 3, 4] bcast_S1x64x64x1x1_S16x64x64x4x128_0_1_2_3_4 (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0)))) (broadcastInDim S16x64x64x4x128 ![] bcast_S_S16x64x64x4x128 (id (constant S_ .f32 0xFF800000#32))))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v72 V0)))) (res_main_while0b_v70 V0)) transposes_S16x64x4x64_S16x64x64x4_0_1_3_2)) transposes_S16x4x128x64_S16x64x4x128_0_3_1_2) : (Proc.devRef .tc main_while0b_v109 : DevRef τ sig).ty.Contents (Elt F)) = Cert.HgrnRefIdeal.Step.b74 j s := by
  unfold Cert.HgrnRefIdeal.Step.b74
  rw [← al_42 h, ← al_60 h]
  try rfl
set_option maxRecDepth 8192 in
/-- Value 75 of a trip is that value of the step. -/
theorem al_75 (h : Holds V0 s j) : (broadcastInDim S1x16x64x4x128 ![1, 2, 3, 4] bcast_S16x64x4x128_S1x16x64x4x128_1_2_3_4 (addf (transpose S16x64x4x128 [0, 3, 1, 2] (Host.dotGeneral dot_S16x4x128x128_S16x64x4x128_S16x4x128x64_2_3_3_1_01_02 none (V0 (Proc.devRef .tc main_v48_5)) (mulf (res_main_while0b_v70 V0) (Host.exp (res_main_while0b_v77 V0)))) transposes_S16x4x128x64_S16x64x4x128_0_3_1_2) (transpose S16x64x4x128 [0, 3, 1, 2] (Host.dotGeneral dot_S16x64x4x128_S16x64x64x4_S16x4x128x64_1_2_3_1_02_03 none (res_main_while0b_v73 V0) (transpose S16x64x64x4 [0, 1, 3, 2] (Host.dotGeneral dot_S16x64x64x4x128_S16x64x4x128_S16x64x4x64_4_3_2_n_013_012 none (mulf (Host.exp (select (broadcastInDim S16x64x64x4x128 ![0, 1, 2, 3, 4] bcast_S1x64x64x1x1_S16x64x64x4x128_0_1_2_3_4 (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0)))) (broadcastInDim S16x64x64x4x128 ![] bcast_S_S16x64x64x4x128 (id (constant S_ .f32 0xFF800000#32))))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v72 V0)))) (res_main_while0b_v70 V0)) transposes_S16x64x4x64_S16x64x64x4_0_1_3_2)) transposes_S16x4x128x64_S16x64x4x128_0_3_1_2)) : (Proc.devRef .tc main_while0b_call8_v0 : DevRef τ sig).ty.Contents (Elt F)) = Cert.HgrnRefIdeal.Step.b75 j s := by
  unfold Cert.HgrnRefIdeal.Step.b75
  rw [← al_74 h]
  try rfl
set_option maxRecDepth 8192 in
/-- Value 76 of a trip is that value of the step. -/
theorem al_76 (h : Holds V0 s j) : (constantI S_ 32 0#32 : (Proc.devRef .tc main_while0b_call8_c : DevRef τ sig).ty.Contents (Elt F)) = Cert.HgrnRefIdeal.Step.b76 j s := by
  unfold Cert.HgrnRefIdeal.Step.b76
  rfl
set_option maxRecDepth 8192 in
/-- Value 77 of a trip is that value of the step. -/
theorem al_77 (h : Holds V0 s j) : (constantI S_ 32 0#32 : (Proc.devRef .tc main_while0b_call8_c_0 : DevRef τ sig).ty.Contents (Elt F)) = Cert.HgrnRefIdeal.Step.b77 j s := by
  unfold Cert.HgrnRefIdeal.Step.b77
  rfl
set_option maxRecDepth 8192 in
/-- Value 78 of a trip is that value of the step. -/
theorem al_78 (h : Holds V0 s j) : (constantI S_ 32 0#32 : (Proc.devRef .tc main_while0b_call8_c_1 : DevRef τ sig).ty.Contents (Elt F)) = Cert.HgrnRefIdeal.Step.b78 j s := by
  unfold Cert.HgrnRefIdeal.Step.b78
  rfl
set_option maxRecDepth 8192 in
/-- Value 79 of a trip is that value of the step. -/
theorem al_79 (h : Holds V0 s j) : (constantI S_ 32 0#32 : (Proc.devRef .tc main_while0b_call8_c_2 : DevRef τ sig).ty.Contents (Elt F)) = Cert.HgrnRefIdeal.Step.b79 j s := by
  unfold Cert.HgrnRefIdeal.Step.b79
  rfl
set_option maxRecDepth 8192 in
/-- Value 80 of a trip is that value of the step. -/
theorem al_80 (h : Holds V0 s j) : (Host.dynamicUpdateSlice (V0 (Proc.devRef .tc main_v48_6)) (broadcastInDim S1x16x64x4x128 ![1, 2, 3, 4] bcast_S16x64x4x128_S1x16x64x4x128_1_2_3_4 (addf (transpose S16x64x4x128 [0, 3, 1, 2] (Host.dotGeneral dot_S16x4x128x128_S16x64x4x128_S16x4x128x64_2_3_3_1_01_02 none (V0 (Proc.devRef .tc main_v48_5)) (mulf (res_main_while0b_v70 V0) (Host.exp (res_main_while0b_v77 V0)))) transposes_S16x4x128x64_S16x64x4x128_0_3_1_2) (transpose S16x64x4x128 [0, 3, 1, 2] (Host.dotGeneral dot_S16x64x4x128_S16x64x64x4_S16x4x128x64_1_2_3_1_02_03 none (res_main_while0b_v73 V0) (transpose S16x64x64x4 [0, 1, 3, 2] (Host.dotGeneral dot_S16x64x64x4x128_S16x64x4x128_S16x64x4x64_4_3_2_n_013_012 none (mulf (Host.exp (select (broadcastInDim S16x64x64x4x128 ![0, 1, 2, 3, 4] bcast_S1x64x64x1x1_S16x64x64x4x128_0_1_2_3_4 (broadcastInDim S1x64x64x1x1 ![1, 2] bcast_S64x64_S1x64x64x1x1_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S16x64x64x4x128 ![0, 1, 2, 3, 4] bcast_S16x64x1x4x128_S16x64x64x4x128_0_1_2_3_4 (broadcastInDim S16x64x1x4x128 ![0, 1, 3, 4] bcast_S16x64x4x128_S16x64x1x4x128_0_1_3_4 (res_main_while0b_v77 V0))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v77 V0)))) (broadcastInDim S16x64x64x4x128 ![] bcast_S_S16x64x64x4x128 (id (constant S_ .f32 0xFF800000#32))))) (broadcastInDim S16x64x64x4x128 ![0, 1, 2, 3, 4] bcast_S16x1x64x4x128_S16x64x64x4x128_0_1_2_3_4 (broadcastInDim S16x1x64x4x128 ![0, 2, 3, 4] bcast_S16x64x4x128_S16x1x64x4x128_0_2_3_4 (res_main_while0b_v72 V0)))) (res_main_while0b_v70 V0)) transposes_S16x64x4x64_S16x64x64x4_0_1_3_2)) transposes_S16x4x128x64_S16x64x4x128_0_3_1_2))) (fun k => (((![V0 (Proc.devRef .tc main_v48_4), constantI S_ 32 0#32, constantI S_ 32 0#32, constantI S_ 32 0#32, constantI S_ 32 0#32] : Fin 5 → (⟨S_, .i32⟩ : BufTy).Contents (Elt F))) k (Shape.Idx.first h_S_)).toInt) updateFits_S64x16x64x4x128_S1x16x64x4x128 : (Proc.devRef .tc main_while0b_v110 : DevRef τ sig).ty.Contents (Elt F)) = Cert.HgrnRefIdeal.Step.b80 j s := by
  unfold Cert.HgrnRefIdeal.Step.b80
  rw [← al_75 h, ← al_76 h, ← al_77 h, ← al_78 h, ← al_79 h, h.f_6, h.n_4]
  try rfl

/-! One trip's step of the carried values is `step`, field by field; a counter steps to the next number. -/

/-- A trip's next value of the state, by name. -/
theorem step_5 (h : Holds V0 s j) : step_main_v48_5 V0 = (step j s).main_v48_5 := by
  unfold step_main_v48_5 Cert.HgrnRefIdeal.Step.step
  show id (addf (mulf (broadcastInDim S16x4x128x128 ![0, 1, 2, 3] bcast_S16x4x128x1_S16x4x128x128_0_1_2_3 (broadcastInDim S16x4x128x1 ![0, 1, 2] bcast_S16x4x128_S16x4x128x1_0_1_2 (Host.exp (res_main_while0b_v97 V0)))) (V0 (Proc.devRef .tc main_v48_5))) (Host.dotGeneral dot_S16x64x4x128_S16x64x4x128_S16x4x128x128_1_1_3_3_02_02 none (mulf (res_main_while0b_v72 V0) (Host.exp (subf (broadcastInDim S16x64x4x128 ![0, 1, 2, 3] bcast_S16x1x4x128_S16x64x4x128_0_1_2_3 (broadcastInDim S16x1x4x128 ![0, 2, 3] bcast_S16x4x128_S16x1x4x128_0_2_3 (res_main_while0b_v97 V0))) (res_main_while0b_v77 V0)))) (res_main_while0b_v73 V0))) = _
  rw [al_73 h]
  try rfl
set_option maxRecDepth 8192 in
/-- A trip's next value of the outputs, by name. -/
theorem step_6 (h : Holds V0 s j) : step_main_v48_6 V0 = (step j s).main_v48_6 := by
  unfold step_main_v48_6 Cert.HgrnRefIdeal.Step.step
  exact al_80 h
/-- A trip's counter goes up by one. -/
theorem step_4 (h : Holds V0 s j) : step_main_v48_4 V0 = constantI S_ 32 (BitVec.ofNat 32 (j + 1)) := by
  unfold step_main_v48_4
  rw [h.n_4]
  funext i
  show BitVec.ofNat 32 j + 1#32 = BitVec.ofNat 32 (j + 1)
  simp only [BitVec.ofNat_add]

set_option maxRecDepth 8192 in
/-- The output, from what the loop carries and the two arguments. -/
theorem out_main_v69_holds (h : Holds V0 s j) {x_main_arg0 : (⟨S65536x2048, .f32⟩ : BufTy).Contents (Elt F)} (h_main_arg0 : V0 (Proc.devRef .tc main_arg0) = x_main_arg0) {x_main_arg2 : (⟨S128, .f32⟩ : BufTy).Contents (Elt F)} (h_main_arg2 : V0 (Proc.devRef .tc main_arg2) = x_main_arg2) : out_main_v69 V0 = Cert.HgrnRefIdeal.Step.R_main_v69 s x_main_arg0 x_main_arg2 := by
  unfold out_main_v69 Cert.HgrnRefIdeal.Step.R_main_v69
  rw [h.f_6, h_main_arg0, h_main_arg2]
  try rfl

/-- One trip keeps the valuation holding: `step` of the state, the same set-up values, the next number. -/
theorem holds_step (h : Holds V0 s j) : Holds (STEP V0) (step j s) (j + 1) where
  f_5 := (STEP_main_v48_5 V0).trans (step_5 h)
  f_6 := (STEP_main_v48_6 V0).trans (step_6 h)
  n_4 := (STEP_main_v48_4 V0).trans (step_4 h)
  f_0 := (STEP_main_v48_0 V0).trans h.f_0
  f_1 := (STEP_main_v48_1 V0).trans h.f_1
  f_2 := (STEP_main_v48_2 V0).trans h.f_2
  f_3 := (STEP_main_v48_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `HgrnRefIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v69) = Cert.HgrnRefIdeal.Step.R_main_v69 (it c 64) (m ((c.tc : Thread nD τ).loc main_arg0)) (m ((c.tc : Thread nD τ).loc main_arg2))
      ∧ r.2.mem ((c.tc : Thread nD τ).loc main_v48_5) = (it c 64).main_v48_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 64
    ⟨(h c).1.trans (out_main_v69_holds hk (iter_main_arg0 m c 64) (iter_main_arg2 m c 64)), (h c).2.1.trans hk.f_5, (h c).2.2.1, (h c).2.2.2.1, (h c).2.2.2.2⟩) (Value.run m ρ)

end Cert.HgrnRefIdeal.StepRunB

end
-- ==== Proof.HgrnClaim.lean ====
/- The claims about the recurrence: what the precondition gives, the reference's frame, and that the two programs end with one value. -/
module
public import proofs.«01_k».proof.Proof.HgrnRef
public import proofs.«01_k».proof.Proof.HgrnRefStep
public import proofs.«01_k».proof.Proof.Gen.Pre_finite
public import proofs.«01_k».proof.Defs
public import Idealize.ShloMosaic.Lib.ReduceAll
@[expose] public section
set_option maxRecDepth 16384
noncomputable section
namespace Cert.HgrnProof
open Idealize.ShloMosaic Idealize.ShloMosaic.TcCoe Idealize.ShloMosaic.Tactic
open Idealize.SL.Sem

/-- The bits of infinity are the largest value. -/
theorem top_word : Ideal.ofBits .f32 2139095040#32 = (⊤ : EReal) := by
  simp [Ideal.ofBits, Ideal.ieee]
/-- An entry whose size is below infinity is a real number. -/
theorem real_of_lt (x : EReal) (h : Ideal.cmp .olt (max x (-x)) (Ideal.ofBits .f32 2139095040#32) = 1#1) : x = (x.toReal : EReal) := by
  have h' : max x (-x) < ⊤ := by
    rw [top_word] at h
    by_contra hn
    have e : Ideal.cmp .olt (max x (-x)) ⊤ = 0#1 := by
      show BitVec.ofBool (decide (max x (-x) < ⊤)) = 0#1
      rw [decide_eq_false hn]
      rfl
    rw [e] at h
    exact absurd h (by decide)
  refine (EReal.coe_toReal ?_ ?_).symm
  · rintro rfl
    simp at h'
  · rintro rfl
    simp at h'
/-- The precondition, read at an entry. -/
theorem fine_of_pre (X : Vec Ideal Cert.Pre_finite.S65536x2048 .f32) (L : Vec Ideal Cert.Pre_finite.S2x512 .f32) (w : Vec Ideal Cert.Pre_finite.S128 .f32)
    (h : Cert.Pre_finite.fn (F := Ideal) X L w = fun _ => 1#1) : Fine X L := by
  have h0 := congrFun h ix0
  dsimp only [Cert.Pre_finite.fn] at h0
  obtain ⟨h1, h2⟩ := IntOp.andi_eq_one.1 h0
  constructor
  · intro i j hj
    have e := Host.reduce_andi_all _ _ _ _ _ h1 (ix2 i (⟨j.val, hj⟩ : Fin 1536))
    refine real_of_lt _ (Eq.trans ?_ e)
    pointwise
    rfl
  · intro i j
    have e := Host.reduce_andi_all _ _ _ _ _ h2 (ix2 i j)
    refine real_of_lt _ (Eq.trans ?_ e)
    pointwise
    rfl

/-- The reference leaves its arguments as they were; it declares no semaphore. -/
theorem frame_ref : Cert.quiescent_HgrnRefIdeal := fun m ρ _ =>
  (θ_run Cert.HgrnRefIdeal.defs _ _).mono (fun r h => ⟨fun c => ⟨(h c).2.2.1, (h c).2.2.2.1, (h c).2.2.2.2⟩, sem_eq_zero_of_no_sems (by decide) r.2⟩)
    (Cert.HgrnRefIdeal.Value.run (F := Ideal) m ρ)

/-- The kernel and the reference end with the same readouts and the same states. -/
theorem hgrn_equal : Cert.algebraic_HgrnIdeal_HgrnRefIdeal_pre_finite := by
  intro m g m' g' hp ha
  have H : ∀ c : Dev Cert.HgrnIdeal.nD, Fine (mX m c) (mL m c) := fun c => fine_of_pre _ _ _ (hp c)
  refine ⟨fun c => readouts (mX m c) (mL m c) (m (c, Proc.tc.devRef Cert.HgrnIdeal.main_arg2)), fun c => states (mX m c) (mL m c), ?_, ?_⟩
  · exact (θ_run Cert.HgrnIdeal.defs _ _).mono (fun r h c => ⟨(h c).1.trans (G6_eq m c (H c)), (h c).2.1.trans (G7_eq m c (H c)), (h c).2.2⟩)
      (Cert.HgrnIdeal.Value.run m g)
  · let it : (c : Dev Cert.HgrnRefIdeal.nD) → ℕ → Cert.HgrnRefIdeal.Step.State Ideal := fun c n =>
      Nat.rec (Cert.HgrnRefIdeal.StepRunB.initState m' c) (fun n s => Cert.HgrnRefIdeal.Step.step n s) n
    have hc : ∀ c, Carries (mX m c) (mL m c) (it c 64) 64 := fun c => by
      refine carries (H c) (it c) ?_ (fun n => rfl) 64 le_rfl
      show Cert.HgrnRefIdeal.Step.init _ _ = _
      rw [(ha c).1, (ha c).2.1]
    refine (θ_run Cert.HgrnRefIdeal.defs _ _).mono (fun r h c => ⟨(h c).1.trans ?_, (h c).2.1.trans (state_is (hc c)), (h c).2.2⟩)
      (Cert.HgrnRefIdeal.StepRunB.run_iter m' g' it (fun c => rfl) (fun c n => rfl))
    rw [(ha c).1, (ha c).2.2]
    exact out_is (hc c) _

end Cert.HgrnProof
-- ==== Proof.MixRow.lean ====
/- The gated merge and the feed-forward layer of one token, as sums over its rows. -/
module
public import Idealize.ShloMosaic.Lib.Pointwise
@[expose] public section
set_option maxRecDepth 16384
noncomputable section
namespace Cert.MixProof
open Idealize.ShloMosaic Idealize.ShloMosaic.TcCoe Idealize.ShloMosaic.Tactic
open Idealize.SL.Sem

open scoped BigOperators

/-- A row divided by the root of its mean square, times a gain. -/
def norm (v g : Fin 1024 → EReal) (d : Fin 1024) : EReal :=
  v d * Ideal.rsqrt (Ideal.div (∑ x, v x * v x) (Ideal.ofBits .f32 0x44800000#32) + Ideal.ofBits .f32 0x358637BD#32) * g d

/-- The weights and the rows of a token. -/
structure Row where
  x : Fin 1024 → EReal
  oa : Fin 512 → EReal
  ob : Fin 512 → EReal
  gate : Fin 2048 → EReal
structure Weights where
  branch : Fin 2 → Fin 512 → Fin 1024 → EReal
  out : Fin 1024 → Fin 1024 → EReal
  gain : Fin 1024 → EReal
  ffi : Fin 1024 → Fin 5632 → EReal
  ffo : Fin 2816 → Fin 1024 → EReal
  last : Fin 1024 → EReal

variable (r : Row) (w : Weights)
/-- The two branches, each under its gate. -/
def merged (d : Fin 1024) : EReal :=
  (∑ c, r.oa c * w.branch 0 c d) * r.gate ⟨d.val, by omega⟩ + (∑ c, r.ob c * w.branch 1 c d) * r.gate ⟨1024 + d.val, by omega⟩
/-- The token after the mixer. -/
def mixed (d : Fin 1024) : EReal := r.x d + ∑ e, merged r w e * w.out e d
/-- An inner column: one half under its own sigmoid, times the other. -/
def inner (n : Fin 1024 → EReal) (f : Fin 2816) : EReal :=
  let a := ∑ d, n d * w.ffi d ⟨f.val, by omega⟩
  a * Ideal.div 1 (1 + Ideal.exp (0 - a)) * ∑ d, n d * w.ffi d ⟨2816 + f.val, by omega⟩
/-- The token after the feed-forward layer. -/
def fed (d : Fin 1024) : EReal := mixed r w d + ∑ f, inner w (norm (mixed r w) w.gain) f * w.ffo f d
/-- The layer's result for a token. -/
def layer (d : Fin 1024) : EReal := norm (fed r w) w.last d

/-- A sum over 2816 columns, in eleven parts of 256. -/
theorem parts (f : Fin 2816 → EReal) : ∑ i, f i = ∑ c : Fin 11, ∑ x : Fin 256, f ⟨256 * c.val + x.val, by omega⟩ := by
  rw [← Fintype.sum_prod_type']
  refine (Fintype.sum_equiv (finProdFinEquiv (m := 11) (n := 256)) _ _ fun p => ?_).symm
  exact congrArg f (Fin.ext (Nat.add_comm _ _))

end Cert.MixProof
-- ==== Proof.InRow.lean ====
/- The in-projection of one token: its normed row against the columns of the weights, and the layer norm of its indexer key. -/
module
public import proofs.«01_k».proof.Proof.MixRow
@[expose] public section
set_option maxRecDepth 16384
noncomputable section
namespace Cert.InProof
open Idealize.ShloMosaic Idealize.ShloMosaic.TcCoe Idealize.ShloMosaic.Tactic
open Idealize.SL.Sem

open Cert.MixProof (norm)
open scoped BigOperators

/-- The weights of the in-projection, the gain of the norm before it, and the gain and offset of the indexer key's norm. -/
structure Par where
  gain : Fin 1024 → EReal
  w : Fin 1024 → Fin 6216 → EReal
  kg : Fin 64 → EReal
  kb : Fin 64 → EReal

variable (x : Fin 1024 → EReal) (p : Par)
/-- Column `j` of a token's projection. -/
def col (j : Fin 6216) : EReal := ∑ d, norm x p.gain d * p.w d j
/-- The mean of 64 columns. -/
def mean (s : Fin 64 → EReal) : EReal := Ideal.div (∑ j, s j) (Ideal.ofBits .f32 0x42800000#32)
/-- 64 columns less their mean. -/
def less (s : Fin 64 → EReal) (j : Fin 64) : EReal := s j - mean s
/-- The indexer's key: the layer norm of columns 4096 to 4159. -/
def key (j : Fin 64) : EReal :=
  let c := less fun i => col x p ⟨4096 + i.val, by omega⟩
  c j * Ideal.rsqrt (mean (fun i => c i * c i) + Ideal.ofBits .f32 0x358637BD#32) * p.kg j + p.kb j
/-- The indexer's key, the indexer's head weights, and zeros. -/
def small (j : Fin 128) : EReal :=
  if h : j.val < 64 then key x p ⟨j.val, h⟩
  else if j.val < 72 then col x p ⟨4096 + j.val, by omega⟩ * Ideal.ofBits .f32 0x3EB504F3#32 * Ideal.ofBits .f32 0x3E000000#32
  else 0
/-- A merge gate: the sigmoid of a column. -/
def gate (j : Fin 2048) : EReal := Ideal.div 1 (1 + Ideal.exp (0 - col x p ⟨4168 + j.val, by omega⟩))

/-- A sum over 128 lanes of which the upper half are zeros. -/
theorem half (f : Fin 128 → EReal) (h : ∀ j : Fin 128, 64 ≤ j.val → f j = 0) : ∑ j, f j = ∑ i : Fin 64, f ⟨i.val, by omega⟩ := by
  refine (Fin.sum_univ_add (a := 64) (b := 64) f).trans ?_
  rw [Finset.sum_eq_zero (s := Finset.univ) (f := fun i : Fin 64 => f (Fin.natAdd 64 i)) (fun i _ => h _ (by show 64 ≤ 64 + i.val; omega)), add_zero]
  rfl
/-- A sixty-fourth is a division by 64. -/
theorem sixtyfourth (a : EReal) : a * Ideal.ofBits .f32 0x3C800000#32 = Ideal.div a (Ideal.ofBits .f32 0x42800000#32) := by
  have h1 : Ideal.ofBits .f32 0x3C800000#32 = ((1 / 64 : ℝ) : EReal) := by
    simp [Ideal.ofBits, Ideal.ieee]
    rw [← EReal.coe_mul]
    norm_num
  have h2 : Ideal.ofBits .f32 0x42800000#32 = ((64 : ℝ) : EReal) := by
    simp [Ideal.ofBits, Ideal.ieee]
    rw [← EReal.coe_mul]
    norm_num
  rw [h1, h2]
  unfold Ideal.div
  rw [if_neg (by norm_num), ← EReal.coe_inv]
  norm_num

end Cert.InProof
-- ==== Proof.InEntry.lean ====
/- One block of the in-projection kernel is the in-projection of its tokens. -/
module
public import proofs.«01_k».proof.Proof.InRow
public import proofs.«01_k».proof.Proof.Gen.InprojIdeal.Value
public import Idealize.ShloMosaic.Lib.Pipeline.ReadBack
public import Idealize.ShloMosaic.Lib.Pipeline.ValueKit.Tiles
@[expose] public section
set_option maxRecDepth 16384
noncomputable section
namespace Cert.InProof
open Idealize.ShloMosaic Idealize.ShloMosaic.TcCoe Idealize.ShloMosaic.Tactic
open Cert.InprojIdeal Cert.InprojIdeal.Gen Idealize.SL.Sem

open Cert.MixProof (norm)
open scoped BigOperators

/-- Pieces that agree with an array, wherever they cover it, are that array. -/
theorem canon_of {s : Shape} {e : EltTy} (G : s.Idx → Elt Ideal e) (L : List (View.Piece (Elt Ideal) s e)) (h : View.PiecesOf G L) (y : s.Idx)
    (hc : ∃ p ∈ L, y ∈ p.1.set) : View.canon L y = G y :=
  (congrFun (congrArg View.canon (List.append_nil L).symm) y).trans (View.canon_append_of_piecesOf G [] L h y hc)
/-- The first of two values in the first 64 lanes, the second in the others. -/
def low (j : Fin 128) (a b : EReal) : EReal := if j.val < 64 then a else b
/-- A selection by whether a lane comes before lane 64. -/
theorem sel64 (j : Fin 128) (a b : EReal) : Scalar.select (IntOp.cmpi CmpIPredicate.slt (BitVec.ofNat 32 j.val) 64#32) a b = low j a b := by
  have h : ∀ j : Fin 128, (IntOp.cmpi CmpIPredicate.slt (BitVec.ofNat 32 j.val) 64#32 = 1) ↔ j.val < 64 := by decide +kernel
  unfold Scalar.select low
  simp only [h]
/-- The first of two, in the first 64 places. -/
theorem low_pos (j : Fin 128) (a b : EReal) (h : j.val < 64) : low j a b = a := if_pos h
/-- The second of two, after the first 64 places. -/
theorem low_neg (j : Fin 128) (a b : EReal) (h : ¬ j.val < 64) : low j a b = b := if_neg h
/-- A masked sum is the sum of the first 64 lanes. -/
theorem sum_low (f : Fin 128 → EReal) : ∑ j, low j (f j) 0 = ∑ i : Fin 64, f ⟨i.val, by omega⟩ := by
  rw [half (fun j => low j (f j) 0) fun j hj => low_neg _ _ _ (by omega)]
  exact Finset.sum_congr rfl fun i _ => low_pos _ _ _ i.isLt
/-- Masked twice is masked once. -/
theorem low_low (j : Fin 128) (a b c : EReal) : low j (low j a b) c = low j a c := by
  unfold low
  split_ifs <;> rfl
/-- A selection by whether a lane comes before lane 72. -/
theorem sel72 (j : Fin 128) (a b : EReal) : Scalar.select (IntOp.cmpi CmpIPredicate.slt (BitVec.ofNat 32 j.val) 72#32) a b = if j.val < 72 then a else b := by
  have h : ∀ j : Fin 128, (IntOp.cmpi CmpIPredicate.slt (BitVec.ofNat 32 j.val) 72#32 = 1) ↔ j.val < 72 := by decide +kernel
  unfold Scalar.select
  simp only [h]

/-- The blocks hold these tokens' rows and these weights. -/
structure Reads (x0 : Vec Ideal S512x1024 .f32) (x1 : Vec Ideal S1x1024 .f32) (x2 : Vec Ideal S1024x4096 .bf16) (x3 : Vec Ideal S1024x128 .bf16) (x4 : Vec Ideal S1024x2048 .bf16) (x5 : Vec Ideal S1x128 .f32) (x6 : Vec Ideal S1x128 .f32) (X : Fin 512 → Fin 1024 → EReal) (p : Par) : Prop where
  hx : ∀ r d, x0 (ix2 r d) = X r d
  hg : ∀ d, x1 (ix2 0 d) = p.gain d
  hm : ∀ d (j : Fin 4096), x2 (ix2 d j) = p.w d ⟨j.val, by omega⟩
  hs : ∀ d (j : Fin 72), x3 (ix2 d ⟨j.val, by omega⟩) = p.w d ⟨4096 + j.val, by omega⟩
  hG : ∀ d (j : Fin 2048), x4 (ix2 d j) = p.w d ⟨4168 + j.val, by omega⟩
  hk : ∀ j : Fin 64, x5 (ix2 0 ⟨j.val, by omega⟩) = p.kg j
  hb : ∀ j : Fin 64, x6 (ix2 0 ⟨j.val, by omega⟩) = p.kb j

variable {x0 : Vec Ideal S512x1024 .f32} {x1 : Vec Ideal S1x1024 .f32} {x2 : Vec Ideal S1024x4096 .bf16} {x3 : Vec Ideal S1024x128 .bf16} {x4 : Vec Ideal S1024x2048 .bf16} {x5 : Vec Ideal S1x128 .f32} {x6 : Vec Ideal S1x128 .f32}
  {X : Fin 512 → Fin 1024 → EReal} {p : Par} (R : Reads x0 x1 x2 x3 x4 x5 x6 X p)
include R

/-- The normed rows. -/
theorem xn_apply (r : Fin 512) (d : Fin 1024) : k0_pay26 x0 x1 x2 x3 x4 x5 x6 (ix2 r d) = norm (X r) p.gain d := by
  have e : k0_pay26 x0 x1 x2 x3 x4 x5 x6 (ix2 r d) = norm (fun d => x0 (ix2 r d)) (fun d => x1 (ix2 0 d)) d := by
    pointwise [k0_pay26, k0_pay1]
    rfl
  rw [e, funext (R.hx r), funext R.hg]
/-- A product of the normed rows with 512 of the columns. -/
theorem dot_apply (w : Vec Ideal S1024x512 .bf16) (r : Fin 512) (j : Fin 512) (k : Fin 6216) (h : ∀ d, w (ix2 d j) = p.w d k) :
    k0_pay8 (k0_pay26 x0 x1 x2 x3 x4 x5 x6) w (ix2 r j) = col (X r) p k := by
  have e : k0_pay8 (k0_pay26 x0 x1 x2 x3 x4 x5 x6) w (ix2 r j) = ∑ d, k0_pay26 x0 x1 x2 x3 x4 x5 x6 (ix2 r d) * w (ix2 d j) := by
    pointwise [k0_pay8]
  rw [e]
  exact Finset.sum_congr rfl fun d _ => by rw [xn_apply R, h]
/-- A read of 512 columns of the main weights. -/
theorem ld_main (off : ℕ) (inb) (d : Fin 1024) (j : Fin 512) (k : Fin 6216) (hk : k.val = off + j.val) (ho : off + 512 ≤ 4096) :
    View.ld x2 (Rect.unit (s := S1024x4096) ![0, off] S1024x512.size inb) (ix2 d j) = p.w d k := by
  refine (View.ld_unit_apply_of x2 _ _ _ (ix2 d j) (ix2 d (⟨off + j.val, by omega⟩ : Fin 4096)) fun a => ?_).trans ?_
  · match a with
    | ⟨0, _⟩ => exact (Nat.zero_add _).symm
    | ⟨1, _⟩ => rfl
  · rw [R.hm]
    exact congrArg (p.w d) (Fin.ext hk.symm)

/-- Output 8 at an entry of its block. -/
theorem out8_apply (r j : Fin 512) : out0_8 x0 x1 x2 x3 x4 x5 x6 (ix2 r j) = col (X r) p ⟨2048 + j.val, by omega⟩ := by
  unfold out0_8
  rw [View.canon_unit_zero (by funext a; fin_cases a <;> rfl)]
  exact dot_apply R (View.ld x2 r0_10) r j _ fun d => ld_main R 2048 _ d j _ rfl (by decide)
/-- Output 9 at an entry of its block. -/
theorem out9_apply (r j : Fin 512) : out0_9 x0 x1 x2 x3 x4 x5 x6 (ix2 r j) = col (X r) p ⟨3072 + j.val, by omega⟩ := by
  unfold out0_9
  rw [View.canon_unit_zero (by funext a; fin_cases a <;> rfl)]
  exact dot_apply R (View.ld x2 r0_13) r j _ fun d => ld_main R 3072 _ d j _ rfl (by decide)
/-- Output 10 at an entry of its block. -/
theorem out10_apply (r j : Fin 512) : out0_10 x0 x1 x2 x3 x4 x5 x6 (ix2 r j) = col (X r) p ⟨3584 + j.val, by omega⟩ := by
  unfold out0_10
  rw [View.canon_unit_zero (by funext a; fin_cases a <;> rfl)]
  exact dot_apply R (View.ld x2 r0_14) r j _ fun d => ld_main R 3584 _ d j _ rfl (by decide)
/-- The keys at an entry. -/
theorem k_apply (r j : Fin 512) : k0_pay28 x0 x1 x2 x3 x4 x5 x6 (ix2 r j) = col (X r) p ⟨2560 + j.val, by omega⟩ :=
  dot_apply R (View.ld x2 r0_12) r j _ fun d => ld_main R 2560 _ d j _ rfl (by decide)
/-- The values at an entry. -/
theorem v_apply (r j : Fin 512) : k0_pay9 (k0_pay26 x0 x1 x2 x3 x4 x5 x6) (View.ld x2 r0_13) (ix2 r j) = col (X r) p ⟨3072 + j.val, by omega⟩ :=
  dot_apply R (View.ld x2 r0_13) r j _ fun d => ld_main R 3072 _ d j _ rfl (by decide)
/-- Output 13 at an entry of its block. -/
theorem out13_apply (j r : Fin 512) : out0_13 x0 x1 x2 x3 x4 x5 x6 (ix3 0 j r) = col (X r) p ⟨2560 + j.val, by omega⟩ := by
  unfold out0_13
  rw [View.canon_unit_zero (by funext a; fin_cases a <;> rfl), ← k_apply R]
  pointwise [k0_pay19, k0_pay18]
/-- Output 16 at an entry of its block. -/
theorem out16_apply (j r : Fin 512) : out0_16 x0 x1 x2 x3 x4 x5 x6 (ix3 0 j r) = col (X r) p ⟨2560 + j.val, by omega⟩ := by
  unfold out0_16
  rw [View.canon_unit_zero (by funext a; fin_cases a <;> rfl), ← k_apply R]
  pointwise [k0_pay21, k0_pay18]
/-- Output 14 at an entry of its block. -/
theorem out14_apply (j r : Fin 512) : out0_14 x0 x1 x2 x3 x4 x5 x6 (ix3 0 j r) = col (X r) p ⟨3072 + j.val, by omega⟩ := by
  unfold out0_14
  rw [View.canon_unit_zero (by funext a; fin_cases a <;> rfl), ← v_apply R]
  pointwise [k0_pay20]
/-- Output 12 at an entry of its block. -/
theorem out12_apply (r : Fin 512) (j : Fin 2048) : out0_12 x0 x1 x2 x3 x4 x5 x6 (ix2 r j) = gate (X r) p j := by
  unfold out0_12
  rw [View.canon_unit_zero (by funext a; fin_cases a <;> rfl)]
  have e : ∑ d, k0_pay26 x0 x1 x2 x3 x4 x5 x6 (ix2 r d) * x4 (ix2 d j) = col (X r) p ⟨4168 + j.val, by omega⟩ :=
    Finset.sum_congr rfl fun d _ => by rw [xn_apply R, R.hG]
  unfold gate
  rw [← e]
  pointwise [k0_pay17, k0_pay16]
/-- The small projection at an entry. -/
theorem s_apply (r : Fin 512) (j : Fin 72) : k0_pay29 x0 x1 x2 x3 x4 x5 x6 (ix2 r ⟨j.val, by omega⟩) = col (X r) p ⟨4096 + j.val, by omega⟩ := by
  have e : k0_pay29 x0 x1 x2 x3 x4 x5 x6 (ix2 r ⟨j.val, by omega⟩) = ∑ d, k0_pay26 x0 x1 x2 x3 x4 x5 x6 (ix2 r d) * x3 (ix2 d ⟨j.val, by omega⟩) := by
    pointwise [k0_pay29, k0_pay12]
  rw [e]
  exact Finset.sum_congr rfl fun d _ => by rw [xn_apply R, R.hs]
/-- The sum over the indexer key's columns. -/
theorem sum_apply (r : Fin 512) : k0_pay31 x0 x1 x2 x3 x4 x5 x6 (ix2 r 0) = ∑ j : Fin 64, col (X r) p ⟨4096 + j.val, by omega⟩ := by
  have e : k0_pay31 x0 x1 x2 x3 x4 x5 x6 (ix2 r 0) = ∑ j : Fin 128, low j (k0_pay29 x0 x1 x2 x3 x4 x5 x6 (ix2 r j)) 0 := by
    pointwise [k0_pay31, k0_pay14, k0_pay13, k0_pay29]
    simp only [sel64]
  rw [e, sum_low]
  exact Finset.sum_congr rfl fun j _ => s_apply R r ⟨j.val, by omega⟩

/-- The small columns from the loaded sums: the layer norm of the first 64 lanes, the scaled next eight, and zeros. -/
theorem pay15_apply (r : Fin 512) (j : Fin 128) :
    k0_pay15 (k0_pay29 x0 x1 x2 x3 x4 x5 x6) (k0_pay27 x0 x1 x2 x3 x4 x5 x6) (k0_pay30 x0 x1 x2 x3 x4 x5 x6) (k0_pay31 x0 x1 x2 x3 x4 x5 x6) x5 x6 (ix2 r j) = small (X r) p j := by
  have hs := s_apply R r
  have hu := sum_apply R r
  have hk := R.hk
  have hb := R.hb
  have h30 : k0_pay30 x0 x1 x2 x3 x4 x5 x6 = k0_pay13 := rfl
  have h27 : k0_pay27 x0 x1 x2 x3 x4 x5 x6 = iota .tc S512x128 32 [1] iota_S512x128_d1_w32 := rfl
  rw [h30, h27]
  generalize k0_pay29 x0 x1 x2 x3 x4 x5 x6 = s at hs ⊢
  generalize k0_pay31 x0 x1 x2 x3 x4 x5 x6 = u at hu ⊢
  have e : k0_pay15 s (iota .tc S512x128 32 [1] iota_S512x128_d1_w32) k0_pay13 u x5 x6 (ix2 r j) =
      if j.val < 64 then
        (s (ix2 r j) - u (ix2 r 0) * Ideal.ofBits .f32 0x3C800000#32) * Ideal.rsqrt ((∑ i : Fin 128, low i
          ((s (ix2 r i) - u (ix2 r 0) * Ideal.ofBits .f32 0x3C800000#32) * (s (ix2 r i) - u (ix2 r 0) * Ideal.ofBits .f32 0x3C800000#32)) 0)
          * Ideal.ofBits .f32 0x3C800000#32 + Ideal.ofBits .f32 0x358637BD#32) * x5 (ix2 0 j) + x6 (ix2 0 j)
      else if j.val < 72 then s (ix2 r j) * Ideal.ofBits .f32 0x3EB504F3#32 * Ideal.ofBits .f32 0x3E000000#32 else 0 := by
    pointwise [k0_pay15, k0_pay13]
    simp only [sel64, sel72]
    by_cases h : j.val < 64
    · simp only [if_pos h]
      simp only [low_low, low_pos _ _ _ h, if_pos h]
    · simp only [low_neg _ _ _ h, if_neg h]
  rw [e]
  unfold small
  split_ifs with h h'
  · have hj : ∀ i : Fin 64, s (ix2 r ⟨i.val, by omega⟩) - u (ix2 r 0) * Ideal.ofBits .f32 0x3C800000#32 = less (fun i => col (X r) p ⟨4096 + i.val, by omega⟩) i := fun i => by
      rw [sixtyfourth, hu, hs ⟨i.val, by omega⟩]
      rfl
    rw [sum_low, sixtyfourth (∑ i : Fin 64, _)]
    unfold key mean
    simp only [hj]
    have h5 := hj ⟨j.val, h⟩
    have h6 := hk ⟨j.val, h⟩
    have h7 := hb ⟨j.val, h⟩
    simp only [Fin.eta] at h5 h6 h7
    rw [h5, h6, h7]
  · have h5 := hs ⟨j.val, h'⟩
    simp only [Fin.eta] at h5
    rw [h5]
  · rfl
/-- Output 11 at an entry of its block. -/
theorem out11_apply (r : Fin 512) (j : Fin 128) : out0_11 x0 x1 x2 x3 x4 x5 x6 (ix2 r j) = small (X r) p j := by
  unfold out0_11
  rw [View.canon_unit_zero (by funext a; fin_cases a <;> rfl)]
  refine Eq.trans ?_ (pay15_apply R r j)
  pointwise [k0_pay15, k0_pay13]
/-- The indexer's key and head weights, as computed, at an entry. -/
theorem small_apply (r : Fin 512) (j : Fin 128) : k0_pay32 x0 x1 x2 x3 x4 x5 x6 (ix2 r j) = small (X r) p j := by
  refine Eq.trans ?_ (pay15_apply R r j)
  pointwise [k0_pay32, k0_pay15, k0_pay13]
/-- Output 15 at an entry of its block. -/
theorem out15_apply (j : Fin 64) (r : Fin 512) : out0_15 x0 x1 x2 x3 x4 x5 x6 (ix3 0 j r) = small (X r) p ⟨j.val, by omega⟩ := by
  unfold out0_15
  rw [View.canon_unit_zero (by funext a; fin_cases a <;> rfl), ← small_apply R]
  pointwise [k0_pay23, k0_pay22]

/-- The key's columns, stored twice, one under the other. -/
theorem out17_apply (j : Fin 128) (r : Fin 512) : out0_17 x0 x1 x2 x3 x4 x5 x6 (ix3 0 j r) = small (X r) p ⟨j.val % 64, by omega⟩ := by
  unfold out0_17
  have hp : ∀ (j : Fin 64) (r : Fin 512), k0_pay24 (k0_pay32 x0 x1 x2 x3 x4 x5 x6) (ix3 0 j r) = small (X r) p ⟨j.val, by omega⟩ := fun j r => by
    rw [← small_apply R]
    pointwise [k0_pay24, k0_pay22]
  have hq : k0_pay25 (k0_pay32 x0 x1 x2 x3 x4 x5 x6) = k0_pay24 (k0_pay32 x0 x1 x2 x3 x4 x5 x6) := rfl
  rw [hq]
  have e : ∀ (n : ℕ) (x : S1x64x512.Idx) (y : S1x128x512.Idx), (y 1).val = n + (x 1).val → (y 2).val = (x 2).val → n % 64 = 0 →
      k0_pay24 (k0_pay32 x0 x1 x2 x3 x4 x5 x6) x = small (X (y 2)) p ⟨(y 1).val % 64, by omega⟩ := fun n x y h1 h2 h3 => by
    obtain ⟨a, j, r, rfl⟩ : ∃ (a : Fin 1) (j : Fin 64) (r : Fin 512), x = ix3 a j r := ⟨x 0, x 1, x 2, eq_ix3 x⟩
    obtain rfl : a = 0 := Subsingleton.elim _ _
    have h1 : (y 1).val = n + j.val := h1
    rw [hp]
    exact congrArg₂ (fun a b => small (X a) p b) (Fin.ext h2.symm) (Fin.ext (by show j.val = (y 1).val % 64; omega))
  refine Eq.trans (canon_of (e := .bf16) (fun y : S1x128x512.Idx => small (X (y 2)) p ⟨(y 1).val % 64, by omega⟩) _ ?_ (ix3 0 j r) (cover0_17 _ _ _)) ?_
  swap
  · rfl
  refine ⟨fun x => ?_, fun x => ?_, trivial⟩
  · exact e 64 x _ (congrArg (64 + ·) (Nat.one_mul _)) ((congrArg (0 + ·) (Nat.one_mul _)).trans (Nat.zero_add _)) rfl
  · exact e 0 x _ (congrArg (0 + ·) (Nat.one_mul _)) ((congrArg (0 + ·) (Nat.one_mul _)).trans (Nat.zero_add _)) rfl
/-- The recurrence's columns. -/
theorem out7_apply (r : Fin 512) (j : Fin 2048) : out0_7 x0 x1 x2 x3 x4 x5 x6 (ix2 r j) = col (X r) p ⟨j.val, by omega⟩ := by
  unfold out0_7
  have e : ∀ (w : Vec Ideal S1024x512 .bf16) (n : ℕ) (x : S512x512.Idx) (y : S512x2048.Idx), (∀ d (j : Fin 512) (k : Fin 6216), k.val = n + j.val → w (ix2 d j) = p.w d k) →
      (y 0).val = (x 0).val → (y 1).val = n + (x 1).val →
      k0_pay8 (k0_pay26 x0 x1 x2 x3 x4 x5 x6) w x = col (X (y 0)) p ⟨(y 1).val, Nat.lt_trans (y 1).isLt (by decide)⟩ := fun w n x y hw h0 h1 => by
    obtain ⟨r, j, rfl⟩ : ∃ (r j : Fin 512), x = ix2 r j := ⟨x 0, x 1, eq_ix2 x⟩
    rw [dot_apply R w r j ⟨(y 1).val, Nat.lt_trans (y 1).isLt (by decide)⟩ fun d => hw d j _ h1]
    exact congrArg (fun a => col (X a) p _) (Fin.ext h0.symm)
  refine Eq.trans (canon_of (e := .f32) (fun y : S512x2048.Idx => col (X (y 0)) p ⟨(y 1).val, Nat.lt_trans (y 1).isLt (by decide)⟩) _ ?_ (ix2 r j) (cover0_7 _ _ _ _ _)) ?_
  swap
  · rfl
  refine ⟨fun x => ?_, fun x => ?_, fun x => ?_, fun x => ?_, trivial⟩
  · exact e (View.ld x2 r0_8) 1536 x _ (fun d j k hk => ld_main R 1536 _ d j k hk (by decide)) ((congrArg (0 + ·) (Nat.one_mul _)).trans (Nat.zero_add _)) (congrArg (1536 + ·) (Nat.one_mul _))
  · exact e (View.ld x2 r0_6) 1024 x _ (fun d j k hk => ld_main R 1024 _ d j k hk (by decide)) ((congrArg (0 + ·) (Nat.one_mul _)).trans (Nat.zero_add _)) (congrArg (1024 + ·) (Nat.one_mul _))
  · exact e (View.ld x2 r0_4) 512 x _ (fun d j k hk => ld_main R 512 _ d j k hk (by decide)) ((congrArg (0 + ·) (Nat.one_mul _)).trans (Nat.zero_add _)) (congrArg (512 + ·) (Nat.one_mul _))
  · exact e (View.ld x2 r0_2) 0 x _ (fun d j k hk => ld_main R 0 _ d j k hk (by decide)) ((congrArg (0 + ·) (Nat.one_mul _)).trans (Nat.zero_add _)) (congrArg (0 + ·) (Nat.one_mul _))

end Cert.InProof
-- ==== Proof.InOut.lean ====
/- The arrays the in-projection kernel leaves: the in-projection of every prompt token. -/
module
public import Idealize.ShloMosaic.Lib.Pipeline.ReadBack
public import Idealize.ShloMosaic.Lib.Pipeline.ValueKit
public import proofs.«01_k».proof.Proof.InEntry
@[expose] public section
set_option maxRecDepth 16384
noncomputable section
namespace Cert.InProof
open Idealize.ShloMosaic Idealize.ShloMosaic.TcCoe Idealize.ShloMosaic.Tactic
open Cert.InprojIdeal Cert.InprojIdeal.Gen Idealize.SL.Sem

/-- Column `j` of those from `off` on, of a token's projection. -/
def colAt (x : Fin 1024 → EReal) (p : Par) (off : ℕ) {w : ℕ} (j : Fin w) : EReal := if h : off + j.val < 6216 then col x p ⟨off + j.val, h⟩ else 0
/-- The indexer's key of a token. -/
def keyAt (x : Fin 1024 → EReal) (p : Par) (j : Fin 64) : EReal := small x p ⟨j.val, by omega⟩
/-- The indexer's key of a token, twice. -/
def keyTwice (x : Fin 1024 → EReal) (p : Par) (j : Fin 128) : EReal := small x p ⟨j.val % 64, by omega⟩
/-- A column counted from an offset. -/
theorem colAt_of (x : Fin 1024 → EReal) (p : Par) (off : ℕ) {w : ℕ} (j : Fin w) (k : Fin 6216) (h : k.val = off + j.val) : col x p k = colAt x p off j := by
  have hk := k.isLt
  rw [colAt, dif_pos (by omega)]
  exact congrArg (col x p) (Fin.ext h)
/-- The parameters, read from the weight arrays. -/
def parA (N : Vec Ideal S1x1024 .f32) (W : Vec Ideal S1x1024x6216 .f32) (K B : Vec Ideal S1x64 .f32) : Par where
  gain d := N (ix2 0 d)
  w d j := W (ix3 0 d j)
  kg j := K (ix2 0 j)
  kb j := B (ix2 0 j)

/-- Token `w`'s row, read from the prompt array. -/
def row (X : Vec Ideal S16x4096x1024 .f32) (w : Fin 65536) : Fin 1024 → EReal := fun d => X (ix3 ⟨w.val / 4096, by omega⟩ ⟨w.val % 4096, by omega⟩ d)

variable (m : (ℓ : Loc nD τ sig) → Buf (Elt Ideal) ℓ)
/-- Where window 1 lies at a point. -/
theorem idx1 : ∀ t, win0_1.index t = ![0, 0] := by decide +kernel
/-- Where window 2 lies at a point. -/
theorem idx2 : ∀ t, win0_2.index t = ![0, 0] := by decide +kernel
/-- Where window 3 lies at a point. -/
theorem idx3 : ∀ t, win0_3.index t = ![0, 0] := by decide +kernel
/-- Where window 4 lies at a point. -/
theorem idx4 : ∀ t, win0_4.index t = ![0, 0] := by decide +kernel
/-- Where window 5 lies at a point. -/
theorem idx5 : ∀ t, win0_5.index t = ![0, 0] := by decide +kernel
/-- Where window 6 lies at a point. -/
theorem idx6 : ∀ t, win0_6.index t = ![0, 0] := by decide +kernel
/-- Where window 0 lies at a point. -/
theorem idx0 : ∀ t, win0_0.index t = ![t.val, 0] := by decide +kernel
/-- Where window 7 lies at a point. -/
theorem idx7 : ∀ t, win0_7.index t = ![t.val, 0] := by decide +kernel
/-- Where window 8 lies at a point. -/
theorem idx8 : ∀ t, win0_8.index t = ![t.val, 0] := by decide +kernel
/-- Where window 9 lies at a point. -/
theorem idx9 : ∀ t, win0_9.index t = ![t.val, 0] := by decide +kernel
/-- Where window 10 lies at a point. -/
theorem idx10 : ∀ t, win0_10.index t = ![t.val, 0] := by decide +kernel
/-- Where window 11 lies at a point. -/
theorem idx11 : ∀ t, win0_11.index t = ![t.val, 0] := by decide +kernel
/-- Where window 12 lies at a point. -/
theorem idx12 : ∀ t, win0_12.index t = ![t.val, 0] := by decide +kernel
/-- Where window 13 lies at a point. -/
theorem idx13 : ∀ t, win0_13.index t = ![t.val / 8, 0, t.val % 8] := by decide +kernel
/-- Where window 14 lies at a point. -/
theorem idx14 : ∀ t, win0_14.index t = ![t.val / 8, 0, t.val % 8] := by decide +kernel
/-- Where window 15 lies at a point. -/
theorem idx15 : ∀ t, win0_15.index t = ![t.val / 8, 0, t.val % 8] := by decide +kernel
/-- Where window 16 lies at a point. -/
theorem idx16 : ∀ t, win0_16.index t = ![t.val / 8, 0, t.val % 8] := by decide +kernel
/-- Where window 17 lies at a point. -/
theorem idx17 : ∀ t, win0_17.index t = ![t.val / 8, 0, t.val % 8] := by decide +kernel
/-- Window 0 at an entry, from the arguments. -/
theorem rd0 (c : Dev nD) (t : Fin cfg0.N) (r : Fin 512) (d : Fin 1024) (b : Fin 16) (s : Fin 4096) (h : 4096 * b.val + s.val = 512 * t.val + r.val) :
    iblk m c 0 t (ix2 r d) = m (c, Proc.tc.devRef main_arg0) (ix3 b s d) := by
  refine Eq.trans (b := V m c main_v0 (ix2 ⟨4096 * b.val + s.val, by omega⟩ d)) ?_ ?_
  · blk_ext [iblk, idx0 t]
  · unfold V
    simp only [hostOps0, hostOps0_1, hostOps0_2, hostOps0_3, hostOps0_4, hostOps0_5, hostOps0_6, List.flatten_cons, List.flatten_nil, List.append_nil, List.cons_append, List.nil_append]
    after_results_simp
    pointwise
/-- Window 1 at an entry, from the arguments. -/
theorem rd1 (c : Dev nD) (t : Fin cfg0.N) (d : Fin 1024) :
    iblk m c 1 t (ix2 0 d) = m (c, Proc.tc.devRef main_arg1) (ix2 0 d) := by
  refine Eq.trans (b := V m c main_v12 (ix2 0 d)) ?_ ?_
  · blk_ext [iblk, idx1 t]
  · unfold V
    simp only [hostOps0, hostOps0_1, hostOps0_2, hostOps0_3, hostOps0_4, hostOps0_5, hostOps0_6, List.flatten_cons, List.flatten_nil, List.append_nil, List.cons_append, List.nil_append]
    after_results_simp
    pointwise
/-- Window 2 at an entry, from the arguments. -/
theorem rd2 (c : Dev nD) (t : Fin cfg0.N) (d : Fin 1024) (j : Fin 4096) :
    iblk m c 2 t (ix2 d j) = m (c, Proc.tc.devRef main_arg2) (ix3 0 d ⟨j.val, by omega⟩) := by
  refine Eq.trans (b := V m c main_v3 (ix2 d j)) ?_ ?_
  · blk_ext [iblk, idx2 t]
  · unfold V
    simp only [hostOps0, hostOps0_1, hostOps0_2, hostOps0_3, hostOps0_4, hostOps0_5, hostOps0_6, List.flatten_cons, List.flatten_nil, List.append_nil, List.cons_append, List.nil_append]
    after_results_simp
    pointwise
/-- Window 3 at an entry, from the arguments. -/
theorem rd3 (c : Dev nD) (t : Fin cfg0.N) (d : Fin 1024) (j : Fin 72) :
    iblk m c 3 t (ix2 d ⟨j.val, by omega⟩) = m (c, Proc.tc.devRef main_arg2) (ix3 0 d ⟨4096 + j.val, by omega⟩) := by
  refine Eq.trans (b := V m c main_v7 (ix2 d ⟨j.val, by omega⟩)) ?_ ?_
  · blk_ext [iblk, idx3 t]
  · unfold V
    simp only [hostOps0, hostOps0_1, hostOps0_2, hostOps0_3, hostOps0_4, hostOps0_5, hostOps0_6, List.flatten_cons, List.flatten_nil, List.append_nil, List.cons_append, List.nil_append]
    after_results_simp
    pointwise
    refine Eq.trans (b := pad S1024x128 ![0, 0] ![0, 56] ![0, 0] (fun i : S1024x72.Idx => m (c, Proc.tc.devRef main_arg2) (ix3 0 (i 0) ⟨4096 + (i 1).val, Nat.lt_trans (Nat.add_lt_add_left (i 1).isLt 4096) (by decide)⟩)) (sitofp (F := Ideal) .f32 (constantI S_ 32 0#32)) pads_S1024x72_S1024x128_000_0560 h_S_ (ix2 d ⟨j.val, by omega⟩)) rfl ?_
    pointwise
/-- Window 4 at an entry, from the arguments. -/
theorem rd4 (c : Dev nD) (t : Fin cfg0.N) (d : Fin 1024) (j : Fin 2048) :
    iblk m c 4 t (ix2 d j) = m (c, Proc.tc.devRef main_arg2) (ix3 0 d ⟨4168 + j.val, by omega⟩) := by
  refine Eq.trans (b := V m c main_v10 (ix2 d j)) ?_ ?_
  · blk_ext [iblk, idx4 t]
  · unfold V
    simp only [hostOps0, hostOps0_1, hostOps0_2, hostOps0_3, hostOps0_4, hostOps0_5, hostOps0_6, List.flatten_cons, List.flatten_nil, List.append_nil, List.cons_append, List.nil_append]
    after_results_simp
    pointwise
/-- Window 5 at an entry, from the arguments. -/
theorem rd5 (c : Dev nD) (t : Fin cfg0.N) (j : Fin 64) :
    iblk m c 5 t (ix2 0 ⟨j.val, by omega⟩) = m (c, Proc.tc.devRef main_arg3) (ix2 0 j) := by
  refine Eq.trans (b := V m c main_v15 (ix2 0 ⟨j.val, by omega⟩)) ?_ ?_
  · blk_ext [iblk, idx5 t]
  · unfold V
    simp only [hostOps0, hostOps0_1, hostOps0_2, hostOps0_3, hostOps0_4, hostOps0_5, hostOps0_6, List.flatten_cons, List.flatten_nil, List.append_nil, List.cons_append, List.nil_append]
    after_results_simp
    pointwise
    refine Eq.trans (b := pad S128 ![0] ![64] ![0] (fun i : S64.Idx => m (c, Proc.tc.devRef main_arg3) (ix2 0 (i 0))) (sitofp (F := Ideal) .f32 (constantI S_ 32 0#32)) pads_S64_S128_0640 h_S_ (ix1 ⟨j.val, by omega⟩)) rfl ?_
    pointwise
/-- Window 6 at an entry, from the arguments. -/
theorem rd6 (c : Dev nD) (t : Fin cfg0.N) (j : Fin 64) :
    iblk m c 6 t (ix2 0 ⟨j.val, by omega⟩) = m (c, Proc.tc.devRef main_arg4) (ix2 0 j) := by
  refine Eq.trans (b := V m c main_v18 (ix2 0 ⟨j.val, by omega⟩)) ?_ ?_
  · blk_ext [iblk, idx6 t]
  · unfold V
    simp only [hostOps0, hostOps0_1, hostOps0_2, hostOps0_3, hostOps0_4, hostOps0_5, hostOps0_6, List.flatten_cons, List.flatten_nil, List.append_nil, List.cons_append, List.nil_append]
    after_results_simp
    pointwise
    refine Eq.trans (b := pad S128 ![0] ![64] ![0] (fun i : S64.Idx => m (c, Proc.tc.devRef main_arg4) (ix2 0 (i 0))) (sitofp (F := Ideal) .f32 (constantI S_ 32 0#32)) pads_S64_S128_0640 h_S_ (ix1 ⟨j.val, by omega⟩)) rfl ?_
    pointwise

/-- A block's row is a row of the array. -/
theorem ltN (t : Fin cfg0.N) (r : Fin 512) : 512 * t.val + r.val < 65536 := by
  have h : t.val < 128 := t.isLt
  omega
/-- A point's blocks hold its tokens' rows and the parameters. -/
theorem reads (c : Dev nD) (t : Fin cfg0.N) : Reads (iblk m c 0 t) (iblk m c 1 t) (iblk m c 2 t) (iblk m c 3 t) (iblk m c 4 t) (iblk m c 5 t) (iblk m c 6 t) (fun r => row (m (c, Proc.tc.devRef main_arg0)) ⟨512 * t.val + r.val, ltN t r⟩) (parA (m (c, Proc.tc.devRef main_arg1)) (m (c, Proc.tc.devRef main_arg2)) (m (c, Proc.tc.devRef main_arg3)) (m (c, Proc.tc.devRef main_arg4))) where
  hx r d := rd0 m c t r d _ _ (Nat.div_add_mod (512 * t.val + r.val) 4096)
  hg d := rd1 m c t d
  hm d j := rd2 m c t d j
  hs d j := rd3 m c t d j
  hG d j := rd4 m c t d j
  hk j := rd5 m c t j
  hb j := rd6 m c t j

/-- The recurrence's columns. -/
theorem array7 (c : Dev nD) : (dats m 0 c).arrAt 7 cfg0.N = fun i : S65536x2048.Idx => colAt (row (m (c, Proc.tc.devRef main_arg0)) (i 0)) (parA (m (c, Proc.tc.devRef main_arg1)) (m (c, Proc.tc.devRef main_arg2)) (m (c, Proc.tc.devRef main_arg3)) (m (c, Proc.tc.devRef main_arg4))) 0 (i 1) := by
  refine (dats m 0 c).arrAt_eq_of_covers 7 _ (by decide +kernel) fun t hf y => ?_
  blk_simp
  rw [after0_7]
  obtain ⟨r, j, rfl⟩ : ∃ (r : Fin 512) (j : Fin 2048), y = ix2 r j := ⟨y 0, y 1, eq_ix2 y⟩
  rw [show (win0_7.blk t).view.emb (ix2 r j) = ix2 (⟨512 * t.val + r.val, ltN t r⟩ : Fin 65536) j by blk_ext [idx7 t]]
  exact (out7_apply (reads m c t) r j).trans (colAt_of _ _ _ _ _ (Nat.zero_add _).symm)
/-- The queries' columns. -/
theorem array8 (c : Dev nD) : (dats m 0 c).arrAt 8 cfg0.N = fun i : S65536x512.Idx => colAt (row (m (c, Proc.tc.devRef main_arg0)) (i 0)) (parA (m (c, Proc.tc.devRef main_arg1)) (m (c, Proc.tc.devRef main_arg2)) (m (c, Proc.tc.devRef main_arg3)) (m (c, Proc.tc.devRef main_arg4))) 2048 (i 1) := by
  refine (dats m 0 c).arrAt_eq_of_covers 8 _ (by decide +kernel) fun t hf y => ?_
  blk_simp
  rw [after0_8]
  obtain ⟨r, j, rfl⟩ : ∃ (r : Fin 512) (j : Fin 512), y = ix2 r j := ⟨y 0, y 1, eq_ix2 y⟩
  rw [show (win0_8.blk t).view.emb (ix2 r j) = ix2 (⟨512 * t.val + r.val, ltN t r⟩ : Fin 65536) j by blk_ext [idx8 t]]
  exact (out8_apply (reads m c t) r j).trans (colAt_of _ _ _ _ _ rfl)
/-- The values' columns. -/
theorem array9 (c : Dev nD) : (dats m 0 c).arrAt 9 cfg0.N = fun i : S65536x512.Idx => colAt (row (m (c, Proc.tc.devRef main_arg0)) (i 0)) (parA (m (c, Proc.tc.devRef main_arg1)) (m (c, Proc.tc.devRef main_arg2)) (m (c, Proc.tc.devRef main_arg3)) (m (c, Proc.tc.devRef main_arg4))) 3072 (i 1) := by
  refine (dats m 0 c).arrAt_eq_of_covers 9 _ (by decide +kernel) fun t hf y => ?_
  blk_simp
  rw [after0_9]
  obtain ⟨r, j, rfl⟩ : ∃ (r : Fin 512) (j : Fin 512), y = ix2 r j := ⟨y 0, y 1, eq_ix2 y⟩
  rw [show (win0_9.blk t).view.emb (ix2 r j) = ix2 (⟨512 * t.val + r.val, ltN t r⟩ : Fin 65536) j by blk_ext [idx9 t]]
  exact (out9_apply (reads m c t) r j).trans (colAt_of _ _ _ _ _ rfl)
/-- The indexer queries' columns. -/
theorem array10 (c : Dev nD) : (dats m 0 c).arrAt 10 cfg0.N = fun i : S65536x512.Idx => colAt (row (m (c, Proc.tc.devRef main_arg0)) (i 0)) (parA (m (c, Proc.tc.devRef main_arg1)) (m (c, Proc.tc.devRef main_arg2)) (m (c, Proc.tc.devRef main_arg3)) (m (c, Proc.tc.devRef main_arg4))) 3584 (i 1) := by
  refine (dats m 0 c).arrAt_eq_of_covers 10 _ (by decide +kernel) fun t hf y => ?_
  blk_simp
  rw [after0_10]
  obtain ⟨r, j, rfl⟩ : ∃ (r : Fin 512) (j : Fin 512), y = ix2 r j := ⟨y 0, y 1, eq_ix2 y⟩
  rw [show (win0_10.blk t).view.emb (ix2 r j) = ix2 (⟨512 * t.val + r.val, ltN t r⟩ : Fin 65536) j by blk_ext [idx10 t]]
  exact (out10_apply (reads m c t) r j).trans (colAt_of _ _ _ _ _ rfl)
/-- The indexer's keys and head weights. -/
theorem array11 (c : Dev nD) : (dats m 0 c).arrAt 11 cfg0.N = fun i : S65536x128.Idx => small (row (m (c, Proc.tc.devRef main_arg0)) (i 0)) (parA (m (c, Proc.tc.devRef main_arg1)) (m (c, Proc.tc.devRef main_arg2)) (m (c, Proc.tc.devRef main_arg3)) (m (c, Proc.tc.devRef main_arg4))) (i 1) := by
  refine (dats m 0 c).arrAt_eq_of_covers 11 _ (by decide +kernel) fun t hf y => ?_
  blk_simp
  rw [after0_11]
  obtain ⟨r, j, rfl⟩ : ∃ (r : Fin 512) (j : Fin 128), y = ix2 r j := ⟨y 0, y 1, eq_ix2 y⟩
  rw [show (win0_11.blk t).view.emb (ix2 r j) = ix2 (⟨512 * t.val + r.val, ltN t r⟩ : Fin 65536) j by blk_ext [idx11 t]]
  exact (out11_apply (reads m c t) r j)
/-- The merge gates. -/
theorem array12 (c : Dev nD) : (dats m 0 c).arrAt 12 cfg0.N = fun i : S65536x2048.Idx => gate (row (m (c, Proc.tc.devRef main_arg0)) (i 0)) (parA (m (c, Proc.tc.devRef main_arg1)) (m (c, Proc.tc.devRef main_arg2)) (m (c, Proc.tc.devRef main_arg3)) (m (c, Proc.tc.devRef main_arg4))) (i 1) := by
  refine (dats m 0 c).arrAt_eq_of_covers 12 _ (by decide +kernel) fun t hf y => ?_
  blk_simp
  rw [after0_12]
  obtain ⟨r, j, rfl⟩ : ∃ (r : Fin 512) (j : Fin 2048), y = ix2 r j := ⟨y 0, y 1, eq_ix2 y⟩
  rw [show (win0_12.blk t).view.emb (ix2 r j) = ix2 (⟨512 * t.val + r.val, ltN t r⟩ : Fin 65536) j by blk_ext [idx12 t]]
  exact (out12_apply (reads m c t) r j)

/-- Token `s` of sequence `b`. -/
def tok (X : Vec Ideal S16x4096x1024 .f32) (b : Fin 16) (s : Fin 4096) : Fin 1024 → EReal := fun d => X (ix3 b s d)
/-- A row of a point is a token's row. -/
theorem row_tok (X : Vec Ideal S16x4096x1024 .f32) (t : Fin cfg0.N) (r : Fin 512) (b : Fin 16) (s : Fin 4096) (hb : b.val = t.val / 8) (hs : s.val = 512 * (t.val % 8) + r.val) :
    row X ⟨512 * t.val + r.val, ltN t r⟩ = tok X b s := by
  funext d
  exact congrArg₂ (fun b s => X (ix3 b s d)) (Fin.ext (by show (512 * t.val + r.val) / 4096 = b.val; omega)) (Fin.ext (by show (512 * t.val + r.val) % 4096 = s.val; omega))
/-- The keys, tokens last. -/
theorem array13 (c : Dev nD) : (dats m 0 c).arrAt 13 cfg0.N = fun i : S16x512x4096.Idx => colAt (tok (m (c, Proc.tc.devRef main_arg0)) (i 0) (i 2)) (parA (m (c, Proc.tc.devRef main_arg1)) (m (c, Proc.tc.devRef main_arg2)) (m (c, Proc.tc.devRef main_arg3)) (m (c, Proc.tc.devRef main_arg4))) 2560 (i 1) := by
  refine (dats m 0 c).arrAt_eq_of_covers 13 _ (by decide +kernel) fun t hf y => ?_
  blk_simp
  rw [after0_13]
  have ht : t.val < 128 := t.isLt
  obtain ⟨j, r, rfl⟩ : ∃ (j : Fin 512) (r : Fin 512), y = ix3 0 j r := ⟨y 1, y 2, (eq_ix3 y).trans (congrArg (fun a => ix3 a (y 1) (y 2)) (Subsingleton.elim (α := Fin 1) _ _))⟩
  rw [show (win0_13.blk t).view.emb (ix3 0 j r) = ix3 (⟨t.val / 8, by omega⟩ : Fin 16) j (⟨512 * (t.val % 8) + r.val, by omega⟩ : Fin 4096) by blk_ext [idx13 t]]
  refine (out13_apply (reads m c t) j r).trans ?_
  simp only [row_tok (m (c, Proc.tc.devRef main_arg0)) t r ⟨t.val / 8, by omega⟩ ⟨512 * (t.val % 8) + r.val, by omega⟩ rfl rfl]
  exact colAt_of _ _ _ _ _ rfl
/-- The values, tokens last. -/
theorem array14 (c : Dev nD) : (dats m 0 c).arrAt 14 cfg0.N = fun i : S16x512x4096.Idx => colAt (tok (m (c, Proc.tc.devRef main_arg0)) (i 0) (i 2)) (parA (m (c, Proc.tc.devRef main_arg1)) (m (c, Proc.tc.devRef main_arg2)) (m (c, Proc.tc.devRef main_arg3)) (m (c, Proc.tc.devRef main_arg4))) 3072 (i 1) := by
  refine (dats m 0 c).arrAt_eq_of_covers 14 _ (by decide +kernel) fun t hf y => ?_
  blk_simp
  rw [after0_14]
  have ht : t.val < 128 := t.isLt
  obtain ⟨j, r, rfl⟩ : ∃ (j : Fin 512) (r : Fin 512), y = ix3 0 j r := ⟨y 1, y 2, (eq_ix3 y).trans (congrArg (fun a => ix3 a (y 1) (y 2)) (Subsingleton.elim (α := Fin 1) _ _))⟩
  rw [show (win0_14.blk t).view.emb (ix3 0 j r) = ix3 (⟨t.val / 8, by omega⟩ : Fin 16) j (⟨512 * (t.val % 8) + r.val, by omega⟩ : Fin 4096) by blk_ext [idx14 t]]
  refine (out14_apply (reads m c t) j r).trans ?_
  simp only [row_tok (m (c, Proc.tc.devRef main_arg0)) t r ⟨t.val / 8, by omega⟩ ⟨512 * (t.val % 8) + r.val, by omega⟩ rfl rfl]
  exact colAt_of _ _ _ _ _ rfl
/-- The indexer's keys, tokens last. -/
theorem array15 (c : Dev nD) : (dats m 0 c).arrAt 15 cfg0.N = fun i : S16x64x4096.Idx => keyAt (tok (m (c, Proc.tc.devRef main_arg0)) (i 0) (i 2)) (parA (m (c, Proc.tc.devRef main_arg1)) (m (c, Proc.tc.devRef main_arg2)) (m (c, Proc.tc.devRef main_arg3)) (m (c, Proc.tc.devRef main_arg4))) (i 1) := by
  refine (dats m 0 c).arrAt_eq_of_covers 15 _ (by decide +kernel) fun t hf y => ?_
  blk_simp
  rw [after0_15]
  have ht : t.val < 128 := t.isLt
  obtain ⟨j, r, rfl⟩ : ∃ (j : Fin 64) (r : Fin 512), y = ix3 0 j r := ⟨y 1, y 2, (eq_ix3 y).trans (congrArg (fun a => ix3 a (y 1) (y 2)) (Subsingleton.elim (α := Fin 1) _ _))⟩
  rw [show (win0_15.blk t).view.emb (ix3 0 j r) = ix3 (⟨t.val / 8, by omega⟩ : Fin 16) j (⟨512 * (t.val % 8) + r.val, by omega⟩ : Fin 4096) by blk_ext [idx15 t]]
  refine (out15_apply (reads m c t) j r).trans ?_
  simp only [row_tok (m (c, Proc.tc.devRef main_arg0)) t r ⟨t.val / 8, by omega⟩ ⟨512 * (t.val % 8) + r.val, by omega⟩ rfl rfl]
  exact rfl
/-- The keys, tokens last, once more. -/
theorem array16 (c : Dev nD) : (dats m 0 c).arrAt 16 cfg0.N = fun i : S16x512x4096.Idx => colAt (tok (m (c, Proc.tc.devRef main_arg0)) (i 0) (i 2)) (parA (m (c, Proc.tc.devRef main_arg1)) (m (c, Proc.tc.devRef main_arg2)) (m (c, Proc.tc.devRef main_arg3)) (m (c, Proc.tc.devRef main_arg4))) 2560 (i 1) := by
  refine (dats m 0 c).arrAt_eq_of_covers 16 _ (by decide +kernel) fun t hf y => ?_
  blk_simp
  rw [after0_16]
  have ht : t.val < 128 := t.isLt
  obtain ⟨j, r, rfl⟩ : ∃ (j : Fin 512) (r : Fin 512), y = ix3 0 j r := ⟨y 1, y 2, (eq_ix3 y).trans (congrArg (fun a => ix3 a (y 1) (y 2)) (Subsingleton.elim (α := Fin 1) _ _))⟩
  rw [show (win0_16.blk t).view.emb (ix3 0 j r) = ix3 (⟨t.val / 8, by omega⟩ : Fin 16) j (⟨512 * (t.val % 8) + r.val, by omega⟩ : Fin 4096) by blk_ext [idx16 t]]
  refine (out16_apply (reads m c t) j r).trans ?_
  simp only [row_tok (m (c, Proc.tc.devRef main_arg0)) t r ⟨t.val / 8, by omega⟩ ⟨512 * (t.val % 8) + r.val, by omega⟩ rfl rfl]
  exact colAt_of _ _ _ _ _ rfl
/-- The indexer's keys, tokens last, twice. -/
theorem array17 (c : Dev nD) : (dats m 0 c).arrAt 17 cfg0.N = fun i : S16x128x4096.Idx => keyTwice (tok (m (c, Proc.tc.devRef main_arg0)) (i 0) (i 2)) (parA (m (c, Proc.tc.devRef main_arg1)) (m (c, Proc.tc.devRef main_arg2)) (m (c, Proc.tc.devRef main_arg3)) (m (c, Proc.tc.devRef main_arg4))) (i 1) := by
  refine (dats m 0 c).arrAt_eq_of_covers 17 _ (by decide +kernel) fun t hf y => ?_
  blk_simp
  rw [after0_17]
  have ht : t.val < 128 := t.isLt
  obtain ⟨j, r, rfl⟩ : ∃ (j : Fin 128) (r : Fin 512), y = ix3 0 j r := ⟨y 1, y 2, (eq_ix3 y).trans (congrArg (fun a => ix3 a (y 1) (y 2)) (Subsingleton.elim (α := Fin 1) _ _))⟩
  rw [show (win0_17.blk t).view.emb (ix3 0 j r) = ix3 (⟨t.val / 8, by omega⟩ : Fin 16) j (⟨512 * (t.val % 8) + r.val, by omega⟩ : Fin 4096) by blk_ext [idx17 t]]
  refine (out17_apply (reads m c t) j r).trans ?_
  simp only [row_tok (m (c, Proc.tc.devRef main_arg0)) t r ⟨t.val / 8, by omega⟩ ⟨512 * (t.val % 8) + r.val, by omega⟩ rfl rfl]
  exact rfl

end Cert.InProof
-- ==== Proof.InRef.lean ====
/- The in-projection reference of the prompt tokens, in stages, and its entries. -/
module
public import proofs.«01_k».proof.Proof.InOut
public import proofs.«01_k».proof.Proof.Gen.InprojRefIdeal.Run
@[expose] public section
set_option maxRecDepth 16384
noncomputable section
namespace Cert.InProof
open Idealize.ShloMosaic Idealize.ShloMosaic.TcCoe Idealize.ShloMosaic.Tactic
open Cert.InprojRefIdeal Cert.InprojRefIdeal.Gen Idealize.SL.Sem

open Cert.MixProof (norm)
open scoped BigOperators

section
variable {F : FTy → Type} [FloatOps F]
/-- The projected columns of every token. -/
def rH (X : FVec F S16x4096x1024 .f32) (N : FVec F S1x1024 .f32) (W : FVec F S1x1024x6216 .f32) : FVec F S65536x6216 .f32 :=
  Host.dotGeneral dot_S65536x1024_S1024x6216_S65536x6216_1_0_0_1_n_n none (mulf (mulf (shapeCast _ X shapeCasts_S16x4096x1024_S65536x1024) (broadcastInDim S65536x1024 ![0, 1] bcast_S65536x1_S65536x1024_0_1 (Host.rsqrt (addf (Host.divf (broadcastInDim S65536x1 ![0] bcast_S65536_S65536x1_0 (Host.reduceAdd (mulf (shapeCast _ X shapeCasts_S16x4096x1024_S65536x1024) (shapeCast _ X shapeCasts_S16x4096x1024_S65536x1024)) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (shapeCast _ N shapeCasts_S1x1024_S1024)))) (shapeCast _ W shapeCasts_S1x1024x6216_S1024x6216)
/-- The mean of 64 columns of every token. -/
def rMean (s : FVec F S65536x64 .f32) : FVec F S65536x1 .f32 :=
  Host.divf (broadcastInDim S65536x1 ![0] bcast_S65536_S65536x1_0 (Host.reduceAdd s (constant S_ .f32 0x00000000#32) reducesTo_S65536x64_S65536_d1 h_S_)) (broadcastInDim S65536x1 ![] bcast_S_S65536x1 (constant S_ .f32 0x42800000#32))
/-- 64 columns of every token less their mean. -/
def rLess (s : FVec F S65536x64 .f32) : FVec F S65536x64 .f32 := subf s (broadcastInDim S65536x64 ![0, 1] bcast_S65536x1_S65536x64_0_1 (rMean s))
/-- The layer norm of 64 columns of every token. -/
def rLayerNorm (s : FVec F S65536x64 .f32) (K B : FVec F S1x64 .f32) : FVec F S65536x64 .f32 :=
  addf (mulf (mulf (rLess s) (broadcastInDim S65536x64 ![0, 1] bcast_S65536x1_S65536x64_0_1 (Host.rsqrt (addf (rMean (mulf (rLess s) (rLess s))) (broadcastInDim S65536x1 ![] bcast_S_S65536x1 (constant S_ .f32 0x358637BD#32)))))) (broadcastInDim S65536x64 ![0, 1] bcast_S1x64_S65536x64_0_1 (broadcastInDim S1x64 ![1] bcast_S64_S1x64_1 (shapeCast _ K shapeCasts_S1x64_S64)))) (broadcastInDim S65536x64 ![0, 1] bcast_S1x64_S65536x64_0_1 (broadcastInDim S1x64 ![1] bcast_S64_S1x64_1 (shapeCast _ B shapeCasts_S1x64_S64)))
/-- The indexer's key of every token. -/
def rKey (h : FVec F S65536x6216 .f32) (K B : FVec F S1x64 .f32) : FVec F S65536x64 .f32 :=
  rLayerNorm (extractStridedSlice S65536x64 ![0, 4096] h slices_S65536x6216_S65536x64_0_4096) K B
/-- The indexer's head weights of every token. -/
def rHead (h : FVec F S65536x6216 .f32) : FVec F S65536x8 .f32 :=
  mulf (mulf (extractStridedSlice S65536x8 ![0, 4160] h slices_S65536x6216_S65536x8_0_4160) (broadcastInDim S65536x8 ![] bcast_S_S65536x8 (constant S_ .f32 0x3EB504F3#32))) (broadcastInDim S65536x8 ![] bcast_S_S65536x8 (constant S_ .f32 0x3E000000#32))
/-- Keys and head weights side by side, then zeros. -/
def rSmall (k : FVec F S65536x64 .f32) (h : FVec F S65536x8 .f32) : FVec F S65536x128 .f32 :=
  concatenate S65536x128 1 [⟨S65536x72, (concatenate S65536x72 1 [⟨S65536x64, k⟩, ⟨S65536x8, h⟩] concatenates_S65536x64_S65536x8_S65536x72_d1)⟩, ⟨S65536x56, (broadcastInDim S65536x56 ![] bcast_S_S65536x56 (constant S_ .f32 0x00000000#32))⟩] concatenates_S65536x72_S65536x56_S65536x128_d1
/-- The merge gates of every token. -/
def rGate (h : FVec F S65536x6216 .f32) : FVec F S65536x2048 .bf16 :=
  truncf .bf16 (Host.divf (broadcastInDim S65536x2048 ![] bcast_S_S65536x2048 (constant S_ .f32 0x3F800000#32)) (addf (broadcastInDim S65536x2048 ![] bcast_S_S65536x2048 (constant S_ .f32 0x3F800000#32)) (Host.exp (Host.negf (extractStridedSlice S65536x2048 ![0, 4168] h slices_S65536x6216_S65536x2048_0_4168))))) bitsLt_bf16_f32
/-- Columns with the tokens last. -/
def rLast (a : FVec F S65536x512 .f32) : FVec F S16x512x4096 .f32 :=
  transpose S16x512x4096 [0, 2, 1] (shapeCast _ a shapeCasts_S65536x512_S16x4096x512) transposes_S16x4096x512_S16x512x4096_0_2_1
/-- Keys with the tokens last. -/
def rKeyLast (k : FVec F S65536x64 .f32) : FVec F S16x64x4096 .f32 :=
  transpose S16x64x4096 [0, 2, 1] (shapeCast _ k shapeCasts_S65536x64_S16x4096x64) transposes_S16x4096x64_S16x64x4096_0_2_1
/-- Keys with the tokens last, twice. -/
def rTwice (k : FVec F S16x64x4096 .f32) : FVec F S16x128x4096 .bf16 :=
  truncf .bf16 (concatenate S16x128x4096 1 [⟨S16x64x4096, k⟩, ⟨S16x64x4096, k⟩] concatenates_S16x64x4096_S16x64x4096_S16x128x4096_d1) bitsLt_bf16_f32
variable (m : (ℓ : Loc nD τ sig) → Buf (Elt F) ℓ) (c : Dev nD)
/-- The result of indexer key and head weights, by its stages. -/
theorem stages_small : Cert.InprojRefIdeal.Value.res_main_v56 m c = rSmall (rKey (rH (m (c, Proc.tc.devRef main_arg0)) (m (c, Proc.tc.devRef main_arg1)) (m (c, Proc.tc.devRef main_arg2))) (m (c, Proc.tc.devRef main_arg3)) (m (c, Proc.tc.devRef main_arg4))) (rHead (rH (m (c, Proc.tc.devRef main_arg0)) (m (c, Proc.tc.devRef main_arg1)) (m (c, Proc.tc.devRef main_arg2)))) := by
  unfold Cert.InprojRefIdeal.Value.res_main_v56
  rfl
/-- The indexer keys with the tokens last, by their stages. -/
theorem stages_key : Cert.InprojRefIdeal.Value.res_main_v73 m c = rKeyLast (rKey (rH (m (c, Proc.tc.devRef main_arg0)) (m (c, Proc.tc.devRef main_arg1)) (m (c, Proc.tc.devRef main_arg2))) (m (c, Proc.tc.devRef main_arg3)) (m (c, Proc.tc.devRef main_arg4))) := by
  unfold Cert.InprojRefIdeal.Value.res_main_v73
  rfl
/-- The doubled indexer keys, by their stages. -/
theorem stages_twice : Cert.InprojRefIdeal.Value.res_main_v76 m c = rTwice (rKeyLast (rKey (rH (m (c, Proc.tc.devRef main_arg0)) (m (c, Proc.tc.devRef main_arg1)) (m (c, Proc.tc.devRef main_arg2))) (m (c, Proc.tc.devRef main_arg3)) (m (c, Proc.tc.devRef main_arg4)))) := by
  unfold Cert.InprojRefIdeal.Value.res_main_v76
  rfl
/-- The reference's run, its results by their stages. -/
theorem run_stages (ρ : Dev nD → PrngReg) : θ_run defs (onTc (τ := τ) (main (F := F))) ⟨m, fun _ => 0, ρ⟩ fun r => ∀ c : Dev nD,
      r.2.mem ((c.tc : Thread nD τ).loc main_v57) = extractStridedSlice S65536x2048 ![0, 0] (rH (m (c, Proc.tc.devRef main_arg0)) (m (c, Proc.tc.devRef main_arg1)) (m (c, Proc.tc.devRef main_arg2))) slices_S65536x6216_S65536x2048_0_0
       ∧ r.2.mem ((c.tc : Thread nD τ).loc main_v58) = truncf .bf16 (extractStridedSlice S65536x512 ![0, 2048] (rH (m (c, Proc.tc.devRef main_arg0)) (m (c, Proc.tc.devRef main_arg1)) (m (c, Proc.tc.devRef main_arg2))) slices_S65536x6216_S65536x512_0_2048) bitsLt_bf16_f32
       ∧ r.2.mem ((c.tc : Thread nD τ).loc main_v59) = truncf .bf16 (extractStridedSlice S65536x512 ![0, 3072] (rH (m (c, Proc.tc.devRef main_arg0)) (m (c, Proc.tc.devRef main_arg1)) (m (c, Proc.tc.devRef main_arg2))) slices_S65536x6216_S65536x512_0_3072) bitsLt_bf16_f32
       ∧ r.2.mem ((c.tc : Thread nD τ).loc main_v60) = truncf .bf16 (extractStridedSlice S65536x512 ![0, 3584] (rH (m (c, Proc.tc.devRef main_arg0)) (m (c, Proc.tc.devRef main_arg1)) (m (c, Proc.tc.devRef main_arg2))) slices_S65536x6216_S65536x512_0_3584) bitsLt_bf16_f32
       ∧ r.2.mem ((c.tc : Thread nD τ).loc main_v56) = rSmall (rKey (rH (m (c, Proc.tc.devRef main_arg0)) (m (c, Proc.tc.devRef main_arg1)) (m (c, Proc.tc.devRef main_arg2))) (m (c, Proc.tc.devRef main_arg3)) (m (c, Proc.tc.devRef main_arg4))) (rHead (rH (m (c, Proc.tc.devRef main_arg0)) (m (c, Proc.tc.devRef main_arg1)) (m (c, Proc.tc.devRef main_arg2))))
       ∧ r.2.mem ((c.tc : Thread nD τ).loc main_v67) = rGate (rH (m (c, Proc.tc.devRef main_arg0)) (m (c, Proc.tc.devRef main_arg1)) (m (c, Proc.tc.devRef main_arg2)))
       ∧ r.2.mem ((c.tc : Thread nD τ).loc main_v69) = rLast (extractStridedSlice S65536x512 ![0, 2560] (rH (m (c, Proc.tc.devRef main_arg0)) (m (c, Proc.tc.devRef main_arg1)) (m (c, Proc.tc.devRef main_arg2))) slices_S65536x6216_S65536x512_0_2560)
       ∧ r.2.mem ((c.tc : Thread nD τ).loc main_v71) = rLast (extractStridedSlice S65536x512 ![0, 3072] (rH (m (c, Proc.tc.devRef main_arg0)) (m (c, Proc.tc.devRef main_arg1)) (m (c, Proc.tc.devRef main_arg2))) slices_S65536x6216_S65536x512_0_3072)
       ∧ r.2.mem ((c.tc : Thread nD τ).loc main_v73) = rKeyLast (rKey (rH (m (c, Proc.tc.devRef main_arg0)) (m (c, Proc.tc.devRef main_arg1)) (m (c, Proc.tc.devRef main_arg2))) (m (c, Proc.tc.devRef main_arg3)) (m (c, Proc.tc.devRef main_arg4)))
       ∧ r.2.mem ((c.tc : Thread nD τ).loc main_v74) = truncf .bf16 (rLast (extractStridedSlice S65536x512 ![0, 2560] (rH (m (c, Proc.tc.devRef main_arg0)) (m (c, Proc.tc.devRef main_arg1)) (m (c, Proc.tc.devRef main_arg2))) slices_S65536x6216_S65536x512_0_2560)) bitsLt_bf16_f32
       ∧ r.2.mem ((c.tc : Thread nD τ).loc main_v76) = rTwice (rKeyLast (rKey (rH (m (c, Proc.tc.devRef main_arg0)) (m (c, Proc.tc.devRef main_arg1)) (m (c, Proc.tc.devRef main_arg2))) (m (c, Proc.tc.devRef main_arg3)) (m (c, Proc.tc.devRef main_arg4))))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  (θ_run defs _ _).mono (fun r h c => ⟨(h c).1, (h c).2.1, (h c).2.2.1, (h c).2.2.2.1, (h c).2.2.2.2.1.trans (stages_small m c), (h c).2.2.2.2.2.1, (h c).2.2.2.2.2.2.1, (h c).2.2.2.2.2.2.2.1, (h c).2.2.2.2.2.2.2.2.1.trans (stages_key m c), (h c).2.2.2.2.2.2.2.2.2.1, (h c).2.2.2.2.2.2.2.2.2.2.1.trans (stages_twice m c), (h c).2.2.2.2.2.2.2.2.2.2.2⟩) (Cert.InprojRefIdeal.Value.run m ρ)
end

variable (X : Vec Ideal S16x4096x1024 .f32) (N : Vec Ideal S1x1024 .f32) (W : Vec Ideal S1x1024x6216 .f32) (K B : Vec Ideal S1x64 .f32)
/-- An entry of the projected columns. -/
theorem rH_apply (w : Fin 65536) (j : Fin 6216) : rH (F := Ideal) X N W (ix2 w j) = col (row X w) (parA N W K B) j := by
  have e : (rH (F := Ideal) X N W (ix2 w j) : EReal) = ∑ d, norm (row X w) (parA N W K B).gain d * W (ix3 0 d j) := by
    pointwise [rH]
    rfl
  exact e
/-- The mean over the key's columns. -/
theorem rMean_apply (s : FVec Ideal S65536x64 .f32) (w : Fin 65536) : rMean s (ix2 w 0) = mean fun j => s (ix2 w j) := by
  pointwise [rMean]
  rfl
/-- A key less its mean. -/
theorem rLess_apply (s : FVec Ideal S65536x64 .f32) (w : Fin 65536) (j : Fin 64) : rLess s (ix2 w j) = less (fun j => s (ix2 w j)) j := by
  refine Eq.trans (b := s (ix2 w j) - rMean s (ix2 w 0)) ?_ (congrArg (s (ix2 w j) - ·) (rMean_apply s w))
  pointwise [rLess]
/-- The indexer key at an entry. -/
theorem rKey_apply (w : Fin 65536) (j : Fin 64) : rKey (rH (F := Ideal) X N W) K B (ix2 w j) = key (row X w) (parA N W K B) j := by
  have hs : ∀ j : Fin 64, extractStridedSlice S65536x64 ![0, 4096] (rH (F := Ideal) X N W) slices_S65536x6216_S65536x64_0_4096 (ix2 w j) = col (row X w) (parA N W K B) ⟨4096 + j.val, by omega⟩ := fun j => by
    rw [← rH_apply X N W K B]
    pointwise
  unfold rKey
  generalize extractStridedSlice S65536x64 ![0, 4096] (rH (F := Ideal) X N W) slices_S65536x6216_S65536x64_0_4096 = s at hs ⊢
  have e : rLayerNorm s K B (ix2 w j) = rLess s (ix2 w j) * Ideal.rsqrt (rMean (mulf (rLess s) (rLess s)) (ix2 w 0) + Ideal.ofBits .f32 0x358637BD#32) * K (ix2 0 j) + B (ix2 0 j) := by
    pointwise [rLayerNorm]
  have hv : (fun j => mulf (rLess s) (rLess s) (ix2 w j)) = fun j => less (fun j => s (ix2 w j)) j * less (fun j => s (ix2 w j)) j := funext fun j => by
    rw [← rLess_apply]
    pointwise
  rw [e, rMean_apply, hv, rLess_apply, funext hs]
  rfl
/-- The head weights at an entry. -/
theorem rHead_apply (w : Fin 65536) (j : Fin 8) : rHead (rH (F := Ideal) X N W) (ix2 w j) = col (row X w) (parA N W K B) ⟨4160 + j.val, by omega⟩ * Ideal.ofBits .f32 0x3EB504F3#32 * Ideal.ofBits .f32 0x3E000000#32 := by
  rw [← rH_apply X N W K B]
  pointwise [rHead]
/-- The result of key and head weights at an entry. -/
theorem rSmall_apply (w : Fin 65536) (j : Fin 128) : rSmall (rKey (rH (F := Ideal) X N W) K B) (rHead (rH (F := Ideal) X N W)) (ix2 w j) = small (row X w) (parA N W K B) j := by
  have hk := rKey_apply X N W K B w
  have hh := rHead_apply X N W K B w
  generalize rKey (rH (F := Ideal) X N W) K B = k at hk ⊢
  generalize rHead (rH (F := Ideal) X N W) = h at hh ⊢
  have e : rSmall k h (ix2 w j) = if h1 : j.val < 64 then k (ix2 w ⟨j.val, h1⟩) else if h2 : j.val < 72 then h (ix2 w ⟨j.val - 64, by omega⟩) else 0 := by
    pointwise [rSmall]
    split_ifs <;> first | rfl | omega
  rw [e]
  unfold small
  split_ifs with h1 h2
  · exact hk _
  · rw [hh]
    refine congrArg (· * _ * _) (congrArg (col _ _) (Fin.ext ?_))
    show 4160 + (j.val - 64) = 4096 + j.val
    omega
  · rfl
/-- The merge gates at an entry. -/
theorem rGate_apply (w : Fin 65536) (j : Fin 2048) : rGate (rH (F := Ideal) X N W) (ix2 w j) = gate (row X w) (parA N W K B) j := by
  unfold gate
  rw [← rH_apply X N W K B]
  pointwise [rGate]
  rw [zero_sub]

/-- An entry with the tokens last. -/
theorem rLast_apply (a : FVec Ideal S65536x512 .f32) (b : Fin 16) (j : Fin 512) (s : Fin 4096) : rLast a (ix3 b j s) = a (ix2 ⟨4096 * b.val + s.val, by omega⟩ j) := by
  pointwise [rLast]
  exact congrArg (fun w => a (ix2 w j)) (Fin.ext (by show b.val * 4096 + s.val = 4096 * b.val + s.val; omega))
/-- An indexer key's entry with the tokens last. -/
theorem rKeyLast_apply (k : FVec Ideal S65536x64 .f32) (b : Fin 16) (j : Fin 64) (s : Fin 4096) : rKeyLast k (ix3 b j s) = k (ix2 ⟨4096 * b.val + s.val, by omega⟩ j) := by
  pointwise [rKeyLast]
  exact congrArg (fun w => k (ix2 w j)) (Fin.ext (by show b.val * 4096 + s.val = 4096 * b.val + s.val; omega))
/-- A doubled entry. -/
theorem rTwice_apply (k : FVec Ideal S16x64x4096 .f32) (b : Fin 16) (j : Fin 128) (s : Fin 4096) : rTwice k (ix3 b j s) = k (ix3 b ⟨j.val % 64, by omega⟩ s) := by
  pointwise [rTwice]
  split_ifs with h
  · exact congrArg (fun j => k (ix3 b j s)) (Fin.ext (by show j.val = j.val % 64; omega))
  · exact congrArg (fun j => k (ix3 b j s)) (Fin.ext (by show j.val - 64 = j.val % 64; omega))
  · exact absurd rfl (by assumption)

end Cert.InProof
-- ==== Proof.InClaim.lean ====
/- The claims of the in-projection of the prompt tokens. -/
module
public import proofs.«01_k».proof.Proof.InRef
public import proofs.«01_k».proof.Defs
@[expose] public section
set_option maxRecDepth 16384
noncomputable section
namespace Cert.InProof
open Idealize.ShloMosaic Idealize.ShloMosaic.TcCoe Idealize.ShloMosaic.Tactic
open Idealize.SL.Sem

/-- The reference of the in-projection runs to its end and leaves its arguments; it declares no semaphore. -/
theorem frame_ref : Cert.quiescent_InprojRefIdeal := fun m ρ _ =>
  (θ_run Cert.InprojRefIdeal.defs _ _).mono (fun r h => ⟨fun c => (h c).2.2.2.2.2.2.2.2.2.2.2, sem_eq_zero_of_no_sems (by decide) r.2⟩)
    (Cert.InprojRefIdeal.Value.run (F := Ideal) m ρ)

section
open Cert.InprojRefIdeal Cert.InprojRefIdeal.Gen
variable (X : Vec Ideal S16x4096x1024 .f32) (N : Vec Ideal S1x1024 .f32) (W : Vec Ideal S1x1024x6216 .f32) (K B : Vec Ideal S1x64 .f32)
/-- An entry of the projected columns, by its number among some of them. -/
theorem rH_at (off : ℕ) {n : ℕ} (w : Fin 65536) (j : Fin n) (k : Fin 6216) (h : k.val = off + j.val) : rH (F := Ideal) X N W (ix2 w k) = colAt (row X w) (parA N W K B) off j :=
  (rH_apply X N W K B w k).trans (colAt_of _ _ _ _ _ h)
/-- The recurrence's columns. -/
theorem ref7 : (extractStridedSlice S65536x2048 ![0, 0] (rH (F := Ideal) X N W) slices_S65536x6216_S65536x2048_0_0) = fun i : S65536x2048.Idx => colAt (row X (i 0)) (parA N W K B) 0 (i 1) := by
  funext i
  obtain ⟨w, j, rfl⟩ : ∃ (w : Fin 65536) (j : Fin 2048), i = ix2 w j := ⟨i 0, i 1, eq_ix2 i⟩
  refine Eq.trans ?_ (rH_at X N W K B 0 w j ⟨j.val, by omega⟩ (Nat.zero_add _).symm)
  pointwise
/-- The queries' columns. -/
theorem ref8 : truncf .bf16 (extractStridedSlice S65536x512 ![0, 2048] (rH (F := Ideal) X N W) slices_S65536x6216_S65536x512_0_2048) bitsLt_bf16_f32 = fun i : S65536x512.Idx => colAt (row X (i 0)) (parA N W K B) 2048 (i 1) := by
  funext i
  obtain ⟨w, j, rfl⟩ : ∃ (w : Fin 65536) (j : Fin 512), i = ix2 w j := ⟨i 0, i 1, eq_ix2 i⟩
  refine Eq.trans ?_ (rH_at X N W K B 2048 w j ⟨2048 + j.val, by omega⟩ rfl)
  pointwise
/-- The values' columns. -/
theorem ref9 : truncf .bf16 (extractStridedSlice S65536x512 ![0, 3072] (rH (F := Ideal) X N W) slices_S65536x6216_S65536x512_0_3072) bitsLt_bf16_f32 = fun i : S65536x512.Idx => colAt (row X (i 0)) (parA N W K B) 3072 (i 1) := by
  funext i
  obtain ⟨w, j, rfl⟩ : ∃ (w : Fin 65536) (j : Fin 512), i = ix2 w j := ⟨i 0, i 1, eq_ix2 i⟩
  refine Eq.trans ?_ (rH_at X N W K B 3072 w j ⟨3072 + j.val, by omega⟩ rfl)
  pointwise
/-- The indexer queries' columns. -/
theorem ref10 : truncf .bf16 (extractStridedSlice S65536x512 ![0, 3584] (rH (F := Ideal) X N W) slices_S65536x6216_S65536x512_0_3584) bitsLt_bf16_f32 = fun i : S65536x512.Idx => colAt (row X (i 0)) (parA N W K B) 3584 (i 1) := by
  funext i
  obtain ⟨w, j, rfl⟩ : ∃ (w : Fin 65536) (j : Fin 512), i = ix2 w j := ⟨i 0, i 1, eq_ix2 i⟩
  refine Eq.trans ?_ (rH_at X N W K B 3584 w j ⟨3584 + j.val, by omega⟩ rfl)
  pointwise
/-- The indexer's keys and head weights. -/
theorem ref11 : rSmall (rKey (rH (F := Ideal) X N W) K B) (rHead (rH (F := Ideal) X N W)) = fun i : S65536x128.Idx => small (row X (i 0)) (parA N W K B) (i 1) := by
  funext i
  obtain ⟨w, j, rfl⟩ : ∃ (w : Fin 65536) (j : Fin 128), i = ix2 w j := ⟨i 0, i 1, eq_ix2 i⟩
  exact rSmall_apply X N W K B w j
/-- The merge gates. -/
theorem ref12 : rGate (rH (F := Ideal) X N W) = fun i : S65536x2048.Idx => gate (row X (i 0)) (parA N W K B) (i 1) := by
  funext i
  obtain ⟨w, j, rfl⟩ : ∃ (w : Fin 65536) (j : Fin 2048), i = ix2 w j := ⟨i 0, i 1, eq_ix2 i⟩
  exact rGate_apply X N W K B w j
/-- A token's row, from its sequence and its place in it. -/
theorem row_tok' (b : Fin 16) (s : Fin 4096) : row X ⟨4096 * b.val + s.val, by omega⟩ = tok X b s := by
  funext d
  exact congrArg₂ (fun b s => X (ix3 b s d)) (Fin.ext (by show (4096 * b.val + s.val) / 4096 = b.val; omega)) (Fin.ext (by show (4096 * b.val + s.val) % 4096 = s.val; omega))
/-- The keys, tokens last. -/
theorem ref13 : rLast (extractStridedSlice S65536x512 ![0, 2560] (rH (F := Ideal) X N W) slices_S65536x6216_S65536x512_0_2560) = fun i : S16x512x4096.Idx => colAt (tok X (i 0) (i 2)) (parA N W K B) 2560 (i 1) := by
  funext i
  obtain ⟨b, j, s, rfl⟩ : ∃ (b : Fin 16) (j : Fin 512) (s : Fin 4096), i = ix3 b j s := ⟨i 0, i 1, i 2, eq_ix3 i⟩
  refine (rLast_apply _ b j s).trans (Eq.trans ?_ ((rH_at X N W K B 2560 ⟨4096 * b.val + s.val, by omega⟩ j ⟨2560 + j.val, by omega⟩ rfl).trans ?_))
  · pointwise
  · exact congrArg (fun x => colAt x (parA N W K B) 2560 j) (row_tok' X b s)
/-- The values, tokens last. -/
theorem ref14 : rLast (extractStridedSlice S65536x512 ![0, 3072] (rH (F := Ideal) X N W) slices_S65536x6216_S65536x512_0_3072) = fun i : S16x512x4096.Idx => colAt (tok X (i 0) (i 2)) (parA N W K B) 3072 (i 1) := by
  funext i
  obtain ⟨b, j, s, rfl⟩ : ∃ (b : Fin 16) (j : Fin 512) (s : Fin 4096), i = ix3 b j s := ⟨i 0, i 1, i 2, eq_ix3 i⟩
  refine (rLast_apply _ b j s).trans (Eq.trans ?_ ((rH_at X N W K B 3072 ⟨4096 * b.val + s.val, by omega⟩ j ⟨3072 + j.val, by omega⟩ rfl).trans ?_))
  · pointwise
  · exact congrArg (fun x => colAt x (parA N W K B) 3072 j) (row_tok' X b s)
/-- The indexer's keys, tokens last. -/
theorem ref15 : rKeyLast (rKey (rH (F := Ideal) X N W) K B) = fun i : S16x64x4096.Idx => keyAt (tok X (i 0) (i 2)) (parA N W K B) (i 1) := by
  funext i
  obtain ⟨b, j, s, rfl⟩ : ∃ (b : Fin 16) (j : Fin 64) (s : Fin 4096), i = ix3 b j s := ⟨i 0, i 1, i 2, eq_ix3 i⟩
  refine (rKeyLast_apply _ b j s).trans ((rKey_apply X N W K B _ j).trans ?_)
  rw [row_tok']
  show _ = keyAt (tok X b s) (parA N W K B) j
  unfold keyAt small
  rw [dif_pos j.isLt]
/-- The keys, tokens last, once more. -/
theorem ref16 : truncf .bf16 (rLast (extractStridedSlice S65536x512 ![0, 2560] (rH (F := Ideal) X N W) slices_S65536x6216_S65536x512_0_2560)) bitsLt_bf16_f32 = fun i : S16x512x4096.Idx => colAt (tok X (i 0) (i 2)) (parA N W K B) 2560 (i 1) := by
  funext i
  obtain ⟨b, j, s, rfl⟩ : ∃ (b : Fin 16) (j : Fin 512) (s : Fin 4096), i = ix3 b j s := ⟨i 0, i 1, i 2, eq_ix3 i⟩
  exact congrFun (ref13 X N W K B) (ix3 b j s)
/-- The indexer's keys, tokens last, twice. -/
theorem ref17 : rTwice (rKeyLast (rKey (rH (F := Ideal) X N W) K B)) = fun i : S16x128x4096.Idx => keyTwice (tok X (i 0) (i 2)) (parA N W K B) (i 1) := by
  funext i
  obtain ⟨b, j, s, rfl⟩ : ∃ (b : Fin 16) (j : Fin 128) (s : Fin 4096), i = ix3 b j s := ⟨i 0, i 1, i 2, eq_ix3 i⟩
  refine (rTwice_apply _ b j s).trans ?_
  exact congrFun (ref15 X N W K B) (ix3 b ⟨j.val % 64, by omega⟩ s)
end

set_option maxHeartbeats 4000000 in
/-- The kernel and the reference end with the same arrays: the in-projection of every prompt token. -/
theorem in_equal : Cert.algebraic_InprojIdeal_InprojRefIdeal := by
  intro m g m' g' _ ha
  refine ⟨fun c => (Cert.InprojIdeal.Gen.dats m 0 c).arrAt 7 Cert.InprojIdeal.cfg0.N, fun c => (Cert.InprojIdeal.Gen.dats m 0 c).arrAt 8 Cert.InprojIdeal.cfg0.N, fun c => (Cert.InprojIdeal.Gen.dats m 0 c).arrAt 9 Cert.InprojIdeal.cfg0.N, fun c => (Cert.InprojIdeal.Gen.dats m 0 c).arrAt 10 Cert.InprojIdeal.cfg0.N, fun c => (Cert.InprojIdeal.Gen.dats m 0 c).arrAt 11 Cert.InprojIdeal.cfg0.N, fun c => (Cert.InprojIdeal.Gen.dats m 0 c).arrAt 12 Cert.InprojIdeal.cfg0.N, fun c => (Cert.InprojIdeal.Gen.dats m 0 c).arrAt 13 Cert.InprojIdeal.cfg0.N, fun c => (Cert.InprojIdeal.Gen.dats m 0 c).arrAt 14 Cert.InprojIdeal.cfg0.N, fun c => (Cert.InprojIdeal.Gen.dats m 0 c).arrAt 15 Cert.InprojIdeal.cfg0.N, fun c => (Cert.InprojIdeal.Gen.dats m 0 c).arrAt 16 Cert.InprojIdeal.cfg0.N, fun c => (Cert.InprojIdeal.Gen.dats m 0 c).arrAt 17 Cert.InprojIdeal.cfg0.N, Cert.InprojIdeal.Value.run_blocks m g, ?_⟩
  refine (θ_run Cert.InprojRefIdeal.defs _ _).mono (fun r h c => ?_) (run_stages m' g')
  obtain ⟨a0, a1, a2, a3, a4⟩ := ha c
  replace a0 : m' (c, Proc.tc.devRef Cert.InprojRefIdeal.main_arg0) = _ := a0
  replace a1 : m' (c, Proc.tc.devRef Cert.InprojRefIdeal.main_arg1) = _ := a1
  replace a2 : m' (c, Proc.tc.devRef Cert.InprojRefIdeal.main_arg2) = _ := a2
  replace a3 : m' (c, Proc.tc.devRef Cert.InprojRefIdeal.main_arg3) = _ := a3
  replace a4 : m' (c, Proc.tc.devRef Cert.InprojRefIdeal.main_arg4) = _ := a4
  obtain ⟨h7, h8, h9, h10, h11, h12, h13, h14, h15, h16, h17, hargs⟩ := h c
  refine ⟨?_, ?_, ?_, ?_, ?_, ?_, ?_, ?_, ?_, ?_, ?_, ?_⟩
  rotate_left 11
  · exact hargs
  · refine h7.trans ?_
    refine (ref7 (m' (c, Proc.tc.devRef Cert.InprojRefIdeal.main_arg0)) (m' (c, Proc.tc.devRef Cert.InprojRefIdeal.main_arg1)) (m' (c, Proc.tc.devRef Cert.InprojRefIdeal.main_arg2)) (m' (c, Proc.tc.devRef Cert.InprojRefIdeal.main_arg3)) (m' (c, Proc.tc.devRef Cert.InprojRefIdeal.main_arg4))).trans (Eq.trans ?_ (array7 m c).symm)
    rw [a0, a1, a2, a3, a4]
  · refine h8.trans ?_
    refine (ref8 (m' (c, Proc.tc.devRef Cert.InprojRefIdeal.main_arg0)) (m' (c, Proc.tc.devRef Cert.InprojRefIdeal.main_arg1)) (m' (c, Proc.tc.devRef Cert.InprojRefIdeal.main_arg2)) (m' (c, Proc.tc.devRef Cert.InprojRefIdeal.main_arg3)) (m' (c, Proc.tc.devRef Cert.InprojRefIdeal.main_arg4))).trans (Eq.trans ?_ (array8 m c).symm)
    rw [a0, a1, a2, a3, a4]
  · refine h9.trans ?_
    refine (ref9 (m' (c, Proc.tc.devRef Cert.InprojRefIdeal.main_arg0)) (m' (c, Proc.tc.devRef Cert.InprojRefIdeal.main_arg1)) (m' (c, Proc.tc.devRef Cert.InprojRefIdeal.main_arg2)) (m' (c, Proc.tc.devRef Cert.InprojRefIdeal.main_arg3)) (m' (c, Proc.tc.devRef Cert.InprojRefIdeal.main_arg4))).trans (Eq.trans ?_ (array9 m c).symm)
    rw [a0, a1, a2, a3, a4]
  · refine h10.trans ?_
    refine (ref10 (m' (c, Proc.tc.devRef Cert.InprojRefIdeal.main_arg0)) (m' (c, Proc.tc.devRef Cert.InprojRefIdeal.main_arg1)) (m' (c, Proc.tc.devRef Cert.InprojRefIdeal.main_arg2)) (m' (c, Proc.tc.devRef Cert.InprojRefIdeal.main_arg3)) (m' (c, Proc.tc.devRef Cert.InprojRefIdeal.main_arg4))).trans (Eq.trans ?_ (array10 m c).symm)
    rw [a0, a1, a2, a3, a4]
  · refine h11.trans ?_
    refine (ref11 (m' (c, Proc.tc.devRef Cert.InprojRefIdeal.main_arg0)) (m' (c, Proc.tc.devRef Cert.InprojRefIdeal.main_arg1)) (m' (c, Proc.tc.devRef Cert.InprojRefIdeal.main_arg2)) (m' (c, Proc.tc.devRef Cert.InprojRefIdeal.main_arg3)) (m' (c, Proc.tc.devRef Cert.InprojRefIdeal.main_arg4))).trans (Eq.trans ?_ (array11 m c).symm)
    rw [a0, a1, a2, a3, a4]
  · refine h12.trans ?_
    refine (ref12 (m' (c, Proc.tc.devRef Cert.InprojRefIdeal.main_arg0)) (m' (c, Proc.tc.devRef Cert.InprojRefIdeal.main_arg1)) (m' (c, Proc.tc.devRef Cert.InprojRefIdeal.main_arg2)) (m' (c, Proc.tc.devRef Cert.InprojRefIdeal.main_arg3)) (m' (c, Proc.tc.devRef Cert.InprojRefIdeal.main_arg4))).trans (Eq.trans ?_ (array12 m c).symm)
    rw [a0, a1, a2, a3, a4]
  · refine h13.trans ?_
    refine (ref13 (m' (c, Proc.tc.devRef Cert.InprojRefIdeal.main_arg0)) (m' (c, Proc.tc.devRef Cert.InprojRefIdeal.main_arg1)) (m' (c, Proc.tc.devRef Cert.InprojRefIdeal.main_arg2)) (m' (c, Proc.tc.devRef Cert.InprojRefIdeal.main_arg3)) (m' (c, Proc.tc.devRef Cert.InprojRefIdeal.main_arg4))).trans (Eq.trans ?_ (array13 m c).symm)
    rw [a0, a1, a2, a3, a4]
  · refine h14.trans ?_
    refine (ref14 (m' (c, Proc.tc.devRef Cert.InprojRefIdeal.main_arg0)) (m' (c, Proc.tc.devRef Cert.InprojRefIdeal.main_arg1)) (m' (c, Proc.tc.devRef Cert.InprojRefIdeal.main_arg2)) (m' (c, Proc.tc.devRef Cert.InprojRefIdeal.main_arg3)) (m' (c, Proc.tc.devRef Cert.InprojRefIdeal.main_arg4))).trans (Eq.trans ?_ (array14 m c).symm)
    rw [a0, a1, a2, a3, a4]
  · refine h15.trans ?_
    refine (ref15 (m' (c, Proc.tc.devRef Cert.InprojRefIdeal.main_arg0)) (m' (c, Proc.tc.devRef Cert.InprojRefIdeal.main_arg1)) (m' (c, Proc.tc.devRef Cert.InprojRefIdeal.main_arg2)) (m' (c, Proc.tc.devRef Cert.InprojRefIdeal.main_arg3)) (m' (c, Proc.tc.devRef Cert.InprojRefIdeal.main_arg4))).trans (Eq.trans ?_ (array15 m c).symm)
    rw [a0, a1, a2, a3, a4]
  · refine h16.trans ?_
    refine (ref16 (m' (c, Proc.tc.devRef Cert.InprojRefIdeal.main_arg0)) (m' (c, Proc.tc.devRef Cert.InprojRefIdeal.main_arg1)) (m' (c, Proc.tc.devRef Cert.InprojRefIdeal.main_arg2)) (m' (c, Proc.tc.devRef Cert.InprojRefIdeal.main_arg3)) (m' (c, Proc.tc.devRef Cert.InprojRefIdeal.main_arg4))).trans (Eq.trans ?_ (array16 m c).symm)
    rw [a0, a1, a2, a3, a4]
  · refine h17.trans ?_
    refine (ref17 (m' (c, Proc.tc.devRef Cert.InprojRefIdeal.main_arg0)) (m' (c, Proc.tc.devRef Cert.InprojRefIdeal.main_arg1)) (m' (c, Proc.tc.devRef Cert.InprojRefIdeal.main_arg2)) (m' (c, Proc.tc.devRef Cert.InprojRefIdeal.main_arg3)) (m' (c, Proc.tc.devRef Cert.InprojRefIdeal.main_arg4))).trans (Eq.trans ?_ (array17 m c).symm)
    rw [a0, a1, a2, a3, a4]

end Cert.InProof
-- ==== Proof.MixBlock.lean ====
/- One block of the merge and feed-forward kernel, entry by entry, as a function of a token's rows. -/
module
public import proofs.«01_k».proof.Proof.MixRow
public import proofs.«01_k».proof.Proof.Gen.MixffnIdeal.Value
public import Idealize.ShloMosaic.Lib.Pointwise
public import Idealize.ShloMosaic.Lib.Pipeline.ReadBack
public import Idealize.ShloMosaic.Lib.Pipeline.ValueKit
@[expose] public section
set_option maxRecDepth 16384
noncomputable section
namespace Cert.MixProof
open Idealize.ShloMosaic Idealize.ShloMosaic.TcCoe Idealize.ShloMosaic.Tactic
open Cert.MixffnIdeal Cert.MixffnIdeal.Gen

section
variable {F : FTy → Type} [FloatOps F]
/-- Columns `off` to `off + 255` of the gate matrix. -/
def wi (x7 : Vec F S1024x5632 .bf16) (off : ℕ) (h : off + 256 ≤ 5632) : Vec F S1024x256 .bf16 :=
  View.ld x7 (Rect.unit (s := S1024x5632) ![0, off] S1024x256.size (fun a => by fin_cases a <;> simp [S1024x256, S1024x5632] <;> omega))
/-- Rows `off` to `off + 255` of the output matrix. -/
def wo (x8 : Vec F S2816x1024 .bf16) (off : ℕ) (h : off + 256 ≤ 2816) : Vec F S256x1024 .bf16 :=
  View.ld x8 (Rect.unit (s := S2816x1024) ![off, 0] S256x1024.size (fun a => by fin_cases a <;> simp [S256x1024, S2816x1024] <;> omega))
/-- Activations of a chunk of 256 inner columns. -/
def act (xn : FVec F S512x1024 .bf16) (wa wb : Vec F S1024x256 .bf16) : FVec F S512x256 .f32 :=
  let a := matmul dot_S512x1024_S1024x256_S512x256_1_0_0_1_n_n none xn (shapeCast S1024x256 wa shapeCasts_S1024x256_S1024x256 : FVec F S1024x256 .bf16) (constant S512x256 .f32 0x00000000#32)
  let b := matmul dot_S512x1024_S1024x256_S512x256_1_0_0_1_n_n none xn (shapeCast S1024x256 wb shapeCasts_S1024x256_S1024x256 : FVec F S1024x256 .bf16) (constant S512x256 .f32 0x00000000#32)
  mulf (mulf a (divf (broadcast S512x256 (Scalar.ofBits .f32 0x3F800000#32)) (addf (broadcast S512x256 (Scalar.ofBits .f32 0x3F800000#32)) (exp (subf (broadcast S512x256 (Scalar.ofBits .f32 0x00000000#32)) a))))) b
/-- What a chunk of 256 inner columns adds. -/
def chunk (xn : FVec F S512x1024 .bf16) (wa wb : Vec F S1024x256 .bf16) (wc : Vec F S256x1024 .bf16) : FVec F S512x1024 .f32 :=
  matmul dot_S512x256_S256x1024_S512x1024_1_0_0_1_n_n none (truncf .bf16 (act xn wa wb) bitsLt_bf16_f32)
    (shapeCast S256x1024 wc shapeCasts_S256x1024_S256x1024 : FVec F S256x1024 .bf16) (constant S512x1024 .f32 0x00000000#32)
/-- The eleven chunks added one after another. -/
def chunks (x1 : FVec F S512x1024 .f32) (K : Fin 11 → FVec F S512x1024 .f32) : FVec F S512x1024 .f32 :=
  (addf (addf (addf (addf (addf (addf (addf (addf (addf (addf (addf x1 (K 0)) (K 1)) (K 2)) (K 3)) (K 4)) (K 5)) (K 6)) (K 7)) (K 8)) (K 9)) (K 10))
variable (x0 : Vec F S512x1024 .f32) (x1 : Vec F S512x512 .bf16) (x2 : Vec F S512x512 .bf16) (x3 : Vec F S512x2048 .bf16) (x4 : Vec F S2x512x1024 .bf16) (x5 : Vec F S1024x1024 .bf16) (x6 : Vec F S1x1024 .f32) (x7 : Vec F S1024x5632 .bf16) (x8 : Vec F S2816x1024 .bf16) (x9 : Vec F S1x1024 .f32)
/-- The block after the merge, and its norm. -/
def mid : FVec F S512x1024 .f32 := k0_pay23 x0 x1 x2 x3 x4 x5 x6 x7 x8 x9
def nrm : FVec F S512x1024 .bf16 := k0_pay26 x0 x1 x2 x3 x4 x5 x6 x7 x8 x9
/-- The kernel's block as the merge, the eleven chunks and the last norm. -/
theorem out_eq : out0_10 x0 x1 x2 x3 x4 x5 x6 x7 x8 x9 = View.canon [⟨r0_5, k0_pay1
    (chunks (mid x0 x1 x2 x3 x4 x5 x6 x7 x8 x9) (fun c => chunk (nrm x0 x1 x2 x3 x4 x5 x6 x7 x8 x9) (wi x7 (256 * c.val) (by omega)) (wi x7 (2816 + 256 * c.val) (by omega)) (wo x8 (256 * c.val) (by omega))))
    (k0_pay22 (View.ld x9 r0_7))⟩] := by
  rfl
end

end Cert.MixProof
-- ==== Proof.MixEntry.lean ====
/- One block of the merge and feed-forward kernel is the layer of its tokens. -/
module
public import proofs.«01_k».proof.Proof.MixBlock
@[expose] public section
set_option maxRecDepth 16384
noncomputable section
namespace Cert.MixProof
open Idealize.ShloMosaic Idealize.ShloMosaic.TcCoe Idealize.ShloMosaic.Tactic
open Cert.MixffnIdeal Cert.MixffnIdeal.Gen

open scoped BigOperators

/-- A read of the first SwiGLU weights. -/
theorem wi_apply (x7 : Vec Ideal S1024x5632 .bf16) (off : ℕ) (h : off + 256 ≤ 5632) (d : Fin 1024) (f : Fin 256) :
    wi x7 off h (ix2 d f) = x7 (ix2 d ⟨off + f.val, by omega⟩) := by
  refine View.ld_unit_apply_of _ _ _ _ _ _ fun a => ?_
  match a with
  | ⟨0, _⟩ => exact (Nat.zero_add _).symm
  | ⟨1, _⟩ => rfl
/-- A read of the second SwiGLU weights. -/
theorem wo_apply (x8 : Vec Ideal S2816x1024 .bf16) (off : ℕ) (h : off + 256 ≤ 2816) (f : Fin 256) (d : Fin 1024) :
    wo x8 off h (ix2 f d) = x8 (ix2 ⟨off + f.val, by omega⟩ d) := by
  refine View.ld_unit_apply_of _ _ _ _ _ _ fun a => ?_
  match a with
  | ⟨0, _⟩ => rfl
  | ⟨1, _⟩ => exact (Nat.zero_add _).symm
/-- A chunk's activation at an entry. -/
theorem act_apply (xn : FVec Ideal S512x1024 .bf16) (wa wb : Vec Ideal S1024x256 .bf16) (r : Fin 512) (f : Fin 256) :
    act xn wa wb (ix2 r f) = (∑ d, xn (ix2 r d) * wa (ix2 d f)) * Ideal.div 1 (1 + Ideal.exp (0 - ∑ d, xn (ix2 r d) * wa (ix2 d f))) * ∑ d, xn (ix2 r d) * wb (ix2 d f) := by
  pointwise [act]
/-- A chunk's part of the SwiGLU sum at an entry. -/
theorem chunk_apply (xn : FVec Ideal S512x1024 .bf16) (wa wb : Vec Ideal S1024x256 .bf16) (wc : Vec Ideal S256x1024 .bf16) (r : Fin 512) (d : Fin 1024) :
    chunk xn wa wb wc (ix2 r d) = ∑ f, act xn wa wb (ix2 r f) * wc (ix2 f d) := by
  pointwise [chunk]
/-- A norm at an entry. -/
theorem pay1_apply (v : FVec Ideal S512x1024 .f32) (g : FVec Ideal S1x1024 .f32) (r : Fin 512) (d : Fin 1024) :
    k0_pay1 v g (ix2 r d) = norm (fun x => v (ix2 r x)) (fun x => g (ix2 0 x)) d := by
  pointwise [k0_pay1]
  rfl
/-- The eleven parts added, at an entry. -/
theorem chunks_apply (x : FVec Ideal S512x1024 .f32) (K : Fin 11 → FVec Ideal S512x1024 .f32) (i : S512x1024.Idx) :
    chunks x K i = x i + ∑ c, K c i := by
  simp only [Fin.sum_univ_succ, Fin.sum_univ_zero, add_zero, ← add_assoc]
  rfl

variable (x0 : Vec Ideal S512x1024 .f32) (x1 : Vec Ideal S512x512 .bf16) (x2 : Vec Ideal S512x512 .bf16) (x3 : Vec Ideal S512x2048 .bf16) (x4 : Vec Ideal S2x512x1024 .bf16) (x5 : Vec Ideal S1024x1024 .bf16) (x6 : Vec Ideal S1x1024 .f32) (x7 : Vec Ideal S1024x5632 .bf16) (x8 : Vec Ideal S2816x1024 .bf16) (x9 : Vec Ideal S1x1024 .f32)

/-- A token's rows, and the weights, of the blocks. -/
def rowB (r : Fin 512) : Row where
  x d := x0 (ix2 r d)
  oa c := x1 (ix2 r c)
  ob c := x2 (ix2 r c)
  gate d := x3 (ix2 r d)
def weightsB : Weights where
  branch n c d := x4 (ix3 n c d)
  out e d := x5 (ix2 e d)
  gain d := x6 (ix2 0 d)
  ffi d f := x7 (ix2 d f)
  ffo f d := x8 (ix2 f d)
  last d := x9 (ix2 0 d)

/-- The row after the mixer, at an entry. -/
theorem mid_apply (r : Fin 512) (d : Fin 1024) :
    mid x0 x1 x2 x3 x4 x5 x6 x7 x8 x9 (ix2 r d) = mixed (rowB x0 x1 x2 x3 r) (weightsB x4 x5 x6 x7 x8 x9) d := by
  pointwise [mid, k0_pay23, k0_pay2]
  rfl
/-- That row normed, at an entry. -/
theorem nrm_apply (r : Fin 512) (d : Fin 1024) :
    nrm x0 x1 x2 x3 x4 x5 x6 x7 x8 x9 (ix2 r d) = norm (mixed (rowB x0 x1 x2 x3 r) (weightsB x4 x5 x6 x7 x8 x9)) (weightsB x4 x5 x6 x7 x8 x9).gain d := by
  have e : nrm x0 x1 x2 x3 x4 x5 x6 x7 x8 x9 (ix2 r d) = norm (fun d => mid x0 x1 x2 x3 x4 x5 x6 x7 x8 x9 (ix2 r d)) (fun d => x6 (ix2 0 d)) d := by
    have h : nrm x0 x1 x2 x3 x4 x5 x6 x7 x8 x9 = k0_pay5 (mid x0 x1 x2 x3 x4 x5 x6 x7 x8 x9) (k0_pay3 (View.ld x6 r0_7)) (k0_pay25 x0 x1 x2 x3 x4 x5 x6 x7 x8 x9) := rfl
    have h2 : k0_pay25 x0 x1 x2 x3 x4 x5 x6 x7 x8 x9 (ix2 r d) = Ideal.rsqrt (Ideal.div (∑ x, mid x0 x1 x2 x3 x4 x5 x6 x7 x8 x9 (ix2 r x) * mid x0 x1 x2 x3 x4 x5 x6 x7 x8 x9 (ix2 r x)) (Ideal.ofBits .f32 0x44800000#32) + Ideal.ofBits .f32 0x358637BD#32) := by
      unfold mid k0_pay23
      pointwise [k0_pay25, k0_pay4]
    rw [h]
    refine Eq.trans (b := mid x0 x1 x2 x3 x4 x5 x6 x7 x8 x9 (ix2 r d) * k0_pay25 x0 x1 x2 x3 x4 x5 x6 x7 x8 x9 (ix2 r d) * x6 (ix2 0 d)) ?_ ?_
    · pointwise [k0_pay5, k0_pay3]
    · rw [h2]
      rfl
  rw [e]
  simp only [mid_apply]
  rfl
/-- The block's entry: the layer of the row's token. -/
theorem out_apply (r : Fin 512) (d : Fin 1024) :
    out0_10 x0 x1 x2 x3 x4 x5 x6 x7 x8 x9 (ix2 r d) = layer (rowB x0 x1 x2 x3 r) (weightsB x4 x5 x6 x7 x8 x9) d := by
  rw [out_eq, View.canon_unit_zero (by funext a; fin_cases a <;> rfl)]
  rw [pay1_apply]
  unfold layer
  congr 1
  · funext d
    rw [chunks_apply, mid_apply]
    unfold fed
    congr 1
    rw [parts]
    refine Finset.sum_congr rfl fun c _ => ?_
    rw [chunk_apply]
    refine Finset.sum_congr rfl fun f _ => ?_
    rw [act_apply, wo_apply]
    simp only [wi_apply, nrm_apply]
    unfold inner
    dsimp only
    congr 2
    exact Finset.sum_congr rfl fun x _ => congrArg (_ * ·) (congrArg (fun q => x7 (ix2 x q)) (Fin.ext (Nat.add_assoc _ _ _)))
  · funext d
    pointwise [k0_pay22]
    rfl

end Cert.MixProof
-- ==== Proof.MixOut.lean ====
/- The array the merge and feed-forward kernel leaves: the layer of every prompt token. -/
module
public import proofs.«01_k».proof.Proof.MixEntry
@[expose] public section
set_option maxRecDepth 16384
noncomputable section
namespace Cert.MixProof
open Idealize.ShloMosaic Idealize.ShloMosaic.TcCoe Idealize.ShloMosaic.Tactic
open Cert.MixffnIdeal Cert.MixffnIdeal.Gen

/-- The weights, read from the weight arrays. -/
def weightsA (B : Vec Ideal S1x2x512x1024 .f32) (O : Vec Ideal S1x1024x1024 .f32) (G : Vec Ideal S1x1024 .f32) (I : Vec Ideal S1x1024x5632 .f32)
    (P : Vec Ideal S1x2816x1024 .f32) (L : Vec Ideal S1024 .f32) : Weights where
  branch n c d := B (ix4 0 n c d)
  out e d := O (ix3 0 e d)
  gain d := G (ix2 0 d)
  ffi d f := I (ix3 0 d f)
  ffo f d := P (ix3 0 f d)
  last d := L (ix1 d)
/-- Token `w`'s rows, read from the prompt arrays. -/
def rowA (X : Vec Ideal S16x4096x1024 .f32) (A B : Vec Ideal S65536x512 .bf16) (G : Vec Ideal S65536x2048 .bf16) (w : Fin 65536) : Row where
  x d := X (ix3 ⟨w.val / 4096, by omega⟩ ⟨w.val % 4096, by omega⟩ d)
  oa c := A (ix2 w c)
  ob c := B (ix2 w c)
  gate d := G (ix2 w d)
/-- The layer of every prompt token. -/
def layers (X : Vec Ideal S16x4096x1024 .f32) (A B : Vec Ideal S65536x512 .bf16) (G : Vec Ideal S65536x2048 .bf16) (w : Weights) : Vec Ideal S65536x1024 .f32 :=
  fun i => layer (rowA X A B G (i 0)) w (i 1)

variable (m : (ℓ : Loc nD τ sig) → Buf (Elt Ideal) ℓ)
/-- Where window 0 lies at a point. -/
theorem idx0 : ∀ t, win0_0.index t = ![t.val, 0] := by decide +kernel
/-- Where window 1 lies at a point. -/
theorem idx1 : ∀ t, win0_1.index t = ![t.val, 0] := by decide +kernel
/-- Where window 2 lies at a point. -/
theorem idx2 : ∀ t, win0_2.index t = ![t.val, 0] := by decide +kernel
/-- Where window 3 lies at a point. -/
theorem idx3 : ∀ t, win0_3.index t = ![t.val, 0] := by decide +kernel
/-- Where window 4 lies at a point. -/
theorem idx4 : ∀ t, win0_4.index t = ![0, 0, 0] := by decide +kernel
/-- Where window 5 lies at a point. -/
theorem idx5 : ∀ t, win0_5.index t = ![0, 0] := by decide +kernel
/-- Where window 6 lies at a point. -/
theorem idx6 : ∀ t, win0_6.index t = ![0, 0] := by decide +kernel
/-- Where window 7 lies at a point. -/
theorem idx7 : ∀ t, win0_7.index t = ![0, 0] := by decide +kernel
/-- Where window 8 lies at a point. -/
theorem idx8 : ∀ t, win0_8.index t = ![0, 0] := by decide +kernel
/-- Where window 9 lies at a point. -/
theorem idx9 : ∀ t, win0_9.index t = ![0, 0] := by decide +kernel
/-- Where window 10 lies at a point. -/
theorem idx10 : ∀ t, win0_10.index t = ![t.val, 0] := by decide +kernel

/-- Window 0 at an entry, from the arguments. -/
theorem rd0 (c : Dev nD) (t : Fin cfg0.N) (r : Fin 512) (d : Fin 1024) (b : Fin 16) (s : Fin 4096) (h : 4096 * b.val + s.val = 512 * t.val + r.val) :
    iblk m c 0 t (ix2 r d) = m (c, Proc.tc.devRef main_arg0) (ix3 b s d) := by
  refine Eq.trans (b := V m c main_v0 (ix2 ⟨4096 * b.val + s.val, by omega⟩ d)) ?_ ?_
  · blk_ext [iblk, idx0 t]
  · entry_read
    pointwise
/-- Window 1 at an entry, from the arguments. -/
theorem rd1 (c : Dev nD) (t : Fin cfg0.N) (r : Fin 512) (j : Fin 512) (w : Fin 65536) (hw : w.val = 512 * t.val + r.val) :
    iblk m c 1 t (ix2 r j) = m (c, Proc.tc.devRef main_arg1) (ix2 w j) := by
  blk_ext [iblk, V, idx1 t]
/-- Window 2 at an entry, from the arguments. -/
theorem rd2 (c : Dev nD) (t : Fin cfg0.N) (r : Fin 512) (j : Fin 512) (w : Fin 65536) (hw : w.val = 512 * t.val + r.val) :
    iblk m c 2 t (ix2 r j) = m (c, Proc.tc.devRef main_arg2) (ix2 w j) := by
  blk_ext [iblk, V, idx2 t]
/-- Window 3 at an entry, from the arguments. -/
theorem rd3 (c : Dev nD) (t : Fin cfg0.N) (r : Fin 512) (j : Fin 2048) (w : Fin 65536) (hw : w.val = 512 * t.val + r.val) :
    iblk m c 3 t (ix2 r j) = m (c, Proc.tc.devRef main_arg3) (ix2 w j) := by
  blk_ext [iblk, V, idx3 t]
/-- Window 4 at an entry, from the arguments. -/
theorem rd4 (c : Dev nD) (t : Fin cfg0.N) (n : Fin 2) (i : Fin 512) (j : Fin 1024) :
    iblk m c 4 t (ix3 n i j) = m (c, Proc.tc.devRef main_arg4) (ix4 0 n i j) := by
  refine Eq.trans (b := V m c main_v2 (ix3 n i j)) ?_ ?_
  · blk_ext [iblk, idx4 t]
  · entry_read
    pointwise
/-- Window 5 at an entry, from the arguments. -/
theorem rd5 (c : Dev nD) (t : Fin cfg0.N) (i : Fin 1024) (j : Fin 1024) :
    iblk m c 5 t (ix2 i j) = m (c, Proc.tc.devRef main_arg5) (ix3 0 i j) := by
  refine Eq.trans (b := V m c main_v4 (ix2 i j)) ?_ ?_
  · blk_ext [iblk, idx5 t]
  · entry_read
    pointwise
/-- Window 6 at an entry, from the arguments. -/
theorem rd6 (c : Dev nD) (t : Fin cfg0.N) (j : Fin 1024) :
    iblk m c 6 t (ix2 0 j) = m (c, Proc.tc.devRef main_arg6) (ix2 0 j) := by
  refine Eq.trans (b := V m c main_v6 (ix2 0 j)) ?_ ?_
  · blk_ext [iblk, idx6 t]
  · entry_read
    pointwise
/-- Window 7 at an entry, from the arguments. -/
theorem rd7 (c : Dev nD) (t : Fin cfg0.N) (i : Fin 1024) (j : Fin 5632) :
    iblk m c 7 t (ix2 i j) = m (c, Proc.tc.devRef main_arg7) (ix3 0 i j) := by
  refine Eq.trans (b := V m c main_v8 (ix2 i j)) ?_ ?_
  · blk_ext [iblk, idx7 t]
  · entry_read
    pointwise
/-- Window 8 at an entry, from the arguments. -/
theorem rd8 (c : Dev nD) (t : Fin cfg0.N) (i : Fin 2816) (j : Fin 1024) :
    iblk m c 8 t (ix2 i j) = m (c, Proc.tc.devRef main_arg8) (ix3 0 i j) := by
  refine Eq.trans (b := V m c main_v10 (ix2 i j)) ?_ ?_
  · blk_ext [iblk, idx8 t]
  · entry_read
    pointwise
/-- Window 9 at an entry, from the arguments. -/
theorem rd9 (c : Dev nD) (t : Fin cfg0.N) (j : Fin 1024) :
    iblk m c 9 t (ix2 0 j) = m (c, Proc.tc.devRef main_arg9) (ix1 j) := by
  refine Eq.trans (b := V m c main_v11 (ix2 0 j)) ?_ ?_
  · blk_ext [iblk, idx9 t]
  · entry_read
    pointwise

/-- The array the kernel leaves. -/
theorem array (c : Dev nD) : (dats m 0 c).arrAt 10 cfg0.N = layers (m (c, Proc.tc.devRef main_arg0)) (m (c, Proc.tc.devRef main_arg1)) (m (c, Proc.tc.devRef main_arg2))
    (m (c, Proc.tc.devRef main_arg3)) (weightsA (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9))) := by
  refine (dats m 0 c).arrAt_eq_of_covers 10 _ (by decide +kernel) fun t hf y => ?_
  blk_simp
  rw [after0_10]
  obtain ⟨r, d, rfl⟩ : ∃ (r : Fin 512) (d : Fin 1024), y = ix2 r d := ⟨y 0, y 1, by funext k; fin_cases k <;> rfl⟩
  have ht : t.val < 128 := t.isLt
  have he : (win0_10.blk t).view.emb (ix2 r d) = ix2 (⟨512 * t.val + r.val, by omega⟩ : Fin 65536) d := by
    blk_ext [idx10 t]
  refine (out_apply _ _ _ _ _ _ _ _ _ _ r d).trans ?_
  rw [he]
  refine congrFun (congrArg₂ layer ?_ ?_) d
  · unfold rowB rowA
    congr 1
    · funext d
      exact rd0 m c t r d _ _ (Nat.div_add_mod (512 * t.val + r.val) 4096)
    · funext j
      exact rd1 m c t r j _ rfl
    · funext j
      exact rd2 m c t r j _ rfl
    · funext j
      exact rd3 m c t r j _ rfl
  · unfold weightsB weightsA
    congr 1
    · funext n i j
      exact rd4 m c t n i j
    · funext i j
      exact rd5 m c t i j
    · funext j
      exact rd6 m c t j
    · funext i j
      exact rd7 m c t i j
    · funext i j
      exact rd8 m c t i j
    · funext j
      exact rd9 m c t j

end Cert.MixProof
-- ==== Proof.MixRef.lean ====
/- The merge and feed-forward reference, in stages, and its entries. -/
module
public import proofs.«01_k».proof.Proof.MixOut
public import proofs.«01_k».proof.Proof.Gen.MixffnRefIdeal.Run
@[expose] public section
set_option maxRecDepth 16384
noncomputable section
namespace Cert.MixProof
open Idealize.ShloMosaic Idealize.ShloMosaic.TcCoe Idealize.ShloMosaic.Tactic
open Cert.MixffnRefIdeal Cert.MixffnRefIdeal.Gen Idealize.SL.Sem

section
variable {F : FTy → Type} [FloatOps F]

/-- A token's norm over an array of tokens, times a gain. -/
def rNorm (v : FVec F S16x4096x1024 .f32) (g : FVec F S1024 .f32) : FVec F S16x4096x1024 .f32 :=
  mulf (mulf v (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf v v) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))
/-- The two branches side by side. -/
def rBranch (A B : FVec F S65536x512 .bf16) : FVec F S16x4096x2x512 .f32 :=
  concatenate S16x4096x2x512 2 [⟨S16x4096x1x512, (broadcastInDim S16x4096x1x512 ![0, 1, 3] bcast_S16x4096x512_S16x4096x1x512_0_1_3 (shapeCast _ (extf .f32 A bitsLt_bf16_f32) shapeCasts_S65536x512_S16x4096x512))⟩, ⟨S16x4096x1x512, (broadcastInDim S16x4096x1x512 ![0, 1, 3] bcast_S16x4096x512_S16x4096x1x512_0_1_3 (shapeCast _ (extf .f32 B bitsLt_bf16_f32) shapeCasts_S65536x512_S16x4096x512))⟩] concatenates_S16x4096x1x512_S16x4096x1x512_S16x4096x2x512_d2
/-- The branches' products with their weights. -/
def rProd (b : FVec F S16x4096x2x512 .f32) (W : FVec F S1x2x512x1024 .f32) : FVec F S16x4096x2x1024 .f32 :=
  transpose S16x4096x2x1024 [2, 3, 0, 1] (Host.dotGeneral dot_S2x512x1024_S16x4096x2x512_S2x1024x16x4096_1_3_2_01_0_2 none (shapeCast _ W shapeCasts_S1x2x512x1024_S2x512x1024) b) transposes_S2x1024x16x4096_S16x4096x2x1024_2_3_0_1
/-- The branches merged under their gates. -/
def rMerged (p : FVec F S16x4096x2x1024 .f32) (G : FVec F S65536x2048 .bf16) : FVec F S16x4096x1024 .f32 :=
  Host.reduceAdd (mulf p (shapeCast _ (extf .f32 G bitsLt_bf16_f32) shapeCasts_S65536x2048_S16x4096x2x1024)) (constant S_ .f32 0x00000000#32) reducesTo_S16x4096x2x1024_S16x4096x1024_d2 h_S_
/-- The tokens after the mixer. -/
def rMixed (X : FVec F S16x4096x1024 .f32) (p : FVec F S16x4096x1024 .f32) (O : FVec F S1x1024x1024 .f32) : FVec F S16x4096x1024 .f32 :=
  addf X (Host.dotGeneral dot_S16x4096x1024_S1024x1024_S16x4096x1024_2_0_01_1_n_n none p (shapeCast _ O shapeCasts_S1x1024x1024_S1024x1024))
/-- The inner columns before the gate. -/
def rIn (n : FVec F S16x4096x1024 .f32) (I : FVec F S1x1024x5632 .f32) : FVec F S16x4096x5632 .f32 :=
  Host.dotGeneral dot_S16x4096x1024_S1024x5632_S16x4096x5632_2_0_01_1_n_n none n (shapeCast _ I shapeCasts_S1x1024x5632_S1024x5632)
/-- The inner columns: one half under its own sigmoid, times the other. -/
def rAct (h : FVec F S16x4096x5632 .f32) : FVec F S16x4096x2816 .f32 :=
  mulf (mulf (extractStridedSlice S16x4096x2816 ![0, 0, 0] h slices_S16x4096x5632_S16x4096x2816_0_0_0) (Host.divf (broadcastInDim S16x4096x2816 ![] bcast_S_S16x4096x2816 (constant S_ .f32 0x3F800000#32)) (addf (broadcastInDim S16x4096x2816 ![] bcast_S_S16x4096x2816 (constant S_ .f32 0x3F800000#32)) (Host.exp (Host.negf (extractStridedSlice S16x4096x2816 ![0, 0, 0] h slices_S16x4096x5632_S16x4096x2816_0_0_0)))))) (extractStridedSlice S16x4096x2816 ![0, 0, 2816] h slices_S16x4096x5632_S16x4096x2816_0_0_2816)
/-- The tokens after the feed-forward layer. -/
def rFed (x1 : FVec F S16x4096x1024 .f32) (a : FVec F S16x4096x2816 .f32) (P : FVec F S1x2816x1024 .f32) : FVec F S16x4096x1024 .f32 :=
  addf x1 (Host.dotGeneral dot_S16x4096x2816_S2816x1024_S16x4096x1024_2_0_01_1_n_n none a (shapeCast _ P shapeCasts_S1x2816x1024_S2816x1024))
variable (X : FVec F S16x4096x1024 .f32) (A B : FVec F S65536x512 .bf16) (G : FVec F S65536x2048 .bf16) (W : FVec F S1x2x512x1024 .f32) (O : FVec F S1x1024x1024 .f32) (Gn : FVec F S1x1024 .f32) (I : FVec F S1x1024x5632 .f32) (P : FVec F S1x2816x1024 .f32) (L : FVec F S1024 .f32)
/-- The reference's tokens after the mixer. -/
def rX1 : FVec F S16x4096x1024 .f32 := rMixed X (rMerged (rProd (rBranch A B) W) G) O
/-- The reference's tokens after the feed-forward layer. -/
def rX2 : FVec F S16x4096x1024 .f32 :=
  rFed (rX1 X A B G W O) (rAct (rIn (rNorm (rX1 X A B G W O) (shapeCast _ Gn shapeCasts_S1x1024_S1024)) I)) P
/-- The reference's result. -/
def rOut : FVec F S65536x1024 .f32 :=
  shapeCast _ (rNorm (rX2 X A B G W O Gn I P) L) shapeCasts_S16x4096x1024_S65536x1024

/-- The reference ends with its stages' result. -/
theorem res_stages (m : (ℓ : Loc nD τ sig) → Buf (Elt F) ℓ) (c : Dev nD) :
    Cert.MixffnRefIdeal.Value.res_main_v53 m c = rOut (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) := by
  unfold Cert.MixffnRefIdeal.Value.res_main_v53
  rfl
end

/-- A norm at an entry. -/
theorem rNorm_apply (v : FVec Ideal S16x4096x1024 .f32) (g : FVec Ideal S1024 .f32) (b : Fin 16) (s : Fin 4096) (d : Fin 1024) :
    rNorm v g (ix3 b s d) = norm (fun d => v (ix3 b s d)) (fun d => g (ix1 d)) d := by
  pointwise [rNorm]
  rfl
/-- The first branch at an entry. -/
theorem rBranch_a (A B : FVec Ideal S65536x512 .bf16) (b : Fin 16) (s : Fin 4096) (j : Fin 512) (w : Fin 65536) (hw : w.val = 4096 * b.val + s.val) :
    rBranch A B (ix4 b s 0 j) = A (ix2 w j) := by
  pointwise [rBranch]
  rw [show (⟨b.val * 4096 + s.val, by omega⟩ : Fin 65536) = w from Fin.ext (by simp only []; omega)]
/-- The second branch at an entry. -/
theorem rBranch_b (A B : FVec Ideal S65536x512 .bf16) (b : Fin 16) (s : Fin 4096) (j : Fin 512) (w : Fin 65536) (hw : w.val = 4096 * b.val + s.val) :
    rBranch A B (ix4 b s 1 j) = B (ix2 w j) := by
  pointwise [rBranch]
  rw [show (⟨b.val * 4096 + s.val, by omega⟩ : Fin 65536) = w from Fin.ext (by simp only []; omega)]
/-- A branch's product at an entry. -/
theorem rProd_apply (x : FVec Ideal S16x4096x2x512 .f32) (W : FVec Ideal S1x2x512x1024 .f32) (b : Fin 16) (s : Fin 4096) (n : Fin 2) (d : Fin 1024) :
    rProd x W (ix4 b s n d) = ∑ c : Fin 512, x (ix4 b s n c) * W (ix4 0 n c d) := by
  pointwise [rProd]
  exact Finset.sum_congr rfl fun c _ => mul_comm _ _
/-- The gated merge at an entry. -/
theorem rMerged_apply (p : FVec Ideal S16x4096x2x1024 .f32) (G : FVec Ideal S65536x2048 .bf16) (b : Fin 16) (s : Fin 4096) (d : Fin 1024) (w : Fin 65536) (hw : w.val = 4096 * b.val + s.val) :
    rMerged p G (ix3 b s d) = p (ix4 b s 0 d) * G (ix2 w ⟨d.val, by omega⟩) + p (ix4 b s 1 d) * G (ix2 w ⟨1024 + d.val, by omega⟩) := by
  pointwise [rMerged]
  rw [Fin.sum_univ_two]
  refine congrArg₂ (· + ·) (congrArg (p _ * ·) (congrArg₂ (fun a b => G (ix2 a b)) (Fin.ext ?_) (Fin.ext ?_))) (congrArg (p _ * ·) (congrArg₂ (fun a b => G (ix2 a b)) (Fin.ext ?_) (Fin.ext ?_)))
  · show b.val * 4096 + s.val = w.val
    omega
  · show 0 * 1024 + d.val = d.val
    omega
  · show b.val * 4096 + s.val = w.val
    omega
  · show 1 * 1024 + d.val = 1024 + d.val
    omega
/-- The row after the mixer, at an entry. -/
theorem rMixed_apply (X p : FVec Ideal S16x4096x1024 .f32) (O : FVec Ideal S1x1024x1024 .f32) (b : Fin 16) (s : Fin 4096) (d : Fin 1024) :
    rMixed X p O (ix3 b s d) = X (ix3 b s d) + ∑ e : Fin 1024, p (ix3 b s e) * O (ix3 0 e d) := by
  pointwise [rMixed]
/-- The first SwiGLU product at an entry. -/
theorem rIn_apply (n : FVec Ideal S16x4096x1024 .f32) (I : FVec Ideal S1x1024x5632 .f32) (b : Fin 16) (s : Fin 4096) (f : Fin 5632) :
    rIn n I (ix3 b s f) = ∑ d : Fin 1024, n (ix3 b s d) * I (ix3 0 d f) := by
  pointwise [rIn]
/-- The activation at an entry. -/
theorem rAct_apply (h : FVec Ideal S16x4096x5632 .f32) (b : Fin 16) (s : Fin 4096) (f : Fin 2816) :
    rAct h (ix3 b s f) = h (ix3 b s ⟨f.val, by omega⟩) * Ideal.div 1 (1 + Ideal.exp (0 - h (ix3 b s ⟨f.val, by omega⟩))) * h (ix3 b s ⟨2816 + f.val, by omega⟩) := by
  pointwise [rAct]
  rw [zero_sub]
/-- The row after the SwiGLU layer, at an entry. -/
theorem rFed_apply (x : FVec Ideal S16x4096x1024 .f32) (a : FVec Ideal S16x4096x2816 .f32) (P : FVec Ideal S1x2816x1024 .f32) (b : Fin 16) (s : Fin 4096) (d : Fin 1024) :
    rFed x a P (ix3 b s d) = x (ix3 b s d) + ∑ f : Fin 2816, a (ix3 b s f) * P (ix3 0 f d) := by
  pointwise [rFed]

/-- The reference's result is the layer of every prompt token. -/
theorem rOut_eq (X : FVec Ideal S16x4096x1024 .f32) (A B : FVec Ideal S65536x512 .bf16) (G : FVec Ideal S65536x2048 .bf16) (W : FVec Ideal S1x2x512x1024 .f32) (O : FVec Ideal S1x1024x1024 .f32) (Gn : FVec Ideal S1x1024 .f32) (I : FVec Ideal S1x1024x5632 .f32) (P : FVec Ideal S1x2816x1024 .f32) (L : FVec Ideal S1024 .f32) :
    rOut X A B G W O Gn I P L = layers X A B G (weightsA W O Gn I P L) := by
  funext i
  obtain ⟨w, d, rfl⟩ : ∃ (w : Fin 65536) (d : Fin 1024), i = ix2 w d := ⟨i 0, i 1, eq_ix2 i⟩
  have hw : w.val = 4096 * (w.val / 4096) + w.val % 4096 := (Nat.div_add_mod _ _).symm
  have e0 : rOut X A B G W O Gn I P L (ix2 w d) = rNorm (rX2 X A B G W O Gn I P) L (ix3 ⟨w.val / 4096, by omega⟩ ⟨w.val % 4096, by omega⟩ d) := by
    pointwise [rOut]
  have e1 : ∀ d, rX1 X A B G W O (ix3 ⟨w.val / 4096, by omega⟩ ⟨w.val % 4096, by omega⟩ d) = mixed (rowA X A B G w) (weightsA W O Gn I P L) d := fun d => by
    unfold rX1
    rw [rMixed_apply]
    refine congrArg₂ (· + ·) rfl (Finset.sum_congr rfl fun e _ => congrArg (· * _) ?_)
    rw [rMerged_apply _ _ _ _ _ w hw, rProd_apply, rProd_apply]
    unfold merged
    refine congrArg₂ (· + ·) (congrArg (· * _) (Finset.sum_congr rfl fun j _ => congrArg (· * _) ?_)) (congrArg (· * _) (Finset.sum_congr rfl fun j _ => congrArg (· * _) ?_))
    · exact rBranch_a A B _ _ j w hw
    · exact rBranch_b A B _ _ j w hw
  have e2 : ∀ d, rX2 X A B G W O Gn I P (ix3 ⟨w.val / 4096, by omega⟩ ⟨w.val % 4096, by omega⟩ d) = fed (rowA X A B G w) (weightsA W O Gn I P L) d := fun d => by
    have ei : ∀ f, rIn (rNorm (rX1 X A B G W O) (shapeCast _ Gn shapeCasts_S1x1024_S1024)) I (ix3 ⟨w.val / 4096, by omega⟩ ⟨w.val % 4096, by omega⟩ f)
        = ∑ d, norm (mixed (rowA X A B G w) (weightsA W O Gn I P L)) (weightsA W O Gn I P L).gain d * (weightsA W O Gn I P L).ffi d f := fun f => by
      rw [rIn_apply]
      refine Finset.sum_congr rfl fun d _ => congrArg (· * _) ?_
      rw [rNorm_apply, funext e1]
      congr 1
      funext d
      pointwise
      rfl
    unfold rX2
    rw [rFed_apply, e1]
    refine congrArg₂ (· + ·) rfl (Finset.sum_congr rfl fun f _ => congrArg (· * _) ?_)
    rw [rAct_apply, ei, ei]
    rfl
  rw [e0, rNorm_apply, funext e2]
  rfl

end Cert.MixProof
-- ==== Proof.MixClaim.lean ====
/- The claims about the merge and feed-forward layer of the prompt. -/
module
public import proofs.«01_k».proof.Proof.MixRef
public import proofs.«01_k».proof.Defs
public import proofs.«01_k».proof.Proof.Gen.MixffnIdeal.Value
@[expose] public section
set_option maxRecDepth 16384
noncomputable section
namespace Cert.MixProof
open Idealize.ShloMosaic Idealize.ShloMosaic.TcCoe Idealize.ShloMosaic.Tactic
open Idealize.SL.Sem

/-- The reference leaves its arguments as they were; it declares no semaphore. -/
theorem frame_ref : Cert.quiescent_MixffnRefIdeal := fun m ρ _ =>
  (θ_run Cert.MixffnRefIdeal.defs _ _).mono (fun r h => ⟨fun c => (h c).2, sem_eq_zero_of_no_sems (by decide) r.2⟩)
    (Cert.MixffnRefIdeal.Value.run (F := Ideal) m ρ)

/-- The kernel and the reference end with one array: the layer of every prompt token. -/
theorem mix_equal : Cert.algebraic_MixffnIdeal_MixffnRefIdeal := by
  intro m g m' g' _ ha
  refine ⟨fun c => (Cert.MixffnIdeal.Gen.dats m 0 c).arrAt 10 Cert.MixffnIdeal.cfg0.N, Cert.MixffnIdeal.Value.run_blocks m g, ?_⟩
  refine (θ_run Cert.MixffnRefIdeal.defs _ _).mono (fun r h c => ⟨(h c).1.trans ?_, (h c).2⟩) (Cert.MixffnRefIdeal.Value.run m' g')
  obtain ⟨a0, a1, a2, a3, a4, a5, a6, a7, a8, a9⟩ := ha c
  refine (res_stages m' c).trans (Eq.trans ?_ (array m c).symm)
  refine (rOut_eq _ _ _ _ _ _ _ _ _ _).trans ?_
  rw [show m' (c, Proc.tc.devRef Cert.MixffnRefIdeal.main_arg0) = _ from a0, show m' (c, Proc.tc.devRef Cert.MixffnRefIdeal.main_arg1) = _ from a1,
    show m' (c, Proc.tc.devRef Cert.MixffnRefIdeal.main_arg2) = _ from a2, show m' (c, Proc.tc.devRef Cert.MixffnRefIdeal.main_arg3) = _ from a3,
    show m' (c, Proc.tc.devRef Cert.MixffnRefIdeal.main_arg4) = _ from a4, show m' (c, Proc.tc.devRef Cert.MixffnRefIdeal.main_arg5) = _ from a5,
    show m' (c, Proc.tc.devRef Cert.MixffnRefIdeal.main_arg6) = _ from a6, show m' (c, Proc.tc.devRef Cert.MixffnRefIdeal.main_arg7) = _ from a7,
    show m' (c, Proc.tc.devRef Cert.MixffnRefIdeal.main_arg8) = _ from a8, show m' (c, Proc.tc.devRef Cert.MixffnRefIdeal.main_arg9) = _ from a9]

end Cert.MixProof
-- ==== Proof.InSOut.lean ====
/- The arrays the in-projection kernel leaves: the in-projection of every sample token. -/
module
public import Idealize.ShloMosaic.Lib.Pipeline.ReadBack
public import Idealize.ShloMosaic.Lib.Pipeline.ValueKit
public import proofs.«01_k».proof.Proof.InOut
public import proofs.«01_k».proof.Proof.Gen.InprojSIdeal.Value
@[expose] public section
set_option maxRecDepth 16384
noncomputable section
namespace Cert.InSProof
open Idealize.ShloMosaic Idealize.ShloMosaic.TcCoe Idealize.ShloMosaic.Tactic
open Cert.InprojSIdeal Cert.InprojSIdeal.Gen Idealize.SL.Sem Cert.InProof

section
variable {F : FTy → Type} [FloatOps F] (x0 : Vec F S512x1024 .f32) (x1 : Vec F S1x1024 .f32) (x2 : Vec F S1024x4096 .bf16) (x3 : Vec F S1024x128 .bf16) (x4 : Vec F S1024x2048 .bf16) (x5 : Vec F S1x128 .f32) (x6 : Vec F S1x128 .f32)
/-- Output 7 is computed as for the prompt batch. -/
theorem same7 : out0_7 x0 x1 x2 x3 x4 x5 x6 = Cert.InprojIdeal.Gen.out0_7 x0 x1 x2 x3 x4 x5 x6 := rfl
/-- Output 8 is computed as for the prompt batch. -/
theorem same8 : out0_8 x0 x1 x2 x3 x4 x5 x6 = Cert.InprojIdeal.Gen.out0_8 x0 x1 x2 x3 x4 x5 x6 := rfl
/-- Output 9 is computed as for the prompt batch. -/
theorem same9 : out0_9 x0 x1 x2 x3 x4 x5 x6 = Cert.InprojIdeal.Gen.out0_9 x0 x1 x2 x3 x4 x5 x6 := rfl
/-- Output 10 is computed as for the prompt batch. -/
theorem same10 : out0_10 x0 x1 x2 x3 x4 x5 x6 = Cert.InprojIdeal.Gen.out0_10 x0 x1 x2 x3 x4 x5 x6 := rfl
/-- Output 11 is computed as for the prompt batch. -/
theorem same11 : out0_11 x0 x1 x2 x3 x4 x5 x6 = Cert.InprojIdeal.Gen.out0_11 x0 x1 x2 x3 x4 x5 x6 := rfl
/-- Output 12 is computed as for the prompt batch. -/
theorem same12 : out0_12 x0 x1 x2 x3 x4 x5 x6 = Cert.InprojIdeal.Gen.out0_12 x0 x1 x2 x3 x4 x5 x6 := rfl
end

section
variable {x0 : Vec Ideal S512x1024 .f32} {x1 : Vec Ideal S1x1024 .f32} {x2 : Vec Ideal S1024x4096 .bf16} {x3 : Vec Ideal S1024x128 .bf16} {x4 : Vec Ideal S1024x2048 .bf16} {x5 : Vec Ideal S1x128 .f32} {x6 : Vec Ideal S1x128 .f32} {Z : Fin 512 → Fin 1024 → EReal} {p : Par} (R : Reads x0 x1 x2 x3 x4 x5 x6 Z p)
include R
/-- The keys' block at an entry. -/
theorem outk_apply (r j : Fin 512) : out0_13 x0 x1 x2 x3 x4 x5 x6 (ix2 r j) = col (Z r) p ⟨2560 + j.val, by omega⟩ := by
  unfold out0_13
  rw [View.canon_unit_zero (by funext a; fin_cases a <;> rfl)]
  exact k_apply R r j
/-- The values' block at an entry. -/
theorem outv_apply (r j : Fin 512) : out0_14 x0 x1 x2 x3 x4 x5 x6 (ix2 r j) = col (Z r) p ⟨3072 + j.val, by omega⟩ := by
  unfold out0_14
  rw [View.canon_unit_zero (by funext a; fin_cases a <;> rfl)]
  exact v_apply R r j
end

/-- Token `w`'s row, read from the sample array. -/
def row (X : Vec Ideal S128x8x1024 .f32) (w : Fin 1024) : Fin 1024 → EReal := fun d => X (ix3 ⟨w.val / 8, by omega⟩ ⟨w.val % 8, by omega⟩ d)

variable (m : (ℓ : Loc nD τ sig) → Buf (Elt Ideal) ℓ)
/-- Where window 1 lies at a point. -/
theorem idx1 : ∀ t, win0_1.index t = ![0, 0] := by decide +kernel
/-- Where window 2 lies at a point. -/
theorem idx2 : ∀ t, win0_2.index t = ![0, 0] := by decide +kernel
/-- Where window 3 lies at a point. -/
theorem idx3 : ∀ t, win0_3.index t = ![0, 0] := by decide +kernel
/-- Where window 4 lies at a point. -/
theorem idx4 : ∀ t, win0_4.index t = ![0, 0] := by decide +kernel
/-- Where window 5 lies at a point. -/
theorem idx5 : ∀ t, win0_5.index t = ![0, 0] := by decide +kernel
/-- Where window 6 lies at a point. -/
theorem idx6 : ∀ t, win0_6.index t = ![0, 0] := by decide +kernel
/-- Where window 0 lies at a point. -/
theorem idx0 : ∀ t, win0_0.index t = ![t.val, 0] := by decide +kernel
/-- Where window 7 lies at a point. -/
theorem idx7 : ∀ t, win0_7.index t = ![t.val, 0] := by decide +kernel
/-- Where window 8 lies at a point. -/
theorem idx8 : ∀ t, win0_8.index t = ![t.val, 0] := by decide +kernel
/-- Where window 9 lies at a point. -/
theorem idx9 : ∀ t, win0_9.index t = ![t.val, 0] := by decide +kernel
/-- Where window 10 lies at a point. -/
theorem idx10 : ∀ t, win0_10.index t = ![t.val, 0] := by decide +kernel
/-- Where window 11 lies at a point. -/
theorem idx11 : ∀ t, win0_11.index t = ![t.val, 0] := by decide +kernel
/-- Where window 12 lies at a point. -/
theorem idx12 : ∀ t, win0_12.index t = ![t.val, 0] := by decide +kernel
/-- Where window 13 lies at a point. -/
theorem idx13 : ∀ t, win0_13.index t = ![t.val, 0] := by decide +kernel
/-- Where window 14 lies at a point. -/
theorem idx14 : ∀ t, win0_14.index t = ![t.val, 0] := by decide +kernel
/-- Window 0 at an entry, from the arguments. -/
theorem rd0 (c : Dev nD) (t : Fin cfg0.N) (r : Fin 512) (d : Fin 1024) (b : Fin 128) (s : Fin 8) (h : 8 * b.val + s.val = 512 * t.val + r.val) :
    iblk m c 0 t (ix2 r d) = m (c, Proc.tc.devRef main_arg0) (ix3 b s d) := by
  refine Eq.trans (b := V m c main_v0 (ix2 ⟨8 * b.val + s.val, by omega⟩ d)) ?_ ?_
  · blk_ext [iblk, idx0 t]
  · unfold V
    simp only [hostOps0, hostOps0_1, hostOps0_2, hostOps0_3, hostOps0_4, hostOps0_5, hostOps0_6, List.flatten_cons, List.flatten_nil, List.append_nil, List.cons_append, List.nil_append]
    after_results_simp
    pointwise
/-- Window 1 at an entry, from the arguments. -/
theorem rd1 (c : Dev nD) (t : Fin cfg0.N) (d : Fin 1024) :
    iblk m c 1 t (ix2 0 d) = m (c, Proc.tc.devRef main_arg1) (ix2 0 d) := by
  refine Eq.trans (b := V m c main_v12 (ix2 0 d)) ?_ ?_
  · blk_ext [iblk, idx1 t]
  · unfold V
    simp only [hostOps0, hostOps0_1, hostOps0_2, hostOps0_3, hostOps0_4, hostOps0_5, hostOps0_6, List.flatten_cons, List.flatten_nil, List.append_nil, List.cons_append, List.nil_append]
    after_results_simp
    pointwise
/-- Window 2 at an entry, from the arguments. -/
theorem rd2 (c : Dev nD) (t : Fin cfg0.N) (d : Fin 1024) (j : Fin 4096) :
    iblk m c 2 t (ix2 d j) = m (c, Proc.tc.devRef main_arg2) (ix3 0 d ⟨j.val, by omega⟩) := by
  refine Eq.trans (b := V m c main_v3 (ix2 d j)) ?_ ?_
  · blk_ext [iblk, idx2 t]
  · unfold V
    simp only [hostOps0, hostOps0_1, hostOps0_2, hostOps0_3, hostOps0_4, hostOps0_5, hostOps0_6, List.flatten_cons, List.flatten_nil, List.append_nil, List.cons_append, List.nil_append]
    after_results_simp
    pointwise
/-- Window 3 at an entry, from the arguments. -/
theorem rd3 (c : Dev nD) (t : Fin cfg0.N) (d : Fin 1024) (j : Fin 72) :
    iblk m c 3 t (ix2 d ⟨j.val, by omega⟩) = m (c, Proc.tc.devRef main_arg2) (ix3 0 d ⟨4096 + j.val, by omega⟩) := by
  refine Eq.trans (b := V m c main_v7 (ix2 d ⟨j.val, by omega⟩)) ?_ ?_
  · blk_ext [iblk, idx3 t]
  · unfold V
    simp only [hostOps0, hostOps0_1, hostOps0_2, hostOps0_3, hostOps0_4, hostOps0_5, hostOps0_6, List.flatten_cons, List.flatten_nil, List.append_nil, List.cons_append, List.nil_append]
    after_results_simp
    pointwise
    refine Eq.trans (b := pad S1024x128 ![0, 0] ![0, 56] ![0, 0] (fun i : S1024x72.Idx => m (c, Proc.tc.devRef main_arg2) (ix3 0 (i 0) ⟨4096 + (i 1).val, Nat.lt_trans (Nat.add_lt_add_left (i 1).isLt 4096) (by decide)⟩)) (sitofp (F := Ideal) .f32 (constantI S_ 32 0#32)) pads_S1024x72_S1024x128_000_0560 h_S_ (ix2 d ⟨j.val, by omega⟩)) rfl ?_
    pointwise
/-- Window 4 at an entry, from the arguments. -/
theorem rd4 (c : Dev nD) (t : Fin cfg0.N) (d : Fin 1024) (j : Fin 2048) :
    iblk m c 4 t (ix2 d j) = m (c, Proc.tc.devRef main_arg2) (ix3 0 d ⟨4168 + j.val, by omega⟩) := by
  refine Eq.trans (b := V m c main_v10 (ix2 d j)) ?_ ?_
  · blk_ext [iblk, idx4 t]
  · unfold V
    simp only [hostOps0, hostOps0_1, hostOps0_2, hostOps0_3, hostOps0_4, hostOps0_5, hostOps0_6, List.flatten_cons, List.flatten_nil, List.append_nil, List.cons_append, List.nil_append]
    after_results_simp
    pointwise
/-- Window 5 at an entry, from the arguments. -/
theorem rd5 (c : Dev nD) (t : Fin cfg0.N) (j : Fin 64) :
    iblk m c 5 t (ix2 0 ⟨j.val, by omega⟩) = m (c, Proc.tc.devRef main_arg3) (ix2 0 j) := by
  refine Eq.trans (b := V m c main_v15 (ix2 0 ⟨j.val, by omega⟩)) ?_ ?_
  · blk_ext [iblk, idx5 t]
  · unfold V
    simp only [hostOps0, hostOps0_1, hostOps0_2, hostOps0_3, hostOps0_4, hostOps0_5, hostOps0_6, List.flatten_cons, List.flatten_nil, List.append_nil, List.cons_append, List.nil_append]
    after_results_simp
    pointwise
    refine Eq.trans (b := pad S128 ![0] ![64] ![0] (fun i : S64.Idx => m (c, Proc.tc.devRef main_arg3) (ix2 0 (i 0))) (sitofp (F := Ideal) .f32 (constantI S_ 32 0#32)) pads_S64_S128_0640 h_S_ (ix1 ⟨j.val, by omega⟩)) rfl ?_
    pointwise
/-- Window 6 at an entry, from the arguments. -/
theorem rd6 (c : Dev nD) (t : Fin cfg0.N) (j : Fin 64) :
    iblk m c 6 t (ix2 0 ⟨j.val, by omega⟩) = m (c, Proc.tc.devRef main_arg4) (ix2 0 j) := by
  refine Eq.trans (b := V m c main_v18 (ix2 0 ⟨j.val, by omega⟩)) ?_ ?_
  · blk_ext [iblk, idx6 t]
  · unfold V
    simp only [hostOps0, hostOps0_1, hostOps0_2, hostOps0_3, hostOps0_4, hostOps0_5, hostOps0_6, List.flatten_cons, List.flatten_nil, List.append_nil, List.cons_append, List.nil_append]
    after_results_simp
    pointwise
    refine Eq.trans (b := pad S128 ![0] ![64] ![0] (fun i : S64.Idx => m (c, Proc.tc.devRef main_arg4) (ix2 0 (i 0))) (sitofp (F := Ideal) .f32 (constantI S_ 32 0#32)) pads_S64_S128_0640 h_S_ (ix1 ⟨j.val, by omega⟩)) rfl ?_
    pointwise

/-- A block's row is a row of the array. -/
theorem ltN (t : Fin cfg0.N) (r : Fin 512) : 512 * t.val + r.val < 1024 := by
  have h : t.val < 2 := t.isLt
  omega
/-- A point's blocks hold its tokens' rows and the parameters. -/
theorem reads (c : Dev nD) (t : Fin cfg0.N) : Reads (iblk m c 0 t) (iblk m c 1 t) (iblk m c 2 t) (iblk m c 3 t) (iblk m c 4 t) (iblk m c 5 t) (iblk m c 6 t) (fun r => row (m (c, Proc.tc.devRef main_arg0)) ⟨512 * t.val + r.val, ltN t r⟩) (parA (m (c, Proc.tc.devRef main_arg1)) (m (c, Proc.tc.devRef main_arg2)) (m (c, Proc.tc.devRef main_arg3)) (m (c, Proc.tc.devRef main_arg4))) where
  hx r d := rd0 m c t r d _ _ (Nat.div_add_mod (512 * t.val + r.val) 8)
  hg d := rd1 m c t d
  hm d j := rd2 m c t d j
  hs d j := rd3 m c t d j
  hG d j := rd4 m c t d j
  hk j := rd5 m c t j
  hb j := rd6 m c t j

/-- The recurrence's columns. -/
theorem array7 (c : Dev nD) : (dats m 0 c).arrAt 7 cfg0.N = fun i : S1024x2048.Idx => colAt (row (m (c, Proc.tc.devRef main_arg0)) (i 0)) (parA (m (c, Proc.tc.devRef main_arg1)) (m (c, Proc.tc.devRef main_arg2)) (m (c, Proc.tc.devRef main_arg3)) (m (c, Proc.tc.devRef main_arg4))) 0 (i 1) := by
  refine (dats m 0 c).arrAt_eq_of_covers 7 _ (by decide +kernel) fun t hf y => ?_
  blk_simp
  rw [after0_7, same7]
  obtain ⟨r, j, rfl⟩ : ∃ (r : Fin 512) (j : Fin 2048), y = ix2 r j := ⟨y 0, y 1, eq_ix2 y⟩
  rw [show (win0_7.blk t).view.emb (ix2 r j) = ix2 (⟨512 * t.val + r.val, ltN t r⟩ : Fin 1024) j by blk_ext [idx7 t]]
  exact (out7_apply (reads m c t) r j).trans (colAt_of _ _ _ _ _ (Nat.zero_add _).symm)
/-- The queries' columns. -/
theorem array8 (c : Dev nD) : (dats m 0 c).arrAt 8 cfg0.N = fun i : S1024x512.Idx => colAt (row (m (c, Proc.tc.devRef main_arg0)) (i 0)) (parA (m (c, Proc.tc.devRef main_arg1)) (m (c, Proc.tc.devRef main_arg2)) (m (c, Proc.tc.devRef main_arg3)) (m (c, Proc.tc.devRef main_arg4))) 2048 (i 1) := by
  refine (dats m 0 c).arrAt_eq_of_covers 8 _ (by decide +kernel) fun t hf y => ?_
  blk_simp
  rw [after0_8, same8]
  obtain ⟨r, j, rfl⟩ : ∃ (r : Fin 512) (j : Fin 512), y = ix2 r j := ⟨y 0, y 1, eq_ix2 y⟩
  rw [show (win0_8.blk t).view.emb (ix2 r j) = ix2 (⟨512 * t.val + r.val, ltN t r⟩ : Fin 1024) j by blk_ext [idx8 t]]
  exact (out8_apply (reads m c t) r j).trans (colAt_of _ _ _ _ _ rfl)
/-- The values' columns. -/
theorem array9 (c : Dev nD) : (dats m 0 c).arrAt 9 cfg0.N = fun i : S1024x512.Idx => colAt (row (m (c, Proc.tc.devRef main_arg0)) (i 0)) (parA (m (c, Proc.tc.devRef main_arg1)) (m (c, Proc.tc.devRef main_arg2)) (m (c, Proc.tc.devRef main_arg3)) (m (c, Proc.tc.devRef main_arg4))) 3072 (i 1) := by
  refine (dats m 0 c).arrAt_eq_of_covers 9 _ (by decide +kernel) fun t hf y => ?_
  blk_simp
  rw [after0_9, same9]
  obtain ⟨r, j, rfl⟩ : ∃ (r : Fin 512) (j : Fin 512), y = ix2 r j := ⟨y 0, y 1, eq_ix2 y⟩
  rw [show (win0_9.blk t).view.emb (ix2 r j) = ix2 (⟨512 * t.val + r.val, ltN t r⟩ : Fin 1024) j by blk_ext [idx9 t]]
  exact (out9_apply (reads m c t) r j).trans (colAt_of _ _ _ _ _ rfl)
/-- The indexer queries' columns. -/
theorem array10 (c : Dev nD) : (dats m 0 c).arrAt 10 cfg0.N = fun i : S1024x512.Idx => colAt (row (m (c, Proc.tc.devRef main_arg0)) (i 0)) (parA (m (c, Proc.tc.devRef main_arg1)) (m (c, Proc.tc.devRef main_arg2)) (m (c, Proc.tc.devRef main_arg3)) (m (c, Proc.tc.devRef main_arg4))) 3584 (i 1) := by
  refine (dats m 0 c).arrAt_eq_of_covers 10 _ (by decide +kernel) fun t hf y => ?_
  blk_simp
  rw [after0_10, same10]
  obtain ⟨r, j, rfl⟩ : ∃ (r : Fin 512) (j : Fin 512), y = ix2 r j := ⟨y 0, y 1, eq_ix2 y⟩
  rw [show (win0_10.blk t).view.emb (ix2 r j) = ix2 (⟨512 * t.val + r.val, ltN t r⟩ : Fin 1024) j by blk_ext [idx10 t]]
  exact (out10_apply (reads m c t) r j).trans (colAt_of _ _ _ _ _ rfl)
/-- The indexer's keys and head weights. -/
theorem array11 (c : Dev nD) : (dats m 0 c).arrAt 11 cfg0.N = fun i : S1024x128.Idx => small (row (m (c, Proc.tc.devRef main_arg0)) (i 0)) (parA (m (c, Proc.tc.devRef main_arg1)) (m (c, Proc.tc.devRef main_arg2)) (m (c, Proc.tc.devRef main_arg3)) (m (c, Proc.tc.devRef main_arg4))) (i 1) := by
  refine (dats m 0 c).arrAt_eq_of_covers 11 _ (by decide +kernel) fun t hf y => ?_
  blk_simp
  rw [after0_11, same11]
  obtain ⟨r, j, rfl⟩ : ∃ (r : Fin 512) (j : Fin 128), y = ix2 r j := ⟨y 0, y 1, eq_ix2 y⟩
  rw [show (win0_11.blk t).view.emb (ix2 r j) = ix2 (⟨512 * t.val + r.val, ltN t r⟩ : Fin 1024) j by blk_ext [idx11 t]]
  exact (out11_apply (reads m c t) r j)
/-- The merge gates. -/
theorem array12 (c : Dev nD) : (dats m 0 c).arrAt 12 cfg0.N = fun i : S1024x2048.Idx => gate (row (m (c, Proc.tc.devRef main_arg0)) (i 0)) (parA (m (c, Proc.tc.devRef main_arg1)) (m (c, Proc.tc.devRef main_arg2)) (m (c, Proc.tc.devRef main_arg3)) (m (c, Proc.tc.devRef main_arg4))) (i 1) := by
  refine (dats m 0 c).arrAt_eq_of_covers 12 _ (by decide +kernel) fun t hf y => ?_
  blk_simp
  rw [after0_12, same12]
  obtain ⟨r, j, rfl⟩ : ∃ (r : Fin 512) (j : Fin 2048), y = ix2 r j := ⟨y 0, y 1, eq_ix2 y⟩
  rw [show (win0_12.blk t).view.emb (ix2 r j) = ix2 (⟨512 * t.val + r.val, ltN t r⟩ : Fin 1024) j by blk_ext [idx12 t]]
  exact (out12_apply (reads m c t) r j)
/-- The keys' columns. -/
theorem array13 (c : Dev nD) : (dats m 0 c).arrAt 13 cfg0.N = fun i : S1024x512.Idx => colAt (row (m (c, Proc.tc.devRef main_arg0)) (i 0)) (parA (m (c, Proc.tc.devRef main_arg1)) (m (c, Proc.tc.devRef main_arg2)) (m (c, Proc.tc.devRef main_arg3)) (m (c, Proc.tc.devRef main_arg4))) 2560 (i 1) := by
  refine (dats m 0 c).arrAt_eq_of_covers 13 _ (by decide +kernel) fun t hf y => ?_
  blk_simp
  rw [after0_13]
  obtain ⟨r, j, rfl⟩ : ∃ (r : Fin 512) (j : Fin 512), y = ix2 r j := ⟨y 0, y 1, eq_ix2 y⟩
  rw [show (win0_13.blk t).view.emb (ix2 r j) = ix2 (⟨512 * t.val + r.val, ltN t r⟩ : Fin 1024) j by blk_ext [idx13 t]]
  exact (outk_apply (reads m c t) r j).trans (colAt_of _ _ _ _ _ rfl)
/-- The values' columns, wide. -/
theorem array14 (c : Dev nD) : (dats m 0 c).arrAt 14 cfg0.N = fun i : S1024x512.Idx => colAt (row (m (c, Proc.tc.devRef main_arg0)) (i 0)) (parA (m (c, Proc.tc.devRef main_arg1)) (m (c, Proc.tc.devRef main_arg2)) (m (c, Proc.tc.devRef main_arg3)) (m (c, Proc.tc.devRef main_arg4))) 3072 (i 1) := by
  refine (dats m 0 c).arrAt_eq_of_covers 14 _ (by decide +kernel) fun t hf y => ?_
  blk_simp
  rw [after0_14]
  obtain ⟨r, j, rfl⟩ : ∃ (r : Fin 512) (j : Fin 512), y = ix2 r j := ⟨y 0, y 1, eq_ix2 y⟩
  rw [show (win0_14.blk t).view.emb (ix2 r j) = ix2 (⟨512 * t.val + r.val, ltN t r⟩ : Fin 1024) j by blk_ext [idx14 t]]
  exact (outv_apply (reads m c t) r j).trans (colAt_of _ _ _ _ _ rfl)

end Cert.InSProof
-- ==== Proof.InSRef.lean ====
/- The in-projection reference of the sample tokens, in stages, and its entries. -/
module
public import proofs.«01_k».proof.Proof.InSOut
public import proofs.«01_k».proof.Proof.Gen.InprojSRefIdeal.Run
@[expose] public section
set_option maxRecDepth 16384
noncomputable section
namespace Cert.InSProof
open Idealize.ShloMosaic Idealize.ShloMosaic.TcCoe Idealize.ShloMosaic.Tactic
open Cert.InprojSRefIdeal Cert.InprojSRefIdeal.Gen Idealize.SL.Sem Cert.InProof

open Cert.MixProof (norm)
open scoped BigOperators

section
variable {F : FTy → Type} [FloatOps F]
/-- The projected columns of every token. -/
def rH (X : FVec F S128x8x1024 .f32) (N : FVec F S1x1024 .f32) (W : FVec F S1x1024x6216 .f32) : FVec F S1024x6216 .f32 :=
  Host.dotGeneral dot_S1024x1024_S1024x6216_S1024x6216_1_0_0_1_n_n none (mulf (mulf (shapeCast _ X shapeCasts_S128x8x1024_S1024x1024) (broadcastInDim S1024x1024 ![0, 1] bcast_S1024x1_S1024x1024_0_1 (Host.rsqrt (addf (Host.divf (broadcastInDim S1024x1 ![0] bcast_S1024_S1024x1_0 (Host.reduceAdd (mulf (shapeCast _ X shapeCasts_S128x8x1024_S1024x1024) (shapeCast _ X shapeCasts_S128x8x1024_S1024x1024)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 (shapeCast _ N shapeCasts_S1x1024_S1024)))) (shapeCast _ W shapeCasts_S1x1024x6216_S1024x6216)
/-- The mean of 64 columns of every token. -/
def rMean (s : FVec F S1024x64 .f32) : FVec F S1024x1 .f32 :=
  Host.divf (broadcastInDim S1024x1 ![0] bcast_S1024_S1024x1_0 (Host.reduceAdd s (constant S_ .f32 0x00000000#32) reducesTo_S1024x64_S1024_d1 h_S_)) (broadcastInDim S1024x1 ![] bcast_S_S1024x1 (constant S_ .f32 0x42800000#32))
/-- 64 columns of every token less their mean. -/
def rLess (s : FVec F S1024x64 .f32) : FVec F S1024x64 .f32 := subf s (broadcastInDim S1024x64 ![0, 1] bcast_S1024x1_S1024x64_0_1 (rMean s))
/-- The layer norm of 64 columns of every token. -/
def rLayerNorm (s : FVec F S1024x64 .f32) (K B : FVec F S1x64 .f32) : FVec F S1024x64 .f32 :=
  addf (mulf (mulf (rLess s) (broadcastInDim S1024x64 ![0, 1] bcast_S1024x1_S1024x64_0_1 (Host.rsqrt (addf (rMean (mulf (rLess s) (rLess s))) (broadcastInDim S1024x1 ![] bcast_S_S1024x1 (constant S_ .f32 0x358637BD#32)))))) (broadcastInDim S1024x64 ![0, 1] bcast_S1x64_S1024x64_0_1 (broadcastInDim S1x64 ![1] bcast_S64_S1x64_1 (shapeCast _ K shapeCasts_S1x64_S64)))) (broadcastInDim S1024x64 ![0, 1] bcast_S1x64_S1024x64_0_1 (broadcastInDim S1x64 ![1] bcast_S64_S1x64_1 (shapeCast _ B shapeCasts_S1x64_S64)))
/-- The indexer's key of every token. -/
def rKey (h : FVec F S1024x6216 .f32) (K B : FVec F S1x64 .f32) : FVec F S1024x64 .f32 :=
  rLayerNorm (extractStridedSlice S1024x64 ![0, 4096] h slices_S1024x6216_S1024x64_0_4096) K B
/-- The indexer's head weights of every token. -/
def rHead (h : FVec F S1024x6216 .f32) : FVec F S1024x8 .f32 :=
  mulf (mulf (extractStridedSlice S1024x8 ![0, 4160] h slices_S1024x6216_S1024x8_0_4160) (broadcastInDim S1024x8 ![] bcast_S_S1024x8 (constant S_ .f32 0x3EB504F3#32))) (broadcastInDim S1024x8 ![] bcast_S_S1024x8 (constant S_ .f32 0x3E000000#32))
/-- Keys and head weights side by side, then zeros. -/
def rSmall (k : FVec F S1024x64 .f32) (h : FVec F S1024x8 .f32) : FVec F S1024x128 .f32 :=
  concatenate S1024x128 1 [⟨S1024x72, (concatenate S1024x72 1 [⟨S1024x64, k⟩, ⟨S1024x8, h⟩] concatenates_S1024x64_S1024x8_S1024x72_d1)⟩, ⟨S1024x56, (broadcastInDim S1024x56 ![] bcast_S_S1024x56 (constant S_ .f32 0x00000000#32))⟩] concatenates_S1024x72_S1024x56_S1024x128_d1
/-- The merge gates of every token. -/
def rGate (h : FVec F S1024x6216 .f32) : FVec F S1024x2048 .bf16 :=
  truncf .bf16 (Host.divf (broadcastInDim S1024x2048 ![] bcast_S_S1024x2048 (constant S_ .f32 0x3F800000#32)) (addf (broadcastInDim S1024x2048 ![] bcast_S_S1024x2048 (constant S_ .f32 0x3F800000#32)) (Host.exp (Host.negf (extractStridedSlice S1024x2048 ![0, 4168] h slices_S1024x6216_S1024x2048_0_4168))))) bitsLt_bf16_f32
variable (m : (ℓ : Loc nD τ sig) → Buf (Elt F) ℓ) (c : Dev nD)
/-- The result of indexer key and head weights, by its stages. -/
theorem stages_small : Cert.InprojSRefIdeal.Value.res_main_v56 m c = rSmall (rKey (rH (m (c, Proc.tc.devRef main_arg0)) (m (c, Proc.tc.devRef main_arg1)) (m (c, Proc.tc.devRef main_arg2))) (m (c, Proc.tc.devRef main_arg3)) (m (c, Proc.tc.devRef main_arg4))) (rHead (rH (m (c, Proc.tc.devRef main_arg0)) (m (c, Proc.tc.devRef main_arg1)) (m (c, Proc.tc.devRef main_arg2)))) := by
  unfold Cert.InprojSRefIdeal.Value.res_main_v56
  rfl
/-- The reference's run, its results by their stages. -/
theorem run_stages (ρ : Dev nD → PrngReg) : θ_run defs (onTc (τ := τ) (main (F := F))) ⟨m, fun _ => 0, ρ⟩ fun r => ∀ c : Dev nD,
      r.2.mem ((c.tc : Thread nD τ).loc main_v57) = extractStridedSlice S1024x2048 ![0, 0] (rH (m (c, Proc.tc.devRef main_arg0)) (m (c, Proc.tc.devRef main_arg1)) (m (c, Proc.tc.devRef main_arg2))) slices_S1024x6216_S1024x2048_0_0
       ∧ r.2.mem ((c.tc : Thread nD τ).loc main_v58) = truncf .bf16 (extractStridedSlice S1024x512 ![0, 2048] (rH (m (c, Proc.tc.devRef main_arg0)) (m (c, Proc.tc.devRef main_arg1)) (m (c, Proc.tc.devRef main_arg2))) slices_S1024x6216_S1024x512_0_2048) bitsLt_bf16_f32
       ∧ r.2.mem ((c.tc : Thread nD τ).loc main_v59) = truncf .bf16 (extractStridedSlice S1024x512 ![0, 3072] (rH (m (c, Proc.tc.devRef main_arg0)) (m (c, Proc.tc.devRef main_arg1)) (m (c, Proc.tc.devRef main_arg2))) slices_S1024x6216_S1024x512_0_3072) bitsLt_bf16_f32
       ∧ r.2.mem ((c.tc : Thread nD τ).loc main_v60) = truncf .bf16 (extractStridedSlice S1024x512 ![0, 3584] (rH (m (c, Proc.tc.devRef main_arg0)) (m (c, Proc.tc.devRef main_arg1)) (m (c, Proc.tc.devRef main_arg2))) slices_S1024x6216_S1024x512_0_3584) bitsLt_bf16_f32
       ∧ r.2.mem ((c.tc : Thread nD τ).loc main_v56) = rSmall (rKey (rH (m (c, Proc.tc.devRef main_arg0)) (m (c, Proc.tc.devRef main_arg1)) (m (c, Proc.tc.devRef main_arg2))) (m (c, Proc.tc.devRef main_arg3)) (m (c, Proc.tc.devRef main_arg4))) (rHead (rH (m (c, Proc.tc.devRef main_arg0)) (m (c, Proc.tc.devRef main_arg1)) (m (c, Proc.tc.devRef main_arg2))))
       ∧ r.2.mem ((c.tc : Thread nD τ).loc main_v67) = rGate (rH (m (c, Proc.tc.devRef main_arg0)) (m (c, Proc.tc.devRef main_arg1)) (m (c, Proc.tc.devRef main_arg2)))
       ∧ r.2.mem ((c.tc : Thread nD τ).loc main_v18) = extractStridedSlice S1024x512 ![0, 2560] (rH (m (c, Proc.tc.devRef main_arg0)) (m (c, Proc.tc.devRef main_arg1)) (m (c, Proc.tc.devRef main_arg2))) slices_S1024x6216_S1024x512_0_2560
       ∧ r.2.mem ((c.tc : Thread nD τ).loc main_v19) = extractStridedSlice S1024x512 ![0, 3072] (rH (m (c, Proc.tc.devRef main_arg0)) (m (c, Proc.tc.devRef main_arg1)) (m (c, Proc.tc.devRef main_arg2))) slices_S1024x6216_S1024x512_0_3072
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  (θ_run defs _ _).mono (fun r h c => ⟨(h c).1, (h c).2.1, (h c).2.2.1, (h c).2.2.2.1, (h c).2.2.2.2.1.trans (stages_small m c), (h c).2.2.2.2.2.1, (h c).2.2.2.2.2.2.1, (h c).2.2.2.2.2.2.2.1, (h c).2.2.2.2.2.2.2.2⟩) (Cert.InprojSRefIdeal.Value.run m ρ)
end

variable (X : Vec Ideal S128x8x1024 .f32) (N : Vec Ideal S1x1024 .f32) (W : Vec Ideal S1x1024x6216 .f32) (K B : Vec Ideal S1x64 .f32)
/-- An entry of the projected columns. -/
theorem rH_apply (w : Fin 1024) (j : Fin 6216) : rH (F := Ideal) X N W (ix2 w j) = col (row X w) (parA N W K B) j := by
  have e : (rH (F := Ideal) X N W (ix2 w j) : EReal) = ∑ d, norm (row X w) (parA N W K B).gain d * W (ix3 0 d j) := by
    pointwise [rH]
    rfl
  exact e
/-- The mean over the key's columns. -/
theorem rMean_apply (s : FVec Ideal S1024x64 .f32) (w : Fin 1024) : rMean s (ix2 w 0) = mean fun j => s (ix2 w j) := by
  pointwise [rMean]
  rfl
/-- A key less its mean. -/
theorem rLess_apply (s : FVec Ideal S1024x64 .f32) (w : Fin 1024) (j : Fin 64) : rLess s (ix2 w j) = less (fun j => s (ix2 w j)) j := by
  refine Eq.trans (b := s (ix2 w j) - rMean s (ix2 w 0)) ?_ (congrArg (s (ix2 w j) - ·) (rMean_apply s w))
  pointwise [rLess]
/-- The indexer key at an entry. -/
theorem rKey_apply (w : Fin 1024) (j : Fin 64) : rKey (rH (F := Ideal) X N W) K B (ix2 w j) = key (row X w) (parA N W K B) j := by
  have hs : ∀ j : Fin 64, extractStridedSlice S1024x64 ![0, 4096] (rH (F := Ideal) X N W) slices_S1024x6216_S1024x64_0_4096 (ix2 w j) = col (row X w) (parA N W K B) ⟨4096 + j.val, by omega⟩ := fun j => by
    rw [← rH_apply X N W K B]
    pointwise
  unfold rKey
  generalize extractStridedSlice S1024x64 ![0, 4096] (rH (F := Ideal) X N W) slices_S1024x6216_S1024x64_0_4096 = s at hs ⊢
  have e : rLayerNorm s K B (ix2 w j) = rLess s (ix2 w j) * Ideal.rsqrt (rMean (mulf (rLess s) (rLess s)) (ix2 w 0) + Ideal.ofBits .f32 0x358637BD#32) * K (ix2 0 j) + B (ix2 0 j) := by
    pointwise [rLayerNorm]
  have hv : (fun j => mulf (rLess s) (rLess s) (ix2 w j)) = fun j => less (fun j => s (ix2 w j)) j * less (fun j => s (ix2 w j)) j := funext fun j => by
    rw [← rLess_apply]
    pointwise
  rw [e, rMean_apply, hv, rLess_apply, funext hs]
  rfl
/-- The head weights at an entry. -/
theorem rHead_apply (w : Fin 1024) (j : Fin 8) : rHead (rH (F := Ideal) X N W) (ix2 w j) = col (row X w) (parA N W K B) ⟨4160 + j.val, by omega⟩ * Ideal.ofBits .f32 0x3EB504F3#32 * Ideal.ofBits .f32 0x3E000000#32 := by
  rw [← rH_apply X N W K B]
  pointwise [rHead]
/-- The result of key and head weights at an entry. -/
theorem rSmall_apply (w : Fin 1024) (j : Fin 128) : rSmall (rKey (rH (F := Ideal) X N W) K B) (rHead (rH (F := Ideal) X N W)) (ix2 w j) = small (row X w) (parA N W K B) j := by
  have hk := rKey_apply X N W K B w
  have hh := rHead_apply X N W K B w
  generalize rKey (rH (F := Ideal) X N W) K B = k at hk ⊢
  generalize rHead (rH (F := Ideal) X N W) = h at hh ⊢
  have e : rSmall k h (ix2 w j) = if h1 : j.val < 64 then k (ix2 w ⟨j.val, h1⟩) else if h2 : j.val < 72 then h (ix2 w ⟨j.val - 64, by omega⟩) else 0 := by
    pointwise [rSmall]
    split_ifs <;> first | rfl | omega
  rw [e]
  unfold small
  split_ifs with h1 h2
  · exact hk _
  · rw [hh]
    refine congrArg (· * _ * _) (congrArg (col _ _) (Fin.ext ?_))
    show 4160 + (j.val - 64) = 4096 + j.val
    omega
  · rfl
/-- The merge gates at an entry. -/
theorem rGate_apply (w : Fin 1024) (j : Fin 2048) : rGate (rH (F := Ideal) X N W) (ix2 w j) = gate (row X w) (parA N W K B) j := by
  unfold gate
  rw [← rH_apply X N W K B]
  pointwise [rGate]
  rw [zero_sub]

end Cert.InSProof
-- ==== Proof.InSClaim.lean ====
/- The claims of the in-projection of the sample tokens. -/
module
public import proofs.«01_k».proof.Proof.InSRef
public import proofs.«01_k».proof.Defs
@[expose] public section
set_option maxRecDepth 16384
noncomputable section
namespace Cert.InSProof
open Idealize.ShloMosaic Idealize.ShloMosaic.TcCoe Idealize.ShloMosaic.Tactic
open Idealize.SL.Sem Cert.InProof

/-- The reference of the in-projection runs to its end and leaves its arguments; it declares no semaphore. -/
theorem frame_ref : Cert.quiescent_InprojSRefIdeal := fun m ρ _ =>
  (θ_run Cert.InprojSRefIdeal.defs _ _).mono (fun r h => ⟨fun c => (h c).2.2.2.2.2.2.2.2, sem_eq_zero_of_no_sems (by decide) r.2⟩)
    (Cert.InprojSRefIdeal.Value.run (F := Ideal) m ρ)

section
open Cert.InprojSRefIdeal Cert.InprojSRefIdeal.Gen
variable (X : Vec Ideal S128x8x1024 .f32) (N : Vec Ideal S1x1024 .f32) (W : Vec Ideal S1x1024x6216 .f32) (K B : Vec Ideal S1x64 .f32)
/-- An entry of the projected columns, by its number among some of them. -/
theorem rH_at (off : ℕ) {n : ℕ} (w : Fin 1024) (j : Fin n) (k : Fin 6216) (h : k.val = off + j.val) : rH (F := Ideal) X N W (ix2 w k) = colAt (row X w) (parA N W K B) off j :=
  (rH_apply X N W K B w k).trans (colAt_of _ _ _ _ _ h)
/-- The recurrence's columns. -/
theorem ref7 : (extractStridedSlice S1024x2048 ![0, 0] (rH (F := Ideal) X N W) slices_S1024x6216_S1024x2048_0_0) = fun i : S1024x2048.Idx => colAt (row X (i 0)) (parA N W K B) 0 (i 1) := by
  funext i
  obtain ⟨w, j, rfl⟩ : ∃ (w : Fin 1024) (j : Fin 2048), i = ix2 w j := ⟨i 0, i 1, eq_ix2 i⟩
  refine Eq.trans ?_ (rH_at X N W K B 0 w j ⟨j.val, by omega⟩ (Nat.zero_add _).symm)
  pointwise
/-- The queries' columns. -/
theorem ref8 : truncf .bf16 (extractStridedSlice S1024x512 ![0, 2048] (rH (F := Ideal) X N W) slices_S1024x6216_S1024x512_0_2048) bitsLt_bf16_f32 = fun i : S1024x512.Idx => colAt (row X (i 0)) (parA N W K B) 2048 (i 1) := by
  funext i
  obtain ⟨w, j, rfl⟩ : ∃ (w : Fin 1024) (j : Fin 512), i = ix2 w j := ⟨i 0, i 1, eq_ix2 i⟩
  refine Eq.trans ?_ (rH_at X N W K B 2048 w j ⟨2048 + j.val, by omega⟩ rfl)
  pointwise
/-- The values' columns. -/
theorem ref9 : truncf .bf16 (extractStridedSlice S1024x512 ![0, 3072] (rH (F := Ideal) X N W) slices_S1024x6216_S1024x512_0_3072) bitsLt_bf16_f32 = fun i : S1024x512.Idx => colAt (row X (i 0)) (parA N W K B) 3072 (i 1) := by
  funext i
  obtain ⟨w, j, rfl⟩ : ∃ (w : Fin 1024) (j : Fin 512), i = ix2 w j := ⟨i 0, i 1, eq_ix2 i⟩
  refine Eq.trans ?_ (rH_at X N W K B 3072 w j ⟨3072 + j.val, by omega⟩ rfl)
  pointwise
/-- The indexer queries' columns. -/
theorem ref10 : truncf .bf16 (extractStridedSlice S1024x512 ![0, 3584] (rH (F := Ideal) X N W) slices_S1024x6216_S1024x512_0_3584) bitsLt_bf16_f32 = fun i : S1024x512.Idx => colAt (row X (i 0)) (parA N W K B) 3584 (i 1) := by
  funext i
  obtain ⟨w, j, rfl⟩ : ∃ (w : Fin 1024) (j : Fin 512), i = ix2 w j := ⟨i 0, i 1, eq_ix2 i⟩
  refine Eq.trans ?_ (rH_at X N W K B 3584 w j ⟨3584 + j.val, by omega⟩ rfl)
  pointwise
/-- The indexer's keys and head weights. -/
theorem ref11 : rSmall (rKey (rH (F := Ideal) X N W) K B) (rHead (rH (F := Ideal) X N W)) = fun i : S1024x128.Idx => small (row X (i 0)) (parA N W K B) (i 1) := by
  funext i
  obtain ⟨w, j, rfl⟩ : ∃ (w : Fin 1024) (j : Fin 128), i = ix2 w j := ⟨i 0, i 1, eq_ix2 i⟩
  exact rSmall_apply X N W K B w j
/-- The merge gates. -/
theorem ref12 : rGate (rH (F := Ideal) X N W) = fun i : S1024x2048.Idx => gate (row X (i 0)) (parA N W K B) (i 1) := by
  funext i
  obtain ⟨w, j, rfl⟩ : ∃ (w : Fin 1024) (j : Fin 2048), i = ix2 w j := ⟨i 0, i 1, eq_ix2 i⟩
  exact rGate_apply X N W K B w j
/-- The keys' columns. -/
theorem ref13 : (extractStridedSlice S1024x512 ![0, 2560] (rH (F := Ideal) X N W) slices_S1024x6216_S1024x512_0_2560) = fun i : S1024x512.Idx => colAt (row X (i 0)) (parA N W K B) 2560 (i 1) := by
  funext i
  obtain ⟨w, j, rfl⟩ : ∃ (w : Fin 1024) (j : Fin 512), i = ix2 w j := ⟨i 0, i 1, eq_ix2 i⟩
  refine Eq.trans ?_ (rH_at X N W K B 2560 w j ⟨2560 + j.val, by omega⟩ rfl)
  pointwise
/-- The values' columns, wide. -/
theorem ref14 : (extractStridedSlice S1024x512 ![0, 3072] (rH (F := Ideal) X N W) slices_S1024x6216_S1024x512_0_3072) = fun i : S1024x512.Idx => colAt (row X (i 0)) (parA N W K B) 3072 (i 1) := by
  funext i
  obtain ⟨w, j, rfl⟩ : ∃ (w : Fin 1024) (j : Fin 512), i = ix2 w j := ⟨i 0, i 1, eq_ix2 i⟩
  refine Eq.trans ?_ (rH_at X N W K B 3072 w j ⟨3072 + j.val, by omega⟩ rfl)
  pointwise
end

set_option maxHeartbeats 4000000 in
/-- The kernel and the reference end with the same arrays: the in-projection of every sample token. -/
theorem in_equal : Cert.algebraic_InprojSIdeal_InprojSRefIdeal := by
  intro m g m' g' _ ha
  refine ⟨fun c => (Cert.InprojSIdeal.Gen.dats m 0 c).arrAt 7 Cert.InprojSIdeal.cfg0.N, fun c => (Cert.InprojSIdeal.Gen.dats m 0 c).arrAt 8 Cert.InprojSIdeal.cfg0.N, fun c => (Cert.InprojSIdeal.Gen.dats m 0 c).arrAt 9 Cert.InprojSIdeal.cfg0.N, fun c => (Cert.InprojSIdeal.Gen.dats m 0 c).arrAt 10 Cert.InprojSIdeal.cfg0.N, fun c => (Cert.InprojSIdeal.Gen.dats m 0 c).arrAt 11 Cert.InprojSIdeal.cfg0.N, fun c => (Cert.InprojSIdeal.Gen.dats m 0 c).arrAt 12 Cert.InprojSIdeal.cfg0.N, fun c => (Cert.InprojSIdeal.Gen.dats m 0 c).arrAt 13 Cert.InprojSIdeal.cfg0.N, fun c => (Cert.InprojSIdeal.Gen.dats m 0 c).arrAt 14 Cert.InprojSIdeal.cfg0.N, Cert.InprojSIdeal.Value.run_blocks m g, ?_⟩
  refine (θ_run Cert.InprojSRefIdeal.defs _ _).mono (fun r h c => ?_) (run_stages m' g')
  obtain ⟨a0, a1, a2, a3, a4⟩ := ha c
  replace a0 : m' (c, Proc.tc.devRef Cert.InprojSRefIdeal.main_arg0) = _ := a0
  replace a1 : m' (c, Proc.tc.devRef Cert.InprojSRefIdeal.main_arg1) = _ := a1
  replace a2 : m' (c, Proc.tc.devRef Cert.InprojSRefIdeal.main_arg2) = _ := a2
  replace a3 : m' (c, Proc.tc.devRef Cert.InprojSRefIdeal.main_arg3) = _ := a3
  replace a4 : m' (c, Proc.tc.devRef Cert.InprojSRefIdeal.main_arg4) = _ := a4
  obtain ⟨h7, h8, h9, h10, h11, h12, h13, h14, hargs⟩ := h c
  refine ⟨?_, ?_, ?_, ?_, ?_, ?_, ?_, ?_, ?_⟩
  rotate_left 8
  · exact hargs
  · refine h7.trans ?_
    refine (ref7 (m' (c, Proc.tc.devRef Cert.InprojSRefIdeal.main_arg0)) (m' (c, Proc.tc.devRef Cert.InprojSRefIdeal.main_arg1)) (m' (c, Proc.tc.devRef Cert.InprojSRefIdeal.main_arg2)) (m' (c, Proc.tc.devRef Cert.InprojSRefIdeal.main_arg3)) (m' (c, Proc.tc.devRef Cert.InprojSRefIdeal.main_arg4))).trans (Eq.trans ?_ (array7 m c).symm)
    rw [a0, a1, a2, a3, a4]
  · refine h8.trans ?_
    refine (ref8 (m' (c, Proc.tc.devRef Cert.InprojSRefIdeal.main_arg0)) (m' (c, Proc.tc.devRef Cert.InprojSRefIdeal.main_arg1)) (m' (c, Proc.tc.devRef Cert.InprojSRefIdeal.main_arg2)) (m' (c, Proc.tc.devRef Cert.InprojSRefIdeal.main_arg3)) (m' (c, Proc.tc.devRef Cert.InprojSRefIdeal.main_arg4))).trans (Eq.trans ?_ (array8 m c).symm)
    rw [a0, a1, a2, a3, a4]
  · refine h9.trans ?_
    refine (ref9 (m' (c, Proc.tc.devRef Cert.InprojSRefIdeal.main_arg0)) (m' (c, Proc.tc.devRef Cert.InprojSRefIdeal.main_arg1)) (m' (c, Proc.tc.devRef Cert.InprojSRefIdeal.main_arg2)) (m' (c, Proc.tc.devRef Cert.InprojSRefIdeal.main_arg3)) (m' (c, Proc.tc.devRef Cert.InprojSRefIdeal.main_arg4))).trans (Eq.trans ?_ (array9 m c).symm)
    rw [a0, a1, a2, a3, a4]
  · refine h10.trans ?_
    refine (ref10 (m' (c, Proc.tc.devRef Cert.InprojSRefIdeal.main_arg0)) (m' (c, Proc.tc.devRef Cert.InprojSRefIdeal.main_arg1)) (m' (c, Proc.tc.devRef Cert.InprojSRefIdeal.main_arg2)) (m' (c, Proc.tc.devRef Cert.InprojSRefIdeal.main_arg3)) (m' (c, Proc.tc.devRef Cert.InprojSRefIdeal.main_arg4))).trans (Eq.trans ?_ (array10 m c).symm)
    rw [a0, a1, a2, a3, a4]
  · refine h11.trans ?_
    refine (ref11 (m' (c, Proc.tc.devRef Cert.InprojSRefIdeal.main_arg0)) (m' (c, Proc.tc.devRef Cert.InprojSRefIdeal.main_arg1)) (m' (c, Proc.tc.devRef Cert.InprojSRefIdeal.main_arg2)) (m' (c, Proc.tc.devRef Cert.InprojSRefIdeal.main_arg3)) (m' (c, Proc.tc.devRef Cert.InprojSRefIdeal.main_arg4))).trans (Eq.trans ?_ (array11 m c).symm)
    rw [a0, a1, a2, a3, a4]
  · refine h12.trans ?_
    refine (ref12 (m' (c, Proc.tc.devRef Cert.InprojSRefIdeal.main_arg0)) (m' (c, Proc.tc.devRef Cert.InprojSRefIdeal.main_arg1)) (m' (c, Proc.tc.devRef Cert.InprojSRefIdeal.main_arg2)) (m' (c, Proc.tc.devRef Cert.InprojSRefIdeal.main_arg3)) (m' (c, Proc.tc.devRef Cert.InprojSRefIdeal.main_arg4))).trans (Eq.trans ?_ (array12 m c).symm)
    rw [a0, a1, a2, a3, a4]
  · refine h13.trans ?_
    refine (ref13 (m' (c, Proc.tc.devRef Cert.InprojSRefIdeal.main_arg0)) (m' (c, Proc.tc.devRef Cert.InprojSRefIdeal.main_arg1)) (m' (c, Proc.tc.devRef Cert.InprojSRefIdeal.main_arg2)) (m' (c, Proc.tc.devRef Cert.InprojSRefIdeal.main_arg3)) (m' (c, Proc.tc.devRef Cert.InprojSRefIdeal.main_arg4))).trans (Eq.trans ?_ (array13 m c).symm)
    rw [a0, a1, a2, a3, a4]
  · refine h14.trans ?_
    refine (ref14 (m' (c, Proc.tc.devRef Cert.InprojSRefIdeal.main_arg0)) (m' (c, Proc.tc.devRef Cert.InprojSRefIdeal.main_arg1)) (m' (c, Proc.tc.devRef Cert.InprojSRefIdeal.main_arg2)) (m' (c, Proc.tc.devRef Cert.InprojSRefIdeal.main_arg3)) (m' (c, Proc.tc.devRef Cert.InprojSRefIdeal.main_arg4))).trans (Eq.trans ?_ (array14 m c).symm)
    rw [a0, a1, a2, a3, a4]

end Cert.InSProof
-- ==== Proof.MixSOut.lean ====
/- The array the merge and feed-forward kernel leaves: the layer of every sample token. -/
module
public import proofs.«01_k».proof.Proof.MixOut
public import proofs.«01_k».proof.Proof.Gen.MixffnSIdeal.Value
public import Idealize.ShloMosaic.Lib.Pipeline.ReadBack
public import Idealize.ShloMosaic.Lib.Pipeline.ValueKit
@[expose] public section
set_option maxRecDepth 16384
noncomputable section
namespace Cert.MixSProof
open Idealize.ShloMosaic Idealize.ShloMosaic.TcCoe Idealize.ShloMosaic.Tactic
open Cert.MixProof Cert.MixffnSIdeal Cert.MixffnSIdeal.Gen

/-- Token `w`'s rows, read from the sample arrays. -/
def rowA (X : Vec Ideal S128x8x1024 .f32) (A B : Vec Ideal S1024x512 .bf16) (G : Vec Ideal S1024x2048 .bf16) (w : Fin 1024) : Row where
  x d := X (ix3 ⟨w.val / 8, by omega⟩ ⟨w.val % 8, by omega⟩ d)
  oa c := A (ix2 w c)
  ob c := B (ix2 w c)
  gate d := G (ix2 w d)
/-- The layer of every sample token. -/
def layers (X : Vec Ideal S128x8x1024 .f32) (A B : Vec Ideal S1024x512 .bf16) (G : Vec Ideal S1024x2048 .bf16) (w : Weights) : Vec Ideal S1024x1024 .f32 :=
  fun i => layer (rowA X A B G (i 0)) w (i 1)

/-- A point of the sample's call works as one of the prompt's. -/
theorem same {F : FTy → Type} [FloatOps F] (x0 : Vec F S512x1024 .f32) (x1 : Vec F S512x512 .bf16) (x2 : Vec F S512x512 .bf16) (x3 : Vec F S512x2048 .bf16) (x4 : Vec F S2x512x1024 .bf16) (x5 : Vec F S1024x1024 .bf16) (x6 : Vec F S1x1024 .f32) (x7 : Vec F S1024x5632 .bf16) (x8 : Vec F S2816x1024 .bf16) (x9 : Vec F S1x1024 .f32) :
    out0_10 x0 x1 x2 x3 x4 x5 x6 x7 x8 x9 = Cert.MixffnIdeal.Gen.out0_10 x0 x1 x2 x3 x4 x5 x6 x7 x8 x9 := rfl

variable (m : (ℓ : Loc nD τ sig) → Buf (Elt Ideal) ℓ)
/-- Where window 0 lies at a point. -/
theorem idx0 : ∀ t, win0_0.index t = ![t.val, 0] := by decide +kernel
/-- Where window 1 lies at a point. -/
theorem idx1 : ∀ t, win0_1.index t = ![t.val, 0] := by decide +kernel
/-- Where window 2 lies at a point. -/
theorem idx2 : ∀ t, win0_2.index t = ![t.val, 0] := by decide +kernel
/-- Where window 3 lies at a point. -/
theorem idx3 : ∀ t, win0_3.index t = ![t.val, 0] := by decide +kernel
/-- Where window 4 lies at a point. -/
theorem idx4 : ∀ t, win0_4.index t = ![0, 0, 0] := by decide +kernel
/-- Where window 5 lies at a point. -/
theorem idx5 : ∀ t, win0_5.index t = ![0, 0] := by decide +kernel
/-- Where window 6 lies at a point. -/
theorem idx6 : ∀ t, win0_6.index t = ![0, 0] := by decide +kernel
/-- Where window 7 lies at a point. -/
theorem idx7 : ∀ t, win0_7.index t = ![0, 0] := by decide +kernel
/-- Where window 8 lies at a point. -/
theorem idx8 : ∀ t, win0_8.index t = ![0, 0] := by decide +kernel
/-- Where window 9 lies at a point. -/
theorem idx9 : ∀ t, win0_9.index t = ![0, 0] := by decide +kernel
/-- Where window 10 lies at a point. -/
theorem idx10 : ∀ t, win0_10.index t = ![t.val, 0] := by decide +kernel

/-- Window 0 at an entry, from the arguments. -/
theorem rd0 (c : Dev nD) (t : Fin cfg0.N) (r : Fin 512) (d : Fin 1024) (b : Fin 128) (s : Fin 8) (h : 8 * b.val + s.val = 512 * t.val + r.val) :
    iblk m c 0 t (ix2 r d) = m (c, Proc.tc.devRef main_arg0) (ix3 b s d) := by
  refine Eq.trans (b := V m c main_v0 (ix2 ⟨8 * b.val + s.val, by omega⟩ d)) ?_ ?_
  · blk_ext [iblk, idx0 t]
  · entry_read
    pointwise
/-- Window 1 at an entry, from the arguments. -/
theorem rd1 (c : Dev nD) (t : Fin cfg0.N) (r : Fin 512) (j : Fin 512) (w : Fin 1024) (hw : w.val = 512 * t.val + r.val) :
    iblk m c 1 t (ix2 r j) = m (c, Proc.tc.devRef main_arg1) (ix2 w j) := by
  blk_ext [iblk, V, idx1 t]
/-- Window 2 at an entry, from the arguments. -/
theorem rd2 (c : Dev nD) (t : Fin cfg0.N) (r : Fin 512) (j : Fin 512) (w : Fin 1024) (hw : w.val = 512 * t.val + r.val) :
    iblk m c 2 t (ix2 r j) = m (c, Proc.tc.devRef main_arg2) (ix2 w j) := by
  blk_ext [iblk, V, idx2 t]
/-- Window 3 at an entry, from the arguments. -/
theorem rd3 (c : Dev nD) (t : Fin cfg0.N) (r : Fin 512) (j : Fin 2048) (w : Fin 1024) (hw : w.val = 512 * t.val + r.val) :
    iblk m c 3 t (ix2 r j) = m (c, Proc.tc.devRef main_arg3) (ix2 w j) := by
  blk_ext [iblk, V, idx3 t]
/-- Window 4 at an entry, from the arguments. -/
theorem rd4 (c : Dev nD) (t : Fin cfg0.N) (n : Fin 2) (i : Fin 512) (j : Fin 1024) :
    iblk m c 4 t (ix3 n i j) = m (c, Proc.tc.devRef main_arg4) (ix4 0 n i j) := by
  refine Eq.trans (b := V m c main_v2 (ix3 n i j)) ?_ ?_
  · blk_ext [iblk, idx4 t]
  · entry_read
    pointwise
/-- Window 5 at an entry, from the arguments. -/
theorem rd5 (c : Dev nD) (t : Fin cfg0.N) (i : Fin 1024) (j : Fin 1024) :
    iblk m c 5 t (ix2 i j) = m (c, Proc.tc.devRef main_arg5) (ix3 0 i j) := by
  refine Eq.trans (b := V m c main_v4 (ix2 i j)) ?_ ?_
  · blk_ext [iblk, idx5 t]
  · entry_read
    pointwise
/-- Window 6 at an entry, from the arguments. -/
theorem rd6 (c : Dev nD) (t : Fin cfg0.N) (j : Fin 1024) :
    iblk m c 6 t (ix2 0 j) = m (c, Proc.tc.devRef main_arg6) (ix2 0 j) := by
  refine Eq.trans (b := V m c main_v6 (ix2 0 j)) ?_ ?_
  · blk_ext [iblk, idx6 t]
  · entry_read
    pointwise
/-- Window 7 at an entry, from the arguments. -/
theorem rd7 (c : Dev nD) (t : Fin cfg0.N) (i : Fin 1024) (j : Fin 5632) :
    iblk m c 7 t (ix2 i j) = m (c, Proc.tc.devRef main_arg7) (ix3 0 i j) := by
  refine Eq.trans (b := V m c main_v8 (ix2 i j)) ?_ ?_
  · blk_ext [iblk, idx7 t]
  · entry_read
    pointwise
/-- Window 8 at an entry, from the arguments. -/
theorem rd8 (c : Dev nD) (t : Fin cfg0.N) (i : Fin 2816) (j : Fin 1024) :
    iblk m c 8 t (ix2 i j) = m (c, Proc.tc.devRef main_arg8) (ix3 0 i j) := by
  refine Eq.trans (b := V m c main_v10 (ix2 i j)) ?_ ?_
  · blk_ext [iblk, idx8 t]
  · entry_read
    pointwise
/-- Window 9 at an entry, from the arguments. -/
theorem rd9 (c : Dev nD) (t : Fin cfg0.N) (j : Fin 1024) :
    iblk m c 9 t (ix2 0 j) = m (c, Proc.tc.devRef main_arg9) (ix1 j) := by
  refine Eq.trans (b := V m c main_v11 (ix2 0 j)) ?_ ?_
  · blk_ext [iblk, idx9 t]
  · entry_read
    pointwise

/-- The array the kernel leaves. -/
theorem array (c : Dev nD) : (dats m 0 c).arrAt 10 cfg0.N = layers (m (c, Proc.tc.devRef main_arg0)) (m (c, Proc.tc.devRef main_arg1)) (m (c, Proc.tc.devRef main_arg2))
    (m (c, Proc.tc.devRef main_arg3)) (weightsA (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9))) := by
  refine (dats m 0 c).arrAt_eq_of_covers 10 _ (by decide +kernel) fun t hf y => ?_
  blk_simp
  rw [after0_10, same]
  obtain ⟨r, d, rfl⟩ : ∃ (r : Fin 512) (d : Fin 1024), y = ix2 r d := ⟨y 0, y 1, by funext k; fin_cases k <;> rfl⟩
  have ht : t.val < 2 := t.isLt
  have he : (win0_10.blk t).view.emb (ix2 r d) = ix2 (⟨512 * t.val + r.val, by omega⟩ : Fin 1024) d := by
    blk_ext [idx10 t]
  refine (out_apply _ _ _ _ _ _ _ _ _ _ r d).trans ?_
  rw [he]
  refine congrFun (congrArg₂ layer ?_ ?_) d
  · unfold rowB rowA
    congr 1
    · funext d
      exact rd0 m c t r d _ _ (Nat.div_add_mod (512 * t.val + r.val) 8)
    · funext j
      exact rd1 m c t r j _ rfl
    · funext j
      exact rd2 m c t r j _ rfl
    · funext j
      exact rd3 m c t r j _ rfl
  · unfold weightsB weightsA
    congr 1
    · funext n i j
      exact rd4 m c t n i j
    · funext i j
      exact rd5 m c t i j
    · funext j
      exact rd6 m c t j
    · funext i j
      exact rd7 m c t i j
    · funext i j
      exact rd8 m c t i j
    · funext j
      exact rd9 m c t j

end Cert.MixSProof
-- ==== Proof.MixSRef.lean ====
/- The merge and feed-forward reference, in stages, and its entries. -/
module
public import proofs.«01_k».proof.Proof.MixSOut
public import proofs.«01_k».proof.Proof.Gen.MixffnSRefIdeal.Run
@[expose] public section
set_option maxRecDepth 16384
noncomputable section
namespace Cert.MixSProof
open Idealize.ShloMosaic Idealize.ShloMosaic.TcCoe Idealize.ShloMosaic.Tactic
open Cert.MixProof Cert.MixffnSRefIdeal Cert.MixffnSRefIdeal.Gen Idealize.SL.Sem

section
variable {F : FTy → Type} [FloatOps F]

/-- A token's norm over an array of tokens, times a gain. -/
def rNorm (v : FVec F S128x8x1024 .f32) (g : FVec F S1024 .f32) : FVec F S128x8x1024 .f32 :=
  mulf (mulf v (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf v v) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 g))
/-- The two branches side by side. -/
def rBranch (A B : FVec F S1024x512 .bf16) : FVec F S128x8x2x512 .f32 :=
  concatenate S128x8x2x512 2 [⟨S128x8x1x512, (broadcastInDim S128x8x1x512 ![0, 1, 3] bcast_S128x8x512_S128x8x1x512_0_1_3 (shapeCast _ (extf .f32 A bitsLt_bf16_f32) shapeCasts_S1024x512_S128x8x512))⟩, ⟨S128x8x1x512, (broadcastInDim S128x8x1x512 ![0, 1, 3] bcast_S128x8x512_S128x8x1x512_0_1_3 (shapeCast _ (extf .f32 B bitsLt_bf16_f32) shapeCasts_S1024x512_S128x8x512))⟩] concatenates_S128x8x1x512_S128x8x1x512_S128x8x2x512_d2
/-- The branches' products with their weights. -/
def rProd (b : FVec F S128x8x2x512 .f32) (W : FVec F S1x2x512x1024 .f32) : FVec F S128x8x2x1024 .f32 :=
  transpose S128x8x2x1024 [2, 3, 0, 1] (Host.dotGeneral dot_S2x512x1024_S128x8x2x512_S2x1024x128x8_1_3_2_01_0_2 none (shapeCast _ W shapeCasts_S1x2x512x1024_S2x512x1024) b) transposes_S2x1024x128x8_S128x8x2x1024_2_3_0_1
/-- The branches merged under their gates. -/
def rMerged (p : FVec F S128x8x2x1024 .f32) (G : FVec F S1024x2048 .bf16) : FVec F S128x8x1024 .f32 :=
  Host.reduceAdd (mulf p (shapeCast _ (extf .f32 G bitsLt_bf16_f32) shapeCasts_S1024x2048_S128x8x2x1024)) (constant S_ .f32 0x00000000#32) reducesTo_S128x8x2x1024_S128x8x1024_d2 h_S_
/-- The tokens after the mixer. -/
def rMixed (X : FVec F S128x8x1024 .f32) (p : FVec F S128x8x1024 .f32) (O : FVec F S1x1024x1024 .f32) : FVec F S128x8x1024 .f32 :=
  addf X (Host.dotGeneral dot_S128x8x1024_S1024x1024_S128x8x1024_2_0_01_1_n_n none p (shapeCast _ O shapeCasts_S1x1024x1024_S1024x1024))
/-- The inner columns before the gate. -/
def rIn (n : FVec F S128x8x1024 .f32) (I : FVec F S1x1024x5632 .f32) : FVec F S128x8x5632 .f32 :=
  Host.dotGeneral dot_S128x8x1024_S1024x5632_S128x8x5632_2_0_01_1_n_n none n (shapeCast _ I shapeCasts_S1x1024x5632_S1024x5632)
/-- The inner columns: one half under its own sigmoid, times the other. -/
def rAct (h : FVec F S128x8x5632 .f32) : FVec F S128x8x2816 .f32 :=
  mulf (mulf (extractStridedSlice S128x8x2816 ![0, 0, 0] h slices_S128x8x5632_S128x8x2816_0_0_0) (Host.divf (broadcastInDim S128x8x2816 ![] bcast_S_S128x8x2816 (constant S_ .f32 0x3F800000#32)) (addf (broadcastInDim S128x8x2816 ![] bcast_S_S128x8x2816 (constant S_ .f32 0x3F800000#32)) (Host.exp (Host.negf (extractStridedSlice S128x8x2816 ![0, 0, 0] h slices_S128x8x5632_S128x8x2816_0_0_0)))))) (extractStridedSlice S128x8x2816 ![0, 0, 2816] h slices_S128x8x5632_S128x8x2816_0_0_2816)
/-- The tokens after the feed-forward layer. -/
def rFed (x1 : FVec F S128x8x1024 .f32) (a : FVec F S128x8x2816 .f32) (P : FVec F S1x2816x1024 .f32) : FVec F S128x8x1024 .f32 :=
  addf x1 (Host.dotGeneral dot_S128x8x2816_S2816x1024_S128x8x1024_2_0_01_1_n_n none a (shapeCast _ P shapeCasts_S1x2816x1024_S2816x1024))
variable (X : FVec F S128x8x1024 .f32) (A B : FVec F S1024x512 .bf16) (G : FVec F S1024x2048 .bf16) (W : FVec F S1x2x512x1024 .f32) (O : FVec F S1x1024x1024 .f32) (Gn : FVec F S1x1024 .f32) (I : FVec F S1x1024x5632 .f32) (P : FVec F S1x2816x1024 .f32) (L : FVec F S1024 .f32)
/-- The reference's tokens after the mixer. -/
def rX1 : FVec F S128x8x1024 .f32 := rMixed X (rMerged (rProd (rBranch A B) W) G) O
/-- The reference's tokens after the feed-forward layer. -/
def rX2 : FVec F S128x8x1024 .f32 :=
  rFed (rX1 X A B G W O) (rAct (rIn (rNorm (rX1 X A B G W O) (shapeCast _ Gn shapeCasts_S1x1024_S1024)) I)) P
/-- The reference's result. -/
def rOut : FVec F S1024x1024 .f32 :=
  shapeCast _ (rNorm (rX2 X A B G W O Gn I P) L) shapeCasts_S128x8x1024_S1024x1024

/-- The reference ends with its stages' result. -/
theorem res_stages (m : (ℓ : Loc nD τ sig) → Buf (Elt F) ℓ) (c : Dev nD) :
    Cert.MixffnSRefIdeal.Value.res_main_v53 m c = rOut (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) := by
  unfold Cert.MixffnSRefIdeal.Value.res_main_v53
  rfl
end

/-- A norm at an entry. -/
theorem rNorm_apply (v : FVec Ideal S128x8x1024 .f32) (g : FVec Ideal S1024 .f32) (b : Fin 128) (s : Fin 8) (d : Fin 1024) :
    rNorm v g (ix3 b s d) = norm (fun d => v (ix3 b s d)) (fun d => g (ix1 d)) d := by
  pointwise [rNorm]
  rfl
/-- The first branch at an entry. -/
theorem rBranch_a (A B : FVec Ideal S1024x512 .bf16) (b : Fin 128) (s : Fin 8) (j : Fin 512) (w : Fin 1024) (hw : w.val = 8 * b.val + s.val) :
    rBranch A B (ix4 b s 0 j) = A (ix2 w j) := by
  pointwise [rBranch]
  rw [show (⟨b.val * 8 + s.val, by omega⟩ : Fin 1024) = w from Fin.ext (by simp only []; omega)]
/-- The second branch at an entry. -/
theorem rBranch_b (A B : FVec Ideal S1024x512 .bf16) (b : Fin 128) (s : Fin 8) (j : Fin 512) (w : Fin 1024) (hw : w.val = 8 * b.val + s.val) :
    rBranch A B (ix4 b s 1 j) = B (ix2 w j) := by
  pointwise [rBranch]
  rw [show (⟨b.val * 8 + s.val, by omega⟩ : Fin 1024) = w from Fin.ext (by simp only []; omega)]
/-- A branch's product at an entry. -/
theorem rProd_apply (x : FVec Ideal S128x8x2x512 .f32) (W : FVec Ideal S1x2x512x1024 .f32) (b : Fin 128) (s : Fin 8) (n : Fin 2) (d : Fin 1024) :
    rProd x W (ix4 b s n d) = ∑ c : Fin 512, x (ix4 b s n c) * W (ix4 0 n c d) := by
  pointwise [rProd]
  exact Finset.sum_congr rfl fun c _ => mul_comm _ _
/-- The gated merge at an entry. -/
theorem rMerged_apply (p : FVec Ideal S128x8x2x1024 .f32) (G : FVec Ideal S1024x2048 .bf16) (b : Fin 128) (s : Fin 8) (d : Fin 1024) (w : Fin 1024) (hw : w.val = 8 * b.val + s.val) :
    rMerged p G (ix3 b s d) = p (ix4 b s 0 d) * G (ix2 w ⟨d.val, by omega⟩) + p (ix4 b s 1 d) * G (ix2 w ⟨1024 + d.val, by omega⟩) := by
  pointwise [rMerged]
  rw [Fin.sum_univ_two]
  refine congrArg₂ (· + ·) (congrArg (p _ * ·) (congrArg₂ (fun a b => G (ix2 a b)) (Fin.ext ?_) (Fin.ext ?_))) (congrArg (p _ * ·) (congrArg₂ (fun a b => G (ix2 a b)) (Fin.ext ?_) (Fin.ext ?_)))
  · show b.val * 8 + s.val = w.val
    omega
  · show 0 * 1024 + d.val = d.val
    omega
  · show b.val * 8 + s.val = w.val
    omega
  · show 1 * 1024 + d.val = 1024 + d.val
    omega
/-- The row after the mixer, at an entry. -/
theorem rMixed_apply (X p : FVec Ideal S128x8x1024 .f32) (O : FVec Ideal S1x1024x1024 .f32) (b : Fin 128) (s : Fin 8) (d : Fin 1024) :
    rMixed X p O (ix3 b s d) = X (ix3 b s d) + ∑ e : Fin 1024, p (ix3 b s e) * O (ix3 0 e d) := by
  pointwise [rMixed]
/-- The first SwiGLU product at an entry. -/
theorem rIn_apply (n : FVec Ideal S128x8x1024 .f32) (I : FVec Ideal S1x1024x5632 .f32) (b : Fin 128) (s : Fin 8) (f : Fin 5632) :
    rIn n I (ix3 b s f) = ∑ d : Fin 1024, n (ix3 b s d) * I (ix3 0 d f) := by
  pointwise [rIn]
/-- The activation at an entry. -/
theorem rAct_apply (h : FVec Ideal S128x8x5632 .f32) (b : Fin 128) (s : Fin 8) (f : Fin 2816) :
    rAct h (ix3 b s f) = h (ix3 b s ⟨f.val, by omega⟩) * Ideal.div 1 (1 + Ideal.exp (0 - h (ix3 b s ⟨f.val, by omega⟩))) * h (ix3 b s ⟨2816 + f.val, by omega⟩) := by
  pointwise [rAct]
  rw [zero_sub]
/-- The row after the SwiGLU layer, at an entry. -/
theorem rFed_apply (x : FVec Ideal S128x8x1024 .f32) (a : FVec Ideal S128x8x2816 .f32) (P : FVec Ideal S1x2816x1024 .f32) (b : Fin 128) (s : Fin 8) (d : Fin 1024) :
    rFed x a P (ix3 b s d) = x (ix3 b s d) + ∑ f : Fin 2816, a (ix3 b s f) * P (ix3 0 f d) := by
  pointwise [rFed]

/-- The reference's result is the layer of every sample token. -/
theorem rOut_eq (X : FVec Ideal S128x8x1024 .f32) (A B : FVec Ideal S1024x512 .bf16) (G : FVec Ideal S1024x2048 .bf16) (W : FVec Ideal S1x2x512x1024 .f32) (O : FVec Ideal S1x1024x1024 .f32) (Gn : FVec Ideal S1x1024 .f32) (I : FVec Ideal S1x1024x5632 .f32) (P : FVec Ideal S1x2816x1024 .f32) (L : FVec Ideal S1024 .f32) :
    rOut X A B G W O Gn I P L = layers X A B G (weightsA W O Gn I P L) := by
  funext i
  obtain ⟨w, d, rfl⟩ : ∃ (w : Fin 1024) (d : Fin 1024), i = ix2 w d := ⟨i 0, i 1, eq_ix2 i⟩
  have hw : w.val = 8 * (w.val / 8) + w.val % 8 := (Nat.div_add_mod _ _).symm
  have e0 : rOut X A B G W O Gn I P L (ix2 w d) = rNorm (rX2 X A B G W O Gn I P) L (ix3 ⟨w.val / 8, by omega⟩ ⟨w.val % 8, by omega⟩ d) := by
    pointwise [rOut]
  have e1 : ∀ d, rX1 X A B G W O (ix3 ⟨w.val / 8, by omega⟩ ⟨w.val % 8, by omega⟩ d) = mixed (rowA X A B G w) (weightsA W O Gn I P L) d := fun d => by
    unfold rX1
    rw [rMixed_apply]
    refine congrArg₂ (· + ·) rfl (Finset.sum_congr rfl fun e _ => congrArg (· * _) ?_)
    rw [rMerged_apply _ _ _ _ _ w hw, rProd_apply, rProd_apply]
    unfold merged
    refine congrArg₂ (· + ·) (congrArg (· * _) (Finset.sum_congr rfl fun j _ => congrArg (· * _) ?_)) (congrArg (· * _) (Finset.sum_congr rfl fun j _ => congrArg (· * _) ?_))
    · exact rBranch_a A B _ _ j w hw
    · exact rBranch_b A B _ _ j w hw
  have e2 : ∀ d, rX2 X A B G W O Gn I P (ix3 ⟨w.val / 8, by omega⟩ ⟨w.val % 8, by omega⟩ d) = fed (rowA X A B G w) (weightsA W O Gn I P L) d := fun d => by
    have ei : ∀ f, rIn (rNorm (rX1 X A B G W O) (shapeCast _ Gn shapeCasts_S1x1024_S1024)) I (ix3 ⟨w.val / 8, by omega⟩ ⟨w.val % 8, by omega⟩ f)
        = ∑ d, norm (mixed (rowA X A B G w) (weightsA W O Gn I P L)) (weightsA W O Gn I P L).gain d * (weightsA W O Gn I P L).ffi d f := fun f => by
      rw [rIn_apply]
      refine Finset.sum_congr rfl fun d _ => congrArg (· * _) ?_
      rw [rNorm_apply, funext e1]
      congr 1
      funext d
      pointwise
      rfl
    unfold rX2
    rw [rFed_apply, e1]
    refine congrArg₂ (· + ·) rfl (Finset.sum_congr rfl fun f _ => congrArg (· * _) ?_)
    rw [rAct_apply, ei, ei]
    rfl
  rw [e0, rNorm_apply, funext e2]
  rfl

end Cert.MixSProof
-- ==== Proof.MixSClaim.lean ====
/- The claims about the merge and feed-forward layer of the sample. -/
module
public import proofs.«01_k».proof.Proof.MixSRef
public import proofs.«01_k».proof.Defs
public import proofs.«01_k».proof.Proof.Gen.MixffnSIdeal.Value
@[expose] public section
set_option maxRecDepth 16384
noncomputable section
namespace Cert.MixSProof
open Idealize.ShloMosaic Idealize.ShloMosaic.TcCoe Idealize.ShloMosaic.Tactic
open Idealize.SL.Sem Cert.MixProof

/-- The reference leaves its arguments as they were; it declares no semaphore. -/
theorem frame_ref : Cert.quiescent_MixffnSRefIdeal := fun m ρ _ =>
  (θ_run Cert.MixffnSRefIdeal.defs _ _).mono (fun r h => ⟨fun c => (h c).2, sem_eq_zero_of_no_sems (by decide) r.2⟩)
    (Cert.MixffnSRefIdeal.Value.run (F := Ideal) m ρ)

/-- The kernel and the reference end with one array: the layer of every sample token. -/
theorem mix_equal : Cert.algebraic_MixffnSIdeal_MixffnSRefIdeal := by
  intro m g m' g' _ ha
  refine ⟨fun c => (Cert.MixffnSIdeal.Gen.dats m 0 c).arrAt 10 Cert.MixffnSIdeal.cfg0.N, Cert.MixffnSIdeal.Value.run_blocks m g, ?_⟩
  refine (θ_run Cert.MixffnSRefIdeal.defs _ _).mono (fun r h c => ⟨(h c).1.trans ?_, (h c).2⟩) (Cert.MixffnSRefIdeal.Value.run m' g')
  obtain ⟨a0, a1, a2, a3, a4, a5, a6, a7, a8, a9⟩ := ha c
  refine (res_stages m' c).trans (Eq.trans ?_ (array m c).symm)
  refine (rOut_eq _ _ _ _ _ _ _ _ _ _).trans ?_
  rw [show m' (c, Proc.tc.devRef Cert.MixffnSRefIdeal.main_arg0) = _ from a0, show m' (c, Proc.tc.devRef Cert.MixffnSRefIdeal.main_arg1) = _ from a1,
    show m' (c, Proc.tc.devRef Cert.MixffnSRefIdeal.main_arg2) = _ from a2, show m' (c, Proc.tc.devRef Cert.MixffnSRefIdeal.main_arg3) = _ from a3,
    show m' (c, Proc.tc.devRef Cert.MixffnSRefIdeal.main_arg4) = _ from a4, show m' (c, Proc.tc.devRef Cert.MixffnSRefIdeal.main_arg5) = _ from a5,
    show m' (c, Proc.tc.devRef Cert.MixffnSRefIdeal.main_arg6) = _ from a6, show m' (c, Proc.tc.devRef Cert.MixffnSRefIdeal.main_arg7) = _ from a7,
    show m' (c, Proc.tc.devRef Cert.MixffnSRefIdeal.main_arg8) = _ from a8, show m' (c, Proc.tc.devRef Cert.MixffnSRefIdeal.main_arg9) = _ from a9]

end Cert.MixSProof
-- ==== Proof.HgrnSBlock.lean ====
/- One grid point of the recurrence kernel on the sample batch (16 padded tokens, 8 of them live), as a function of its blocks. -/
module
public import proofs.«01_k».proof.Proof.Gen.HgrnSIdeal.Value
public import Idealize.ShloMosaic.Lib.Pointwise
public import Idealize.ShloMosaic.Lib.Pipeline.ReadBack
@[expose] public section
set_option maxRecDepth 16384
noncomputable section
namespace Cert.HgrnSProof
open Idealize.ShloMosaic Idealize.ShloMosaic.TcCoe Idealize.ShloMosaic.Tactic
open Cert.HgrnSIdeal Cert.HgrnSIdeal.Gen
variable {F : FTy → Type} [FloatOps F]

/-- Columns of head `h` of a block of 512 columns. -/
def col {φ : FTy} (h : Fin 4) (x : FVec F S16x512 φ) : FVec F S16x128 φ :=
  extractStridedSlice S16x128 ![0, 128 * h.val] x (by fin_cases h <;> decide)
/-- Band `r` of the sums, columns of head `h`. -/
def blk (r : Fin 10) (h : Fin 4) (x : FVec F S160x512 .f32) : FVec F S16x128 .f32 :=
  extractStridedSlice S16x128 ![16 * r.val, 128 * h.val] x ⟨rfl, fun a => by fin_cases h <;> fin_cases a <;> simp [S16x128, S160x512] <;> omega⟩
/-- The whole chunk's sum, columns of head `h`. -/
def lastRow (h : Fin 4) (x : FVec F S160x512 .f32) : FVec F S1x128 .f32 :=
  extractStridedSlice S1x128 ![15, 128 * h.val] x (by fin_cases h <;> decide)

/-- The state of a head after the chunk. -/
def headS (k : FVec F S16x128 .f32) (v : FVec F S16x128 .bf16) (eEnd : FVec F S16x128 .f32) (eLast : FVec F S1x128 .f32)
    (st : FVec F S128x128 .f32) : FVec F S128x128 .f32 :=
  addf (mulf st (broadcastTo S128x128 (exp eLast) broadcasts_S1x128_S128x128))
    (matmul dot_S16x128_S16x128_S128x128_0_0_1_1_n_n none v (truncf .bf16 (mulf k (exp eEnd)) bitsLt_bf16_f32)
      (constant S128x128 .f32 0x00000000#32))

/-- One level's scores: the masked product of decayed queries and decayed keys. -/
def headL (q k eq ek : FVec F S16x128 .f32) (mk : FVec F S1x16x16 .f32) : FVec F S16x16 .f32 :=
  mulf (shapeCast S16x16 mk shapeCasts_S1x16x16_S16x16)
    (matmul dot_S16x128_S16x128_S16x16_1_1_0_0_n_n none (truncf .bf16 (mulf q (exp eq)) bitsLt_bf16_f32)
      (truncf .bf16 (mulf k (exp ek)) bitsLt_bf16_f32) (constant S16x16 .f32 0x00000000#32))

/-- The chunk's scores: the diagonal and the four levels. -/
def headA (q k : FVec F S16x128 .f32) (E : Fin 10 → FVec F S16x128 .f32) (mk : Fin 5 → FVec F S1x16x16 .f32) :
    FVec F S16x16 .f32 :=
  addf (addf (addf (addf
    (mulf (shapeCast S16x16 (mk 0) shapeCasts_S1x16x16_S16x16)
      (matmul dot_S16x128_S16x128_S16x16_1_1_0_0_n_n none (truncf .bf16 q bitsLt_bf16_f32)
        (truncf .bf16 k bitsLt_bf16_f32) (constant S16x16 .f32 0x00000000#32)))
    (headL q k (E 2) (E 3) (mk 1))) (headL q k (E 4) (E 5) (mk 2))) (headL q k (E 6) (E 7) (mk 3)))
    (headL q k (E 8) (E 9) (mk 4))

/-- What a head reads: the scores against the values, and the decayed queries against the old state. -/
def headO (q k : FVec F S16x128 .f32) (v : FVec F S16x128 .bf16) (E : Fin 10 → FVec F S16x128 .f32)
    (mk : Fin 5 → FVec F S1x16x16 .f32) (st : FVec F S128x128 .f32) : FVec F S16x128 .f32 :=
  addf (matmul dot_S16x16_S16x128_S16x128_1_0_0_1_n_n none (truncf .bf16 (headA q k E mk) bitsLt_bf16_f32) v
      (constant S16x128 .f32 0x00000000#32))
    (matmul dot_S16x128_S128x128_S16x128_1_1_0_0_n_n none (truncf .bf16 (mulf q (exp (E 0))) bitsLt_bf16_f32)
      (truncf .bf16 st bitsLt_bf16_f32) (constant S16x128 .f32 0x00000000#32))

/-- The loads of a point: queries, gate inputs, values, and the gate of head `h`. -/
def ldQ (x0 : Vec F S16x2048 .f32) : Vec F S16x512 .f32 := View.ld x0 (Rect.unit ![0, 0] S16x512.size inb_S16x2048_S16x512_0_0)
def ldF (x0 : Vec F S16x2048 .f32) : Vec F S16x512 .f32 := View.ld x0 (Rect.unit ![0, 512] S16x512.size inb_S16x2048_S16x512_0_512)
def ldV (x0 : Vec F S16x2048 .f32) : Vec F S16x512 .f32 := View.ld x0 (Rect.unit ![0, 1024] S16x512.size inb_S16x2048_S16x512_0_1024)
def ldB (x2 : Vec F S2x512 .f32) : Vec F S2x512 .f32 := View.ld x2 (Rect.unit ![0, 0] S2x512.size inb_S2x512_S2x512_0_0)
def ldW (x4 : Vec F S160x16 .bf16) : Vec F S160x16 .bf16 := View.ld x4 (Rect.unit ![0, 0] S160x16.size inb_S160x16_S160x16_0_0)
def ldN (x3 : Vec F S1x128 .f32) : Vec F S1x128 .f32 := View.ld x3 (Rect.unit ![0, 0] S1x128.size inb_S1x128_S1x128_0_0)
def ldG (x0 : Vec F S16x2048 .f32) (h : Fin 4) : Vec F S16x128 .f32 :=
  View.ld x0 (Rect.unit ![0, 1536 + 128 * h.val] S16x128.size (fun a => by fin_cases h <;> fin_cases a <;> decide))
def ldM (x5 : Vec F S5x16x16 .f32) (l : Fin 5) : Vec F S1x16x16 .f32 :=
  View.ld x5 (Rect.unit ![l.val, 0, 0] S1x16x16.size (fun a => by fin_cases l <;> fin_cases a <;> decide))

/-- The keys and the sums of the log decays of a point; the padding's tokens have neither. -/
def kk (x0 : Vec F S16x2048 .f32) (x2 : Vec F S2x512 .f32) : FVec F S16x512 .f32 := k0_pay14 (k0_pay12 (ldB x2) (ldF x0)) k0_pay13
def ex (x0 : Vec F S16x2048 .f32) (x2 : Vec F S2x512 .f32) (x4 : Vec F S160x16 .bf16) : FVec F S160x512 .f32 :=
  k0_pay16 (k0_pay11 (ldB x2) (ldF x0)) k0_pay13 (Scalar.ofBits .f32 0x00000000#32) (ldW x4)

/-- The state of head `h` after a point, of the state loaded before it. -/
def ptS (x0 : Vec F S16x2048 .f32) (x2 : Vec F S2x512 .f32) (x4 : Vec F S160x16 .bf16) (h : Fin 4) (l : Vec F S1x128x128 .f32) :
    FVec F S128x128 .f32 :=
  headS (col h (kk x0 x2)) (truncf .bf16 (col h (shapeCast S16x512 (ldV x0) shapeCasts_S16x512_S16x512)) bitsLt_bf16_f32) (blk 1 h (ex x0 x2 x4)) (lastRow h (ex x0 x2 x4))
    (shapeCast S128x128 l shapeCasts_S1x128x128_S128x128)
/-- What head `h` reads at a point. -/
def ptO (x0 : Vec F S16x2048 .f32) (x2 : Vec F S2x512 .f32) (x4 : Vec F S160x16 .bf16) (x5 : Vec F S5x16x16 .f32) (h : Fin 4)
    (l : Vec F S1x128x128 .f32) : FVec F S16x128 .f32 :=
  headO (col h (shapeCast S16x512 (ldQ x0) shapeCasts_S16x512_S16x512)) (col h (kk x0 x2))
    (truncf .bf16 (col h (shapeCast S16x512 (ldV x0) shapeCasts_S16x512_S16x512)) bitsLt_bf16_f32) (fun r => blk r h (ex x0 x2 x4)) (ldM x5)
    (shapeCast S128x128 l shapeCasts_S1x128x128_S128x128)
/-- What head `h` stores: its read, normed and gated. -/
def ptN (x0 : Vec F S16x2048 .f32) (x2 : Vec F S2x512 .f32) (x3 : Vec F S1x128 .f32) (x4 : Vec F S160x16 .bf16)
    (x5 : Vec F S5x16x16 .f32) (h : Fin 4) (l : Vec F S1x128x128 .f32) : FVec F S16x128 .bf16 :=
  k0_pay63 (ptO x0 x2 x4 x5 h l) (ldN x3) (ldG x0 h)
/-- The state of head `h`, laid out as the scratch keeps it. -/
def ptP (x0 : Vec F S16x2048 .f32) (x2 : Vec F S2x512 .f32) (x4 : Vec F S160x16 .bf16) (h : Fin 4) (l : Vec F S1x128x128 .f32) :
    FVec F S1x128x128 .f32 := shapeCast S1x128x128 (ptS x0 x2 x4 h l) shapeCasts_S128x128_S1x128x128

/-- The pieces the output block is written in. -/
def piecesO (x0 : Vec F S16x2048 .f32) (x2 : Vec F S2x512 .f32) (x3 : Vec F S1x128 .f32) (x4 : Vec F S160x16 .bf16)
    (x5 : Vec F S5x16x16 .f32) (l : Fin 4 → Vec F S1x128x128 .f32) : List (View.Piece (Elt F) S16x512 .bf16) :=
  [⟨Rect.unit ![0, 384] S16x128.size inb_S16x512_S16x128_0_384, ptN x0 x2 x3 x4 x5 3 (l 3)⟩,
   ⟨Rect.unit ![0, 256] S16x128.size inb_S16x512_S16x128_0_256, ptN x0 x2 x3 x4 x5 2 (l 2)⟩,
   ⟨Rect.unit ![0, 128] S16x128.size inb_S16x512_S16x128_0_128, ptN x0 x2 x3 x4 x5 1 (l 1)⟩,
   ⟨Rect.unit ![0, 0] S16x128.size inb_S16x512_S16x128_0_0, ptN x0 x2 x3 x4 x5 0 (l 0)⟩]
/-- The state a point loads for head `h`: the given one, transposed. -/
def ini (x1 : Vec F S1x4x128x128 .f32) (h : Fin 4) : Vec F S1x128x128 .f32 :=
  k0_pay5 (View.ld x1 (Rect.unit ![0, h.val, 0, 0] S1x1x128x128.size (fun a => by fin_cases h <;> fin_cases a <;> decide)))
/-- The pieces the final state is written in. -/
def piecesE (l : Fin 4 → Vec F S1x128x128 .f32) : List (View.Piece (Elt F) S1x4x128x128 .f32) :=
  [⟨Rect.unit ![0, 3, 0, 0] S1x1x128x128.size inb_S1x4x128x128_S1x1x128x128_0_3_0_0, k0_pay1 (l 3)⟩,
   ⟨Rect.unit ![0, 2, 0, 0] S1x1x128x128.size inb_S1x4x128x128_S1x1x128x128_0_2_0_0, k0_pay1 (l 2)⟩,
   ⟨Rect.unit ![0, 1, 0, 0] S1x1x128x128.size inb_S1x4x128x128_S1x1x128x128_0_1_0_0, k0_pay1 (l 1)⟩,
   ⟨Rect.unit ![0, 0, 0, 0] S1x1x128x128.size inb_S1x4x128x128_S1x1x128x128_0_0_0_0, k0_pay1 (l 0)⟩]

section
variable (c : Dev nD) (i : grid0.Coords) (arg2 : Memref sig .tc .vmem S16x2048 .f32) (harg2 : arg2.IsWhole) (arg3 : Memref sig .tc .vmem S1x4x128x128 .f32) (harg3 : arg3.IsWhole) (arg4 : Memref sig .tc .vmem S2x512 .f32) (harg4 : arg4.IsWhole) (arg5 : Memref sig .tc .vmem S1x128 .f32) (harg5 : arg5.IsWhole) (arg6 : Memref sig .tc .vmem S160x16 .bf16) (harg6 : arg6.IsWhole) (arg7 : Memref sig .tc .vmem S5x16x16 .f32) (harg7 : arg7.IsWhole) (arg8 : Memref sig .tc .vmem S16x512 .bf16) (harg8 : arg8.IsWhole) (arg9 : Memref sig .tc .vmem S1x4x128x128 .f32) (harg9 : arg9.IsWhole) (arg10 : Memref sig .tc .vmem S4x128x128 .f32) (harg10 : arg10.IsWhole)
  (x0 : Vec F S16x2048 .f32) (x1 : Vec F S1x4x128x128 .f32) (x2 : Vec F S2x512 .f32) (x3 : Vec F S1x128 .f32) (x4 : Vec F S160x16 .bf16) (x5 : Vec F S5x16x16 .f32)

/-- A point leaves the output block in four pieces. -/
theorem outs_A (hc0 : cond0_0 i) (hc1 : cond0_1 i) :
    out0_A_6 c i arg2 harg2 arg3 harg3 arg4 harg4 arg5 harg5 arg6 harg6 arg7 harg7 arg8 harg8 arg9 harg9 arg10 harg10 hc0 hc1 x0 x1 x2 x3 x4 x5 = View.canon (piecesO x0 x2 x3 x4 x5 (ini x1)) := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp (disch := decide) only [↓ View.readCov_skip, ↓ View.readCov_cons_toLoadRect]
  simp only [View.readAt_eq_ld, harg2.read_unread, harg3.read_unread, harg4.read_unread, harg5.read_unread, harg6.read_unread, harg7.read_unread, harg10.read_unread]
  rfl

/-- A point stores the state it leaves in four pieces. -/
theorem oute_A (hc0 : cond0_0 i) (hc1 : cond0_1 i) :
    out0_A_7 c i arg2 harg2 arg3 harg3 arg4 harg4 arg5 harg5 arg6 harg6 arg7 harg7 arg8 harg8 arg9 harg9 arg10 harg10 hc0 hc1 x0 x1 x2 x3 x4 x5 = View.canon (piecesE (fun h => ptP x0 x2 x4 h (ini x1 h))) := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  simp (disch := decide) only [↓ View.readCov_skip, ↓ View.readCov_cons_toLoadRect]
  simp only [View.readAt_eq_ld, harg2.read_unread, harg3.read_unread, harg4.read_unread, harg5.read_unread, harg6.read_unread, harg7.read_unread, harg10.read_unread]
  rfl
end

/-- What a point leaves in the output block, as one array. -/
def gO (x0 : Vec F S16x2048 .f32) (x2 : Vec F S2x512 .f32) (x3 : Vec F S1x128 .f32) (x4 : Vec F S160x16 .bf16)
    (x5 : Vec F S5x16x16 .f32) (l : Fin 4 → Vec F S1x128x128 .f32) : Vec F S16x512 .bf16 := fun y =>
  have h : (y 1).val < 512 := (y 1).isLt
  ptN x0 x2 x3 x4 x5 ⟨(y 1).val / 128, by omega⟩ (l ⟨(y 1).val / 128, by omega⟩) (ix2 (y 0) ⟨(y 1).val % 128, by omega⟩)
/-- The final state, as one array. -/
def gE (x0 : Vec F S16x2048 .f32) (x2 : Vec F S2x512 .f32) (x4 : Vec F S160x16 .bf16) (l : Fin 4 → Vec F S1x128x128 .f32) :
    Vec F S1x4x128x128 .f32 := fun y => ptS x0 x2 x4 (y 1) (l (y 1)) (ix2 (y 3) (y 2))

end Cert.HgrnSProof
-- ==== Proof.HgrnSPoint.lean ====
/- What a point leaves: the pieces it stores, put together as arrays. -/
module
public import proofs.«01_k».proof.Proof.HgrnSBlock
public import Idealize.ShloMosaic.Lib.Pipeline.ReadBack
public import Idealize.ShloMosaic.Lib.Pipeline.ValueKit.Tiles
@[expose] public section
set_option maxRecDepth 16384
noncomputable section
namespace Cert.HgrnSProof
open Idealize.ShloMosaic Idealize.ShloMosaic.TcCoe Idealize.ShloMosaic.Tactic
open Cert.HgrnSIdeal Cert.HgrnSIdeal.Gen

variable {F : FTy → Type} [FloatOps F]
/-- A leading unit axis dropped. -/
theorem shapeCast_drop {φ : FTy} (u : FVec F S1x128x128 φ) (x : S128x128.Idx) :
    shapeCast S128x128 u shapeCasts_S1x128x128_S128x128 x = u (ix3 0 (x 0) (x 1)) := by
  pointwise
/-- An output piece is a slab of columns of the array. -/
theorem gO_piece (x0 : Vec F S16x2048 .f32) (x2 : Vec F S2x512 .f32) (x3 : Vec F S1x128 .f32) (x4 : Vec F S160x16 .bf16)
    (x5 : Vec F S5x16x16 .f32) (l : Fin 4 → Vec F S1x128x128 .f32)
    (h : Fin 4) (x : S16x128.Idx) (y : S16x512.Idx) (e0 : (y 0).val = (x 0).val) (e1 : (y 1).val = 128 * h.val + (x 1).val) :
    ptN x0 x2 x3 x4 x5 h (l h) x = gO x0 x2 x3 x4 x5 l y := by
  have a0 : y 0 = x 0 := Fin.ext e0
  have b1 : (x 1).val < 128 := (x 1).isLt
  have hy : (y 1).val < 512 := (y 1).isLt
  have hd : (⟨(y 1).val / 128, by omega⟩ : Fin 4) = h := Fin.ext (by show (y 1).val / 128 = h.val; omega)
  have hm : (⟨(y 1).val % 128, by omega⟩ : Fin 128) = x 1 := Fin.ext (by show (y 1).val % 128 = (x 1).val; omega)
  unfold gO
  dsimp only
  rw [hd, hm, a0]
  exact congrArg _ (ix2_eta x).symm
/-- The output pieces are the array. -/
theorem canon_O (x0 : Vec F S16x2048 .f32) (x2 : Vec F S2x512 .f32) (x3 : Vec F S1x128 .f32) (x4 : Vec F S160x16 .bf16)
    (x5 : Vec F S5x16x16 .f32) (l : Fin 4 → Vec F S1x128x128 .f32) :
    View.canon (piecesO x0 x2 x3 x4 x5 l) = gO x0 x2 x3 x4 x5 l := by
  funext y
  have hy0 : (y 0).val < 16 := (y 0).isLt
  have hy1 : (y 1).val < 512 := (y 1).isLt
  have e : ∀ n k : ℕ, n + 1 * k = n + k := fun n k => by rw [Nat.one_mul]
  refine View.canon_append_of_piecesOf (gO x0 x2 x3 x4 x5 l) [] (piecesO x0 x2 x3 x4 x5 l) ⟨fun x => ?_, fun x => ?_, fun x => ?_, fun x => ?_, trivial⟩ y ?_
  · exact gO_piece x0 x2 x3 x4 x5 l 3 x _ ((e 0 _).trans (Nat.zero_add _)) (e 384 _)
  · exact gO_piece x0 x2 x3 x4 x5 l 2 x _ ((e 0 _).trans (Nat.zero_add _)) (e 256 _)
  · exact gO_piece x0 x2 x3 x4 x5 l 1 x _ ((e 0 _).trans (Nat.zero_add _)) (e 128 _)
  · exact gO_piece x0 x2 x3 x4 x5 l 0 x _ ((e 0 _).trans (Nat.zero_add _)) (e 0 _)
  · have hm : ∀ h : ℕ, h ≤ (y 1).val → (y 1).val < h + 128 → ∀ inb, y ∈ (Rect.unit (s := S16x512) ![0, h] S16x128.size inb).set := by
      intro h h1 h2 inb
      rw [Rect.mem_set_unit]
      intro a
      match a with
      | ⟨0, _⟩ => exact ⟨by show 0 ≤ (y 0).val; omega, by show (y 0).val < 0 + 16; omega⟩
      | ⟨1, _⟩ => exact ⟨h1, h2⟩
    have hc : (y 1).val < 128 ∨ (128 ≤ (y 1).val ∧ (y 1).val < 256) ∨ (256 ≤ (y 1).val ∧ (y 1).val < 384) ∨ 384 ≤ (y 1).val := by omega
    rcases hc with hh | hh | hh | hh
    · exact ⟨_, List.mem_cons_of_mem _ (List.mem_cons_of_mem _ (List.mem_cons_of_mem _ List.mem_cons_self)), hm 0 (by omega) (by omega) inb_S16x512_S16x128_0_0⟩
    · exact ⟨_, List.mem_cons_of_mem _ (List.mem_cons_of_mem _ List.mem_cons_self), hm 128 hh.1 hh.2 inb_S16x512_S16x128_0_128⟩
    · exact ⟨_, List.mem_cons_of_mem _ List.mem_cons_self, hm 256 hh.1 hh.2 inb_S16x512_S16x128_0_256⟩
    · exact ⟨_, List.mem_cons_self, hm 384 hh (by omega) inb_S16x512_S16x128_0_384⟩

/-- A final piece is a state, transposed. -/
theorem gE_piece (u : FVec F S128x128 .f32) (x : S1x1x128x128.Idx) :
    k0_pay1 (shapeCast S1x128x128 u shapeCasts_S128x128_S1x128x128) x = u (ix2 (x 3) (x 2)) := by
  pointwise [k0_pay1]
/-- What a point loads: the given state, transposed. -/
theorem ini_apply (x1 : Vec F S1x4x128x128 .f32) (h : Fin 4) (x : S1x128x128.Idx) : ini x1 h x = x1 (ix4 0 h (x 2) (x 1)) := by
  have e : ini x1 h x = View.ld x1 (Rect.unit ![0, h.val, 0, 0] S1x1x128x128.size (fun a => by fin_cases h <;> fin_cases a <;> decide)) (ix4 0 0 (x 2) (x 1)) := by
    pointwise [ini, k0_pay5]
  rw [e]
  refine View.ld_unit_apply_of _ _ _ _ _ _ fun a => ?_
  match a with
  | ⟨0, _⟩ => rfl
  | ⟨1, _⟩ => exact (Nat.add_zero _).symm
  | ⟨2, _⟩ => exact (Nat.zero_add _).symm
  | ⟨3, _⟩ => exact (Nat.zero_add _).symm
/-- The final pieces are the array. -/
theorem canon_E (x0 : Vec F S16x2048 .f32) (x2 : Vec F S2x512 .f32) (x4 : Vec F S160x16 .bf16) (l : Fin 4 → Vec F S1x128x128 .f32) :
    View.canon (piecesE (fun h => ptP x0 x2 x4 h (l h))) = gE x0 x2 x4 l := by
  funext y
  have hy0 : (y 0).val < 1 := (y 0).isLt
  have hy1 : (y 1).val < 4 := (y 1).isLt
  have hy2 : (y 2).val < 128 := (y 2).isLt
  have hy3 : (y 3).val < 128 := (y 3).isLt
  have hx : ∀ x : S1x1x128x128.Idx, (x 1).val = 0 := fun x => Nat.lt_one_iff.mp (x 1).isLt
  have e : ∀ n k : ℕ, n + 1 * k = n + k := fun n k => by rw [Nat.one_mul]
  have main : ∀ (h : Fin 4) (x : S1x1x128x128.Idx) (y : S1x4x128x128.Idx), (y 1).val = h.val → (y 2).val = (x 2).val → (y 3).val = (x 3).val →
      k0_pay1 (ptP x0 x2 x4 h (l h)) x = gE x0 x2 x4 l y := by
    intro h x y a1 a2 a3
    have a1 : y 1 = h := Fin.ext a1
    have a2 : y 2 = x 2 := Fin.ext a2
    have a3 : y 3 = x 3 := Fin.ext a3
    rw [ptP, gE_piece]
    show _ = ptS x0 x2 x4 (y 1) (l (y 1)) (ix2 (y 3) (y 2))
    rw [a1, a2, a3]
  refine View.canon_append_of_piecesOf (gE x0 x2 x4 l) [] (piecesE (fun h => ptP x0 x2 x4 h (l h))) ⟨fun x => ?_, fun x => ?_, fun x => ?_, fun x => ?_, trivial⟩ y ?_
  · exact main 3 x _ ((e 3 _).trans (by rw [hx x]; rfl)) ((e 0 _).trans (Nat.zero_add _)) ((e 0 _).trans (Nat.zero_add _))
  · exact main 2 x _ ((e 2 _).trans (by rw [hx x]; rfl)) ((e 0 _).trans (Nat.zero_add _)) ((e 0 _).trans (Nat.zero_add _))
  · exact main 1 x _ ((e 1 _).trans (by rw [hx x]; rfl)) ((e 0 _).trans (Nat.zero_add _)) ((e 0 _).trans (Nat.zero_add _))
  · exact main 0 x _ ((e 0 _).trans (by rw [hx x]; rfl)) ((e 0 _).trans (Nat.zero_add _)) ((e 0 _).trans (Nat.zero_add _))
  · have hm : ∀ h : ℕ, (y 1).val = h → ∀ inb, y ∈ (Rect.unit (s := S1x4x128x128) ![0, h, 0, 0] S1x1x128x128.size inb).set := by
      intro h hh inb
      rw [Rect.mem_set_unit]
      intro a
      match a with
      | ⟨0, _⟩ => exact ⟨by show 0 ≤ (y 0).val; omega, by show (y 0).val < 0 + 1; omega⟩
      | ⟨1, _⟩ => exact ⟨by show h ≤ (y 1).val; omega, by show (y 1).val < h + 1; omega⟩
      | ⟨2, _⟩ => exact ⟨by show 0 ≤ (y 2).val; omega, by show (y 2).val < 0 + 128; omega⟩
      | ⟨3, _⟩ => exact ⟨by show 0 ≤ (y 3).val; omega, by show (y 3).val < 0 + 128; omega⟩
    have hc : (y 1).val = 0 ∨ (y 1).val = 1 ∨ (y 1).val = 2 ∨ (y 1).val = 3 := by omega
    rcases hc with hh | hh | hh | hh
    · exact ⟨_, List.mem_cons_of_mem _ (List.mem_cons_of_mem _ (List.mem_cons_of_mem _ List.mem_cons_self)), hm 0 hh inb_S1x4x128x128_S1x1x128x128_0_0_0_0⟩
    · exact ⟨_, List.mem_cons_of_mem _ (List.mem_cons_of_mem _ List.mem_cons_self), hm 1 hh inb_S1x4x128x128_S1x1x128x128_0_1_0_0⟩
    · exact ⟨_, List.mem_cons_of_mem _ List.mem_cons_self, hm 2 hh inb_S1x4x128x128_S1x1x128x128_0_2_0_0⟩
    · exact ⟨_, List.mem_cons_self, hm 3 hh inb_S1x4x128x128_S1x1x128x128_0_3_0_0⟩

end Cert.HgrnSProof
-- ==== Proof.HgrnSChunk.lean ====
/- One chunk of 16 tokens of the sample batch's recurrence kernel: the state after it and what it reads, over the reals but
   for the state before it, which may hold anything. -/
module
public import proofs.«01_k».proof.Proof.HgrnSPoint
public import proofs.«01_k».proof.Proof.HgrnChunk
@[expose] public section
set_option maxRecDepth 16384
noncomputable section
namespace Cert.HgrnSProof
open Idealize.ShloMosaic Idealize.ShloMosaic.TcCoe Idealize.ShloMosaic.Tactic
open Cert.HgrnSIdeal Cert.HgrnSIdeal.Gen
open Cert.Recurrence
open Cert.HgrnProof (coe_sum)
open scoped BigOperators

/-- Columns of a head, read. -/
theorem col_apply {φ : FTy} (h : Fin 4) (x : FVec Ideal S16x512 φ) (t : Fin 16) (a : Fin 128) :
    col h x (ix2 t a) = x (ix2 t ⟨128 * h.val + a.val, by omega⟩) := by
  refine extractStridedSlice_apply _ x _ _ _ fun b => ?_
  match b with
  | ⟨0, _⟩ => exact (Nat.zero_add _).symm
  | ⟨1, _⟩ => rfl
/-- A band of the sums, read. -/
theorem blk_apply (r : Fin 10) (h : Fin 4) (x : FVec Ideal S160x512 .f32) (t : Fin 16) (a : Fin 128) :
    blk r h x (ix2 t a) = x (ix2 ⟨16 * r.val + t.val, by omega⟩ ⟨128 * h.val + a.val, by omega⟩) := by
  refine extractStridedSlice_apply _ x _ _ _ fun b => ?_
  match b with
  | ⟨0, _⟩ => rfl
  | ⟨1, _⟩ => rfl
/-- The chunk's whole sum is the last row of the first band. -/
theorem lastRow_apply (h : Fin 4) (x : FVec Ideal S160x512 .f32) (a : Fin 128) :
    lastRow h x (ix2 0 a) = blk 0 h x (ix2 15 a) := by
  rw [blk_apply]
  refine extractStridedSlice_apply _ x _ _ _ fun b => ?_
  match b with
  | ⟨0, _⟩ => rfl
  | ⟨1, _⟩ => rfl
/-- A cast to the same shape. -/
theorem same_apply (u : FVec Ideal S16x512 .f32) (t : Fin 16) (j : Fin 512) :
    shapeCast S16x512 u shapeCasts_S16x512_S16x512 (ix2 t j) = u (ix2 t j) := by
  pointwise

/-- The log decays a point sums: the padding's tokens have none. -/
def logs (x0 : Vec Ideal S16x2048 .f32) (x2 : Vec Ideal S2x512 .f32) : FVec Ideal S16x512 .f32 :=
  select k0_pay13 (k0_pay11 (ldB x2) (ldF x0)) (broadcast S16x512 (Scalar.ofBits (F := Ideal) .f32 0x00000000#32))
/-- The sums' entries: the table's row against the three parts of the log decays. -/
theorem ex_apply (x0 : Vec Ideal S16x2048 .f32) (x2 : Vec Ideal S2x512 .f32) (x4 : Vec Ideal S160x16 .bf16) (i : Fin 160) (j : Fin 512) :
    ex x0 x2 x4 (ix2 i j)
      = ∑ x, ldW x4 (ix2 i x) * logs x0 x2 (ix2 x j) + ∑ x, ldW x4 (ix2 i x) * (logs x0 x2 (ix2 x j) - logs x0 x2 (ix2 x j))
        + ∑ x, ldW x4 (ix2 i x) * ((logs x0 x2 (ix2 x j) - logs x0 x2 (ix2 x j)) - (logs x0 x2 (ix2 x j) - logs x0 x2 (ix2 x j))) := by
  unfold ex logs
  generalize k0_pay13 = p
  generalize k0_pay11 (ldB x2) (ldF x0) = l
  pointwise [k0_pay16]

/-- A state's entry after a chunk. -/
theorem headS_apply (k : FVec Ideal S16x128 .f32) (v : FVec Ideal S16x128 .bf16) (eEnd : FVec Ideal S16x128 .f32) (eLast : FVec Ideal S1x128 .f32)
    (st : FVec Ideal S128x128 .f32) (i j : Fin 128) :
    headS k v eEnd eLast st (ix2 i j)
      = st (ix2 i j) * Ideal.exp (eLast (ix2 0 j)) + ∑ x, v (ix2 x i) * (k (ix2 x j) * Ideal.exp (eEnd (ix2 x j))) := by
  pointwise [headS]
/-- A level's score. -/
theorem headL_apply (q k eq ek : FVec Ideal S16x128 .f32) (mk : FVec Ideal S1x16x16 .f32) (i j : Fin 16) :
    headL q k eq ek mk (ix2 i j)
      = mk (ix3 0 i j) * ∑ x, q (ix2 i x) * Ideal.exp (eq (ix2 i x)) * (k (ix2 j x) * Ideal.exp (ek (ix2 j x))) := by
  pointwise [headL]
/-- The scores: the diagonal and the levels. -/
theorem headA_apply (q k : FVec Ideal S16x128 .f32) (E : Fin 10 → FVec Ideal S16x128 .f32) (mk : Fin 5 → FVec Ideal S1x16x16 .f32)
    (i j : Fin 16) :
    headA q k E mk (ix2 i j)
      = mk 0 (ix3 0 i j) * (∑ x, q (ix2 i x) * k (ix2 j x))
        + headL q k (E 2) (E 3) (mk 1) (ix2 i j) + headL q k (E 4) (E 5) (mk 2) (ix2 i j) + headL q k (E 6) (E 7) (mk 3) (ix2 i j)
        + headL q k (E 8) (E 9) (mk 4) (ix2 i j) := by
  pointwise [headA]
/-- What a head reads. -/
theorem headO_apply (q k : FVec Ideal S16x128 .f32) (v : FVec Ideal S16x128 .bf16) (E : Fin 10 → FVec Ideal S16x128 .f32)
    (mk : Fin 5 → FVec Ideal S1x16x16 .f32) (st : FVec Ideal S128x128 .f32) (i : Fin 16) (j : Fin 128) :
    headO q k v E mk st (ix2 i j)
      = (∑ s, headA q k E mk (ix2 i s) * v (ix2 s j)) + ∑ a, q (ix2 i a) * Ideal.exp (E 0 (ix2 i a)) * st (ix2 j a) := by
  pointwise [headO]

/-- What a chunk's blocks hold, head `h`: queries, log decays, keys and values as reals, and the two tables. -/
structure Holds (q lf k v : ℕ → Fin 128 → ℝ) (n0 : ℕ) (h : Fin 4) (x0 : Vec Ideal S16x2048 .f32) (x2 : Vec Ideal S2x512 .f32)
    (x4 : Vec Ideal S160x16 .bf16) (x5 : Vec Ideal S5x16x16 .f32) : Prop where
  hq : ∀ (t : Fin 16) (a : Fin 128), ldQ x0 (ix2 t ⟨128 * h.val + a.val, by omega⟩) = (q (n0 + t) a : EReal)
  hv : ∀ (t : Fin 16) (a : Fin 128), ldV x0 (ix2 t ⟨128 * h.val + a.val, by omega⟩) = (v (n0 + t) a : EReal)
  hk : ∀ (t : Fin 16) (a : Fin 128), kk x0 x2 (ix2 t ⟨128 * h.val + a.val, by omega⟩) = (k (n0 + t) a : EReal)
  hl : ∀ (t : Fin 16) (a : Fin 128), logs x0 x2 (ix2 t ⟨128 * h.val + a.val, by omega⟩) = (lf (n0 + t) a : EReal)
  w0 : ∀ t u : Fin 16, ldW x4 (ix2 ⟨16 * 0 + t.val, by omega⟩ u) = ((if u ≤ t then 1 else 0 : ℝ) : EReal)
  w1 : ∀ t u : Fin 16, ldW x4 (ix2 ⟨16 * 1 + t.val, by omega⟩ u) = ((if t < u then 1 else 0 : ℝ) : EReal)
  wq : ∀ (lv : Fin 4) (t u : Fin 16), ldW x4 (ix2 ⟨16 * (2 + 2 * lv.val) + t.val, by omega⟩ u)
    = ((if (up (2 ^ lv.val) t ∧ mid (2 ^ lv.val) t ≤ u.val) ∧ u.val ≤ t.val then 1 else 0 : ℝ) : EReal)
  wk : ∀ (lv : Fin 4) (t u : Fin 16), ldW x4 (ix2 ⟨16 * (3 + 2 * lv.val) + t.val, by omega⟩ u)
    = ((if (¬ up (2 ^ lv.val) t ∧ t.val < u.val) ∧ u.val < mid (2 ^ lv.val) t then 1 else 0 : ℝ) : EReal)
  m0 : ∀ t s : Fin 16, ldM x5 0 (ix3 0 t s) = ((if s = t then 1 else 0 : ℝ) : EReal)
  ml : ∀ (lv : Fin 4) (t s : Fin 16), ldM x5 lv.succ (ix3 0 t s) = ((if pair (2 ^ lv.val) t.val s.val then 1 else 0 : ℝ) : EReal)

section
variable {q lf k v : ℕ → Fin 128 → ℝ} {n0 : ℕ} {h : Fin 4} {x0 : Vec Ideal S16x2048 .f32} {x2 : Vec Ideal S2x512 .f32}
  {x4 : Vec Ideal S160x16 .bf16} {x5 : Vec Ideal S5x16x16 .f32}

/-- The values and queries of a head. -/
theorem cv_at (H : Holds q lf k v n0 h x0 x2 x4 x5) (t : Fin 16) (a : Fin 128) :
    (truncf .bf16 (col h (shapeCast S16x512 (ldV x0) shapeCasts_S16x512_S16x512)) bitsLt_bf16_f32 : FVec Ideal S16x128 .bf16) (ix2 t a) = (v (n0 + t) a : EReal) :=
  (col_apply h _ t a).trans ((same_apply _ _ _).trans (H.hv t a))
/-- The chunk's query at an entry. -/
theorem cq_at (H : Holds q lf k v n0 h x0 x2 x4 x5) (t : Fin 16) (a : Fin 128) :
    col h (shapeCast S16x512 (ldQ x0) shapeCasts_S16x512_S16x512) (ix2 t a) = (q (n0 + t) a : EReal) :=
  (col_apply h _ t a).trans ((same_apply _ _ _).trans (H.hq t a))
/-- The chunk's key at an entry. -/
theorem ck_at (H : Holds q lf k v n0 h x0 x2 x4 x5) (t : Fin 16) (a : Fin 128) :
    col h (kk x0 x2) (ix2 t a) = (k (n0 + t) a : EReal) :=
  (col_apply h _ t a).trans (H.hk t a)

/-- A band's entry: the sum of the log decays the table's row picks. -/
theorem blk_ex (H : Holds q lf k v n0 h x0 x2 x4 x5) (r : Fin 10) (t : Fin 16) (a : Fin 128) (p : Fin 16 → Prop) [DecidablePred p]
    (hw : ∀ u, ldW x4 (ix2 ⟨16 * r.val + t.val, by omega⟩ u) = ((if p u then 1 else 0 : ℝ) : EReal)) :
    blk r h (ex x0 x2 x4) (ix2 t a) = ((∑ u, if p u then lf (n0 + u) a else 0 : ℝ) : EReal) := by
  rw [blk_apply, ex_apply]
  simp only [H.hl, hw, ← EReal.coe_sub, ← EReal.coe_mul, coe_sum, ← EReal.coe_add]
  congr 1
  simp only [sub_self, mul_zero, Finset.sum_const_zero, add_zero, ite_mul, one_mul, zero_mul]

/-- The state's entry after the chunk: the old one decayed, and the chunk's own tokens. -/
theorem ptS_eq (H : Holds q lf k v n0 h x0 x2 x4 x5) (l : Vec Ideal S1x128x128 .f32) (b a : Fin 128) :
    ptS x0 x2 x4 h l (ix2 b a) = l (ix3 0 b a) * ((Real.exp (upto (fun u : Fin 16 => lf (n0 + u) a) 15) : ℝ) : EReal)
      + ((∑ s : Fin 16, k (n0 + s) a * Real.exp (past (fun u : Fin 16 => lf (n0 + u) a) s) * v (n0 + s) b : ℝ) : EReal) := by
  unfold ptS
  rw [headS_apply, lastRow_apply, blk_ex H 0 15 a (fun u => u ≤ 15) (H.w0 15)]
  have e1 : ∀ x : Fin 16, blk 1 h (ex x0 x2 x4) (ix2 x a) = ((∑ u, if x < u then lf (n0 + u) a else 0 : ℝ) : EReal) :=
    fun x => blk_ex H 1 x a (fun u => x < u) (H.w1 x)
  have el : (shapeCast S128x128 l shapeCasts_S1x128x128_S128x128 : FVec Ideal S128x128 .f32) (ix2 b a) = l (ix3 0 b a) :=
    shapeCast_drop (F := Ideal) l (ix2 b a)
  simp only [e1, cv_at H, el, ck_at H, Ideal.exp_coe, ← EReal.coe_mul, coe_sum]
  unfold upto past
  congr 2
  exact Finset.sum_congr rfl fun s _ => by ring

/-- A level's score, of reals. -/
theorem headL_eq (H : Holds q lf k v n0 h x0 x2 x4 x5) (lv : Fin 4) (t s : Fin 16) :
    headL (col h (shapeCast S16x512 (ldQ x0) shapeCasts_S16x512_S16x512)) (col h (kk x0 x2)) (blk ⟨2 + 2 * lv.val, by omega⟩ h (ex x0 x2 x4)) (blk ⟨3 + 2 * lv.val, by omega⟩ h (ex x0 x2 x4))
        (ldM x5 lv.succ) (ix2 t s)
      = ((if pair (2 ^ lv.val) t.val s.val then ∑ a : Fin 128,
          (q (n0 + t) a * Real.exp (∑ u : Fin 16, if (up (2 ^ lv.val) t ∧ mid (2 ^ lv.val) t ≤ u.val) ∧ u.val ≤ t.val
            then lf (n0 + u) a else 0))
          * (k (n0 + s) a * Real.exp (∑ u : Fin 16, if (¬ up (2 ^ lv.val) s ∧ s.val < u.val) ∧ u.val < mid (2 ^ lv.val) s
            then lf (n0 + u) a else 0)) else 0 : ℝ) : EReal) := by
  rw [headL_apply, H.ml]
  have eq : ∀ a, blk ⟨2 + 2 * lv.val, by omega⟩ h (ex x0 x2 x4) (ix2 t a) = _ := fun a => blk_ex H ⟨2 + 2 * lv.val, by omega⟩ t a _ (H.wq lv t)
  have ek : ∀ a, blk ⟨3 + 2 * lv.val, by omega⟩ h (ex x0 x2 x4) (ix2 s a) = _ := fun a => blk_ex H ⟨3 + 2 * lv.val, by omega⟩ s a _ (H.wk lv s)
  simp only [eq, ek, ck_at H, cq_at H, Ideal.exp_coe, ← EReal.coe_mul, coe_sum]
  congr 1
  rw [ite_mul, one_mul, zero_mul]

/-- The scores are the recurrence's. -/
theorem headA_eq (H : Holds q lf k v n0 h x0 x2 x4 x5) (t s : Fin 16) :
    headA (col h (shapeCast S16x512 (ldQ x0) shapeCasts_S16x512_S16x512)) (col h (kk x0 x2)) (fun r => blk r h (ex x0 x2 x4)) (ldM x5) (ix2 t s) = (score q lf k n0 t s : EReal) := by
  rw [headA_apply, ← score_levels16, H.m0]
  have e0 := headL_eq H 0 t s
  have e1 := headL_eq H 1 t s
  have e2 := headL_eq H 2 t s
  have e3 := headL_eq H 3 t s
  have d0 : ((if s = t then 1 else 0 : ℝ) : EReal) * (∑ x, col h (shapeCast S16x512 (ldQ x0) shapeCasts_S16x512_S16x512) (ix2 t x) * col h (kk x0 x2) (ix2 s x))
      = ((if s = t then ∑ a : Fin 128, q (n0 + t) a * k (n0 + s) a else 0 : ℝ) : EReal) := by
    simp only [ck_at H, cq_at H, ← EReal.coe_mul, coe_sum]
    congr 1
    rw [ite_mul, one_mul, zero_mul]
  rw [Fin.sum_univ_four, EReal.coe_add, EReal.coe_add, EReal.coe_add, EReal.coe_add, ← d0, ← e0, ← e1, ← e2, ← e3]
  simp only [← add_assoc]
  rfl

/-- What a head reads: the chunk's scores against its values, and the old state. -/
theorem ptO_eq (H : Holds q lf k v n0 h x0 x2 x4 x5) (l : Vec Ideal S1x128x128 .f32) (t : Fin 16) (b : Fin 128) :
    ptO x0 x2 x4 x5 h l (ix2 t b) = ((∑ s : Fin 16, score q lf k n0 t s * v (n0 + s) b : ℝ) : EReal)
      + ∑ a : Fin 128, ((q (n0 + t) a * Real.exp (upto (fun u : Fin 16 => lf (n0 + u) a) t) : ℝ) : EReal) * l (ix3 0 b a) := by
  unfold ptO
  rw [headO_apply]
  have e0 : ∀ a : Fin 128, blk 0 h (ex x0 x2 x4) (ix2 t a) = ((∑ u, if u ≤ t then lf (n0 + u) a else 0 : ℝ) : EReal) :=
    fun a => blk_ex H 0 t a (fun u => u ≤ t) (H.w0 t)
  have el : ∀ a, (shapeCast S128x128 l shapeCasts_S1x128x128_S128x128 : FVec Ideal S128x128 .f32) (ix2 b a) = l (ix3 0 b a) :=
    fun a => shapeCast_drop (F := Ideal) l (ix2 b a)
  simp only [e0, cv_at H, el, headA_eq H, cq_at H, Ideal.exp_coe, ← EReal.coe_mul, coe_sum]
  rfl
end

end Cert.HgrnSProof
-- ==== Proof.HgrnSVal.lean ====
/- The sample batch's results as arrays: eight tokens of each sequence against a given state, and the padding's rows. -/
module
public import proofs.«01_k».proof.Proof.HgrnSChunk
public import proofs.«01_k».proof.Proof.HgrnGate
@[expose] public section
set_option maxRecDepth 16384
noncomputable section
namespace Cert.HgrnSProof
open Idealize.ShloMosaic Idealize.ShloMosaic.TcCoe Idealize.ShloMosaic.Tactic
open Cert.HgrnSIdeal Cert.HgrnSIdeal.Gen
open Cert.Recurrence
open Cert.HgrnProof (gate)
open scoped BigOperators

/-- The row of a sequence's token, and the queries, values, gates, log decays and keys of a sequence and head; nothing past the eighth token. -/
def row (b n : ℕ) : Fin 1024 := ⟨(8 * b + n) % 1024, Nat.mod_lt _ (by norm_num)⟩
variable (X : Vec Ideal S1024x2048 .f32) (L : Vec Ideal S2x512 .f32) (s0 : Vec Ideal S1x128x4x128x128 .f32)
def qT (b : ℕ) (h : Fin 4) (n : ℕ) (a : Fin 128) : ℝ := if n < 8 then (X (ix2 (row b n) ⟨128 * h.val + a.val, by omega⟩)).toReal else 0
def vT (b : ℕ) (h : Fin 4) (n : ℕ) (a : Fin 128) : ℝ := if n < 8 then (X (ix2 (row b n) ⟨1024 + (128 * h.val + a.val), by omega⟩)).toReal else 0
def gT (b : ℕ) (h : Fin 4) (n : ℕ) (a : Fin 128) : ℝ :=
  gate (L (ix2 0 ⟨128 * h.val + a.val, by omega⟩)).toReal (L (ix2 1 ⟨128 * h.val + a.val, by omega⟩)).toReal
    (X (ix2 (row b n) ⟨512 + (128 * h.val + a.val), by omega⟩)).toReal
def lT (b : ℕ) (h : Fin 4) (n : ℕ) (a : Fin 128) : ℝ := if n < 8 then Real.log (gT X L b h n a) else 0
def kT (b : ℕ) (h : Fin 4) (n : ℕ) (a : Fin 128) : ℝ := if n < 8 then 1 - gT X L b h n a else 0

/-- Every entry of the first three column groups and of the logits is a real number. -/
structure Fine : Prop where
  hX : ∀ (i : Fin 1024) (j : Fin 2048), j.val < 1536 → X (ix2 i j) = ((X (ix2 i j)).toReal : EReal)
  hL : ∀ (i : Fin 2) (j : Fin 512), L (ix2 i j) = ((L (ix2 i j)).toReal : EReal)

/-- What token `t` of a sequence reads, and the state after the eight tokens. -/
def ro (b : Fin 128) (h : Fin 4) (t : Fin 8) (ν : Fin 128) : EReal :=
  ((∑ s : Fin 8, score (qT X b.val h) (lT X L b.val h) (kT X L b.val h) 0 t s * vT X b.val h (0 + s.val) ν : ℝ) : EReal)
    + ∑ a : Fin 128, ((qT X b.val h (0 + t.val) a * Real.exp (upto (fun u : Fin 8 => lT X L b.val h (0 + u.val) a) t) : ℝ) : EReal) * s0 (ix5 0 b h a ν)
def st (b : Fin 128) (h : Fin 4) (κ ν : Fin 128) : EReal :=
  s0 (ix5 0 b h κ ν) * ((Real.exp (upto (fun u : Fin 8 => lT X L b.val h (0 + u.val) κ) 7) : ℝ) : EReal)
    + ((∑ s : Fin 8, kT X L b.val h (0 + s.val) κ * Real.exp (past (fun u : Fin 8 => lT X L b.val h (0 + u.val) κ) s) * vT X b.val h (0 + s.val) ν : ℝ) : EReal)

/-- A readout, normalised over the head, scaled by the gain and gated: the layer's own closing line. -/
def gated (o : Fin 128 → EReal) (w g : EReal) (b : Fin 128) : EReal :=
  o b * Ideal.rsqrt (Ideal.div (∑ x, o x * o x) (Ideal.ofBits .f32 1124073472#32) + Ideal.ofBits .f32 897988541#32) * w
    * (g * Ideal.div 1 (1 + Ideal.exp (0 - g)))
/-- Nothing read and nothing to gate it by gives nothing. -/
theorem gated_zero (o : Fin 128 → EReal) (w g : EReal) (b : Fin 128) (ho : o b = 0) : gated o w g b = 0 := by
  unfold gated
  rw [ho, zero_mul, zero_mul, zero_mul]

/-- The readout array, 16 rows a sequence and the last eight of them nothing, and the final states. -/
def readouts (w : Vec Ideal S128 .f32) : Vec Ideal S2048x512 .bf16 := fun i =>
  have h0 : (i 0).val < 2048 := (i 0).isLt
  have h1 : (i 1).val < 512 := (i 1).isLt
  if h : (i 0).val % 16 < 8 then
    gated (ro X L s0 ⟨(i 0).val / 16, by omega⟩ ⟨(i 1).val / 128, by omega⟩ ⟨(i 0).val % 16, h⟩) (w (ix1 ⟨(i 1).val % 128, by omega⟩))
      (X (ix2 (row ((i 0).val / 16) ((i 0).val % 16)) ⟨1536 + (i 1).val, by omega⟩)) ⟨(i 1).val % 128, by omega⟩
  else 0
def states : Vec Ideal S128x4x128x128 .f32 := fun i => st X L s0 (i 0) (i 1) (i 2) (i 3)

/-- The readout array's entries: a token's, and the padding's. -/
theorem readouts_low (w : Vec Ideal S128 .f32) (b : Fin 128) (n : Fin 8) (c : Fin 512) (r : Fin 2048) (hr : r.val = 16 * b.val + n.val) :
    readouts X L s0 w (ix2 r c) = gated (ro X L s0 b ⟨c.val / 128, by omega⟩ n) (w (ix1 ⟨c.val % 128, by omega⟩))
      (X (ix2 (row b.val n.val) ⟨1536 + c.val, by omega⟩)) ⟨c.val % 128, by omega⟩ := by
  have e1 : r.val / 16 = b.val := by omega
  have e2 : r.val % 16 = n.val := by omega
  have h : r.val % 16 < 8 := by omega
  refine (dif_pos h).trans ?_
  show gated (ro X L s0 ⟨r.val / 16, _⟩ _ ⟨r.val % 16, _⟩) _ (X (ix2 (row (r.val / 16) (r.val % 16)) _)) _ = _
  simp only [e1, e2]
  rfl
/-- A row of padding holds zero. -/
theorem readouts_high (w : Vec Ideal S128 .f32) (b : Fin 128) (n : Fin 16) (hn : 8 ≤ n.val) (c : Fin 512) (r : Fin 2048) (hr : r.val = 16 * b.val + n.val) :
    readouts X L s0 w (ix2 r c) = (0 : EReal) := by
  have h : ¬ r.val % 16 < 8 := by omega
  exact dif_neg h

/-- A sum over 16 tokens of which the last eight give nothing. -/
theorem split16 (f : Fin 16 → ℝ) (hf : ∀ s : Fin 16, 8 ≤ s.val → f s = 0) : ∑ s, f s = ∑ s : Fin 8, f (s.castLE (by decide)) := by
  have e : ∑ s : Fin (8 + 8), f s = _ := Fin.sum_univ_add (fun s : Fin (8 + 8) => f s)
  refine e.trans ?_
  rw [Finset.sum_eq_zero (s := Finset.univ) (f := fun i : Fin 8 => f (Fin.natAdd 8 i)) (fun i _ => hf _ (by show 8 ≤ 8 + i.val; omega)), add_zero]
  rfl

section
variable {q lf k v : ℕ → Fin 128 → ℝ}
/-- Eight tokens of padding with no log decay leave the whole sum as it is. -/
theorem upto_pad (hl : ∀ n, 8 ≤ n → ∀ a, lf n a = 0) (a : Fin 128) :
    upto (fun u : Fin 16 => lf (0 + u) a) 15 = upto (fun u : Fin 8 => lf (0 + u) a) 7 := by
  unfold upto
  rw [split16 _ fun s hs => by beta_reduce; rw [hl _ (by omega), ite_self]]
  refine Finset.sum_congr rfl fun u _ => ?_
  rw [if_pos (Fin.le_def.2 (by show u.val ≤ 15; omega)), if_pos (Fin.le_def.2 (by show u.val ≤ 7; omega))]
  rfl
/-- Padding adds nothing to a sum after a row. -/
theorem past_pad (hl : ∀ n, 8 ≤ n → ∀ a, lf n a = 0) (s : Fin 8) (a : Fin 128) :
    past (fun u : Fin 16 => lf (0 + u) a) (s.castLE (by decide)) = past (fun u : Fin 8 => lf (0 + u) a) s := by
  unfold past
  rw [split16 _ fun s hs => by beta_reduce; rw [hl _ (by omega), ite_self]]
  rfl
/-- A sum up to a token is the same with and without padding. -/
theorem upto_low (t : Fin 8) (a : Fin 128) :
    upto (fun u : Fin 16 => lf (0 + u) a) (t.castLE (by decide)) = upto (fun u : Fin 8 => lf (0 + u) a) t := by
  rw [upto_eq (fun u => lf (0 + u) a), upto_eq (fun u => lf (0 + u) a)]
  rfl
/-- A score of two tokens is the same with and without padding. -/
theorem score_low (t s : Fin 8) : score q lf k 0 (t.castLE (by decide) : Fin 16) (s.castLE (by decide)) = score q lf k 0 t s := by
  unfold score
  refine if_congr Iff.rfl (Finset.sum_congr rfl fun a _ => ?_) rfl
  rw [gap_eq (fun u => lf (0 + u) a), gap_eq (fun u => lf (0 + u) a)]
  rfl
/-- Padding has no score, and sees nothing. -/
theorem score_key (hk : ∀ n, 8 ≤ n → ∀ a, k n a = 0) (t s : Fin 16) (hs : 8 ≤ s.val) : score q lf k 0 t s = 0 := by
  unfold score
  by_cases h : s ≤ t
  · rw [if_pos h]
    exact Finset.sum_eq_zero fun a _ => by rw [hk _ (by omega), mul_zero, zero_mul]
  · rw [if_neg h]
/-- A score of a query that is zero is zero. -/
theorem score_query (hq : ∀ n, 8 ≤ n → ∀ a, q n a = 0) (t s : Fin 16) (ht : 8 ≤ t.val) : score q lf k 0 t s = 0 := by
  unfold score
  by_cases h : s ≤ t
  · rw [if_pos h]
    exact Finset.sum_eq_zero fun a _ => by rw [hq _ (by omega), zero_mul, zero_mul]
  · rw [if_neg h]
/-- The tokens' part of the state, and of a readout. -/
theorem tail_pad (hl : ∀ n, 8 ≤ n → ∀ a, lf n a = 0) (hk : ∀ n, 8 ≤ n → ∀ a, k n a = 0) (a b : Fin 128) :
    (∑ s : Fin 16, k (0 + s) a * Real.exp (past (fun u : Fin 16 => lf (0 + u) a) s) * v (0 + s) b)
      = ∑ s : Fin 8, k (0 + s) a * Real.exp (past (fun u : Fin 8 => lf (0 + u) a) s) * v (0 + s) b := by
  rw [split16 _ fun s hs => by rw [hk _ (by omega), zero_mul, zero_mul]]
  refine Finset.sum_congr rfl fun s _ => ?_
  rw [past_pad hl]
  rfl
/-- Padding adds nothing to what is read in a chunk. -/
theorem read_pad (hk : ∀ n, 8 ≤ n → ∀ a, k n a = 0) (t : Fin 8) (b : Fin 128) :
    (∑ s : Fin 16, score q lf k 0 (t.castLE (by decide) : Fin 16) s * v (0 + s) b) = ∑ s : Fin 8, score q lf k 0 t s * v (0 + s) b := by
  rw [split16 _ fun s hs => by rw [score_key hk _ s hs, zero_mul]]
  exact Finset.sum_congr rfl fun s _ => by rw [score_low]; rfl
end

/-- A query in the padding is zero. -/
theorem qT_pad (b : ℕ) (h : Fin 4) (n : ℕ) (hn : 8 ≤ n) (a : Fin 128) : qT X b h n a = 0 := if_neg (by omega)
/-- A log gate in the padding is zero. -/
theorem lT_pad (b : ℕ) (h : Fin 4) (n : ℕ) (hn : 8 ≤ n) (a : Fin 128) : lT X L b h n a = 0 := if_neg (by omega)
/-- A key in the padding is zero. -/
theorem kT_pad (b : ℕ) (h : Fin 4) (n : ℕ) (hn : 8 ≤ n) (a : Fin 128) : kT X L b h n a = 0 := if_neg (by omega)

end Cert.HgrnSProof
-- ==== Proof.HgrnSRefStage.lean ====
/- The sample batch's reference, in stages: each is a line or two of the reference over any arithmetic, and together they are what its run returns. -/
module
public import proofs.«01_k».proof.Proof.HgrnSVal
public import proofs.«01_k».proof.Proof.HgrnRefSum
public import proofs.«01_k».proof.Proof.HgrnTables
public import proofs.«01_k».proof.Proof.Gen.HgrnSRefIdeal.Run
@[expose] public section
set_option maxRecDepth 16384
noncomputable section
namespace Cert.HgrnSProof
open Idealize.ShloMosaic Idealize.ShloMosaic.TcCoe Idealize.ShloMosaic.Tactic
open Cert.HgrnSRefIdeal Cert.HgrnSRefIdeal.Gen Cert.HgrnSRefIdeal.Value
variable {F : FTy → Type} [FloatOps F]

/-- The softmax of the floor logits. -/
def rSoft (L : Vec F S2x512 .f32) : Vec F S2x512 .f32 :=
  Host.divf (Host.exp (subf L (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf L (constant S_ .f32 0xFF800000#32) reducesTo_S2x512_S512_d0 h_S_)))))) (broadcastInDim S2x512 ![0, 1] bcast_S1x512_S2x512_0_1 (broadcastInDim S1x512 ![1] bcast_S512_S1x512_1 (Host.reduceAdd (Host.exp (subf L (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf L (constant S_ .f32 0xFF800000#32) reducesTo_S2x512_S512_d0 h_S_)))))) (constant S_ .f32 0x00000000#32) reducesTo_S2x512_S512_d0 h_S_)))
/-- The floor: the running sum of the softmax, its first row. -/
def rFloor (L : Vec F S2x512 .f32) : Vec F S4x128 .f32 :=
  shapeCast _ (shapeCast _ (extractStridedSlice S1x512 ![0, 0] (Host.reduceWindowAdd ![2, 1] ![1, 1] ![1, 0] ![0, 0] (rSoft L) (broadcastInDim S_ ![] bcast_S_S_ (constant S_ .f32 0x00000000#32)) reduceWindows_S2x512_S2x512_w2s1p1_0_w1s1p0_0 h_S_) slices_S2x512_S1x512_0_0) shapeCasts_S1x512_S512) shapeCasts_S512_S4x128
/-- The gate's inputs. -/
def rIn (X : Vec F S1024x2048 .f32) : Vec F S128x8x4x128 .f32 :=
  shapeCast _ (extractStridedSlice S1024x512 ![0, 512] X slices_S1024x2048_S1024x512_0_512) shapeCasts_S1024x512_S128x8x4x128
/-- The gate. -/
def rGate (X : Vec F S1024x2048 .f32) (L : Vec F S2x512 .f32) : Vec F S128x8x4x128 .f32 :=
  addf (broadcastInDim S128x8x4x128 ![0, 1, 2, 3] bcast_S1x1x4x128_S128x8x4x128_0_1_2_3 (broadcastInDim S1x1x4x128 ![2, 3] bcast_S4x128_S1x1x4x128_2_3 (rFloor L))) (mulf (broadcastInDim S128x8x4x128 ![0, 1, 2, 3] bcast_S1x1x4x128_S128x8x4x128_0_1_2_3 (broadcastInDim S1x1x4x128 ![2, 3] bcast_S4x128_S1x1x4x128_2_3 (subf (broadcastInDim S4x128 ![] bcast_S_S4x128 (constant S_ .f32 0x3F800000#32)) (rFloor L)))) (Host.divf (broadcastInDim S128x8x4x128 ![] bcast_S_S128x8x4x128 (constant S_ .f32 0x3F800000#32)) (addf (broadcastInDim S128x8x4x128 ![] bcast_S_S128x8x4x128 (constant S_ .f32 0x3F800000#32)) (Host.exp (Host.negf (rIn X))))))
/-- The running sums of the log decays. -/
def rCum (X : Vec F S1024x2048 .f32) (L : Vec F S2x512 .f32) : Vec F S128x8x4x128 .f32 :=
  Host.reduceWindowAdd ![1, 8, 1, 1] ![1, 1, 1, 1] ![0, 7, 0, 0] ![0, 0, 0, 0] (Host.log (rGate X L)) (broadcastInDim S_ ![] bcast_S_S_ (constant S_ .f32 0x00000000#32)) reduceWindows_S128x8x4x128_S128x8x4x128_w1s1p0_0_w8s1p7_0_w1s1p0_0_w1s1p0_0 h_S_
/-- The keys. -/
def rKey (X : Vec F S1024x2048 .f32) (L : Vec F S2x512 .f32) : Vec F S128x8x4x128 .f32 :=
  subf (broadcastInDim S128x8x4x128 ![] bcast_S_S128x8x4x128 (constant S_ .f32 0x3F800000#32)) (rGate X L)
/-- The queries. -/
def rQ (X : Vec F S1024x2048 .f32) : Vec F S128x8x4x128 .f32 :=
  shapeCast _ (extractStridedSlice S1024x512 ![0, 0] X slices_S1024x2048_S1024x512_0_0) shapeCasts_S1024x512_S128x8x4x128
/-- The values. -/
def rV (X : Vec F S1024x2048 .f32) : Vec F S128x8x4x128 .f32 :=
  shapeCast _ (extractStridedSlice S1024x512 ![0, 1024] X slices_S1024x2048_S1024x512_0_1024) shapeCasts_S1024x512_S128x8x4x128
/-- The given state. -/
def rS (S : Vec F S1x128x4x128x128 .f32) : Vec F S128x4x128x128 .f32 :=
  shapeCast _ S shapeCasts_S1x128x4x128x128_S128x4x128x128
/-- The whole sums. -/
def rLast (X : Vec F S1024x2048 .f32) (L : Vec F S2x512 .f32) : Vec F S128x4x128 .f32 :=
  shapeCast _ (extractStridedSlice S128x1x4x128 ![0, 7, 0, 0] (rCum X L) slices_S128x8x4x128_S128x1x4x128_0_7_0_0) shapeCasts_S128x1x4x128_S128x4x128
/-- What the given state gives a token. -/
def rOld (X : Vec F S1024x2048 .f32) (S : Vec F S1x128x4x128x128 .f32) (L : Vec F S2x512 .f32) : Vec F S128x8x4x128 .f32 :=
  transpose S128x8x4x128 [0, 3, 1, 2] (Host.dotGeneral dot_S128x4x128x128_S128x8x4x128_S128x4x128x8_2_3_3_1_01_02 none (rS S) (mulf (rQ X) (Host.exp (rCum X L)))) transposes_S128x4x128x8_S128x8x4x128_0_3_1_2
/-- The triangle. -/
def rTri  : IVec S8x8 1 :=
  select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))
/-- What a sequence's own tokens give a token. -/
def rNew (X : Vec F S1024x2048 .f32) (L : Vec F S2x512 .f32) : Vec F S128x8x4x128 .f32 :=
  transpose S128x8x4x128 [0, 3, 1, 2] (Host.dotGeneral dot_S128x8x4x128_S128x8x8x4_S128x4x128x8_1_2_3_1_02_03 none (rV X) (transpose S128x8x8x4 [0, 1, 3, 2] (Host.dotGeneral dot_S128x8x8x4x128_S128x8x4x128_S128x8x4x8_4_3_2_n_013_012 none (mulf (Host.exp (select (broadcastInDim S128x8x8x4x128 ![0, 1, 2, 3, 4] bcast_S1x8x8x1x1_S128x8x8x4x128_0_1_2_3_4 (broadcastInDim S1x8x8x1x1 ![1, 2] bcast_S8x8_S1x8x8x1x1_1_2 rTri)) (subf (broadcastInDim S128x8x8x4x128 ![0, 1, 2, 3, 4] bcast_S128x8x1x4x128_S128x8x8x4x128_0_1_2_3_4 (broadcastInDim S128x8x1x4x128 ![0, 1, 3, 4] bcast_S128x8x4x128_S128x8x1x4x128_0_1_3_4 (rCum X L))) (broadcastInDim S128x8x8x4x128 ![0, 1, 2, 3, 4] bcast_S128x1x8x4x128_S128x8x8x4x128_0_1_2_3_4 (broadcastInDim S128x1x8x4x128 ![0, 2, 3, 4] bcast_S128x8x4x128_S128x1x8x4x128_0_2_3_4 (rCum X L)))) (broadcastInDim S128x8x8x4x128 ![] bcast_S_S128x8x8x4x128 (id (constant S_ .f32 0xFF800000#32))))) (broadcastInDim S128x8x8x4x128 ![0, 1, 2, 3, 4] bcast_S128x1x8x4x128_S128x8x8x4x128_0_1_2_3_4 (broadcastInDim S128x1x8x4x128 ![0, 2, 3, 4] bcast_S128x8x4x128_S128x1x8x4x128_0_2_3_4 (rKey X L)))) (rQ X)) transposes_S128x8x4x8_S128x8x8x4_0_1_3_2)) transposes_S128x4x128x8_S128x8x4x128_0_3_1_2
/-- The readouts. -/
def rRead (X : Vec F S1024x2048 .f32) (S : Vec F S1x128x4x128x128 .f32) (L : Vec F S2x512 .f32) : Vec F S128x8x4x128 .f32 :=
  addf (rOld X S L) (rNew X L)
/-- The readouts, normed and gated. -/
def rOut (X : Vec F S1024x2048 .f32) (S : Vec F S1x128x4x128x128 .f32) (L : Vec F S2x512 .f32) (W : Vec F S128 .f32) : Vec F S1024x512 .bf16 :=
  truncf .bf16 (shapeCast _ (mulf (mulf (mulf (rRead X S L) (broadcastInDim S128x8x4x128 ![0, 1, 2, 3] bcast_S128x8x4x1_S128x8x4x128_0_1_2_3 (Host.rsqrt (addf (Host.divf (broadcastInDim S128x8x4x1 ![0, 1, 2] bcast_S128x8x4_S128x8x4x1_0_1_2 (Host.reduceAdd (mulf (rRead X S L) (rRead X S L)) (constant S_ .f32 0x00000000#32) reducesTo_S128x8x4x128_S128x8x4_d3 h_S_)) (broadcastInDim S128x8x4x1 ![] bcast_S_S128x8x4x1 (constant S_ .f32 0x43000000#32))) (broadcastInDim S128x8x4x1 ![] bcast_S_S128x8x4x1 (constant S_ .f32 0x358637BD#32)))))) (broadcastInDim S128x8x4x128 ![0, 1, 2, 3] bcast_S1x1x1x128_S128x8x4x128_0_1_2_3 (broadcastInDim S1x1x1x128 ![3] bcast_S128_S1x1x1x128_3 W))) (mulf (shapeCast _ (extractStridedSlice S1024x512 ![0, 1536] X slices_S1024x2048_S1024x512_0_1536) shapeCasts_S1024x512_S128x8x4x128) (Host.divf (broadcastInDim S128x8x4x128 ![] bcast_S_S128x8x4x128 (constant S_ .f32 0x3F800000#32)) (addf (broadcastInDim S128x8x4x128 ![] bcast_S_S128x8x4x128 (constant S_ .f32 0x3F800000#32)) (Host.exp (Host.negf (shapeCast _ (extractStridedSlice S1024x512 ![0, 1536] X slices_S1024x2048_S1024x512_0_1536) shapeCasts_S1024x512_S128x8x4x128))))))) shapeCasts_S128x8x4x128_S1024x512) bitsLt_bf16_f32
/-- The final states. -/
def rState (X : Vec F S1024x2048 .f32) (S : Vec F S1x128x4x128x128 .f32) (L : Vec F S2x512 .f32) : Vec F S128x4x128x128 .f32 :=
  addf (mulf (broadcastInDim S128x4x128x128 ![0, 1, 2, 3] bcast_S128x4x128x1_S128x4x128x128_0_1_2_3 (broadcastInDim S128x4x128x1 ![0, 1, 2] bcast_S128x4x128_S128x4x128x1_0_1_2 (Host.exp (rLast X L)))) (rS S)) (Host.dotGeneral dot_S128x8x4x128_S128x8x4x128_S128x4x128x128_1_1_3_3_02_02 none (mulf (rKey X L) (Host.exp (subf (broadcastInDim S128x8x4x128 ![0, 1, 2, 3] bcast_S128x1x4x128_S128x8x4x128_0_1_2_3 (broadcastInDim S128x1x4x128 ![0, 2, 3] bcast_S128x4x128_S128x1x4x128_0_2_3 (rLast X L))) (rCum X L)))) (rV X))
/-- The padded readouts. -/
def rAll (X : Vec F S1024x2048 .f32) (S : Vec F S1x128x4x128x128 .f32) (L : Vec F S2x512 .f32) (W : Vec F S128 .f32) : Vec F S2048x512 .bf16 :=
  shapeCast _ (pad S128x16x512 ![0, 0, 0] ![0, 8, 0] ![0, 0, 0] (shapeCast _ (rOut X S L W) shapeCasts_S1024x512_S128x8x512) (sitofp .bf16 (constantI S_ 32 0#32)) pads_S128x8x512_S128x16x512_000_080_000 h_S_) shapeCasts_S128x16x512_S2048x512

variable (m : (ℓ : Loc nD τ sig) → Buf (Elt F) ℓ)
/-- What the run returns is the stages. -/
theorem state_stages (c : Dev nD) : res_main_v73 m c = rState (m ((c.tc : Thread nD τ).loc main_arg0)) (m ((c.tc : Thread nD τ).loc main_arg1)) (m ((c.tc : Thread nD τ).loc main_arg2)) := rfl
/-- The reference's output, by its stages. -/
theorem all_stages (c : Dev nD) : res_main_v96 m c = rAll (m ((c.tc : Thread nD τ).loc main_arg0)) (m ((c.tc : Thread nD τ).loc main_arg1)) (m ((c.tc : Thread nD τ).loc main_arg2)) (m ((c.tc : Thread nD τ).loc main_arg3)) := rfl

end Cert.HgrnSProof
-- ==== Proof.HgrnSRef.lean ====
/- The sample batch's reference over the reals: its stages entry by entry, and its two results as the recurrence's. -/
module
public import proofs.«01_k».proof.Proof.HgrnSRefStage
@[expose] public section
set_option maxRecDepth 16384
noncomputable section
namespace Cert.HgrnSProof
open Idealize.ShloMosaic Idealize.ShloMosaic.TcCoe Idealize.ShloMosaic.Tactic
open Cert.HgrnSRefIdeal Cert.HgrnSRefIdeal.Gen Cert.Recurrence
open Cert.HgrnProof (gate share bit sge_bit max_two bot_word share_coe sigmoid_coe gate_coe log_gate running2 running4 coe_sum)
open scoped BigOperators

variable (X : Vec Ideal S1024x2048 .f32) (L : Vec Ideal S2x512 .f32) (S : Vec Ideal S1x128x4x128x128 .f32) (W : Vec Ideal S128 .f32)

/-- A token's row, from its sequence and its place in it. -/
theorem row_at (b : Fin 128) (n : Fin 8) : (⟨b.val * 8 + n.val, by omega⟩ : Fin 1024) = row b.val n.val :=
  Fin.ext (by show b.val * 8 + n.val = (8 * b.val + n.val) % 1024; omega)
/-- The same row, counted from the chunk's start. -/
theorem row_at0 (b : Fin 128) (n : Fin 8) : (⟨b.val * 8 + n.val, by omega⟩ : Fin 1024) = row b.val (0 + n.val) :=
  Fin.ext (by show b.val * 8 + n.val = (8 * b.val + (0 + n.val)) % 1024; omega)
/-- A token of the chunk is among the eight of its sequence. -/
theorem own (n : Fin 8) : 0 + n.val < 8 := by omega
/-- The integer zero is the number zero. -/
theorem sitofp_zero : (FloatOps.sitofp (F := Ideal) .bf16 0#32) = (0 : EReal) := by
  simp [FloatOps.sitofp]
/-- The softmax's first row, and the floor. -/
theorem rSoft_at (H : Fine X L) (c : Fin 512) : rSoft L (ix2 0 c) = (share (L (ix2 0 c)).toReal (L (ix2 1 c)).toReal : EReal) := by
  pointwise [rSoft]
  rw [Fin.sum_univ_two]
  simp only [max_two]
  rw [bot_word, max_bot_left, H.hL 0 c, H.hL 1 c]
  exact share_coe _ _
/-- The lower bound at an entry. -/
theorem rFloor_at (H : Fine X L) (h : Fin 4) (a : Fin 128) :
    rFloor L (ix2 h a) = (share (L (ix2 0 ⟨128 * h.val + a.val, by omega⟩)).toReal (L (ix2 1 ⟨128 * h.val + a.val, by omega⟩)).toReal : EReal) := by
  have ec : (⟨h.val * 128 + a.val, by omega⟩ : Fin 512) = ⟨128 * h.val + a.val, by omega⟩ := Fin.ext (by show h.val * 128 + a.val = 128 * h.val + a.val; omega)
  refine Eq.trans (b := Host.reduceWindowAdd (F := Ideal) (φ := .f32) ![2, 1] ![1, 1] ![1, 0] ![0, 0] (rSoft L) (broadcastInDim S_ ![] bcast_S_S_ (constant (F := Ideal) S_ .f32 0x00000000#32)) reduceWindows_S2x512_S2x512_w2s1p1_0_w1s1p0_0 h_S_ (ix2 0 ⟨h.val * 128 + a.val, by omega⟩)) ?_ ?_
  · unfold rFloor
    generalize Host.reduceWindowAdd (F := Ideal) (φ := .f32) _ _ _ _ _ _ _ _ = Z
    pointwise
  · rw [ec]
    refine (running2 _ _ _ ?_ 1 rfl _ 0 _).trans ?_
    · pointwise
    · rw [Fin.sum_univ_two, if_pos (le_refl _), if_neg (by decide), add_zero]
      exact rSoft_at X L H _
/-- The forget logit at an entry. -/
theorem rIn_at (b : Fin 128) (n : Fin 8) (h : Fin 4) (a : Fin 128) : rIn X (ix4 b n h a) = X (ix2 (row b.val n.val) ⟨512 + (128 * h.val + a.val), by omega⟩) := by
  pointwise [rIn]
  exact congrArg₂ (fun r c => X (ix2 r c)) (row_at b n) (Fin.ext (by show 512 + (h.val * 128 + a.val) = 512 + (128 * h.val + a.val); omega))
/-- The gate at an entry. -/
theorem rGate_at (H : Fine X L) (b : Fin 128) (n : Fin 8) (h : Fin 4) (a : Fin 128) :
    rGate X L (ix4 b n h a) = (gT X L b.val h n.val a : EReal) := by
  pointwise [rGate]
  exact gate_coe _ _ _ _ _ (rFloor_at X L H h a) (sigmoid_coe _ _ ((congrArg (fun x : EReal => -x)
    ((rIn_at X b n h a).trans (H.hX _ _ (by show 512 + (128 * h.val + a.val) < 1536; omega)))).trans (EReal.coe_neg _).symm))
/-- The running sums of the log decays. -/
theorem rCum_at (H : Fine X L) (b : Fin 128) (t : Fin 8) (h : Fin 4) (a : Fin 128) :
    rCum X L (ix4 b t h a) = ((upto (fun u : Fin 8 => lT X L b.val h (0 + u.val) a) t : ℝ) : EReal) := by
  unfold rCum
  refine (running4 _ _ _ ?_ 7 rfl _ b t h a).trans ?_
  · pointwise
  · unfold upto
    rw [← coe_sum]
    refine Finset.sum_congr rfl fun u _ => ?_
    by_cases e : u ≤ t
    · rw [if_pos e, if_pos e]
      refine (congrArg Ideal.log (rGate_at X L H b u h a)).trans ((log_gate _ _ _).trans ?_)
      unfold lT
      beta_reduce
      rw [if_pos (own u), Nat.zero_add]
      rfl
    · rw [if_neg e, if_neg e, EReal.coe_zero]
/-- The key at an entry. -/
theorem rKey_at (H : Fine X L) (b : Fin 128) (t : Fin 8) (h : Fin 4) (a : Fin 128) : rKey X L (ix4 b t h a) = (kT X L b.val h (0 + t.val) a : EReal) := by
  generalize hR : kT X L b.val h (0 + t.val) a = R
  pointwise [rKey]
  rw [← hR, rGate_at X L H, ← EReal.coe_one, ← EReal.coe_sub]
  unfold kT
  rw [if_pos (own t), Nat.zero_add]
/-- The query at an entry. -/
theorem rQ_at (H : Fine X L) (b : Fin 128) (t : Fin 8) (h : Fin 4) (a : Fin 128) : rQ X (ix4 b t h a) = (qT X b.val h (0 + t.val) a : EReal) := by
  generalize hR : qT X b.val h (0 + t.val) a = R
  pointwise [rQ]
  rw [← hR]
  refine (H.hX _ _ (by show h.val * 128 + a.val < 1536; omega)).trans ?_
  unfold qT
  rw [if_pos (own t)]
  exact congrArg₂ (fun r c => (((X (ix2 r c)).toReal : ℝ) : EReal)) (row_at0 b t) (Fin.ext (by show h.val * 128 + a.val = 128 * h.val + a.val; omega))
/-- The value at an entry. -/
theorem rV_at (H : Fine X L) (b : Fin 128) (t : Fin 8) (h : Fin 4) (a : Fin 128) : rV X (ix4 b t h a) = (vT X b.val h (0 + t.val) a : EReal) := by
  generalize hR : vT X b.val h (0 + t.val) a = R
  pointwise [rV]
  rw [← hR]
  refine (H.hX _ _ (by show 1024 + (h.val * 128 + a.val) < 1536; omega)).trans ?_
  unfold vT
  rw [if_pos (own t)]
  exact congrArg₂ (fun r c => (((X (ix2 r c)).toReal : ℝ) : EReal)) (row_at0 b t) (Fin.ext (by show 1024 + (h.val * 128 + a.val) = 1024 + (128 * h.val + a.val); omega))
/-- The given state at an entry. -/
theorem rS_at (b : Fin 128) (h : Fin 4) (κ ν : Fin 128) : rS S (ix4 b h κ ν) = S (ix5 0 b h κ ν) := by
  pointwise [rS]
/-- The log gates summed over the whole chunk, at an entry. -/
theorem rLast_at (H : Fine X L) (b : Fin 128) (h : Fin 4) (a : Fin 128) :
    rLast X L (ix3 b h a) = ((upto (fun u : Fin 8 => lT X L b.val h (0 + u.val) a) 7 : ℝ) : EReal) := by
  generalize hR : upto (fun u : Fin 8 => lT X L b.val h (0 + u.val) a) 7 = R
  pointwise [rLast]
  rw [← hR]
  exact rCum_at X L H b 7 h a
/-- What the given state gives a token. -/
theorem rOld_at (H : Fine X L) (b : Fin 128) (t : Fin 8) (h : Fin 4) (ν : Fin 128) :
    rOld X S L (ix4 b t h ν) = ∑ a : Fin 128, ((qT X b.val h (0 + t.val) a * Real.exp (upto (fun u : Fin 8 => lT X L b.val h (0 + u.val) a) t) : ℝ) : EReal) * S (ix5 0 b h a ν) := by
  generalize hR : (∑ a : Fin 128, ((qT X b.val h (0 + t.val) a * Real.exp (upto (fun u : Fin 8 => lT X L b.val h (0 + u.val) a) t) : ℝ) : EReal) * S (ix5 0 b h a ν)) = R
  pointwise [rOld]
  rw [← hR]
  refine Finset.sum_congr rfl fun a _ => ?_
  rw [rS_at, rQ_at X L H, rCum_at X L H, Ideal.exp_coe, ← EReal.coe_mul, mul_comm]
/-- A token sees itself and the tokens before it. -/
theorem rTri_at (t u : Fin 8) : rTri (ix2 t u) = bit (u.val ≤ t.val) := by
  pointwise [rTri]
  rw [show IntOp.addi (BitVec.ofNat 32 t.val) 0#32 = BitVec.ofNat 32 t.val from by simp [IntOp.addi], sge_bit _ _ (by omega) (by omega)]
  by_cases e : u.val ≤ t.val <;> simp [bit, e, Scalar.select]
/-- What a sequence's own tokens give a token. -/
theorem rNew_at (H : Fine X L) (b : Fin 128) (t : Fin 8) (h : Fin 4) (ν : Fin 128) :
    rNew X L (ix4 b t h ν) = ((∑ u : Fin 8, score (qT X b.val h) (lT X L b.val h) (kT X L b.val h) 0 t u * vT X b.val h (0 + u.val) ν : ℝ) : EReal) := by
  generalize hR : (Real.toEReal _) = R
  pointwise [rNew]
  rw [← hR, ← coe_sum]
  refine Finset.sum_congr rfl fun u _ => ?_
  rw [rV_at X L H, rTri_at, EReal.coe_mul, mul_comm]
  congr 1
  unfold score
  by_cases e : u ≤ t
  · rw [if_pos e, ← coe_sum]
    refine Finset.sum_congr rfl fun a _ => ?_
    rw [rCum_at X L H, rCum_at X L H, rKey_at X L H, rQ_at X L H, ← EReal.coe_sub, gap_sub _ _ _ e]
    have eb : bit (u.val ≤ t.val) = 1#1 := by simp [bit, Fin.le_def.1 e]
    rw [eb]
    refine (congrArg (fun x : EReal => x * _ * _) (Ideal.exp_coe (r := _))).trans ?_
    rw [← EReal.coe_mul, ← EReal.coe_mul]
    congr 1
    ring
  · rw [if_neg e, EReal.coe_zero]
    refine Finset.sum_eq_zero fun a _ => ?_
    have eb : bit (u.val ≤ t.val) = 0#1 := by
      have e' : ¬ u.val ≤ t.val := fun h => e (Fin.le_def.2 h)
      unfold bit
      rw [decide_eq_false e']
      rfl
    rw [eb, rKey_at X L H, rQ_at X L H]
    show Ideal.exp (Ideal.ofBits .f32 4286578688#32) * _ * _ = _
    rw [bot_word, Ideal.exp_bot, zero_mul, zero_mul]
/-- The readout at an entry. -/
theorem rRead_at (H : Fine X L) (b : Fin 128) (t : Fin 8) (h : Fin 4) (ν : Fin 128) : rRead X S L (ix4 b t h ν) = ro X L S b h t ν := by
  pointwise [rRead]
  rw [rOld_at X L S H, rNew_at X L H, add_comm]
  rfl
/-- The final states. -/
theorem rState_eq (H : Fine X L) : rState X S L = states X L S := by
  funext i
  obtain ⟨b, h, κ, ν, rfl⟩ : ∃ (b : Fin 128) (h : Fin 4) (κ ν : Fin 128), i = ix4 b h κ ν := ⟨i 0, i 1, i 2, i 3, eq_ix4 i⟩
  show _ = st X L S b h κ ν
  pointwise [rState]
  unfold st
  rw [rLast_at X L H, rS_at, Ideal.exp_coe, mul_comm]
  congr 1
  rw [← coe_sum]
  refine Finset.sum_congr rfl fun u _ => ?_
  rw [rKey_at X L H, rCum_at X L H, rV_at X L H, ← EReal.coe_sub, past_sub _ u 7 rfl, Ideal.exp_coe, ← EReal.coe_mul, ← EReal.coe_mul]
/-- A row of the readouts, normed and gated. -/
theorem rOut_at (H : Fine X L) (b : Fin 128) (t : Fin 8) (c : Fin 512) (w : Fin 1024) (hw : w.val = 8 * b.val + t.val) :
    rOut X S L W (ix2 w c) = gated (ro X L S b ⟨c.val / 128, by omega⟩ t) (W (ix1 ⟨c.val % 128, by omega⟩))
      (X (ix2 (row b.val t.val) ⟨1536 + c.val, by omega⟩)) ⟨c.val % 128, by omega⟩ := by
  have ew : w = ⟨8 * b.val + t.val, by omega⟩ := Fin.ext hw
  have er : row b.val t.val = w := Fin.ext (by show (8 * b.val + t.val) % 1024 = w.val; omega)
  rw [er]
  pointwise [rOut]
  have e1 : (⟨w.val / 8, by omega⟩ : Fin 128) = b := Fin.ext (by show w.val / 8 = b.val; omega)
  have e2 : (⟨w.val % 8, by omega⟩ : Fin 8) = t := Fin.ext (by show w.val % 8 = t.val; omega)
  simp only [rRead_at X L S H, e1, e2]
  rw [← zero_sub (X (ix2 w ⟨1536 + c.val, by omega⟩))]
  rfl
/-- The padded readouts. -/
theorem rAll_pad (b : Fin 128) (n : Fin 16) (c : Fin 512) (r : Fin 2048) (hr : r.val = 16 * b.val + n.val) :
    rAll X S L W (ix2 r c) = pad S128x16x512 ![0, 0, 0] ![0, 8, 0] ![0, 0, 0] (shapeCast S128x8x512 (rOut X S L W) shapeCasts_S1024x512_S128x8x512)
      (sitofp (F := Ideal) .bf16 (constantI S_ 32 0#32)) pads_S128x8x512_S128x16x512_000_080_000 h_S_ (ix3 b n c) := by
  have er : r = ⟨16 * b.val + n.val, by omega⟩ := Fin.ext hr
  rw [er]
  unfold rAll
  generalize pad S128x16x512 _ _ _ _ _ _ _ = Z
  pointwise
/-- The reference's padded output is the readouts' function. -/
theorem rAll_eq (H : Fine X L) : rAll X S L W = readouts X L S W := by
  funext i
  obtain ⟨r, c, rfl⟩ : ∃ (r : Fin 2048) (c : Fin 512), i = ix2 r c := ⟨i 0, i 1, eq_ix2 i⟩
  obtain ⟨b, n, hr⟩ : ∃ (b : Fin 128) (n : Fin 16), r.val = 16 * b.val + n.val := ⟨⟨r.val / 16, by omega⟩, ⟨r.val % 16, by omega⟩, (Nat.div_add_mod r.val 16).symm⟩
  refine (rAll_pad X L S W b n c r hr).trans ?_
  by_cases h : n.val < 8
  · refine Eq.trans ?_ ((rOut_at X L S W H b ⟨n.val, h⟩ c ⟨8 * b.val + n.val, by omega⟩ rfl).trans (readouts_low X L S W b ⟨n.val, h⟩ c r hr).symm)
    generalize rOut X S L W = Z
    pointwise
    rw [dif_pos h]
    exact congrArg (fun w => Z (ix2 w c)) (Fin.ext (by show b.val * 8 + n.val = 8 * b.val + n.val; omega))
  · refine Eq.trans ?_ (readouts_high X L S W b n (by omega) c r hr).symm
    generalize rOut X S L W = Z
    pointwise
    rw [dif_neg h]
    exact sitofp_zero

end Cert.HgrnSProof
-- ==== Proof.HgrnSTables.lean ====
/- The two tables of zeros and ones that the kernel's host code builds: which rows each band of the decay sums adds up, and
   which pairs of tokens each level's mask lets through. -/
module
public import proofs.«01_k».proof.Proof.Gen.HgrnSIdeal.Value
public import proofs.«01_k».proof.Proof.HgrnTables
public import Idealize.ShloMosaic.Lib.Claim
public import Idealize.ShloMosaic.Lib.Pointwise
public import Idealize.ShloMosaic.Lib.StableHlo.Predicate
@[expose] public section
set_option maxRecDepth 16384
noncomputable section
namespace Cert.HgrnSProof
open Idealize.ShloMosaic Idealize.ShloMosaic.TcCoe Idealize.ShloMosaic.Tactic
open Cert.HgrnSIdeal Cert.HgrnSIdeal.Gen Cert.Recurrence
open Cert.HgrnProof (bit bit_and bit_not sle_bit slt_bit sge_bit sgt_bit eq_bit)

/-- The half block of a level, and the block, as words. -/
theorem halfW (lv : Fin 4) : IntOp.shli .host 1#32 (BitVec.ofNat 32 lv.val) = BitVec.ofNat 32 (2 ^ lv.val) :=
  Cert.HgrnProof.halfW (lv.castLE (by decide))
/-- Twice a level's width, as a word. -/
theorem wholeW (lv : Fin 4) : IntOp.muli 2#32 (BitVec.ofNat 32 (2 ^ lv.val)) = BitVec.ofNat 32 (2 * 2 ^ lv.val) :=
  Cert.HgrnProof.wholeW (lv.castLE (by decide))
/-- The quotient by twice a level's width, as a word. -/
theorem divW (lv : Fin 4) (t : Fin 16) :
    IntOp.divsi .host (BitVec.ofNat 32 t.val) (BitVec.ofNat 32 (2 * 2 ^ lv.val)) = BitVec.ofNat 32 (t.val / (2 * 2 ^ lv.val)) :=
  Cert.HgrnProof.divW (lv.castLE (by decide)) (t.castLE (by decide))
/-- The remainder by twice a level's width, as a word. -/
theorem remW (lv : Fin 4) (t : Fin 16) :
    IntOp.remsi .host (BitVec.ofNat 32 t.val) (BitVec.ofNat 32 (2 * 2 ^ lv.val)) = BitVec.ofNat 32 (t.val % (2 * 2 ^ lv.val)) :=
  Cert.HgrnProof.remW (lv.castLE (by decide)) (t.castLE (by decide))
/-- The middle of a level's group, as a word. -/
theorem midW (lv : Fin 4) (t : Fin 16) :
    IntOp.addi (IntOp.muli (BitVec.ofNat 32 (t.val / (2 * 2 ^ lv.val))) (BitVec.ofNat 32 (2 * 2 ^ lv.val))) (BitVec.ofNat 32 (2 ^ lv.val))
      = BitVec.ofNat 32 (mid (2 ^ lv.val) t.val) :=
  Cert.HgrnProof.midW (lv.castLE (by decide)) (t.castLE (by decide))
/-- The numbers compared are small enough for signed words. -/
theorem small (lv : Fin 4) (t : Fin 16) :
    2 ^ lv.val < 2 ^ 31 ∧ t.val / (2 * 2 ^ lv.val) < 2 ^ 31 ∧ t.val % (2 * 2 ^ lv.val) < 2 ^ 31
    ∧ mid (2 ^ lv.val) t.val < 2 ^ 31 ∧ t.val < 2 ^ 31 :=
  Cert.HgrnProof.small (lv.castLE (by decide)) (t.castLE (by decide))

abbrev half : IVec S4x16x16 32 := Host.shli (broadcastInDim S4x16x16 ![] bcast_S_S4x16x16 (constantI S_ 32 1#32)) (iotaInDim S4x16x16 32 0)
abbrev whole : IVec S4x16x16 32 := muli (broadcastInDim S4x16x16 ![] bcast_S_S4x16x16 (constantI S_ 32 2#32)) half
abbrev tT : IVec S4x16x16 32 := iotaInDim S4x16x16 32 1
abbrev tU : IVec S4x16x16 32 := iotaInDim S4x16x16 32 2
abbrev middle : IVec S4x16x16 32 := addi (muli (Host.divsi tT whole) whole) half
abbrev upper : IVec S4x16x16 1 := cmpi .sge (Host.remsi tT whole) half
/-- The rows an upper half's sums take, those a lower half's sums take, and the pairs of a level. -/
def rowsU : IVec S4x16x16 1 := andi (andi upper (cmpi .sge tU middle)) (cmpi .sle tU tT)
def rowsL : IVec S4x16x16 1 := andi (andi (noti upper) (cmpi .sgt tU tT)) (cmpi .slt tU middle)
def pairs : IVec S4x16x16 1 :=
  andi (andi (cmpi .eq (Host.divsi tT whole) (Host.divsi tU whole)) upper) (cmpi .slt (Host.remsi tU whole) half)

/-- The upper half's rows at a level, at an entry. -/
theorem rowsU_apply (lv : Fin 4) (t u : Fin 16) :
    rowsU (ix3 lv t u) = bit ((up (2 ^ lv.val) t ∧ mid (2 ^ lv.val) t ≤ u.val) ∧ u.val ≤ t.val) := by
  obtain ⟨h1, h2, h3, h4, h5⟩ := small lv t
  obtain ⟨-, h6, h7, -, h8⟩ := small lv u
  pointwise [rowsU, upper, middle, whole, half, tT, tU]
  simp only [halfW, wholeW, divW, remW, midW, sge_bit _ _ h3 h1, sge_bit _ _ h8 h4, sle_bit _ _ h8 h5, bit_and]
  rfl
/-- The lower half's rows at a level, at an entry. -/
theorem rowsL_apply (lv : Fin 4) (t u : Fin 16) :
    rowsL (ix3 lv t u) = bit ((¬ up (2 ^ lv.val) t ∧ t.val < u.val) ∧ u.val < mid (2 ^ lv.val) t) := by
  obtain ⟨h1, h2, h3, h4, h5⟩ := small lv t
  obtain ⟨-, h6, h7, -, h8⟩ := small lv u
  pointwise [rowsL, upper, middle, whole, half, tT, tU]
  simp only [halfW, wholeW, divW, remW, midW, sge_bit _ _ h3 h1, slt_bit _ _ h8 h4, sgt_bit _ _ h8 h5, bit_and, bit_not]
  rfl
/-- The pairs met at a level, at an entry. -/
theorem pairs_apply (lv : Fin 4) (t u : Fin 16) : pairs (ix3 lv t u) = bit (pair (2 ^ lv.val) t u) := by
  obtain ⟨h1, h2, h3, h4, h5⟩ := small lv t
  obtain ⟨-, h6, h7, -, h8⟩ := small lv u
  pointwise [pairs, upper, whole, half, tT, tU]
  simp only [halfW, wholeW, divW, remW, sge_bit _ _ h3 h1, slt_bit _ _ h7 h1, eq_bit _ _ h2 h6, bit_and]
  rfl

/-- The ten bands of the sums' table, one above another. -/
def bands : IVec S10x16x16 1 := concatenate S10x16x16 0
  [⟨S2x16x16, concatenate S2x16x16 0
      [⟨S1x16x16, cmpi .sle (iotaInDim S1x16x16 32 2) (iotaInDim S1x16x16 32 1)⟩,
       ⟨S1x16x16, cmpi .sgt (iotaInDim S1x16x16 32 2) (iotaInDim S1x16x16 32 1)⟩]
      concatenates_S1x16x16_S1x16x16_S2x16x16_d0⟩,
   ⟨S8x16x16, shapeCast S8x16x16 (concatenate S4x2x16x16 1
      [⟨S4x1x16x16, broadcastInDim S4x1x16x16 ![0, 2, 3] bcast_S4x16x16_S4x1x16x16_0_2_3 rowsU⟩,
       ⟨S4x1x16x16, broadcastInDim S4x1x16x16 ![0, 2, 3] bcast_S4x16x16_S4x1x16x16_0_2_3 rowsL⟩]
      concatenates_S4x1x16x16_S4x1x16x16_S4x2x16x16_d1) shapeCasts_S4x2x16x16_S8x16x16⟩]
  concatenates_S2x16x16_S8x16x16_S10x16x16_d0
/-- The five masks: the diagonal, then the levels' pairs. -/
def masks : IVec S5x16x16 1 := concatenate S5x16x16 0
  [⟨S1x16x16, cmpi .eq (iotaInDim S1x16x16 32 2) (iotaInDim S1x16x16 32 1)⟩, ⟨S4x16x16, pairs⟩]
  concatenates_S1x16x16_S4x16x16_S5x16x16_d0

/-- The first band sums up to and with the row. -/
theorem bands_0 (t u : Fin 16) : bands (ix3 ⟨0, by omega⟩ t u) = bit (u.val ≤ t.val) := by
  have := t.2; have := u.2
  pointwise [bands]
  exact sle_bit _ _ (by omega) (by omega)
/-- The second band sums the rows after. -/
theorem bands_1 (t u : Fin 16) : bands (ix3 ⟨1, by omega⟩ t u) = bit (t.val < u.val) := by
  have := t.2; have := u.2
  pointwise [bands]
  exact sgt_bit _ _ (by omega) (by omega)
/-- A level's first band is that of the upper half. -/
theorem bands_U (lv : Fin 4) (t u : Fin 16) : bands (ix3 ⟨2 + 2 * lv.val, by omega⟩ t u) = rowsU (ix3 lv t u) := by
  pointwise [bands]
  rw [dif_pos (by omega)]
/-- A level's second band is that of the lower half. -/
theorem bands_L (lv : Fin 4) (t u : Fin 16) : bands (ix3 ⟨3 + 2 * lv.val, by omega⟩ t u) = rowsL (ix3 lv t u) := by
  pointwise [bands]
  rw [dif_neg (by omega), dif_neg (by omega)]
  exact congrArg (fun i => rowsL (ix3 i t u)) (Fin.ext (by show (_ - 2) / 2 = _; omega))
/-- The first mask is the diagonal. -/
theorem masks_0 (t u : Fin 16) : masks (ix3 ⟨0, by omega⟩ t u) = bit (u.val = t.val) := by
  have := t.2; have := u.2
  pointwise [masks]
  exact eq_bit _ _ (by omega) (by omega)
/-- A later mask is its level's pairs. -/
theorem masks_l (lv : Fin 4) (t u : Fin 16) : masks (ix3 ⟨1 + lv.val, by omega⟩ t u) = pairs (ix3 lv t u) := by
  pointwise [masks]

variable {F : FTy → Type} [FloatOps F]
variable (m : (ℓ : Loc nD τ sig) → Buf (Elt F) ℓ)
/-- What the kernel finds in its operands that the host code makes: the padded tokens, the given state, the gain as a row, and the two tables. -/
theorem V_tokens (c : Dev nD) : V m c main_v2 = shapeCast S2048x2048 (pad S128x16x2048 ![0, 0, 0] ![0, 8, 0] ![0, 0, 0]
    (shapeCast S128x8x2048 (m (c, Proc.tc.devRef main_arg0)) shapeCasts_S1024x2048_S128x8x2048) (sitofp (F := F) .f32 (constantI S_ 32 0#32))
    pads_S128x8x2048_S128x16x2048_000_080_000 h_S_) shapeCasts_S128x16x2048_S2048x2048 := by
  unfold V
  simp only [hostOps0, hostOps0_1, hostOps0_2, List.flatten_cons, List.flatten_nil, List.append_nil, List.cons_append, List.nil_append]
  after_results_simp
  rfl
/-- The given states, as the call takes them. -/
theorem V_state (c : Dev nD) : V m c main_v3 = shapeCast S128x4x128x128 (m (c, Proc.tc.devRef main_arg1)) shapeCasts_S1x128x4x128x128_S128x4x128x128 := by
  unfold V
  simp only [hostOps0, hostOps0_1, hostOps0_2, List.flatten_cons, List.flatten_nil, List.append_nil, List.cons_append, List.nil_append]
  after_results_simp
  rfl
/-- The norm's weights, as the call takes them. -/
theorem V_gain (c : Dev nD) : V m c main_v4 = shapeCast S1x128 (m (c, Proc.tc.devRef main_arg3)) shapeCasts_S128_S1x128 := by
  unfold V
  simp only [hostOps0, hostOps0_1, hostOps0_2, List.flatten_cons, List.flatten_nil, List.append_nil, List.cons_append, List.nil_append]
  after_results_simp
  rfl
/-- The masks, as the call takes them. -/
theorem V_masks (c : Dev nD) : V m c main_v61 = select masks
    (broadcastInDim S5x16x16 ![] bcast_S_S5x16x16 (constant S_ FTy.f32 1065353216#32))
    (broadcastInDim S5x16x16 ![] bcast_S_S5x16x16 (constant S_ FTy.f32 0#32)) := by
  unfold V masks
  simp only [hostOps0, hostOps0_1, hostOps0_2, List.flatten_cons, List.flatten_nil, List.append_nil, List.cons_append, List.nil_append]
  after_results_simp
  refine congrArg₂ (fun (x : IVec S1x16x16 1) (y : IVec S4x16x16 1) =>
    (select (concatenate S5x16x16 0 [⟨S1x16x16, x⟩, ⟨S4x16x16, y⟩] concatenates_S1x16x16_S4x16x16_S5x16x16_d0)
      (broadcastInDim S5x16x16 ![] bcast_S_S5x16x16 (constant S_ FTy.f32 1065353216#32))
      (broadcastInDim S5x16x16 ![] bcast_S_S5x16x16 (constant S_ FTy.f32 0#32)) : FVec F S5x16x16 .f32)) ?_ ?_
  · after_results_simp
  · after_results_simp
    rfl
/-- The prefix sums' table, as the call takes it. -/
theorem V_sums (c : Dev nD) : V m c main_v62 = truncf .bf16 (select (shapeCast S160x16 bands shapeCasts_S10x16x16_S160x16)
    (broadcastInDim S160x16 ![] bcast_S_S160x16 (constant S_ FTy.f32 1065353216#32))
    (broadcastInDim S160x16 ![] bcast_S_S160x16 (constant S_ FTy.f32 0#32))) bitsLt_bf16_f32 := by
  unfold V bands
  simp only [hostOps0, hostOps0_1, hostOps0_2, List.flatten_cons, List.flatten_nil, List.append_nil, List.cons_append, List.nil_append]
  after_results_simp
  refine congrArg₂ (fun (x : IVec S2x16x16 1) (y : IVec S8x16x16 1) =>
    (truncf .bf16 (select (shapeCast S160x16 (concatenate S10x16x16 0 [⟨S2x16x16, x⟩, ⟨S8x16x16, y⟩] concatenates_S2x16x16_S8x16x16_S10x16x16_d0) shapeCasts_S10x16x16_S160x16)
      (broadcastInDim S160x16 ![] bcast_S_S160x16 (constant S_ FTy.f32 1065353216#32))
      (broadcastInDim S160x16 ![] bcast_S_S160x16 (constant S_ FTy.f32 0#32))) bitsLt_bf16_f32 : FVec F S160x16 .bf16)) ?_ ?_
  · after_results_simp
    refine congrArg₂ (fun (x : IVec S1x16x16 1) (y : IVec S1x16x16 1) =>
      (concatenate S2x16x16 0 [⟨S1x16x16, x⟩, ⟨S1x16x16, y⟩] concatenates_S1x16x16_S1x16x16_S2x16x16_d0 : IVec S2x16x16 1)) ?_ ?_
    · after_results_simp
    · after_results_simp
  · after_results_simp
    refine congrArg₂ (fun (x : IVec S4x1x16x16 1) (y : IVec S4x1x16x16 1) =>
      (shapeCast S8x16x16 (concatenate S4x2x16x16 1 [⟨S4x1x16x16, x⟩, ⟨S4x1x16x16, y⟩] concatenates_S4x1x16x16_S4x1x16x16_S4x2x16x16_d1) shapeCasts_S4x2x16x16_S8x16x16 : IVec S8x16x16 1)) ?_ ?_
    · after_results_simp
      rfl
    · after_results_simp
      rfl

end Cert.HgrnSProof
-- ==== Proof.HgrnSWin.lean ====
/- What one grid point of the sample batch's kernel finds in its blocks: the tokens and their padding, the gate and the tables as the recurrence names them. -/
module
public import proofs.«01_k».proof.Proof.HgrnSPoint
public import proofs.«01_k».proof.Proof.HgrnSVal
public import proofs.«01_k».proof.Proof.HgrnSTables
public import proofs.«01_k».proof.Proof.HgrnWin
public import Idealize.ShloMosaic.Lib.Pipeline.ValueKit
@[expose] public section
set_option maxRecDepth 16384
noncomputable section
namespace Cert.HgrnSProof
open Idealize.ShloMosaic Idealize.ShloMosaic.TcCoe Idealize.ShloMosaic.Tactic
open Cert.HgrnSIdeal Cert.HgrnSIdeal.Gen Cert.Recurrence
open Cert.HgrnProof (gate share bit slt_bit word_bit max_two share_coe sigmoid_coe gate_coe log_gate)

variable (m : (ℓ : Loc nD τ sig) → Buf (Elt Ideal) ℓ)
abbrev mX (c : Dev nD) : Vec Ideal S1024x2048 .f32 := m (c, Proc.tc.devRef main_arg0)
abbrev mS (c : Dev nD) : Vec Ideal S1x128x4x128x128 .f32 := m (c, Proc.tc.devRef main_arg1)
abbrev mL (c : Dev nD) : Vec Ideal S2x512 .f32 := m (c, Proc.tc.devRef main_arg2)
abbrev mW (c : Dev nD) : Vec Ideal S128 .f32 := m (c, Proc.tc.devRef main_arg3)

/-- Where the windows lie at a point. -/
theorem idx0 : ∀ t, win0_0.index t = ![t.val, 0] := by decide +kernel
/-- Where window 1 lies at a point. -/
theorem idx1 : ∀ t, win0_1.index t = ![t.val, 0, 0, 0] := by decide +kernel
/-- Where window 2 lies at a point. -/
theorem idx2 : ∀ t, win0_2.index t = ![0, 0] := by decide +kernel
/-- Where window 3 lies at a point. -/
theorem idx3 : ∀ t, win0_3.index t = ![0, 0] := by decide +kernel
/-- Where window 4 lies at a point. -/
theorem idx4 : ∀ t, win0_4.index t = ![0, 0] := by decide +kernel
/-- Where window 5 lies at a point. -/
theorem idx5 : ∀ t, win0_5.index t = ![0, 0, 0] := by decide +kernel
/-- Padding a sequence's eight rows to sixteen: its own rows, then nothing; and the state without its leading axis. -/
theorem pad_low (Y : Vec Ideal S1024x2048 .f32) (b : Fin 128) (n : Fin 8) (j : Fin 2048) :
    pad S128x16x2048 ![0, 0, 0] ![0, 8, 0] ![0, 0, 0] (shapeCast S128x8x2048 Y shapeCasts_S1024x2048_S128x8x2048) (sitofp (F := Ideal) .f32 (constantI S_ 32 0#32))
      pads_S128x8x2048_S128x16x2048_000_080_000 h_S_ (ix3 b (n.castLE (by decide)) j) = Y (ix2 (row b.val n.val) j) := by
  have er : row b.val n.val = ⟨b.val * 8 + n.val, by omega⟩ := Fin.ext (by show (8 * b.val + n.val) % 1024 = b.val * 8 + n.val; omega)
  rw [er]
  generalize hn : (n.castLE (by decide) : Fin 16) = k
  have hk : k.val = n.val := by rw [← hn]; rfl
  pointwise
  rw [dif_pos (by omega)]
  exact congrArg (fun w => Y (ix2 w j)) (Fin.ext (by show b.val * 8 + k.val = b.val * 8 + n.val; rw [hk]))
/-- The integer zero, cast, is zero. -/
theorem sitofp_zero32 : (FloatOps.sitofp (F := Ideal) .f32 0#32) = (0 : EReal) := by
  simp [FloatOps.sitofp]
/-- A padded row is zero. -/
theorem pad_high (Y : Vec Ideal S1024x2048 .f32) (b : Fin 128) (n : Fin 16) (hn : 8 ≤ n.val) (j : Fin 2048) :
    pad S128x16x2048 ![0, 0, 0] ![0, 8, 0] ![0, 0, 0] (shapeCast S128x8x2048 Y shapeCasts_S1024x2048_S128x8x2048) (sitofp (F := Ideal) .f32 (constantI S_ 32 0#32))
      pads_S128x8x2048_S128x16x2048_000_080_000 h_S_ (ix3 b n j) = (0 : EReal) := by
  pointwise
  rw [dif_neg (by omega)]
  exact sitofp_zero32
/-- A row of the padded tokens laid out in rows. -/
theorem rows_pad (Z : Vec Ideal S128x16x2048 .f32) (b : Fin 128) (n : Fin 16) (j w : Fin 2048) (hw : w.val = 16 * b.val + n.val) :
    shapeCast S2048x2048 Z shapeCasts_S128x16x2048_S2048x2048 (ix2 w j) = Z (ix3 b n j) := by
  have ew : w = ⟨16 * b.val + n.val, by omega⟩ := Fin.ext hw
  rw [ew]
  pointwise
/-- An entry of the states laid out without their first axis. -/
theorem state_row (Y : Vec Ideal S1x128x4x128x128 .f32) (b : Fin 128) (h : Fin 4) (i j : Fin 128) :
    shapeCast S128x4x128x128 Y shapeCasts_S1x128x4x128x128_S128x4x128x128 (ix4 b h i j) = Y (ix5 0 b h i j) := by
  pointwise
/-- An entry of the norm's weights laid out as a row. -/
theorem gain_row (Y : Vec Ideal S128 .f32) (j : Fin 128) : shapeCast S1x128 Y shapeCasts_S128_S1x128 (ix2 0 j) = Y (ix1 j) := by
  pointwise
/-- The padded token array: eight rows of a sequence, then eight of nothing. -/
theorem tokens_low (c : Dev nD) (b : Fin 128) (n : Fin 8) (j w : Fin 2048) (hw : w.val = 16 * b.val + n.val) :
    V m c main_v2 (ix2 w j) = mX m c (ix2 (row b.val n.val) j) := by
  rw [V_tokens]
  exact (rows_pad _ b (n.castLE (by decide)) j w hw).trans (pad_low _ b n j)
/-- A row of padding is zero as the call takes it. -/
theorem tokens_high (c : Dev nD) (b : Fin 128) (n : Fin 16) (hn : 8 ≤ n.val) (j w : Fin 2048) (hw : w.val = 16 * b.val + n.val) :
    V m c main_v2 (ix2 w j) = (0 : EReal) := by
  rw [V_tokens]
  exact (rows_pad _ b n j w hw).trans (pad_high _ b n hn j)
/-- Window 0 at a token's row. -/
theorem rd0_low (c : Dev nD) (t : Fin cfg0.N) (n : Fin 8) (r : Fin 16) (hr : r.val = n.val) (j : Fin 2048) :
    iblk m c 0 t (ix2 r j) = mX m c (ix2 (row t.val n.val) j) :=
  (show iblk m c 0 t (ix2 r j) = V m c main_v2 (ix2 (⟨16 * t.val + r.val, by have h : t.val < 128 := t.2; omega⟩ : Fin 2048) j) by
    blk_ext [iblk, idx0 t]).trans (tokens_low m c t n j _ (by show 16 * t.val + r.val = _; rw [hr]))
/-- Window 0 at a row of padding. -/
theorem rd0_high (c : Dev nD) (t : Fin cfg0.N) (r : Fin 16) (hr : 8 ≤ r.val) (j : Fin 2048) : iblk m c 0 t (ix2 r j) = (0 : EReal) :=
  (show iblk m c 0 t (ix2 r j) = V m c main_v2 (ix2 (⟨16 * t.val + r.val, by have h : t.val < 128 := t.2; omega⟩ : Fin 2048) j) by
    blk_ext [iblk, idx0 t]).trans (tokens_high m c t r hr j _ rfl)
/-- Window 1 at an entry, from the arguments. -/
theorem rd1 (c : Dev nD) (t : Fin cfg0.N) (h : Fin 4) (i j : Fin 128) : iblk m c 1 t (ix4 0 h i j) = mS m c (ix5 0 (t : Fin 128) h i j) :=
  (show iblk m c 1 t (ix4 0 h i j) = V m c main_v3 (ix4 (t : Fin 128) h i j) by blk_ext [iblk, idx1 t]).trans
    (by rw [V_state]; exact state_row _ t h i j)
/-- Window 2 at an entry, from the arguments. -/
theorem rd2 (c : Dev nD) (t : Fin cfg0.N) (r : Fin 2) (j : Fin 512) : iblk m c 2 t (ix2 r j) = mL m c (ix2 r j) := by
  blk_ext [iblk, V, idx2 t]
/-- Window 3 at an entry, from the arguments. -/
theorem rd3 (c : Dev nD) (t : Fin cfg0.N) (j : Fin 128) : iblk m c 3 t (ix2 0 j) = mW m c (ix1 j) :=
  (show iblk m c 3 t (ix2 0 j) = V m c main_v4 (ix2 0 j) by blk_ext [iblk, idx3 t]).trans (by rw [V_gain]; exact gain_row _ j)
/-- Window 4 at an entry, from the arguments. -/
theorem rd4 (c : Dev nD) (t : Fin cfg0.N) (r : Fin 160) (j : Fin 16) : iblk m c 4 t (ix2 r j) = V m c main_v62 (ix2 r j) := by
  blk_ext [iblk, idx4 t]
/-- Window 5 at an entry, from the arguments. -/
theorem rd5 (c : Dev nD) (t : Fin cfg0.N) (r : Fin 5) (i j : Fin 16) : iblk m c 5 t (ix3 r i j) = V m c main_v61 (ix3 r i j) := by
  blk_ext [iblk, idx5 t]

/-- A row of band `r` of the sums' table. -/
theorem sums_at (c : Dev nD) (r : Fin 10) (t u : Fin 16) (p : Prop) [Decidable p] (hp : bands (ix3 r t u) = bit p) :
    V m c main_v62 (ix2 ⟨16 * r.val + t.val, by omega⟩ u) = ((if p then 1 else 0 : ℝ) : EReal) := by
  rw [V_sums]
  refine Eq.trans ?_ (word_bit p _ hp)
  pointwise
  rfl
/-- A row of mask `r`. -/
theorem masks_at (c : Dev nD) (r : Fin 5) (t u : Fin 16) (p : Prop) [Decidable p] (hp : masks (ix3 r t u) = bit p) :
    V m c main_v61 (ix3 r t u) = ((if p then 1 else 0 : ℝ) : EReal) := by
  rw [V_masks]
  refine Eq.trans ?_ (word_bit p _ hp)
  pointwise
  rfl

/-- Loads of whole blocks, of column groups and of a mask's slab. -/
theorem ldQ_apply (x : Vec Ideal S16x2048 .f32) (r : Fin 16) (j : Fin 512) : ldQ x (ix2 r j) = x (ix2 r ⟨j.val, by omega⟩) := by
  refine View.ld_unit_apply_of _ _ _ _ _ _ fun a => ?_
  match a with
  | ⟨0, _⟩ => exact (Nat.zero_add _).symm
  | ⟨1, _⟩ => exact (Nat.zero_add _).symm
/-- A read of the forget columns. -/
theorem ldF_apply (x : Vec Ideal S16x2048 .f32) (r : Fin 16) (j : Fin 512) : ldF x (ix2 r j) = x (ix2 r ⟨512 + j.val, by omega⟩) := by
  refine View.ld_unit_apply_of _ _ _ _ _ _ fun a => ?_
  match a with
  | ⟨0, _⟩ => exact (Nat.zero_add _).symm
  | ⟨1, _⟩ => rfl
/-- A read of the value columns. -/
theorem ldV_apply (x : Vec Ideal S16x2048 .f32) (r : Fin 16) (j : Fin 512) : ldV x (ix2 r j) = x (ix2 r ⟨1024 + j.val, by omega⟩) := by
  refine View.ld_unit_apply_of _ _ _ _ _ _ fun a => ?_
  match a with
  | ⟨0, _⟩ => exact (Nat.zero_add _).symm
  | ⟨1, _⟩ => rfl
/-- A read of a head's gate columns. -/
theorem ldG_apply (x : Vec Ideal S16x2048 .f32) (h : Fin 4) (r : Fin 16) (j : Fin 128) : ldG x h (ix2 r j) = x (ix2 r ⟨1536 + (128 * h.val + j.val), by omega⟩) := by
  refine View.ld_unit_apply_of _ _ _ _ _ _ fun a => ?_
  match a with
  | ⟨0, _⟩ => exact (Nat.zero_add _).symm
  | ⟨1, _⟩ => exact (Nat.add_assoc _ _ _).symm
/-- A read of the lower bound's logits. -/
theorem ldB_apply (x : Vec Ideal S2x512 .f32) (r : Fin 2) (j : Fin 512) : ldB x (ix2 r j) = x (ix2 r j) := by
  refine View.ld_unit_apply_of _ _ _ _ _ _ fun a => ?_
  match a with
  | ⟨0, _⟩ => exact (Nat.zero_add _).symm
  | ⟨1, _⟩ => exact (Nat.zero_add _).symm
/-- A read of the prefix sums' table. -/
theorem ldW_apply (x : Vec Ideal S160x16 .bf16) (r : Fin 160) (j : Fin 16) : ldW x (ix2 r j) = x (ix2 r j) := by
  refine View.ld_unit_apply_of _ _ _ _ _ _ fun a => ?_
  match a with
  | ⟨0, _⟩ => exact (Nat.zero_add _).symm
  | ⟨1, _⟩ => exact (Nat.zero_add _).symm
/-- A read of the norm's weights. -/
theorem ldN_apply (x : Vec Ideal S1x128 .f32) (r : Fin 1) (j : Fin 128) : ldN x (ix2 r j) = x (ix2 r j) := by
  refine View.ld_unit_apply_of _ _ _ _ _ _ fun a => ?_
  match a with
  | ⟨0, _⟩ => exact (Nat.zero_add _).symm
  | ⟨1, _⟩ => exact (Nat.zero_add _).symm
/-- A read of a mask. -/
theorem ldM_apply (x : Vec Ideal S5x16x16 .f32) (l : Fin 5) (i j : Fin 16) : ldM x l (ix3 0 i j) = x (ix3 l i j) := by
  refine View.ld_unit_apply_of _ _ _ _ _ _ fun a => ?_
  match a with
  | ⟨0, _⟩ => rfl
  | ⟨1, _⟩ => exact (Nat.zero_add _).symm
  | ⟨2, _⟩ => exact (Nat.zero_add _).symm

/-- The kernel's gate, and the mask that keeps a sequence's own eight rows. -/
theorem gate_apply (x2 : Vec Ideal S2x512 .f32) (u : Vec Ideal S16x512 .f32) (i : Fin 16) (j : Fin 512) (a b y : ℝ)
    (ha : x2 (ix2 0 j) = (a : EReal)) (hb : x2 (ix2 1 j) = (b : EReal)) (hy : u (ix2 i j) = (y : EReal)) :
    k0_pay10 x2 u (ix2 i j) = (gate a b y : EReal) := by
  pointwise [k0_pay10]
  simp only [max_two, Fin.sum_univ_two, ha, hb, hy, Finset.univ_unique, Finset.sum_singleton, share_coe]
  exact gate_coe a b y _ _ rfl (sigmoid_coe y _ (by rw [zero_sub, EReal.coe_neg]))
/-- The mark of the rows that hold tokens. -/
theorem own_apply (i : Fin 16) (j : Fin 512) : k0_pay13 (ix2 i j) = bit (i.val < 8) :=
  (show k0_pay13 (ix2 i j) = IntOp.cmpi .slt (BitVec.ofNat 32 i.val) (BitVec.ofNat 32 8) by pointwise [k0_pay13]).trans
    (slt_bit _ _ (by omega) (by omega))
/-- The kernel's log gate at an entry: zero in the padding. -/
theorem logs_at (x0 : Vec Ideal S16x2048 .f32) (x2 : Vec Ideal S2x512 .f32) (i : Fin 16) (j : Fin 512) (g : ℝ)
    (hg : i.val < 8 → Ideal.log (k0_pay10 (ldB x2) (ldF x0) (ix2 i j)) = (g : EReal)) :
    logs x0 x2 (ix2 i j) = ((if i.val < 8 then g else 0 : ℝ) : EReal) := by
  refine (show logs x0 x2 (ix2 i j) = if k0_pay13 (ix2 i j) = 1#1 then Ideal.log (k0_pay10 (ldB x2) (ldF x0) (ix2 i j)) else 0 by
    pointwise [logs, k0_pay11]; rfl).trans ?_
  rw [own_apply]
  by_cases h : i.val < 8
  · rw [if_pos h, ← hg h]; simp [bit, h]
  · rw [if_neg h]; simp [bit, h]
/-- The kernel's key at an entry: zero in the padding. -/
theorem keys_at (x0 : Vec Ideal S16x2048 .f32) (x2 : Vec Ideal S2x512 .f32) (i : Fin 16) (j : Fin 512) (g : ℝ)
    (hg : i.val < 8 → k0_pay10 (ldB x2) (ldF x0) (ix2 i j) = (g : EReal)) :
    kk x0 x2 (ix2 i j) = ((if i.val < 8 then 1 - g else 0 : ℝ) : EReal) := by
  refine (show kk x0 x2 (ix2 i j) = if k0_pay13 (ix2 i j) = 1#1 then 1 - k0_pay10 (ldB x2) (ldF x0) (ix2 i j) else 0 by
    pointwise [kk, k0_pay14, k0_pay12]; rfl).trans ?_
  rw [own_apply]
  by_cases h : i.val < 8
  · rw [if_pos h, hg h, EReal.coe_sub, EReal.coe_one]; simp [bit, h]
  · rw [if_neg h]; simp [bit, h]

section
variable (c : Dev nD) (t : Fin cfg0.N) (h : Fin 4) (H : Fine (mX m c) (mL m c))
include H
/-- The gate at a token's entry. -/
theorem gate_at (r : Fin 16) (hr : r.val < 8) (a : Fin 128) :
    k0_pay10 (ldB (iblk m c 2 t)) (ldF (iblk m c 0 t)) (ix2 r ⟨128 * h.val + a.val, by omega⟩) = (gT (mX m c) (mL m c) t.val h r.val a : EReal) :=
  gate_apply _ _ _ _ _ _ _ ((ldB_apply _ _ _).trans ((rd2 m c t _ _).trans (H.hL _ _)))
    ((ldB_apply _ _ _).trans ((rd2 m c t _ _).trans (H.hL _ _)))
    ((ldF_apply _ _ _).trans ((rd0_low m c t ⟨r.val, hr⟩ r rfl _).trans (H.hX _ _ (by show 512 + (128 * h.val + a.val) < 1536; omega))))
/-- A real entry of the padded tokens. -/
theorem tok_at (r : Fin 16) (j : Fin 2048) (hj : j.val < 1536) :
    iblk m c 0 t (ix2 r j) = ((if 0 + r.val < 8 then (mX m c (ix2 (row t.val (0 + r.val)) j)).toReal else 0 : ℝ) : EReal) := by
  rw [Nat.zero_add]
  by_cases hr : r.val < 8
  · rw [if_pos hr, rd0_low m c t ⟨r.val, hr⟩ r rfl]
    exact H.hX _ _ hj
  · rw [if_neg hr, rd0_high m c t r (by omega), EReal.coe_zero]

/-- What a point finds is what the recurrence asks for. -/
theorem holds_at :
    Holds (qT (mX m c) t.val h) (lT (mX m c) (mL m c) t.val h) (kT (mX m c) (mL m c) t.val h) (vT (mX m c) t.val h)
      0 h (iblk m c 0 t) (iblk m c 2 t) (iblk m c 4 t) (iblk m c 5 t) where
  hq r a := (ldQ_apply _ _ _).trans (tok_at m c t H r _ (by show 128 * h.val + a.val < 1536; omega))
  hv r a := (ldV_apply _ _ _).trans (tok_at m c t H r _ (by show 1024 + (128 * h.val + a.val) < 1536; omega))
  hk r a := (keys_at _ _ r _ _ fun hr => gate_at m c t h H r hr a).trans (by unfold kT; rw [Nat.zero_add])
  hl r a := (logs_at _ _ r _ _ fun hr => (congrArg Ideal.log (gate_at m c t h H r hr a)).trans (log_gate _ _ _)).trans (by unfold lT gT; rw [Nat.zero_add])
  w0 r u := (ldW_apply _ _ _).trans ((rd4 m c t _ _).trans (sums_at m c ⟨0, by omega⟩ r u _ (bands_0 r u)))
  w1 r u := (ldW_apply _ _ _).trans ((rd4 m c t _ _).trans (sums_at m c ⟨1, by omega⟩ r u _ (bands_1 r u)))
  wq lv r u := (ldW_apply _ _ _).trans ((rd4 m c t _ _).trans (sums_at m c ⟨2 + 2 * lv.val, by omega⟩ r u _ ((bands_U lv r u).trans (rowsU_apply lv r u))))
  wk lv r u := (ldW_apply _ _ _).trans ((rd4 m c t _ _).trans (sums_at m c ⟨3 + 2 * lv.val, by omega⟩ r u _ ((bands_L lv r u).trans (rowsL_apply lv r u))))
  m0 r u := (ldM_apply _ _ _ _).trans ((rd5 m c t _ _ _).trans ((masks_at m c ⟨0, by omega⟩ r u _ (masks_0 r u)).trans (by simp only [Fin.ext_iff])))
  ml lv r u := (ldM_apply _ _ _ _).trans ((rd5 m c t _ _ _).trans ((congrArg (fun i => V m c main_v61 (ix3 i r u)) (Fin.ext (by show lv.val + 1 = 1 + lv.val; omega))).trans
    (masks_at m c ⟨1 + lv.val, by omega⟩ r u _ ((masks_l lv r u).trans (pairs_apply lv r u)))))
end

end Cert.HgrnSProof
-- ==== Proof.HgrnSOut.lean ====
/- The arrays the sample batch's kernel leaves: the padded readouts and the final states. -/
module
public import Idealize.ShloMosaic.Lib.Pipeline.ReadBack
public import proofs.«01_k».proof.Proof.HgrnSWin
@[expose] public section
set_option maxRecDepth 16384
noncomputable section
namespace Cert.HgrnSProof
open Idealize.ShloMosaic Idealize.ShloMosaic.TcCoe Idealize.ShloMosaic.Tactic
open Cert.HgrnSIdeal Cert.HgrnSIdeal.Gen Cert.HgrnSIdeal.Value Cert.Recurrence Idealize.SL.Sem
open scoped BigOperators

/-- Norming and gating at an entry. -/
theorem norm_apply (o : Vec Ideal S16x128 .f32) (w : Vec Ideal S1x128 .f32) (g : Vec Ideal S16x128 .f32) (r : Fin 16) (b : Fin 128) :
    k0_pay63 o w g (ix2 r b) = gated (fun x => o (ix2 r x)) (w (ix2 0 b)) (g (ix2 r b)) b := by
  pointwise [k0_pay63, gated]

variable (m : (ℓ : Loc nD τ sig) → Buf (Elt Ideal) ℓ)
/-- Where the output windows lie at a point. -/
theorem idx6 : ∀ t, win0_6.index t = ![t.val, 0] := by decide +kernel
/-- Where window 7 lies at a point. -/
theorem idx7 : ∀ t, win0_7.index t = ![t.val, 0, 0, 0] := by decide +kernel

/-- What a point leaves in its two output blocks. -/
theorem out6 (c : Dev nD) (t : Fin cfg0.N) :
    (outsAt0 m c t).1 = gO (iblk m c 0 t) (iblk m c 2 t) (iblk m c 3 t) (iblk m c 4 t) (iblk m c 5 t) (ini (iblk m c 1 t)) := by
  unfold outsAt0
  dsimp only
  rw [outs_A, canon_O]
/-- What a point leaves in its block of states. -/
theorem out7 (c : Dev nD) (t : Fin cfg0.N) : (outsAt0 m c t).2 = gE (iblk m c 0 t) (iblk m c 2 t) (iblk m c 4 t) (ini (iblk m c 1 t)) := by
  unfold outsAt0
  dsimp only
  rw [oute_A, canon_E]
/-- The state a point starts from. -/
theorem start_at (c : Dev nD) (t : Fin cfg0.N) (h : Fin 4) (b a : Fin 128) : ini (iblk m c 1 t) h (ix3 0 b a) = mS m c (ix5 0 (t : Fin 128) h a b) :=
  (ini_apply _ h _).trans (rd1 m c t h a b)

section
variable (c : Dev nD) (t : Fin cfg0.N) (H : Fine (mX m c) (mL m c))
include H
/-- What a point reads in a token's row, and in a row of padding. -/
theorem read_low (h : Fin 4) (n : Fin 8) (b : Fin 128) :
    ptO (iblk m c 0 t) (iblk m c 2 t) (iblk m c 4 t) (iblk m c 5 t) h (ini (iblk m c 1 t) h) (ix2 (n.castLE (by decide)) b) = ro (mX m c) (mL m c) (mS m c) (t : Fin 128) h n b := by
  refine (ptO_eq (holds_at m c t h H) _ _ _).trans ?_
  unfold ro
  rw [read_pad (kT_pad (mX m c) (mL m c) t.val h)]
  refine congrArg (_ + ·) (Finset.sum_congr rfl fun a _ => ?_)
  rw [start_at, upto_low]
  rfl
/-- What a point reads in a row of padding is zero. -/
theorem read_high (h : Fin 4) (r : Fin 16) (hr : 8 ≤ r.val) (b : Fin 128) :
    ptO (iblk m c 0 t) (iblk m c 2 t) (iblk m c 4 t) (iblk m c 5 t) h (ini (iblk m c 1 t) h) (ix2 r b) = (0 : EReal) := by
  refine (ptO_eq (holds_at m c t h H) _ _ _).trans ?_
  rw [Finset.sum_eq_zero fun s _ => by rw [score_query (qT_pad (mX m c) t.val h) _ _ hr, zero_mul], EReal.coe_zero, zero_add]
  exact Finset.sum_eq_zero fun a _ => by rw [qT_pad _ _ _ _ (by omega), zero_mul, EReal.coe_zero, zero_mul]
/-- The state that a point leaves. -/
theorem last_at (h : Fin 4) (κ ν : Fin 128) :
    ptS (iblk m c 0 t) (iblk m c 2 t) (iblk m c 4 t) h (ini (iblk m c 1 t) h) (ix2 ν κ) = st (mX m c) (mL m c) (mS m c) (t : Fin 128) h κ ν := by
  refine (ptS_eq (holds_at m c t h H) _ _ _).trans ?_
  unfold st
  rw [start_at, tail_pad (lT_pad (mX m c) (mL m c) t.val h) (kT_pad (mX m c) (mL m c) t.val h), upto_pad (lT_pad (mX m c) (mL m c) t.val h)]
/-- A row of the output block. -/
theorem block_at (r : Fin 16) (j : Fin 512) (w : Fin 2048) (hw : w.val = 16 * t.val + r.val) :
    (outsAt0 m c t).1 (ix2 r j) = readouts (mX m c) (mL m c) (mS m c) (mW m c) (ix2 w j) := by
  rw [out6]
  refine (norm_apply _ _ _ r ⟨j.val % 128, Nat.mod_lt _ (by norm_num)⟩).trans ?_
  by_cases hr : r.val < 8
  · refine Eq.trans ?_ (readouts_low _ _ _ _ (t : Fin 128) ⟨r.val, hr⟩ j w hw).symm
    have e1 : (fun x => ptO (iblk m c 0 t) (iblk m c 2 t) (iblk m c 4 t) (iblk m c 5 t) ⟨j.val / 128, by omega⟩ (ini (iblk m c 1 t) ⟨j.val / 128, by omega⟩) (ix2 r x))
        = ro (mX m c) (mL m c) (mS m c) (t : Fin 128) ⟨j.val / 128, by omega⟩ ⟨r.val, hr⟩ := funext fun x => read_low m c t H _ ⟨r.val, hr⟩ x
    have e2 : ldN (iblk m c 3 t) (ix2 0 ⟨j.val % 128, Nat.mod_lt _ (by norm_num)⟩) = mW m c (ix1 ⟨j.val % 128, Nat.mod_lt _ (by norm_num)⟩) :=
      (ldN_apply _ _ _).trans (rd3 m c t _)
    have e3 : ldG (iblk m c 0 t) ⟨j.val / 128, by omega⟩ (ix2 r ⟨j.val % 128, Nat.mod_lt _ (by norm_num)⟩) = mX m c (ix2 (row t.val r.val) ⟨1536 + j.val, by omega⟩) :=
      (ldG_apply _ _ _ _).trans ((rd0_low m c t ⟨r.val, hr⟩ r rfl _).trans
        (congrArg (fun k => mX m c (ix2 (row t.val r.val) k)) (Fin.ext (by show 1536 + (128 * (j.val / 128) + j.val % 128) = 1536 + j.val; omega))))
    exact congr (congr (congr (congrArg gated e1) e2) e3) rfl
  · rw [readouts_high _ _ _ _ (t : Fin 128) r (by omega) j w hw]
    exact gated_zero _ _ _ _ (read_high m c t H _ r (by omega) _)

/-- The readouts' array, and the states'. -/
theorem array6 : (dats m 0 c).arrAt 6 cfg0.N = readouts (mX m c) (mL m c) (mS m c) (mW m c) := by
  refine (dats m 0 c).arrAt_eq_of_covers 6 _ (by decide +kernel) fun t hf y => ?_
  blk_simp
  rw [after0_6]
  obtain ⟨r, j, rfl⟩ : ∃ (r : Fin 16) (j : Fin 512), y = ix2 r j := ⟨y 0, y 1, eq_ix2 y⟩
  rw [show (win0_6.blk t).view.emb (ix2 r j) = ix2 (⟨16 * t.val + r.val, by have h : t.val < 128 := t.2; omega⟩ : Fin 2048) j by blk_ext [idx6 t]]
  exact block_at m c t H r j _ rfl
/-- What the array of output 7 holds at the end. -/
theorem array7 : (dats m 0 c).arrAt 7 cfg0.N = states (mX m c) (mL m c) (mS m c) := by
  refine (dats m 0 c).arrAt_eq_of_covers 7 _ (by decide +kernel) fun t hf y => ?_
  blk_simp
  rw [after0_7, out7]
  obtain ⟨h, κ, ν, rfl⟩ : ∃ (h : Fin 4) (κ ν : Fin 128), y = ix4 (0 : Fin 1) h κ ν :=
    ⟨y 1, y 2, y 3, (eq_ix4 y).trans (congrArg (fun z : Fin 1 => ix4 z (y 1) (y 2) (y 3)) (Subsingleton.elim _ _))⟩
  rw [show (win0_7.blk t).view.emb (ix4 (0 : Fin 1) h κ ν) = ix4 (t : Fin 128) h κ ν by blk_ext [idx7 t]]
  exact last_at m c t H h κ ν
end

end Cert.HgrnSProof
-- ==== Proof.HgrnSClaim.lean ====
/- The claims about the sample batch's recurrence: what the precondition gives, the reference's frame, and that the two programs end with one value. -/
module
public import proofs.«01_k».proof.Proof.HgrnSRef
public import proofs.«01_k».proof.Proof.HgrnSOut
public import proofs.«01_k».proof.Proof.HgrnClaim
public import proofs.«01_k».proof.Proof.Gen.Pre_finite_sample
public import proofs.«01_k».proof.Defs
public import Idealize.ShloMosaic.Lib.ReduceAll
@[expose] public section
set_option maxRecDepth 16384
noncomputable section
namespace Cert.HgrnSProof
open Idealize.ShloMosaic Idealize.ShloMosaic.TcCoe Idealize.ShloMosaic.Tactic
open Idealize.SL.Sem
open Cert.HgrnProof (real_of_lt)

/-- The precondition, read at an entry. -/
theorem fine_of_pre (X : Vec Ideal Cert.Pre_finite_sample.S1024x2048 .f32) (S : Vec Ideal Cert.Pre_finite_sample.S1x128x4x128x128 .f32)
    (L : Vec Ideal Cert.Pre_finite_sample.S2x512 .f32) (w : Vec Ideal Cert.Pre_finite_sample.S128 .f32)
    (h : Cert.Pre_finite_sample.fn (F := Ideal) X S L w = fun _ => 1#1) : Fine X L := by
  have h0 := congrFun h ix0
  dsimp only [Cert.Pre_finite_sample.fn] at h0
  obtain ⟨h1, h2⟩ := IntOp.andi_eq_one.1 h0
  constructor
  · intro i j hj
    have e := Host.reduce_andi_all _ _ _ _ _ h1 (ix2 i (⟨j.val, hj⟩ : Fin 1536))
    refine real_of_lt _ (Eq.trans ?_ e)
    pointwise
    rfl
  · intro i j
    have e := Host.reduce_andi_all _ _ _ _ _ h2 (ix2 i j)
    refine real_of_lt _ (Eq.trans ?_ e)
    pointwise
    rfl

/-- The reference leaves its arguments as they were; it declares no semaphore. -/
theorem frame_ref : Cert.quiescent_HgrnSRefIdeal := fun m ρ _ =>
  (θ_run Cert.HgrnSRefIdeal.defs _ _).mono (fun r h => ⟨fun c => ⟨(h c).2.2.1, (h c).2.2.2.1, (h c).2.2.2.2.1, (h c).2.2.2.2.2⟩, sem_eq_zero_of_no_sems (by decide) r.2⟩)
    (Cert.HgrnSRefIdeal.Value.run (F := Ideal) m ρ)

/-- The kernel and the reference end with the same readouts and the same states. -/
theorem hgrn_equal : Cert.algebraic_HgrnSIdeal_HgrnSRefIdeal_pre_finite_sample := by
  intro m g m' g' hp ha
  have H : ∀ c : Dev Cert.HgrnSIdeal.nD, Fine (mX m c) (mL m c) := fun c => fine_of_pre _ _ _ _ (hp c)
  refine ⟨fun c => readouts (mX m c) (mL m c) (mS m c) (mW m c), fun c => states (mX m c) (mL m c) (mS m c), ?_, ?_⟩
  · exact (θ_run Cert.HgrnSIdeal.defs _ _).mono (fun r h c => ⟨(h c).1.trans (array6 m c (H c)), (h c).2.1.trans (array7 m c (H c)), (h c).2.2⟩)
      (Cert.HgrnSIdeal.Value.run_blocks m g)
  · refine (θ_run Cert.HgrnSRefIdeal.defs _ _).mono (fun r h c => ⟨(h c).1.trans ((all_stages m' c).trans ?_), (h c).2.1.trans ((state_stages m' c).trans ?_), (h c).2.2⟩)
      (Cert.HgrnSRefIdeal.Value.run m' g')
    · rw [(ha c).1, (ha c).2.1, (ha c).2.2.1, (ha c).2.2.2]
      exact rAll_eq _ _ _ _ (H c)
    · rw [(ha c).1, (ha c).2.1, (ha c).2.2.1]
      exact rState_eq _ _ _ (H c)

end Cert.HgrnSProof
-- ==== Proof.lean ====
module

public import proofs.«01_k».proof.Defs
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal.Value
public import proofs.«01_k».proof.Proof.Gen.InprojRefIdeal.Run
public import proofs.«01_k».proof.Proof.Gen.Mixffn
public import proofs.«01_k».proof.Proof.Gen.Mixffn.Skeleton
public import proofs.«01_k».proof.Proof.Gen.Mixffn.Launch
public import proofs.«01_k».proof.Proof.Gen.Mixffn.Points
public import proofs.«01_k».proof.Proof.Gen.Mixffn.Frame
public import proofs.«01_k».proof.Proof.Gen.MixffnIdeal.Value
public import proofs.«01_k».proof.Proof.Gen.MixffnRefIdeal.Run
public import proofs.«01_k».proof.Proof.Gen.InprojS
public import proofs.«01_k».proof.Proof.Gen.InprojS.Skeleton
public import proofs.«01_k».proof.Proof.Gen.InprojS.Launch
public import proofs.«01_k».proof.Proof.Gen.InprojS.Points
public import proofs.«01_k».proof.Proof.Gen.InprojS.Frame
public import proofs.«01_k».proof.Proof.Gen.InprojSIdeal.Value
public import proofs.«01_k».proof.Proof.Gen.InprojSRefIdeal.Run
public import proofs.«01_k».proof.Proof.Gen.MixffnS
public import proofs.«01_k».proof.Proof.Gen.MixffnS.Skeleton
public import proofs.«01_k».proof.Proof.Gen.MixffnS.Launch
public import proofs.«01_k».proof.Proof.Gen.MixffnS.Points
public import proofs.«01_k».proof.Proof.Gen.MixffnS.Frame
public import proofs.«01_k».proof.Proof.Gen.MixffnSIdeal.Value
public import proofs.«01_k».proof.Proof.Gen.MixffnSRefIdeal.Run
public import proofs.«01_k».proof.Proof.Gen.Hgrn
public import proofs.«01_k».proof.Proof.Gen.Hgrn.Skeleton
public import proofs.«01_k».proof.Proof.Gen.Hgrn.Launch
public import proofs.«01_k».proof.Proof.Gen.Hgrn.Points
public import proofs.«01_k».proof.Proof.Gen.Hgrn.Frame
public import proofs.«01_k».proof.Proof.Gen.HgrnIdeal
public import proofs.«01_k».proof.Proof.Gen.HgrnIdeal.Skeleton
public import proofs.«01_k».proof.Proof.Gen.HgrnIdeal.Launch
public import proofs.«01_k».proof.Proof.Gen.HgrnIdeal.Points
public import proofs.«01_k».proof.Proof.Gen.HgrnIdeal.Frame
public import proofs.«01_k».proof.Proof.Gen.HgrnRefIdeal
public import proofs.«01_k».proof.Proof.Gen.Pre_finite
public import proofs.«01_k».proof.Proof.Gen.HgrnIdeal.Value
public import proofs.«01_k».proof.Proof.Gen.HgrnRefIdeal.Run
public import Idealize.ShloMosaic.Adequacy
public import Idealize.ShloMosaic.Init
public import proofs.«01_k».proof.Proof.Gen.HgrnS
public import proofs.«01_k».proof.Proof.Gen.HgrnS.Skeleton
public import proofs.«01_k».proof.Proof.Gen.HgrnS.Launch
public import proofs.«01_k».proof.Proof.Gen.HgrnS.Points
public import proofs.«01_k».proof.Proof.Gen.HgrnS.Frame
public import proofs.«01_k».proof.Proof.Gen.HgrnSIdeal.Value
public import proofs.«01_k».proof.Proof.Gen.HgrnSRefIdeal.Run
public import proofs.«01_k».proof.Proof.Gen.Pre_finite_sample
public import proofs.«01_k».proof.Proof.HgrnClaim
public import proofs.«01_k».proof.Proof.InClaim
public import proofs.«01_k».proof.Proof.MixClaim
public import proofs.«01_k».proof.Proof.InSClaim
public import proofs.«01_k».proof.Proof.MixSClaim
public import proofs.«01_k».proof.Proof.HgrnSClaim

@[expose] public section

noncomputable section

namespace Cert.Proof

open Idealize.ShloMosaic Idealize.SL.Sem Cert.Hgrn

/-- Every claim stated. -/
theorem claim : Cert.Claim := ⟨Cert.Hgrn.Gen.facts, Cert.HgrnIdeal.Gen.facts, Cert.HgrnRefIdeal.Gen.facts,
  Cert.Inproj.Gen.facts, Cert.InprojIdeal.Gen.facts, Cert.InprojRefIdeal.Gen.facts,
  Cert.Mixffn.Gen.facts, Cert.MixffnIdeal.Gen.facts, Cert.MixffnRefIdeal.Gen.facts,
  Cert.InprojS.Gen.facts, Cert.InprojSIdeal.Gen.facts, Cert.InprojSRefIdeal.Gen.facts,
  Cert.MixffnS.Gen.facts, Cert.MixffnSIdeal.Gen.facts, Cert.MixffnSRefIdeal.Gen.facts,
  Cert.HgrnS.Gen.facts, Cert.HgrnSIdeal.Gen.facts, Cert.HgrnSRefIdeal.Gen.facts,
  Cert.Pre_finite.Gen.facts, Cert.Pre_finite_sample.Gen.facts,
  fun m ρ _ => Cert.Hgrn.Gen.frame m ρ, fun m ρ _ => Cert.HgrnIdeal.Gen.frame m ρ, fun m ρ _ => Cert.HgrnIdeal.Gen.frame m ρ, Cert.HgrnProof.frame_ref, fun m ρ _ => Cert.HgrnProof.frame_ref m ρ trivial,
  fun m ρ _ => Cert.Inproj.Gen.frame m ρ, fun m ρ _ => Cert.InprojIdeal.Gen.frame m ρ, Cert.InProof.frame_ref,
  fun m ρ _ => Cert.Mixffn.Gen.frame m ρ, fun m ρ _ => Cert.MixffnIdeal.Gen.frame m ρ, Cert.MixProof.frame_ref,
  fun m ρ _ => Cert.InprojS.Gen.frame m ρ, fun m ρ _ => Cert.InprojSIdeal.Gen.frame m ρ, Cert.InSProof.frame_ref,
  fun m ρ _ => Cert.MixffnS.Gen.frame m ρ, fun m ρ _ => Cert.MixffnSIdeal.Gen.frame m ρ, Cert.MixSProof.frame_ref,
  fun m ρ _ => Cert.HgrnS.Gen.frame m ρ, fun m ρ _ => Cert.HgrnSIdeal.Gen.frame m ρ, fun m ρ _ => Cert.HgrnSIdeal.Gen.frame m ρ, Cert.HgrnSProof.frame_ref, fun m ρ _ => Cert.HgrnSProof.frame_ref m ρ trivial,
  trivial, Cert.HgrnProof.hgrn_equal,
  trivial, Cert.InProof.in_equal,
  trivial, Cert.MixProof.mix_equal,
  trivial, Cert.InSProof.in_equal,
  trivial, Cert.MixSProof.mix_equal,
  trivial, Cert.HgrnSProof.hgrn_equal⟩

end Cert.Proof

end
